-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)) (v8 : (c : Dev Cert.Kernel2Ideal.nD) → Buf (Elt Ideal) ((c.tc : Thread Cert.Kernel2Ideal.nD Cert.Kernel2Ideal.τ).loc Cert.Kernel2Ideal.main_v20_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_v20_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v146) = v0 c
          ∧ r.2.mem ((c.tc : Thread Cert.Reference2Ideal.nD Cert.Reference2Ideal.τ).loc Cert.Reference2Ideal.main_v190) = v1 c
          ∧ r.2.mem ((c.tc : Thread Cert.Reference2Ideal.nD Cert.Reference2Ideal.τ).loc Cert.Reference2Ideal.main_v191) = v2 c
          ∧ r.2.mem ((c.tc : Thread Cert.Reference2Ideal.nD Cert.Reference2Ideal.τ).loc Cert.Reference2Ideal.main_v192) = v3 c
          ∧ r.2.mem ((c.tc : Thread Cert.Reference2Ideal.nD Cert.Reference2Ideal.τ).loc Cert.Reference2Ideal.main_v193) = v4 c
          ∧ r.2.mem ((c.tc : Thread Cert.Reference2Ideal.nD Cert.Reference2Ideal.τ).loc Cert.Reference2Ideal.main_v194) = v5 c
          ∧ r.2.mem ((c.tc : Thread Cert.Reference2Ideal.nD Cert.Reference2Ideal.τ).loc Cert.Reference2Ideal.main_v26) = v6 c
          ∧ r.2.mem ((c.tc : Thread Cert.Reference2Ideal.nD Cert.Reference2Ideal.τ).loc Cert.Reference2Ideal.main_v100) = v7 c
          ∧ r.2.mem ((c.tc : Thread Cert.Reference2Ideal.nD Cert.Reference2Ideal.τ).loc Cert.Reference2Ideal.main_v196) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
-- ==== Pre_finite_values.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x8192x512 : S_.BroadcastsInDim S2x8192x512 (![] : Fin 0 → Fin S2x8192x512.rank)
  reducesTo_S2x8192x512_S_d0_1_2 : S2x8192x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x8192x512 .f32) (main_arg1 : FVec F S2x256x512 .f32) (main_arg2 : FVec F S2x8192x512 .f32) (main_arg3 : FVec F S2x256x512 .f32) (main_arg4 : FVec F S2x8192x512 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S2x256x512 .f32 := Host.absf main_arg3
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x8192x512 .f32 := Host.absf main_arg4
  let main_cst_0 : FVec F S_ .f32 := constant S_ .f32 0x7F800000#32
  let main_v5 : FVec F S2x8192x512 .f32 := broadcastInDim S2x8192x512 ![] bcast_S_S2x8192x512 main_cst_0
  let main_v6 : IVec S2x8192x512 1 := cmpf .olt main_v4 main_v5
  let main_c_1 : IVec S_ 1 := constantI S_ 1 1#1
  let main_v7 : IVec S_ 1 := (fun x v => Host.reduce IntOp.andi x v reducesTo_S2x8192x512_S_d0_1_2 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S1x64 : Shape := ⟨2, ![1, 64]⟩
abbrev S4x64 : Shape := ⟨2, ![4, 64]⟩
abbrev S2x8448x512 : Shape := ⟨3, ![2, 8448, 512]⟩
abbrev S2x1x256x4x128 : Shape := ⟨5, ![2, 1, 256, 4, 128]⟩
abbrev S2x4x1x128x256 : Shape := ⟨5, ![2, 4, 1, 128, 256]⟩
abbrev S_ : Shape := ⟨0, ![]⟩
abbrev S2x4x1x1x256 : Shape := ⟨5, ![2, 4, 1, 1, 256]⟩
abbrev S2x4x1x7x256 : Shape := ⟨5, ![2, 4, 1, 7, 256]⟩
abbrev S2x4x1x136x256 : Shape := ⟨5, ![2, 4, 1, 136, 256]⟩
abbrev S2x32x256x4x128 : Shape := ⟨5, ![2, 32, 256, 4, 128]⟩
abbrev S2x4x32x128x256 : Shape := ⟨5, ![2, 4, 32, 128, 256]⟩
abbrev S2x4x32x1x256 : Shape := ⟨5, ![2, 4, 32, 1, 256]⟩
abbrev S2x4x32x7x256 : Shape := ⟨5, ![2, 4, 32, 7, 256]⟩
abbrev S2x4x32x136x256 : Shape := ⟨5, ![2, 4, 32, 136, 256]⟩
abbrev S2x4x33x136x256 : Shape := ⟨5, ![2, 4, 33, 136, 256]⟩
abbrev S1x128 : Shape := ⟨2, ![1, 128]⟩
abbrev S1x8192x128 : Shape := ⟨3, ![1, 8192, 128]⟩
abbrev S1x8448x128 : Shape := ⟨3, ![1, 8448, 128]⟩
abbrev S1x1x33x136x256 : Shape := ⟨5, ![1, 1, 33, 136, 256]⟩
abbrev S16384x128 : Shape := ⟨2, ![16384, 128]⟩
abbrev S136x16384 : Shape := ⟨2, ![136, 16384]⟩
abbrev S1x16384 : Shape := ⟨2, ![1, 16384]⟩
abbrev S768x256 : Shape := ⟨2, ![768, 256]⟩
abbrev S1x256 : Shape := ⟨2, ![1, 256]⟩
abbrev S8192x128 : Shape := ⟨2, ![8192, 128]⟩
abbrev S1x768x128 : Shape := ⟨3, ![1, 768, 128]⟩
abbrev S768x128 : Shape := ⟨2, ![768, 128]⟩
abbrev S256x128 : Shape := ⟨2, ![256, 128]⟩
abbrev S256 : Shape := ⟨1, ![256]⟩
abbrev S1x1x1x136x256 : Shape := ⟨5, ![1, 1, 1, 136, 256]⟩
abbrev S136x256 : Shape := ⟨2, ![136, 256]⟩
abbrev S256x256 : Shape := ⟨2, ![256, 256]⟩
abbrev S1 : Shape := ⟨1, ![1]⟩
abbrev S1x1 : Shape := ⟨2, ![1, 1]⟩
abbrev S128x8192 : Shape := ⟨2, ![128, 8192]⟩
abbrev S1x8192 : Shape := ⟨2, ![1, 8192]⟩
abbrev S8192 : Shape := ⟨1, ![8192]⟩
abbrev S8192x1 : Shape := ⟨2, ![8192, 1]⟩

abbrev nBuf : Space → Nat
  | .hbm => 37
  | .vmem => 16
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x8192x512, .f32⟩
  | .hbm, ⟨3, _⟩ => ⟨S2x256x512, .f32⟩
  | .hbm, ⟨4, _⟩ => ⟨S2x8192x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S2x256x512, .bf16⟩
  | .hbm, ⟨16, _⟩ => ⟨S2x8192x512, .bf16⟩
  | .hbm, ⟨17, _⟩ => ⟨S2x8448x512, .bf16⟩
  | .hbm, ⟨18, _⟩ => ⟨S2x1x256x4x128, .f32⟩
  | .hbm, ⟨19, _⟩ => ⟨S2x4x1x128x256, .f32⟩
  | .hbm, ⟨20, _⟩ => ⟨S2x4x1x128x256, .bf16⟩
  | .hbm, ⟨21, _⟩ => ⟨S_, .bf16⟩
  | .hbm, ⟨22, _⟩ => ⟨S2x4x1x1x256, .bf16⟩
  | .hbm, ⟨23, _⟩ => ⟨S_, .bf16⟩
  | .hbm, ⟨24, _⟩ => ⟨S2x4x1x7x256, .bf16⟩
  | .hbm, ⟨25, _⟩ => ⟨S2x4x1x136x256, .bf16⟩
  | .hbm, ⟨26, _⟩ => ⟨S2x32x256x4x128, .f32⟩
  | .hbm, ⟨27, _⟩ => ⟨S2x4x32x128x256, .f32⟩
  | .hbm, ⟨28, _⟩ => ⟨S2x4x32x128x256, .bf16⟩
  | .hbm, ⟨29, _⟩ => ⟨S_, .bf16⟩
  | .hbm, ⟨30, _⟩ => ⟨S2x4x32x1x256, .bf16⟩
  | .hbm, ⟨31, _⟩ => ⟨S_, .bf16⟩
  | .hbm, ⟨32, _⟩ => ⟨S2x4x32x7x256, .bf16⟩
  | .hbm, ⟨33, _⟩ => ⟨S2x4x32x136x256, .bf16⟩
  | .hbm, ⟨34, _⟩ => ⟨S2x4x33x136x256, .bf16⟩
  | .hbm, ⟨35, _⟩ => ⟨S1x128, .f32⟩
  | .hbm, ⟨36, _⟩ => ⟨S2x8192x512, .bf16⟩
  | .local _ .vmem, ⟨0, _⟩ => ⟨S1x8192x128, .f32⟩
  | .local _ .vmem, ⟨1, _⟩ => ⟨S1x8192x128, .f32⟩
  | .local _ .vmem, ⟨2, _⟩ => ⟨S1x8448x128, .bf16⟩
  | .local _ .vmem, ⟨3, _⟩ => ⟨S1x8448x128, .bf16⟩
  | .local _ .vmem, ⟨4, _⟩ => ⟨S1x1x33x136x256, .bf16⟩
  | .local _ .vmem, ⟨5, _⟩ => ⟨S1x1x33x136x256, .bf16⟩
  | .local _ .vmem, ⟨6, _⟩ => ⟨S4x64, .f32⟩
  | .local _ .vmem, ⟨7, _⟩ => ⟨S1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S16384x128, .bf16⟩
  | .local _ .vmem, ⟨11, _⟩ => ⟨S136x16384, .f32⟩
  | .local _ .vmem, ⟨12, _⟩ => ⟨S1x16384, .f32⟩
  | .local _ .vmem, ⟨13, _⟩ => ⟨S768x256, .f32⟩
  | .local _ .vmem, ⟨14, _⟩ => ⟨S768x256, .bf16⟩
  | .local _ .vmem, ⟨15, _⟩ => ⟨S1x256, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 1], ![false, false, false]⟩

@[reducible] def k0_t1_loop : Scf.Loop 32 :=
  let c0_i32 : BitVec 32 := 0#32
  let c11_i32 : BitVec 32 := 11#32
  let v42 : BitVec 32 := Scalar.addi c0_i32 c11_i32
  let c1_i32 : BitVec 32 := 1#32
  ⟨c0_i32, v42, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c768_i32 : BitVec 32 := 768#32
  let v116 : BitVec 32 := Scalar.muli arg15 c768_i32
  v116
def k0_off1 (k0_t1 : Fin k0_t1_loop.trips) : Fin 3 → Nat :=
  let c0_69 : Index := 0#32
  let c0_i32 : BitVec 32 := 0#32
  let c1_i32 : BitVec 32 := 1#32
  let arg15 : BitVec 32 := Scf.iv c0_i32 c1_i32 k0_t1
  let c768_i32 : BitVec 32 := 768#32
  let v116 : BitVec 32 := Scalar.muli arg15 c768_i32
  let v117 : BitVec 32 := v116
  let v118 : Index := Scalar.indexCast v117
  let c0_70 : Index := 0#32
  ![0, v118.toNat, 0]
def k0_off2 (k0_t1 : Fin k0_t1_loop.trips) : Fin 5 → Nat :=
  let c0_86 : Index := 0#32
  let c0_87 : Index := 0#32
  let c0_i32 : BitVec 32 := 0#32
  let c1_i32 : BitVec 32 := 1#32
  let arg15 : BitVec 32 := Scf.iv c0_i32 c1_i32 k0_t1
  let c1_i32_73 : BitVec 32 := 1#32
  let v122 : BitVec 32 := Scalar.subi arg15 c1_i32_73
  let c0_i32_74 : BitVec 32 := 0#32
  let v123 : BitVec 32 := Scalar.maxsi v122 c0_i32_74
  let c3_i32 : BitVec 32 := 3#32
  let v141 : BitVec 32 := Scalar.muli v123 c3_i32
  let v142 : Index := Scalar.indexCast v141
  let c0_88 : Index := 0#32
  let c0_89 : Index := 0#32
  ![0, 0, v142.toNat, 0, 0]
def k0_off3 (k0_t1 : Fin k0_t1_loop.trips) (c1_i32_92 : BitVec 32) : Fin 5 → Nat :=
  let c0_93 : Index := 0#32
  let c0_94 : Index := 0#32
  let c0_i32 : BitVec 32 := 0#32
  let c1_i32 : BitVec 32 := 1#32
  let arg15 : BitVec 32 := Scf.iv c0_i32 c1_i32 k0_t1
  let c1_i32_73 : BitVec 32 := 1#32
  let v122 : BitVec 32 := Scalar.subi arg15 c1_i32_73
  let c0_i32_74 : BitVec 32 := 0#32
  let v123 : BitVec 32 := Scalar.maxsi v122 c0_i32_74
  let c3_i32_91 : BitVec 32 := 3#32
  let v147 : BitVec 32 := Scalar.muli v123 c3_i32_91
  let v148 : BitVec 32 := Scalar.addi v147 c1_i32_92
  let v149 : Index := Scalar.indexCast v148
  let c0_95 : Index := 0#32
  let c0_96 : Index := 0#32
  ![0, 0, v149.toNat, 0, 0]
def k0_off4 (k0_t1 : Fin k0_t1_loop.trips) : Fin 5 → Nat :=
  let c0_116 : Index := 0#32
  let c0_117 : Index := 0#32
  let c0_i32 : BitVec 32 := 0#32
  let c1_i32 : BitVec 32 := 1#32
  let arg15 : BitVec 32 := Scf.iv c0_i32 c1_i32 k0_t1
  let c3_i32_115 : BitVec 32 := 3#32
  let v185 : BitVec 32 := Scalar.muli arg15 c3_i32_115
  let v186 : Index := Scalar.indexCast v185
  let c0_118 : Index := 0#32
  let c0_119 : Index := 0#32
  ![0, 0, v186.toNat, 0, 0]
def k0_off5 (k0_t1 : Fin k0_t1_loop.trips) (c1_i32_122 : BitVec 32) : Fin 5 → Nat :=
  let c0_123 : Index := 0#32
  let c0_124 : Index := 0#32
  let c0_i32 : BitVec 32 := 0#32
  let c1_i32 : BitVec 32 := 1#32
  let arg15 : BitVec 32 := Scf.iv c0_i32 c1_i32 k0_t1
  let c3_i32_121 : BitVec 32 := 3#32
  let v191 : BitVec 32 := Scalar.muli arg15 c3_i32_121
  let v192 : BitVec 32 := Scalar.addi v191 c1_i32_122
  let v193 : Index := Scalar.indexCast v192
  let c0_125 : Index := 0#32
  let c0_126 : Index := 0#32
  ![0, 0, v193.toNat, 0, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_2032 : BitVec 32 := 1#32
  let v2898 : BitVec 32 := Scalar.addi arg15 c1_i32_2032
  let c10_i32 : BitVec 32 := 10#32
  let v2899 : BitVec 32 := Scalar.minsi v2898 c10_i32
  let c768_i32_2033 : BitVec 32 := 768#32
  let v2900 : BitVec 32 := Scalar.muli v2899 c768_i32_2033
  v2900
def k0_off6 (k0_t1 : Fin k0_t1_loop.trips) : Fin 3 → Nat :=
  let c0_2034 : Index := 0#32
  let c0_i32 : BitVec 32 := 0#32
  let c1_i32 : BitVec 32 := 1#32
  let arg15 : BitVec 32 := Scf.iv c0_i32 c1_i32 k0_t1
  let c1_i32_2032 : BitVec 32 := 1#32
  let v2898 : BitVec 32 := Scalar.addi arg15 c1_i32_2032
  let c10_i32 : BitVec 32 := 10#32
  let v2899 : BitVec 32 := Scalar.minsi v2898 c10_i32
  let c768_i32_2033 : BitVec 32 := 768#32
  let v2900 : BitVec 32 := Scalar.muli v2899 c768_i32_2033
  let v2901 : BitVec 32 := v2900
  let v2902 : Index := Scalar.indexCast v2901
  let c0_2035 : Index := 0#32
  ![0, v2902.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x33x136x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S2x8192x512 : Shape := ⟨3, ![2, 8192, 512]⟩
abbrev S2x256x512 : Shape := ⟨3, ![2, 256, 512]⟩
abbrev S64 : Shape := ⟨1, ![64]⟩
abbrev S128 : Shape := ⟨1, ![128]⟩
abbrev S_ : Shape := ⟨0, ![]⟩
abbrev S2x8192x4x2x64 : Shape := ⟨5, ![2, 8192, 4, 2, 64]⟩
abbrev S2x8448x512 : Shape := ⟨3, ![2, 8448, 512]⟩
abbrev S2x8448x4x2x64 : Shape := ⟨5, ![2, 8448, 4, 2, 64]⟩
abbrev S2x8448x4x128 : Shape := ⟨4, ![2, 8448, 4, 128]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x8192x512, .f32⟩
  | .hbm, ⟨3, _⟩ => ⟨S2x256x512, .f32⟩
  | .hbm, ⟨4, _⟩ => ⟨S2x8192x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x8192x4x2x64, .f32⟩
  | .hbm, ⟨22, _⟩ => ⟨S_, .f32⟩
  | .hbm, ⟨23, _⟩ => ⟨S2x8192x4x2x64, .f32⟩
  | .hbm, ⟨24, _⟩ => ⟨S2x8192x4x2x64, .f32⟩
  | .hbm, ⟨25, _⟩ => ⟨S2x8448x512, .f32⟩
  | .hbm, ⟨26, _⟩ => ⟨S2x8448x4x2x64, .f32⟩
  | .hbm, ⟨27, _⟩ => ⟨S2x8448x512, .f32⟩
  | .hbm, ⟨28, _⟩ => ⟨S2x8448x4x128, .f32⟩
  | .hbm, ⟨29, _⟩ => ⟨S2x4x2x8192x8448, .f32⟩
  | .hbm, ⟨30, _⟩ => ⟨S_, .f32⟩
  | .hbm, ⟨31, _⟩ => ⟨S2x4x2x8192, .f32⟩
  | .hbm, ⟨32, _⟩ => ⟨S_, .f32⟩
  | .hbm, ⟨33, _⟩ => ⟨S2x4x2x8192, .f32⟩
  | .hbm, ⟨34, _⟩ => ⟨S2x4x2x8192, .f32⟩
  | .hbm, ⟨35, _⟩ => ⟨S2x4x2x8192x1, .f32⟩
  | .hbm, ⟨36, _⟩ => ⟨S2x4x2x8192x8448, .f32⟩
  | .hbm, ⟨37, _⟩ => ⟨S2x4x2x8192x8448, .f32⟩
  | .hbm, ⟨38, _⟩ => ⟨S2x4x2x8192x8448, .f32⟩
  | .hbm, ⟨39, _⟩ => ⟨S_, .f32⟩
  | .hbm, ⟨40, _⟩ => ⟨S2x4x2x8192, .f32⟩
  | .hbm, ⟨41, _⟩ => ⟨S2x4x2x8192x1, .f32⟩
  | .hbm, ⟨42, _⟩ => ⟨S2x4x2x8192x8448, .f32⟩
  | .hbm, ⟨43, _⟩ => ⟨S2x4x2x8192x8448, .f32⟩
  | .hbm, ⟨44, _⟩ => ⟨S2x4x1x8192x8448, .f32⟩
  | .hbm, ⟨45, _⟩ => ⟨S2x4x8192x8448, .f32⟩
  | .hbm, ⟨46, _⟩ => ⟨S2x4x1x8192x8448, .f32⟩
  | .hbm, ⟨47, _⟩ => ⟨S2x4x8192x8448, .f32⟩
  | .hbm, ⟨48, _⟩ => ⟨S2x4x8192x8448, .f32⟩
  | .hbm, ⟨49, _⟩ => ⟨S2x4x8192x8448, .f32⟩
  | .hbm, ⟨50, _⟩ => ⟨S2x4x8192x8448, .f32⟩
  | .hbm, ⟨51, _⟩ => ⟨S2x4x128x8192, .f32⟩
  | .hbm, ⟨52, _⟩ => ⟨S2x8192x4x128, .f32⟩
  | .hbm, ⟨53, _⟩ => ⟨S2x8192x4x128, .f32⟩
  | .hbm, ⟨54, _⟩ => ⟨S_, .f32⟩
  | .hbm, ⟨55, _⟩ => ⟨S2x8192x4, .f32⟩
  | .hbm, ⟨56, _⟩ => ⟨S2x8192x4x1, .f32⟩
  | .hbm, ⟨57, _⟩ => ⟨S_, .f32⟩
  | .hbm, ⟨58, _⟩ => ⟨S2x8192x4x1, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S2x8192x4x1, .f32⟩
  | .hbm, ⟨64, _⟩ => ⟨S2x8192x4x128, .f32⟩
  | .hbm, ⟨65, _⟩ => ⟨S2x8192x4x128, .f32⟩
  | .hbm, ⟨66, _⟩ => ⟨S1x1x1x128, .f32⟩
  | .hbm, ⟨67, _⟩ => ⟨S2x8192x4x128, .f32⟩
  | .hbm, ⟨68, _⟩ => ⟨S2x8192x4x128, .f32⟩
  | .hbm, ⟨69, _⟩ => ⟨S_, .f32⟩
  | .hbm, ⟨70, _⟩ => ⟨S2x8192x4x128, .f32⟩
  | .hbm, ⟨71, _⟩ => ⟨S2x8192x4x128, .f32⟩
  | .hbm, ⟨72, _⟩ => ⟨S2x8192x512, .f32⟩
  | .hbm, ⟨73, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x1024 : Shape := ⟨2, ![2, 1024]⟩
abbrev S8192x16 : Shape := ⟨2, ![8192, 16]⟩
abbrev S1024x3600 : Shape := ⟨2, ![1024, 3600]⟩
abbrev S3x1536 : Shape := ⟨2, ![3, 1536]⟩
abbrev S2x4 : Shape := ⟨2, ![2, 4]⟩
abbrev S_ : Shape := ⟨0, ![]⟩
abbrev S1024x3712 : Shape := ⟨2, ![1024, 3712]⟩
abbrev S8192x32 : Shape := ⟨2, ![8192, 32]⟩
abbrev S8192x64 : Shape := ⟨2, ![8192, 64]⟩
abbrev S8192x128 : Shape := ⟨2, ![8192, 128]⟩
abbrev S8x1536 : Shape := ⟨2, ![8, 1536]⟩
abbrev S1x1024 : Shape := ⟨2, ![1, 1024]⟩
abbrev S2x1x1024 : Shape := ⟨3, ![2, 1, 1024]⟩
abbrev S1x8 : Shape := ⟨2, ![1, 8]⟩
abbrev S1x128 : Shape := ⟨2, ![1, 128]⟩
abbrev S2x8192x512 : Shape := ⟨3, ![2, 8192, 512]⟩
abbrev S2x4x32x136x256 : Shape := ⟨5, ![2, 4, 32, 136, 256]⟩
abbrev S2x8192x128 : Shape := ⟨3, ![2, 8192, 128]⟩
abbrev S2x16x8192 : Shape := ⟨3, ![2, 16, 8192]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1024x128 : Shape := ⟨2, ![1024, 128]⟩
abbrev S1x1024x512 : Shape := ⟨3, ![1, 1024, 512]⟩
abbrev S1x4x4x136x256 : Shape := ⟨5, ![1, 4, 4, 136, 256]⟩
abbrev S1x1024x128 : Shape := ⟨3, ![1, 1024, 128]⟩
abbrev S1x16x1024 : Shape := ⟨3, ![1, 16, 1024]⟩
abbrev S256x128 : Shape := ⟨2, ![256, 128]⟩
abbrev S4x8x256 : Shape := ⟨3, ![4, 8, 256]⟩
abbrev S256x1 : Shape := ⟨2, ![256, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x1536 : Shape := ⟨2, ![1024, 1536]⟩
abbrev S16x1536 : Shape := ⟨2, ![16, 1536]⟩
abbrev S1x1536 : Shape := ⟨2, ![1, 1536]⟩
abbrev S1x256x1024 : Shape := ⟨3, ![1, 256, 1024]⟩
abbrev S256x1024 : Shape := ⟨2, ![256, 1024]⟩
abbrev S256 : Shape := ⟨1, ![256]⟩
abbrev S1024x512 : Shape := ⟨2, ![1024, 512]⟩
abbrev S256x512 : Shape := ⟨2, ![256, 512]⟩
abbrev S256x1536 : Shape := ⟨2, ![256, 1536]⟩
abbrev S1x256x512 : Shape := ⟨3, ![1, 256, 512]⟩
abbrev S512x256 : Shape := ⟨2, ![512, 256]⟩
abbrev S4x128x256 : Shape := ⟨3, ![4, 128, 256]⟩
abbrev S1x4x1x128x256 : Shape := ⟨5, ![1, 4, 1, 128, 256]⟩
abbrev S1x4x1x8x256 : Shape := ⟨5, ![1, 4, 1, 8, 256]⟩
abbrev S1x256x128 : Shape := ⟨3, ![1, 256, 128]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 49
  | .vmem => 37
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S1024x3600, .f32⟩
  | .hbm, ⟨9, _⟩ => ⟨S3x1536, .f32⟩
  | .hbm, ⟨10, _⟩ => ⟨S2x4, .f32⟩
  | .hbm, ⟨11, _⟩ => ⟨S2x4, .f32⟩
  | .hbm, ⟨12, _⟩ => ⟨S1024x3600, .bf16⟩
  | .hbm, ⟨13, _⟩ => ⟨S_, .i32⟩
  | .hbm, ⟨14, _⟩ => ⟨S_, .bf16⟩
  | .hbm, ⟨15, _⟩ => ⟨S1024x3712, .bf16⟩
  | .hbm, ⟨16, _⟩ => ⟨S8192x32, .f32⟩
  | .hbm, ⟨17, _⟩ => ⟨S8192x16, .f32⟩
  | .hbm, ⟨18, _⟩ => ⟨S8192x32, .f32⟩
  | .hbm, ⟨19, _⟩ => ⟨S8192x32, .f32⟩
  | .hbm, ⟨20, _⟩ => ⟨S8192x16, .f32⟩
  | .hbm, ⟨21, _⟩ => ⟨S8192x32, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x128, .f32⟩
  | .hbm, ⟨26, _⟩ => ⟨S_, .i32⟩
  | .hbm, ⟨27, _⟩ => ⟨S_, .f32⟩
  | .hbm, ⟨28, _⟩ => ⟨S8x1536, .f32⟩
  | .hbm, ⟨29, _⟩ => ⟨S1x1024, .f32⟩
  | .hbm, ⟨30, _⟩ => ⟨S2x1x1024, .f32⟩
  | .hbm, ⟨31, _⟩ => ⟨S2x1x1024, .f32⟩
  | .hbm, ⟨32, _⟩ => ⟨S1x8, .f32⟩
  | .hbm, ⟨33, _⟩ => ⟨S_, .i32⟩
  | .hbm, ⟨34, _⟩ => ⟨S_, .f32⟩
  | .hbm, ⟨35, _⟩ => ⟨S1x128, .f32⟩
  | .hbm, ⟨36, _⟩ => ⟨S1x8, .f32⟩
  | .hbm, ⟨37, _⟩ => ⟨S_, .i32⟩
  | .hbm, ⟨38, _⟩ => ⟨S_, .f32⟩
  | .hbm, ⟨39, _⟩ => ⟨S1x128, .f32⟩
  | .hbm, ⟨40, _⟩ => ⟨S2x8192x512, .bf16⟩
  | .hbm, ⟨41, _⟩ => ⟨S2x8192x512, .bf16⟩
  | .hbm, ⟨42, _⟩ => ⟨S2x4x32x136x256, .bf16⟩
  | .hbm, ⟨43, _⟩ => ⟨S2x8192x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x128, .f32⟩
  | .hbm, ⟨48, _⟩ => ⟨S2x16x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x3712, .bf16⟩
  | .local _ .vmem, ⟨16, _⟩ => ⟨S8x1536, .f32⟩
  | .local _ .vmem, ⟨17, _⟩ => ⟨S1x128, .f32⟩
  | .local _ .vmem, ⟨18, _⟩ => ⟨S1x128, .f32⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x4x4x136x256, .bf16⟩
  | .local _ .vmem, ⟨24, _⟩ => ⟨S1x4x4x136x256, .bf16⟩
  | .local _ .vmem, ⟨25, _⟩ => ⟨S1x1024x512, .f32⟩
  | .local _ .vmem, ⟨26, _⟩ => ⟨S1x1024x512, .f32⟩
  | .local _ .vmem, ⟨27, _⟩ => ⟨S1x1024x512, .f32⟩
  | .local _ .vmem, ⟨28, _⟩ => ⟨S1x1024x512, .f32⟩
  | .local _ .vmem, ⟨29, _⟩ => ⟨S1x1024x512, .f32⟩
  | .local _ .vmem, ⟨30, _⟩ => ⟨S1x1024x512, .f32⟩
  | .local _ .vmem, ⟨31, _⟩ => ⟨S1x1024x512, .f32⟩
  | .local _ .vmem, ⟨32, _⟩ => ⟨S1x1024x512, .f32⟩
  | .local _ .vmem, ⟨33, _⟩ => ⟨S1x1024x128, .f32⟩
  | .local _ .vmem, ⟨34, _⟩ => ⟨S1x1024x128, .f32⟩
  | .local _ .vmem, ⟨35, _⟩ => ⟨S1x16x1024, .f32⟩
  | .local _ .vmem, ⟨36, _⟩ => ⟨S1x16x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call3_v0 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v20_4 : Ref sig .tc := ⟨.hbm, 44, rfl⟩
abbrev main_v20_5 : Ref sig .tc := ⟨.hbm, 45, rfl⟩
abbrev main_v20_6 : Ref sig .tc := ⟨.hbm, 46, rfl⟩
abbrev main_v20_7 : Ref sig .tc := ⟨.hbm, 47, rfl⟩
abbrev main_v20_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x3712 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x4x136x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x8192x1024 : Shape := ⟨3, ![2, 8192, 1024]⟩
abbrev S1024 : Shape := ⟨1, ![1024]⟩
abbrev S2x1024 : Shape := ⟨2, ![2, 1024]⟩
abbrev S8192x16 : Shape := ⟨2, ![8192, 16]⟩
abbrev S1024x3600 : Shape := ⟨2, ![1024, 3600]⟩
abbrev S3x1536 : Shape := ⟨2, ![3, 1536]⟩
abbrev S2x4 : Shape := ⟨2, ![2, 4]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3600 : Shape := ⟨3, ![2, 8192, 3600]⟩
abbrev S2x8192x512 : Shape := ⟨3, ![2, 8192, 512]⟩
abbrev S2x8192x1536 : Shape := ⟨3, ![2, 8192, 1536]⟩
abbrev S2x8192x16 : Shape := ⟨3, ![2, 8192, 16]⟩
abbrev S2x8194x1536 : Shape := ⟨3, ![2, 8194, 1536]⟩
abbrev S1x1536 : Shape := ⟨2, ![1, 1536]⟩
abbrev S1536 : Shape := ⟨1, ![1536]⟩
abbrev S1x1x1536 : Shape := ⟨3, ![1, 1, 1536]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S2x8192x2x8 : Shape := ⟨4, ![2, 8192, 2, 8]⟩
abbrev S8 : Shape := ⟨1, ![8]⟩
abbrev S2x8192x1x8 : Shape := ⟨4, ![2, 8192, 1, 8]⟩
abbrev S2x8192x8 : Shape := ⟨3, ![2, 8192, 8]⟩
abbrev S1x1x8 : Shape := ⟨3, ![1, 1, 8]⟩
abbrev S2x32x256x4x128 : Shape := ⟨5, ![2, 32, 256, 4, 128]⟩
abbrev S2x4x32x128x256 : Shape := ⟨5, ![2, 4, 32, 128, 256]⟩
abbrev S2x4x32x1x256 : Shape := ⟨5, ![2, 4, 32, 1, 256]⟩
abbrev S2x4x32x7x256 : Shape := ⟨5, ![2, 4, 32, 7, 256]⟩
abbrev S2x4x32x136x256 : Shape := ⟨5, ![2, 4, 32, 136, 256]⟩
abbrev S2x8192x112 : Shape := ⟨3, ![2, 8192, 112]⟩
abbrev S2x8192x128 : Shape := ⟨3, ![2, 8192, 128]⟩
abbrev S2x8192x8x64 : Shape := ⟨4, ![2, 8192, 8, 64]⟩
abbrev S2x8192x8x32 : Shape := ⟨4, ![2, 8192, 8, 32]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S2x16x8192 : Shape := ⟨3, ![2, 16, 8192]⟩

abbrev nBuf : Space → Nat
  | .hbm => 247
  | .vmem => 0
  | .smem => 0
  | _ => 0

abbrev hbmTy0_0 (i : Nat) : BufTy := match i % 128 with
  | 0 => ⟨S2x8192x1024, .f32⟩
  | 1 => ⟨S1024, .f32⟩
  | 2 => ⟨S2x1024, .f32⟩
  | 3 => ⟨S2x1024, .f32⟩
  | 4 => ⟨S8192x16, .f32⟩
  | 5 => ⟨S8192x16, .f32⟩
  | 6 => ⟨S8192x16, .f32⟩
  | 7 => ⟨S8192x16, .f32⟩
  | 8 => ⟨S1024x3600, .f32⟩
  | 9 => ⟨S3x1536, .f32⟩
  | 10 => ⟨S2x4, .f32⟩
  | 11 => ⟨S2x4, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x1x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x1x1024, .f32⟩
  | 35 => ⟨S2x8192x1024, .f32⟩
  | 36 => ⟨S2x8192x1024, .f32⟩
  | 37 => ⟨S2x8192x3600, .f32⟩
  | 38 => ⟨S2x8192x512, .f32⟩
  | 39 => ⟨S2x8192x512, .f32⟩
  | 40 => ⟨S2x8192x512, .f32⟩
  | 41 => ⟨S2x8192x1536, .f32⟩
  | 42 => ⟨S2x8192x512, .f32⟩
  | 43 => ⟨S2x8192x16, .f32⟩
  | 44 => ⟨S_, .i32⟩
  | 45 => ⟨S_, .f32⟩
  | 46 => ⟨S2x8194x1536, .f32⟩
  | 47 => ⟨S2x8192x1536, .f32⟩
  | 48 => ⟨S1x1536, .f32⟩
  | 49 => ⟨S1536, .f32⟩
  | 50 => ⟨S1x1x1536, .f32⟩
  | 51 => ⟨S2x8192x1536, .f32⟩
  | 52 => ⟨S2x8192x1536, .f32⟩
  | 53 => ⟨S2x8192x1536, .f32⟩
  | 54 => ⟨S1x1536, .f32⟩
  | 55 => ⟨S1536, .f32⟩
  | 56 => ⟨S1x1x1536, .f32⟩
  | 57 => ⟨S2x8192x1536, .f32⟩
  | 58 => ⟨S2x8192x1536, .f32⟩
  | 59 => ⟨S2x8192x1536, .f32⟩
  | 60 => ⟨S2x8192x1536, .f32⟩
  | 61 => ⟨S1x1536, .f32⟩
  | 62 => ⟨S1536, .f32⟩
  | 63 => ⟨S1x1x1536, .f32⟩
  | 64 => ⟨S2x8192x1536, .f32⟩
  | 65 => ⟨S2x8192x1536, .f32⟩
  | 66 => ⟨S2x8192x1536, .f32⟩
  | 67 => ⟨S2x8192x1536, .f32⟩
  | 68 => ⟨S2x8192x1536, .f32⟩
  | 69 => ⟨S_, .f32⟩
  | 70 => ⟨S2x8192x1536, .f32⟩
  | 71 => ⟨S2x8192x1536, .f32⟩
  | 72 => ⟨S_, .f32⟩
  | 73 => ⟨S2x8192x1536, .f32⟩
  | 74 => ⟨S2x8192x1536, .f32⟩
  | 75 => ⟨S2x8192x1536, .f32⟩
  | 76 => ⟨S2x8192x512, .f32⟩
  | 77 => ⟨S2x8192x4x128, .f32⟩
  | 78 => ⟨S2x8192x4x128, .f32⟩
  | 79 => ⟨S_, .f32⟩
  | 80 => ⟨S2x8192x4, .f32⟩
  | 81 => ⟨S2x8192x4x1, .f32⟩
  | 82 => ⟨S_, .f32⟩
  | 83 => ⟨S2x8192x4x1, .f32⟩
  | 84 => ⟨S2x8192x4x1, .f32⟩
  | 85 => ⟨S2x8192x4x1, .f32⟩
  | 86 => ⟨S2x8192x4x128, .f32⟩
  | 87 => ⟨S2x8192x4x128, .f32⟩
  | 88 => ⟨S_, .f32⟩
  | 89 => ⟨S2x8192x4x128, .f32⟩
  | 90 => ⟨S2x8192x4x128, .f32⟩
  | 91 => ⟨S2x8192x512, .f32⟩
  | 92 => ⟨S2x8192x4x128, .f32⟩
  | 93 => ⟨S2x8192x4x128, .f32⟩
  | 94 => ⟨S_, .f32⟩
  | 95 => ⟨S2x8192x4, .f32⟩
  | 96 => ⟨S2x8192x4x1, .f32⟩
  | 97 => ⟨S_, .f32⟩
  | 98 => ⟨S2x8192x4x1, .f32⟩
  | 99 => ⟨S2x8192x4x1, .f32⟩
  | 100 => ⟨S2x8192x4x1, .f32⟩
  | 101 => ⟨S2x8192x4x128, .f32⟩
  | 102 => ⟨S2x8192x4x128, .f32⟩
  | 103 => ⟨S2x8192x2x8, .f32⟩
  | 104 => ⟨S8, .f32⟩
  | 105 => ⟨S8, .f32⟩
  | 106 => ⟨S8, .f32⟩
  | 107 => ⟨S2x8192x1x8, .f32⟩
  | 108 => ⟨S2x8192x8, .f32⟩
  | 109 => ⟨S8, .f32⟩
  | 110 => ⟨S1x1x8, .f32⟩
  | 111 => ⟨S2x8192x8, .f32⟩
  | 112 => ⟨S2x8192x8, .f32⟩
  | 113 => ⟨S_, .f32⟩
  | 114 => ⟨S2x8192x8, .f32⟩
  | 115 => ⟨S2x8192x8, .f32⟩
  | 116 => ⟨S2x8192x8, .f32⟩
  | 117 => ⟨S2x8192x8, .f32⟩
  | 118 => ⟨S2x8192x8, .i1⟩
  | 119 => ⟨S2x8192x8, .f32⟩
  | 120 => ⟨S2x8192x8, .f32⟩
  | 121 => ⟨S2x8192x8, .f32⟩
  | 122 => ⟨S2x8192x8, .f32⟩
  | 123 => ⟨S2x8192x8, .f32⟩
  | 124 => ⟨S2x8192x8, .f32⟩
  | 125 => ⟨S2x8192x8, .f32⟩
  | 126 => ⟨S2x8192x8, .f32⟩
  | 127 => ⟨S1x1x8, .f32⟩
  | _ => ⟨S2x8192x1024, .f32⟩

abbrev hbmTy0_1 (i : Nat) : BufTy := match i % 128 with
  | 0 => ⟨S2x8192x8, .f32⟩
  | 1 => ⟨S2x8192x8, .f32⟩
  | 2 => ⟨S2x8192x1x8, .f32⟩
  | 3 => ⟨S2x8192x8, .f32⟩
  | 4 => ⟨S2x8192x8, .f32⟩
  | 5 => ⟨S2x8192x8, .f32⟩
  | 6 => ⟨S_, .f32⟩
  | 7 => ⟨S2x8192x8, .f32⟩
  | 8 => ⟨S2x8192x8, .f32⟩
  | 9 => ⟨S_, .f32⟩
  | 10 => ⟨S2x8192x8, .f32⟩
  | 11 => ⟨S2x8192x8, .f32⟩
  | 12 => ⟨S2x32x256x4x128, .f32⟩
  | 13 => ⟨S2x4x32x128x256, .f32⟩
  | 14 => ⟨S_, .f32⟩
  | 15 => ⟨S2x4x32x1x256, .f32⟩
  | 16 => ⟨S_, .f32⟩
  | 17 => ⟨S2x4x32x7x256, .f32⟩
  | 18 => ⟨S2x4x32x136x256, .f32⟩
  | 19 => ⟨S_, .f32⟩
  | 20 => ⟨S2x8192x112, .f32⟩
  | 21 => ⟨S2x8192x128, .f32⟩
  | 22 => ⟨S2x8192x8x64, .f32⟩
  | 23 => ⟨S2x8192x8x32, .f32⟩
  | 24 => ⟨S8192x1x16, .f32⟩
  | 25 => ⟨S8192x1x16, .f32⟩
  | 26 => ⟨S2x8192x8x16, .f32⟩
  | 27 => ⟨S2x8192x8x16, .f32⟩
  | 28 => ⟨S1x8192x1x16, .f32⟩
  | 29 => ⟨S2x8192x8x16, .f32⟩
  | 30 => ⟨S2x8192x8x16, .f32⟩
  | 31 => ⟨S1x8192x1x16, .f32⟩
  | 32 => ⟨S2x8192x8x16, .f32⟩
  | 33 => ⟨S2x8192x8x16, .f32⟩
  | 34 => ⟨S2x8192x8x16, .f32⟩
  | 35 => ⟨S1x8192x1x16, .f32⟩
  | 36 => ⟨S2x8192x8x16, .f32⟩
  | 37 => ⟨S2x8192x8x16, .f32⟩
  | 38 => ⟨S1x8192x1x16, .f32⟩
  | 39 => ⟨S2x8192x8x16, .f32⟩
  | 40 => ⟨S2x8192x8x16, .f32⟩
  | 41 => ⟨S2x8192x8x16, .f32⟩
  | 42 => ⟨S2x8192x8x32, .f32⟩
  | 43 => ⟨S2x8192x8x32, .f32⟩
  | 44 => ⟨S8192x1x16, .f32⟩
  | 45 => ⟨S8192x1x16, .f32⟩
  | 46 => ⟨S2x8192x8x16, .f32⟩
  | 47 => ⟨S2x8192x8x16, .f32⟩
  | 48 => ⟨S1x8192x1x16, .f32⟩
  | 49 => ⟨S2x8192x8x16, .f32⟩
  | 50 => ⟨S2x8192x8x16, .f32⟩
  | 51 => ⟨S1x8192x1x16, .f32⟩
  | 52 => ⟨S2x8192x8x16, .f32⟩
  | 53 => ⟨S2x8192x8x16, .f32⟩
  | 54 => ⟨S2x8192x8x16, .f32⟩
  | 55 => ⟨S1x8192x1x16, .f32⟩
  | 56 => ⟨S2x8192x8x16, .f32⟩
  | 57 => ⟨S2x8192x8x16, .f32⟩
  | 58 => ⟨S1x8192x1x16, .f32⟩
  | 59 => ⟨S2x8192x8x16, .f32⟩
  | 60 => ⟨S2x8192x8x16, .f32⟩
  | 61 => ⟨S2x8192x8x16, .f32⟩
  | 62 => ⟨S2x8192x8x32, .f32⟩
  | 63 => ⟨S2x8192x8x64, .f32⟩
  | 64 => ⟨S2x8192x512, .f32⟩
  | 65 => ⟨S_, .f32⟩
  | 66 => ⟨S2x8192x512, .f32⟩
  | 67 => ⟨S2x8192x512, .f32⟩
  | 68 => ⟨S2x8192x512, .bf16⟩
  | 69 => ⟨S2x8192x8x64, .f32⟩
  | 70 => ⟨S2x8192x8x32, .f32⟩
  | 71 => ⟨S8192x1x16, .f32⟩
  | 72 => ⟨S8192x1x16, .f32⟩
  | 73 => ⟨S2x8192x8x16, .f32⟩
  | 74 => ⟨S2x8192x8x16, .f32⟩
  | 75 => ⟨S1x8192x1x16, .f32⟩
  | 76 => ⟨S2x8192x8x16, .f32⟩
  | 77 => ⟨S2x8192x8x16, .f32⟩
  | 78 => ⟨S1x8192x1x16, .f32⟩
  | 79 => ⟨S2x8192x8x16, .f32⟩
  | 80 => ⟨S2x8192x8x16, .f32⟩
  | 81 => ⟨S2x8192x8x16, .f32⟩
  | 82 => ⟨S1x8192x1x16, .f32⟩
  | 83 => ⟨S2x8192x8x16, .f32⟩
  | 84 => ⟨S2x8192x8x16, .f32⟩
  | 85 => ⟨S1x8192x1x16, .f32⟩
  | 86 => ⟨S2x8192x8x16, .f32⟩
  | 87 => ⟨S2x8192x8x16, .f32⟩
  | 88 => ⟨S2x8192x8x16, .f32⟩
  | 89 => ⟨S2x8192x8x32, .f32⟩
  | 90 => ⟨S2x8192x8x32, .f32⟩
  | 91 => ⟨S8192x1x16, .f32⟩
  | 92 => ⟨S8192x1x16, .f32⟩
  | 93 => ⟨S2x8192x8x16, .f32⟩
  | 94 => ⟨S2x8192x8x16, .f32⟩
  | 95 => ⟨S1x8192x1x16, .f32⟩
  | 96 => ⟨S2x8192x8x16, .f32⟩
  | 97 => ⟨S2x8192x8x16, .f32⟩
  | 98 => ⟨S1x8192x1x16, .f32⟩
  | 99 => ⟨S2x8192x8x16, .f32⟩
  | 100 => ⟨S2x8192x8x16, .f32⟩
  | 101 => ⟨S2x8192x8x16, .f32⟩
  | 102 => ⟨S1x8192x1x16, .f32⟩
  | 103 => ⟨S2x8192x8x16, .f32⟩
  | 104 => ⟨S2x8192x8x16, .f32⟩
  | 105 => ⟨S1x8192x1x16, .f32⟩
  | 106 => ⟨S2x8192x8x16, .f32⟩
  | 107 => ⟨S2x8192x8x16, .f32⟩
  | 108 => ⟨S2x8192x8x16, .f32⟩
  | 109 => ⟨S2x8192x8x32, .f32⟩
  | 110 => ⟨S2x8192x8x64, .f32⟩
  | 111 => ⟨S2x8192x512, .f32⟩
  | 112 => ⟨S2x8192x512, .bf16⟩
  | 113 => ⟨S2x4x32x136x256, .bf16⟩
  | 114 => ⟨S2x8192x512, .f32⟩
  | 115 => ⟨S2x8192x512, .f32⟩
  | 116 => ⟨S2x8192x512, .f32⟩
  | 117 => ⟨S2x8192x16, .f32⟩
  | 118 => ⟨S2x16x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_3 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_6 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_8 : Ref sig .tc := ⟨.hbm, 134, rfl⟩
abbrev main_v90 : Ref sig .tc := ⟨.hbm, 135, rfl⟩
abbrev main_v91 : Ref sig .tc := ⟨.hbm, 136, rfl⟩
abbrev main_cst_9 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_10 : Ref sig .tc := ⟨.hbm, 142, rfl⟩
abbrev main_v96 : Ref sig .tc := ⟨.hbm, 143, rfl⟩
abbrev main_cst_11 : Ref sig .tc := ⟨.hbm, 144, rfl⟩
abbrev main_v97 : Ref sig .tc := ⟨.hbm, 145, rfl⟩
abbrev main_v98 : Ref sig .tc := ⟨.hbm, 146, rfl⟩
abbrev main_cst_12 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_13 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩

abbrev nD : Nat := 1
abbrev τ : Topo := Topo.v7x

variable {F : FTy → Type} [FloatOps F]
-- ==== Proof.Run.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the attention body's last store leaves in the output's staging buffer, as a list of pieces, with the proof that
    the body runs to it. The body loads scratch buffers that it has written before; the run names the loaded contents over
    what those buffers held at the start, so the pieces are a function of these six contents. -/
noncomputable def kernelRun0_A (c : Dev nD) (i : grid0.Coords) (arg3 : Memref sig .tc .vmem S1x8192x128 .f32) (harg3 : arg3.IsWhole) (arg4 : Memref sig .tc .vmem S1x8448x128 .bf16) (harg4 : arg4.IsWhole) (arg5 : Memref sig .tc .vmem S1x1x33x136x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x128 .bf16) (harg8 : arg8.IsWhole) (arg9 : Memref sig .tc .vmem S16384x128 .bf16) (harg9 : arg9.IsWhole) (arg10 : Memref sig .tc .vmem S136x16384 .f32) (harg10 : arg10.IsWhole) (arg11 : Memref sig .tc .vmem S1x16384 .f32) (harg11 : arg11.IsWhole) (arg12 : Memref sig .tc .vmem S768x256 .f32) (harg12 : arg12.IsWhole) (arg13 : Memref sig .tc .vmem S768x256 .bf16) (harg13 : arg13.IsWhole) (arg14 : Memref sig .tc .vmem S1x256 .f32) (harg14 : arg14.IsWhole)
    (x0 : Vec F S1x8192x128 .f32) (x1 : Vec F S1x8448x128 .bf16) (x2 : Vec F S1x1x33x136x256 .bf16) (x3 : Vec F S4x64 .f32) (x4 : Vec F S1x128 .f32) :
    { L5 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S1x8192x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ g9 g10 g11 g12 g13 g14 f, arg8.view.loc (c : Thread nD τ) ↦[arg8.view.set]{fullShare} arg8.view.writes (Elt F) f (L5 g9 g10 g11 g12 g13 g14)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attn_eq_skeleton]; unfold cc0_attn_skel
    simp only [k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists fs0, fs1, fs2, fs3, fs4, fs5, f5; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Att

end
-- ==== Proof.Trip.lean ====
module

public import proofs.«01_k».proof.Proof.Gen.KernelIdeal.Loops

@[expose] public section

set_option maxRecDepth 16384

noncomputable section

/-!
# One trip of the attention loop, tile by tile

A trip of the loop goes through one chunk of 768 keys and, for each of the 64 tiles of 256 query columns, updates the
running maximum and the accumulator. Every tile is the same computation at another column offset, so the pieces that a
trip writes are stated here by one recursion over the tiles, and proved to be those of the program's own loop.
-/

namespace Cert.KernelIdeal.Att

open Cert.KernelIdeal.Gen
open Idealize.ShloMosaic Idealize.ShloMosaic.TcCoe Idealize.ShloMosaic.Tactic

variable {F : FTy → Type} [FloatOps F] [Named F]

/-- The new running maximum of a tile: the old one against the largest score of each column. -/
def mNew (s : Vec F S768x256 .f32) (mO : Vec F S1x256 .f32) : FVec F S1x256 .f32 :=
  maximumf mO (shapeCast S1x256 (multiReduction .maximumf [0] S256 s 0xFF800000#32 reduces_S768x256_S256 (.inl rfl) rfl) shapeCasts_S256_S1x256)

/-- The factor by which the accumulator of a tile is rescaled. -/
def alphaT (s : Vec F S768x256 .f32) (mO : Vec F S1x256 .f32) : FVec F S1x256 .f32 :=
  exp2 (subf mO (mNew s mO))

/-- The weights of a tile against the new maximum. -/
def pT (s : Vec F S768x256 .f32) (mO : Vec F S1x256 .f32) : FVec F S768x256 .bf16 :=
  truncf .bf16 (exp2 (subf s (broadcastTo S768x256 (mNew s mO) broadcasts_S1x256_S768x256))) bitsLt_bf16_f32

/-- One value block times its 256 rows of the weights. -/
def mmT (v : Vec F S1x1x1x136x256 .bf16) (p : FVec F S256x256 .bf16) : FVec F S136x256 .f32 :=
  matmul dot_S136x256_S256x256_S136x256_1_0_0_1_n_n none (shapeCast S136x256 v shapeCasts_S1x1x1x136x256_S136x256) p (constant S136x256 .f32 0x00000000#32)

/-- The accumulator of a tile after a chunk. -/
def accT (v0 v1 v2 : Vec F S1x1x1x136x256 .bf16) (p : Vec F S768x256 .bf16) (al : Vec F S1x256 .f32) (aO : Vec F S136x256 .f32) : FVec F S136x256 .f32 :=
  shapeCast S136x256 (addf (mulf (broadcastTo S136x256 al broadcasts_S1x256_S136x256) aO)
    (addf (addf (mmT v0 (extractStridedSlice S256x256 ![0, 0] p slices_S768x256_o0_0_S256x256))
      (mmT v1 (extractStridedSlice S256x256 ![256, 0] p slices_S768x256_o256_0_S256x256)))
      (mmT v2 (extractStridedSlice S256x256 ![512, 0] p slices_S768x256_o512_0_S256x256)))) shapeCasts_S136x256_S136x256

/-- The scores of a chunk of keys against a tile of queries. -/
def sT (kb : Vec F S1x768x128 .bf16) (q : Vec F S256x128 .bf16) : FVec F S768x256 .f32 :=
  matmul dot_S768x128_S256x128_S768x256_1_1_0_0_n_n none (shapeCast S768x128 kb shapeCasts_S1x768x128_S768x128) q (constant S768x256 .f32 0x00000000#32)

theorem inbQ (n : ℕ) (h : n ≤ 63) : ∀ a, (![256 * n, 0] : Fin 2 → Nat) a + S256x128.size a ≤ S16384x128.size a := by
  intro a; fin_cases a
  · show 256 * n + 256 ≤ 16384; omega
  · show 0 + 128 ≤ 128; omega

theorem inbM (n : ℕ) (h : n ≤ 63) : ∀ a, (![0, 256 * n] : Fin 2 → Nat) a + S1x256.size a ≤ S1x16384.size a := by
  intro a; fin_cases a
  · show 0 + 1 ≤ 1; omega
  · show 256 * n + 256 ≤ 16384; omega

theorem inbA (n : ℕ) (h : n ≤ 63) : ∀ a, (![0, 256 * n] : Fin 2 → Nat) a + S136x256.size a ≤ S136x16384.size a := by
  intro a; fin_cases a
  · show 0 + 136 ≤ 136; omega
  · show 256 * n + 256 ≤ 16384; omega

section Lists

variable (arg4 : Memref sig .tc .vmem S1x8448x128 .bf16) (arg5 : Memref sig .tc .vmem S1x1x33x136x256 .bf16)
  (arg9 : Memref sig .tc .vmem S16384x128 .bf16) (arg10 : Memref sig .tc .vmem S136x16384 .f32)
  (arg11 : Memref sig .tc .vmem S1x16384 .f32) (arg12 : Memref sig .tc .vmem S768x256 .f32)
  (arg13 : Memref sig .tc .vmem S768x256 .bf16) (arg14 : Memref sig .tc .vmem S1x256 .f32)
  (X4 : BufTy.Contents (Elt F) arg4.view.ty) (X5 : BufTy.Contents (Elt F) arg5.view.ty)
  (X9 : BufTy.Contents (Elt F) arg9.view.ty) (k : Fin k0_t1_loop.trips)
  (f10 : BufTy.Contents (Elt F) arg10.view.ty) (f11 : BufTy.Contents (Elt F) arg11.view.ty)
  (f12 : BufTy.Contents (Elt F) arg12.view.ty) (f13 : BufTy.Contents (Elt F) arg13.view.ty)
  (f14 : BufTy.Contents (Elt F) arg14.view.ty)

/-- The keys of chunk `k`. -/
def kB : Vec F S1x768x128 .bf16 :=
  arg4.view.readAt (Elt F) (Rect.unit (s := S1x8448x128) (k0_off1 k) S1x768x128.size (k0_off1_inb k)).toLoadRect X4

/-- The keys of the chunk after `k` (of the last chunk at the end). -/
def kN : Vec F S1x768x128 .bf16 :=
  arg4.view.readAt (Elt F) (Rect.unit (s := S1x8448x128) (k0_off6 k) S1x768x128.size (k0_off6_inb k)).toLoadRect X4

/-- The three value blocks of chunk `k`. -/
def vB0 : Vec F S1x1x1x136x256 .bf16 :=
  arg5.view.readAt (Elt F) (Rect.unit (s := S1x1x33x136x256) (k0_off4 k) S1x1x1x136x256.size (k0_off4_inb k)).toLoadRect X5
def vB1 : Vec F S1x1x1x136x256 .bf16 :=
  arg5.view.readAt (Elt F) (Rect.unit (s := S1x1x33x136x256) (k0_off5 k 1#32) S1x1x1x136x256.size (k0_off5_inb k 0)).toLoadRect X5
def vB2 : Vec F S1x1x1x136x256 .bf16 :=
  arg5.view.readAt (Elt F) (Rect.unit (s := S1x1x33x136x256) (k0_off5 k 2#32) S1x1x1x136x256.size (k0_off5_inb k 1)).toLoadRect X5

/-- The three value blocks of the chunk before `k` (of the first chunk at the start). -/
def vP0 : Vec F S1x1x1x136x256 .bf16 :=
  arg5.view.readAt (Elt F) (Rect.unit (s := S1x1x33x136x256) (k0_off2 k) S1x1x1x136x256.size (k0_off2_inb k)).toLoadRect X5
def vP1 : Vec F S1x1x1x136x256 .bf16 :=
  arg5.view.readAt (Elt F) (Rect.unit (s := S1x1x33x136x256) (k0_off3 k 1#32) S1x1x1x136x256.size (k0_off3_inb k 0)).toLoadRect X5
def vP2 : Vec F S1x1x1x136x256 .bf16 :=
  arg5.view.readAt (Elt F) (Rect.unit (s := S1x1x33x136x256) (k0_off3 k 2#32) S1x1x1x136x256.size (k0_off3_inb k 1)).toLoadRect X5

/-- A tile of queries. -/
def qB (n : ℕ) (h : n ≤ 63) : Vec F S256x128 .bf16 :=
  arg9.view.readAt (Elt F) (Rect.unit (s := S16384x128) ![256 * n, 0] S256x128.size (inbQ n h)).toLoadRect X9

/-- A tile's old maximum. -/
def mB (n : ℕ) (h : n ≤ 63) : Vec F S1x256 .f32 :=
  arg11.view.readAt (Elt F) (Rect.unit (s := S1x16384) ![0, 256 * n] S1x256.size (inbM n h)).toLoadRect f11

/-- A tile's old accumulator. -/
def aB (n : ℕ) (h : n ≤ 63) : Vec F S136x256 .f32 :=
  arg10.view.readAt (Elt F) (Rect.unit (s := S136x16384) ![0, 256 * n] S136x256.size (inbA n h)).toLoadRect f10

/-- A tile's scores: the first tile's were computed at the end of the trip before. -/
def sB : (n : ℕ) → n ≤ 63 → Vec F S768x256 .f32
  | 0, _ => arg12.view.readAt (Elt F) (Rect.unit (s := S768x256) ![0, 0] S768x256.size inb_S768x256_S768x256_0_0).toLoadRect f12
  | n + 1, h => sT (kB arg4 X4 k) (qB arg9 X9 (n + 1) h)

/-- A tile's new accumulator. -/
def aV (n : ℕ) (h : n ≤ 63) : Vec F S136x256 .f32 :=
  accT (vB0 arg5 X5 k) (vB1 arg5 X5 k) (vB2 arg5 X5 k) (pT (sB arg4 arg9 arg12 X4 X9 k f12 n h) (mB arg11 f11 n h))
    (alphaT (sB arg4 arg9 arg12 X4 X9 k f12 n h) (mB arg11 f11 n h)) (aB arg10 f10 n h)

/-- The last tile's accumulator, brought up to date with the chunk before. -/
def aPend : Vec F S136x256 .f32 :=
  accT (vP0 arg5 X5 k) (vP1 arg5 X5 k) (vP2 arg5 X5 k)
    (arg13.view.readAt (Elt F) (Rect.unit (s := S768x256) ![0, 0] S768x256.size inb_S768x256_S768x256_0_0).toLoadRect f13)
    (arg14.view.readAt (Elt F) (Rect.unit (s := S1x256) ![0, 0] S1x256.size inb_S1x256_S1x256_0_0).toLoadRect f14)
    (aB arg10 f10 63 (le_refl _))

/-- What a trip writes to the accumulator: tiles `n-1, …, 0`, before them the last tile. -/
def accL : (n : ℕ) → n ≤ 63 → List (View.Piece (Elt F) S136x16384 .f32)
  | 0, _ => [⟨Rect.unit ![0, 256 * 63] S136x256.size (inbA 63 (le_refl _)), aPend arg5 arg10 arg13 arg14 X5 k f10 f13 f14⟩]
  | n + 1, h => ⟨Rect.unit ![0, 256 * n] S136x256.size (inbA n (by omega)), aV arg4 arg5 arg9 arg10 arg11 arg12 X4 X5 X9 k f10 f11 f12 n (by omega)⟩ :: accL n (by omega)

/-- What a trip writes to the running maximum: tiles `n-1, …, 0`. -/
def mL : (n : ℕ) → n ≤ 64 → List (View.Piece (Elt F) S1x16384 .f32)
  | 0, _ => []
  | n + 1, h => ⟨Rect.unit ![0, 256 * n] S1x256.size (inbM n (by omega)),
      shapeCast S1x256 (mNew (sB arg4 arg9 arg12 X4 X9 k f12 n (by omega)) (mB arg11 f11 n (by omega))) shapeCasts_S1x256_S1x256⟩ :: mL n (by omega)

/-- What a trip leaves as the next trip's first scores, -/
def sL : List (View.Piece (Elt F) S768x256 .f32) :=
  [⟨Rect.unit ![0, 0] S768x256.size inb_S768x256_S768x256_0_0,
    shapeCast S768x256 (sT (kN arg4 X4 k) (qB arg9 X9 0 (by omega))) shapeCasts_S768x256_S768x256⟩]

/-- as the last tile's weights, -/
def pL : List (View.Piece (Elt F) S768x256 .bf16) :=
  [⟨Rect.unit ![0, 0] S768x256.size inb_S768x256_S768x256_0_0,
    shapeCast S768x256 (pT (sB arg4 arg9 arg12 X4 X9 k f12 63 (le_refl _)) (mB arg11 f11 63 (le_refl _))) shapeCasts_S768x256_S768x256⟩]

/-- and as the last tile's rescaling factor. -/
def alL : List (View.Piece (Elt F) S1x256 .f32) :=
  [⟨Rect.unit ![0, 0] S1x256.size inb_S1x256_S1x256_0_0,
    shapeCast S1x256 (alphaT (sB arg4 arg9 arg12 X4 X9 k f12 63 (le_refl _)) (mB arg11 f11 63 (le_refl _))) shapeCasts_S1x256_S1x256⟩]

end Lists

section Trip

variable (𝒱 : Variants) (c : Dev nD) (bd : Option 𝒱.V) (i : grid0.Coords) (arg3 : Memref sig .tc .vmem S1x8192x128 .f32) (harg3 : arg3.IsWhole) (arg4 : Memref sig .tc .vmem S1x8448x128 .bf16) (harg4 : arg4.IsWhole) (arg5 : Memref sig .tc .vmem S1x1x33x136x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x128 .bf16) (harg8 : arg8.IsWhole) (arg9 : Memref sig .tc .vmem S16384x128 .bf16) (harg9 : arg9.IsWhole) (arg10 : Memref sig .tc .vmem S136x16384 .f32) (harg10 : arg10.IsWhole) (arg11 : Memref sig .tc .vmem S1x16384 .f32) (harg11 : arg11.IsWhole) (arg12 : Memref sig .tc .vmem S768x256 .f32) (harg12 : arg12.IsWhole) (arg13 : Memref sig .tc .vmem S768x256 .bf16) (harg13 : arg13.IsWhole) (arg14 : Memref sig .tc .vmem S1x256 .f32) (harg14 : arg14.IsWhole)
  (kf : FVec F S768x128 .bf16) (qf : Vec F S256x128 .bf16) (zf : FVec F S768x256 .f32)
  (X4 : BufTy.Contents (Elt F) arg4.view.ty) (X5 : BufTy.Contents (Elt F) arg5.view.ty)
  (X9 : BufTy.Contents (Elt F) arg9.view.ty) (k : Fin k0_t1_loop.trips)
  (f10 : BufTy.Contents (Elt F) arg10.view.ty) (f11 : BufTy.Contents (Elt F) arg11.view.ty)
  (f12 : BufTy.Contents (Elt F) arg12.view.ty) (f13 : BufTy.Contents (Elt F) arg13.view.ty)
  (f14 : BufTy.Contents (Elt F) arg14.view.ty)

/-- The pieces of the program's own trip are the ones stated above. -/
theorem tripL_eq :
    tripL_k0_t1 (F := F) 𝒱 c bd i arg3 harg3 arg4 harg4 arg5 harg5 arg6 harg6 arg7 harg7 arg8 harg8 arg9 harg9 arg10 harg10 arg11 harg11 arg12 harg12 arg13 harg13 arg14 harg14 kf qf zf X4 X5 X9 k f10 f11 f12 f13 f14
      = (accL arg4 arg5 arg9 arg10 arg11 arg12 arg13 arg14 X4 X5 X9 k f10 f11 f12 f13 f14 63 (le_refl _),
         mL arg4 arg9 arg11 arg12 X4 X9 k f11 f12 64 (le_refl _), sL arg4 arg9 X4 X9 k,
         pL arg4 arg9 arg11 arg12 X4 X9 k f11 f12, alL arg4 arg9 arg11 arg12 X4 X9 k f11 f12) := by
  sl_kernel_rfl

end Trip

end Cert.KernelIdeal.Att
-- ==== Proof.Out.lean ====
module

public import proofs.«01_k».proof.Proof.Run
public import proofs.«01_k».proof.Proof.Trip

@[expose] public section

set_option maxRecDepth 16384

noncomputable section

/-!
# What one grid point of the attention writes

The body's last store as a function of its input blocks: the masked copies of the queries, the loop's pieces, the last
tile's update, and the epilogue. The scratch buffers' contents at the start do not enter.
-/

namespace Cert.KernelIdeal.Att

open Cert.KernelIdeal.Gen
open Idealize.ShloMosaic Idealize.ShloMosaic.TcCoe Idealize.ShloMosaic.Tactic

variable {F : FTy → Type} [FloatOps F] [Named F]

section Body

variable (c : Dev nD) (i : grid0.Coords) (arg3 : Memref sig .tc .vmem S1x8192x128 .f32) (harg3 : arg3.IsWhole) (arg4 : Memref sig .tc .vmem S1x8448x128 .bf16) (harg4 : arg4.IsWhole) (arg5 : Memref sig .tc .vmem S1x1x33x136x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x128 .bf16) (harg8 : arg8.IsWhole) (arg9 : Memref sig .tc .vmem S16384x128 .bf16) (harg9 : arg9.IsWhole) (arg10 : Memref sig .tc .vmem S136x16384 .f32) (harg10 : arg10.IsWhole) (arg11 : Memref sig .tc .vmem S1x16384 .f32) (harg11 : arg11.IsWhole) (arg12 : Memref sig .tc .vmem S768x256 .f32) (harg12 : arg12.IsWhole) (arg13 : Memref sig .tc .vmem S768x256 .bf16) (harg13 : arg13.IsWhole) (arg14 : Memref sig .tc .vmem S1x256 .f32) (harg14 : arg14.IsWhole)
  (x0 : Vec F S1x8192x128 .f32) (x1 : Vec F S1x8448x128 .bf16) (x2 : Vec F S1x1x33x136x256 .bf16) (x3 : Vec F S4x64 .f32) (x4 : Vec F S1x128 .f32)

/-- The query block. -/
def qIn : Vec F S1x8192x128 .f32 :=
  arg3.view.readAt (Elt F) (Rect.unit (s := S1x8192x128) ![0, 0, 0] S1x8192x128.size inb_S1x8192x128_S1x8192x128_0_0_0).toLoadRect (harg3.unread x0)

/-- The scratch copy of the queries: their first 64 lanes in the upper half, their last 64 in the lower. -/
def qL : List (View.Piece (Elt F) S16384x128 .bf16) :=
  [⟨Rect.unit ![8192, 0] S8192x128.size inb_S16384x128_S8192x128_8192_0, k0_pay456 (qIn arg3 harg3 x0)⟩,
   ⟨Rect.unit ![0, 0] S8192x128.size inb_S16384x128_S8192x128_0_0, k0_pay455 (qIn arg3 harg3 x0)⟩]

/-- The first chunk of keys, and the first tile of queries. -/
def kIn : FVec F S768x128 .bf16 :=
  k0_pay459 (arg4.view.readAt (Elt F) (Rect.unit (s := S1x8448x128) ![0, 0, 0] S1x768x128.size inb_S1x8448x128_S1x768x128_0_0_0).toLoadRect (harg4.unread x1))
def qTile : Vec F S256x128 .bf16 :=
  arg9.view.readCov (qL arg3 harg3 x0) (Rect.unit (s := S16384x128) ![0, 0] S256x128.size inb_S16384x128_S256x128_0_0).toLoadRect

/-- The first chunk's scores of the first tile. -/
def sIn : FVec F S768x256 .f32 :=
  k0_pay460 (kIn arg4 harg4 x1) (qTile arg3 harg3 arg9 x0) (constant S768x256 .f32 0x00000000#32)

/-- The pieces written before the loop: the accumulator, the maximum, the first scores, the last tile's weights and factor. -/
def aL0 : List (View.Piece (Elt F) S136x16384 .f32) := [⟨Rect.unit ![0, 0] S136x16384.size inb_S136x16384_S136x16384_0_0, k0_pay458⟩]
def mL0 : List (View.Piece (Elt F) S1x16384 .f32) := [⟨Rect.unit ![0, 0] S1x16384.size inb_S1x16384_S1x16384_0_0, k0_pay457⟩]
def sL0 : List (View.Piece (Elt F) S768x256 .f32) :=
  [⟨Rect.unit ![0, 0] S768x256.size inb_S768x256_S768x256_0_0, sIn arg3 harg3 arg4 harg4 arg9 x0 x1⟩]
def pL0 : List (View.Piece (Elt F) S768x256 .bf16) := [⟨Rect.unit ![0, 0] S768x256.size inb_S768x256_S768x256_0_0, k0_pay461⟩]
def rL0 : List (View.Piece (Elt F) S1x256 .f32) := [⟨Rect.unit ![0, 0] S1x256.size inb_S1x256_S1x256_0_0, k0_pay462⟩]

/-- The loop's pieces after `k` trips. -/
def pbK (k : ℕ) :=
  pb_k0_t1 (F := F) Variants.none c none i arg3 harg3 arg4 harg4 arg5 harg5 arg6 harg6 arg7 harg7 arg8 harg8 arg9 harg9 arg10 harg10 arg11 harg11 arg12 harg12 arg13 harg13 arg14 harg14 (kIn arg4 harg4 x1) (qTile arg3 harg3 arg9 x0) (constant S768x256 .f32 0x00000000#32)
    (harg4.unread x1) (harg5.unread x2) (arg9.view.writes (Elt F) arg9.view.junk (qL arg3 harg3 x0))
    (arg10.view.writes (Elt F) arg10.view.junk aL0) (arg11.view.writes (Elt F) arg11.view.junk mL0)
    (arg12.view.writes (Elt F) arg12.view.junk (sL0 arg3 harg3 arg4 harg4 arg9 x0 x1))
    (arg13.view.writes (Elt F) arg13.view.junk pL0) (arg14.view.writes (Elt F) arg14.view.junk rL0) k

/-- The accumulator's pieces at the end: the last tile brought up to date with the last chunk. -/
def aEnd : List (View.Piece (Elt F) S136x16384 .f32) :=
  let pb := pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)
  let p : Vec F S768x256 .bf16 := arg13.view.readCov (pb.2.2.2.1 ++ pL0) (Rect.unit (s := S768x256) ![0, 0] S768x256.size inb_S768x256_S768x256_0_0).toLoadRect
  let al : Vec F S1x256 .f32 := arg14.view.readCov (pb.2.2.2.2 ++ rL0) (Rect.unit (s := S1x256) ![0, 0] S1x256.size inb_S1x256_S1x256_0_0).toLoadRect
  let a : Vec F S136x256 .f32 := arg10.view.readCov (pb.1 ++ aL0) (Rect.unit (s := S136x16384) ![0, 16128] S136x256.size inb_S136x16384_S136x256_0_16128).toLoadRect
  ⟨Rect.unit ![0, 16128] S136x256.size inb_S136x16384_S136x256_0_16128,
    k0_pay465 p al
      (k0_pay464 p (arg5.view.readAt (Elt F) (Rect.unit (s := S1x1x33x136x256) ![0, 0, 30, 0, 0] S1x1x1x136x256.size inb_S1x1x33x136x256_S1x1x1x136x256_0_0_30_0_0).toLoadRect (harg5.unread x2))
        (arg5.view.readAt (Elt F) (Rect.unit (s := S1x1x33x136x256) ![0, 0, 31, 0, 0] S1x1x1x136x256.size inb_S1x1x33x136x256_S1x1x1x136x256_0_0_31_0_0).toLoadRect (harg5.unread x2)))
      (arg5.view.readAt (Elt F) (Rect.unit (s := S1x1x33x136x256) ![0, 0, 32, 0, 0] S1x1x1x136x256.size inb_S1x1x33x136x256_S1x1x1x136x256_0_0_32_0_0).toLoadRect (harg5.unread x2)) a⟩ :: (pb.1 ++ aL0)

/-- The block written. -/
def outP : FVec F S1x8192x128 .bf16 :=
  let L := aEnd c i arg3 harg3 arg4 harg4 arg5 harg5 arg6 harg6 arg7 harg7 arg8 harg8 arg9 harg9 arg10 harg10 arg11 harg11 arg12 harg12 arg13 harg13 arg14 harg14 x0 x1 x2
  let lam : Vec F S4x64 .f32 := arg6.view.readAt (Elt F) (Rect.unit (s := S4x64) ![0, 0] S4x64.size inb_S4x64_S4x64_0_0).toLoadRect (harg6.unread x3)
  let den : Vec F S1x16384 .f32 := arg10.view.readCov L (Rect.unit (s := S136x16384) ![128, 0] S1x16384.size inb_S136x16384_S1x16384_128_0).toLoadRect
  let n1 : Vec F S128x8192 .f32 := arg10.view.readCov L (Rect.unit (s := S136x16384) ![0, 0] S128x8192.size inb_S136x16384_S128x8192_0_0).toLoadRect
  let n2 : Vec F S128x8192 .f32 := arg10.view.readCov L (Rect.unit (s := S136x16384) ![0, 8192] S128x8192.size inb_S136x16384_S128x8192_0_8192).toLoadRect
  k0_pay1 (k0_pay466 lam den n1 n2)
    (arg7.view.readAt (Elt F) (Rect.unit (s := S1x128) ![0, 0] S1x128.size inb_S1x128_S1x128_0_0).toLoadRect (harg7.unread x4))

/-- The run's own list of pieces is one store of the whole block. -/
theorem L5_eq (g9 : BufTy.Contents (Elt F) arg9.view.ty) (g10 : BufTy.Contents (Elt F) arg10.view.ty) (g11 : BufTy.Contents (Elt F) arg11.view.ty)
    (g12 : BufTy.Contents (Elt F) arg12.view.ty) (g13 : BufTy.Contents (Elt F) arg13.view.ty) (g14 : BufTy.Contents (Elt F) arg14.view.ty) :
    (kernelRun0_A c i arg3 harg3 arg4 harg4 arg5 harg5 arg6 harg6 arg7 harg7 arg8 harg8 arg9 harg9 arg10 harg10 arg11 harg11 arg12 harg12 arg13 harg13 arg14 harg14 x0 x1 x2 x3 x4).1 g9 g10 g11 g12 g13 g14
      = [⟨Rect.unit ![0, 0, 0] S1x8192x128.size inb_S1x8192x128_S1x8192x128_0_0_0, outP c i arg3 harg3 arg4 harg4 arg5 harg5 arg6 harg6 arg7 harg7 arg8 harg8 arg9 harg9 arg10 harg10 arg11 harg11 arg12 harg12 arg13 harg13 arg14 harg14 x0 x1 x2 x3 x4⟩] := by
  sl_kernel_rfl

end Body

end Cert.KernelIdeal.Att
-- ==== Proof.KRun.lean ====
module

public import proofs.«01_k».proof.Proof.Out
public import Idealize.ShloMosaic.Lib.Claim
public import Idealize.ShloMosaic.Lib.Pipeline.Value
public import Idealize.ShloMosaic.Lib.VecWindow

@[expose] public section

-- membership in a rectangle of production extents (`View.cover_of_tiled`): the elaborator's structural look
-- recurses once per coordinate of the long axes
set_option maxRecDepth 16384

noncomputable section

/-!
# The attention's run

The pipeline's proof data with what each grid point writes named as `outP`, the body at a point, the run of the whole
program, the frame, and the output array block by block.
-/

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: what the body leaves at
    the point's memrefs and input blocks. -/
def outsAt0 (c : Dev nD) (t : Fin cfg0.N) : Vec F S1x8192x128 .bf16 :=
  outP c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%g9, %g10, %g11, %g12, %g13, %g14, %e5, H5⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; rw [L5_eq, View.read_writes_full]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 5's array: what the body leaves for that window after the body (`outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- The index map sends distinct grid points to distinct block indices (decided over the 8 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x8192x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v22) = (dats m 0 c).arrAt 5 cfg0.N :=
  (h c).1 5

/-- After the frame run, argument `main_arg0` is as launched: it is an input window's array. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v22) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post5 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Att

end
-- ==== Proof.Tile.lean ====
module

public import proofs.«01_k».proof.Proof.Trip
public import Idealize.ShloMosaic.Lib.Pointwise

@[expose] public section

set_option maxRecDepth 16384

noncomputable section

/-!
# One tile at an index

What the computations of one tile are, element by element, in the extended reals.
-/

namespace Cert.KernelIdeal.Att

open Cert.KernelIdeal.Gen
open Idealize.ShloMosaic Idealize.ShloMosaic.TcCoe Idealize.ShloMosaic.Tactic

/-- The pattern of f32's −∞ is the extended reals' `⊥`. -/
theorem ofBits_negInf : Ideal.ofBits .f32 0xFF800000#32 = ⊥ := by simp [Ideal.ofBits, Ideal.ieee]

theorem mNew_apply (s : Vec Ideal S768x256 .f32) (mO : Vec Ideal S1x256 .f32) (l : Fin 256) :
    mNew (F := Ideal) s mO (ix2 0 l) = max (mO (ix2 0 l)) ((Finset.univ : Finset (Fin 768)).fold max ⊥ fun j => s (ix2 j l)) := by
  pointwise [mNew]
  rw [ofBits_negInf]

theorem alphaT_apply (s : Vec Ideal S768x256 .f32) (mO : Vec Ideal S1x256 .f32) (l : Fin 256) :
    alphaT (F := Ideal) s mO (ix2 0 l) = FloatOps.exp2 (F := Ideal) (φ := .f32) (mO (ix2 0 l) - mNew (F := Ideal) s mO (ix2 0 l)) := by
  pointwise [alphaT]

theorem pT_apply (s : Vec Ideal S768x256 .f32) (mO : Vec Ideal S1x256 .f32) (j : Fin 768) (l : Fin 256) :
    pT (F := Ideal) s mO (ix2 j l) = FloatOps.exp2 (F := Ideal) (φ := .f32) (s (ix2 j l) - mNew (F := Ideal) s mO (ix2 0 l)) := by
  pointwise [pT]

theorem accT_apply (v0 v1 v2 : Vec Ideal S1x1x1x136x256 .bf16) (p : Vec Ideal S768x256 .bf16) (al : Vec Ideal S1x256 .f32)
    (aO : Vec Ideal S136x256 .f32) (r : Fin 136) (l : Fin 256) :
    accT (F := Ideal) v0 v1 v2 p al aO (ix2 r l) = al (ix2 0 l) * aO (ix2 r l)
      + ((∑ i : Fin 256, v0 (ix5 0 0 0 r i) * p (ix2 ⟨i.val, by omega⟩ l)
        + ∑ i : Fin 256, v1 (ix5 0 0 0 r i) * p (ix2 ⟨256 + i.val, by omega⟩ l))
        + ∑ i : Fin 256, v2 (ix5 0 0 0 r i) * p (ix2 ⟨512 + i.val, by omega⟩ l)) := by
  pointwise [accT, mmT]

theorem sT_apply (kb : Vec Ideal S1x768x128 .bf16) (q : Vec Ideal S256x128 .bf16) (j : Fin 768) (l : Fin 256) :
    sT (F := Ideal) kb q (ix2 j l) = ∑ d : Fin 128, kb (ix3 0 j d) * q (ix2 l d) := by
  pointwise [sT]

end Cert.KernelIdeal.Att
-- ==== Proof.Step.lean ====
module

public import proofs.«01_k».proof.Proof.Tile
public import Idealize.ShloMosaic.Lib.WritesUnit

@[expose] public section

set_option maxRecDepth 16384

noncomputable section

/-!
# Reading what a trip loads and stores

The blocks a trip loads, at an index of the whole buffer, and what the buffers hold at an index after the trip's stores.
-/

namespace Cert.KernelIdeal.Att

open Cert.KernelIdeal.Gen
open Idealize.ShloMosaic Idealize.ShloMosaic.TcCoe Idealize.ShloMosaic.Tactic

/-- A load of a unit-stride rectangle at a position reads the buffer at the offsets plus the position. -/
theorem readAt_unit_apply {sig : RefSig} {κ : Kind} {sp : Space} {s : Shape} {e : EltTy} {Val : EltTy → Type}
    (v : View sig κ sp s e) (f : v.ty.Contents Val) {off off' size : Fin s.rank → ℕ} (inb : ∀ a, off a + size a ≤ s.size a)
    (x : (Rect.unit off size inb).shape.Idx) (y : s.Idx) (heq : off = off') (h : ∀ a, (y a).val = off' a + (x a).val) :
    v.readAt Val (Rect.unit off size inb).toLoadRect f x = v.read Val f y := by
  subst heq
  have hy : (Rect.unit off size inb).toLoadRect.idx x = y := funext fun a => Fin.ext (by
    show off a + 1 * (x a).val = (y a).val
    rw [h a, Nat.one_mul])
  exact congrArg (v.read Val f) hy

/-! The offsets the loop computes, in closed form. -/
theorem off1_eq : ∀ k : Fin k0_t1_loop.trips, k0_off1 k = ![0, 768 * k.val, 0] := by decide +kernel
theorem off6_eq : ∀ k : Fin k0_t1_loop.trips, k0_off6 k = ![0, 768 * min (k.val + 1) 10, 0] := by decide +kernel
theorem off4_eq : ∀ k : Fin k0_t1_loop.trips, k0_off4 k = ![0, 0, 3 * k.val, 0, 0] := by decide +kernel
theorem off51_eq : ∀ k : Fin k0_t1_loop.trips, k0_off5 k 1#32 = ![0, 0, 3 * k.val + 1, 0, 0] := by decide +kernel
theorem off52_eq : ∀ k : Fin k0_t1_loop.trips, k0_off5 k 2#32 = ![0, 0, 3 * k.val + 2, 0, 0] := by decide +kernel
theorem off2_eq : ∀ k : Fin k0_t1_loop.trips, k0_off2 k = ![0, 0, 3 * (k.val - 1), 0, 0] := by decide +kernel
theorem off31_eq : ∀ k : Fin k0_t1_loop.trips, k0_off3 k 1#32 = ![0, 0, 3 * (k.val - 1) + 1, 0, 0] := by decide +kernel
theorem off32_eq : ∀ k : Fin k0_t1_loop.trips, k0_off3 k 2#32 = ![0, 0, 3 * (k.val - 1) + 2, 0, 0] := by decide +kernel
theorem trips_eq : k0_t1_loop.trips = 11 := by decide +kernel

/-- A coordinate by coordinate check of an index equation of a literal rank. -/
theorem forall_fin2 {p : Fin 2 → Prop} (h0 : p 0) (h1 : p 1) : ∀ a, p a := by
  intro a; fin_cases a <;> assumption
theorem forall_fin3 {p : Fin 3 → Prop} (h0 : p 0) (h1 : p 1) (h2 : p 2) : ∀ a, p a := by
  intro a; fin_cases a <;> assumption
theorem forall_fin5 {p : Fin 5 → Prop} (h0 : p 0) (h1 : p 1) (h2 : p 2) (h3 : p 3) (h4 : p 4) : ∀ a, p a := by
  intro a; fin_cases a <;> assumption

section Loads

variable (arg4 : Memref sig .tc .vmem S1x8448x128 .bf16) (arg5 : Memref sig .tc .vmem S1x1x33x136x256 .bf16)
  (arg9 : Memref sig .tc .vmem S16384x128 .bf16) (arg10 : Memref sig .tc .vmem S136x16384 .f32)
  (arg11 : Memref sig .tc .vmem S1x16384 .f32) (arg12 : Memref sig .tc .vmem S768x256 .f32)
  (arg13 : Memref sig .tc .vmem S768x256 .bf16) (arg14 : Memref sig .tc .vmem S1x256 .f32)
  (X4 : BufTy.Contents (Elt Ideal) arg4.view.ty) (X5 : BufTy.Contents (Elt Ideal) arg5.view.ty)
  (X9 : BufTy.Contents (Elt Ideal) arg9.view.ty) (k : Fin k0_t1_loop.trips)
  (f10 : BufTy.Contents (Elt Ideal) arg10.view.ty) (f11 : BufTy.Contents (Elt Ideal) arg11.view.ty)
  (f12 : BufTy.Contents (Elt Ideal) arg12.view.ty) (f13 : BufTy.Contents (Elt Ideal) arg13.view.ty)
  (f14 : BufTy.Contents (Elt Ideal) arg14.view.ty)

theorem kB_apply (i : Fin 768) (d : Fin 128) (y : Fin 8448) (hy : y.val = 768 * k.val + i.val) :
    kB arg4 X4 k (ix3 0 i d) = arg4.view.read (Elt Ideal) X4 (ix3 0 y d) :=
  readAt_unit_apply _ _ _ _ _ (off1_eq k) (forall_fin3 rfl hy (Nat.zero_add _).symm)

theorem kN_apply (i : Fin 768) (d : Fin 128) (y : Fin 8448) (hy : y.val = 768 * min (k.val + 1) 10 + i.val) :
    kN arg4 X4 k (ix3 0 i d) = arg4.view.read (Elt Ideal) X4 (ix3 0 y d) :=
  readAt_unit_apply _ _ _ _ _ (off6_eq k) (forall_fin3 rfl hy (Nat.zero_add _).symm)

theorem vB0_apply (r : Fin 136) (i : Fin 256) (y : Fin 33) (hy : y.val = 3 * k.val) :
    vB0 arg5 X5 k (ix5 0 0 0 r i) = arg5.view.read (Elt Ideal) X5 (ix5 0 0 y r i) :=
  readAt_unit_apply _ _ _ _ _ (off4_eq k) (forall_fin5 rfl rfl hy (Nat.zero_add _).symm (Nat.zero_add _).symm)
theorem vB1_apply (r : Fin 136) (i : Fin 256) (y : Fin 33) (hy : y.val = 3 * k.val + 1) :
    vB1 arg5 X5 k (ix5 0 0 0 r i) = arg5.view.read (Elt Ideal) X5 (ix5 0 0 y r i) :=
  readAt_unit_apply _ _ _ _ _ (off51_eq k) (forall_fin5 rfl rfl hy (Nat.zero_add _).symm (Nat.zero_add _).symm)
theorem vB2_apply (r : Fin 136) (i : Fin 256) (y : Fin 33) (hy : y.val = 3 * k.val + 2) :
    vB2 arg5 X5 k (ix5 0 0 0 r i) = arg5.view.read (Elt Ideal) X5 (ix5 0 0 y r i) :=
  readAt_unit_apply _ _ _ _ _ (off52_eq k) (forall_fin5 rfl rfl hy (Nat.zero_add _).symm (Nat.zero_add _).symm)
theorem vP0_apply (r : Fin 136) (i : Fin 256) (y : Fin 33) (hy : y.val = 3 * (k.val - 1)) :
    vP0 arg5 X5 k (ix5 0 0 0 r i) = arg5.view.read (Elt Ideal) X5 (ix5 0 0 y r i) :=
  readAt_unit_apply _ _ _ _ _ (off2_eq k) (forall_fin5 rfl rfl hy (Nat.zero_add _).symm (Nat.zero_add _).symm)
theorem vP1_apply (r : Fin 136) (i : Fin 256) (y : Fin 33) (hy : y.val = 3 * (k.val - 1) + 1) :
    vP1 arg5 X5 k (ix5 0 0 0 r i) = arg5.view.read (Elt Ideal) X5 (ix5 0 0 y r i) :=
  readAt_unit_apply _ _ _ _ _ (off31_eq k) (forall_fin5 rfl rfl hy (Nat.zero_add _).symm (Nat.zero_add _).symm)
theorem vP2_apply (r : Fin 136) (i : Fin 256) (y : Fin 33) (hy : y.val = 3 * (k.val - 1) + 2) :
    vP2 arg5 X5 k (ix5 0 0 0 r i) = arg5.view.read (Elt Ideal) X5 (ix5 0 0 y r i) :=
  readAt_unit_apply _ _ _ _ _ (off32_eq k) (forall_fin5 rfl rfl hy (Nat.zero_add _).symm (Nat.zero_add _).symm)

theorem qB_apply (n : ℕ) (h : n ≤ 63) (l : Fin 256) (d : Fin 128) (c : Fin 16384) (hc : c.val = 256 * n + l.val) :
    qB arg9 X9 n h (ix2 l d) = arg9.view.read (Elt Ideal) X9 (ix2 c d) :=
  readAt_unit_apply _ _ _ _ _ rfl (forall_fin2 hc (Nat.zero_add _).symm)
theorem mB_apply (n : ℕ) (h : n ≤ 63) (l : Fin 256) (c : Fin 16384) (hc : c.val = 256 * n + l.val) :
    mB arg11 f11 n h (ix2 0 l) = arg11.view.read (Elt Ideal) f11 (ix2 0 c) :=
  readAt_unit_apply _ _ _ _ _ rfl (forall_fin2 rfl hc)
theorem aB_apply (n : ℕ) (h : n ≤ 63) (r : Fin 136) (l : Fin 256) (c : Fin 16384) (hc : c.val = 256 * n + l.val) :
    aB arg10 f10 n h (ix2 r l) = arg10.view.read (Elt Ideal) f10 (ix2 r c) :=
  readAt_unit_apply _ _ _ _ _ rfl (forall_fin2 (Nat.zero_add _).symm hc)

theorem hxM (t : ℕ) (l : Fin 256) (c : Fin 16384) (hc : c.val = 256 * t + l.val) : ∀ a : Fin 2,
    ((ix2 (0 : Fin 1) c : S1x16384.Idx) a).val = (![0, 256 * t] : Fin 2 → ℕ) a + ((ix2 (0 : Fin 1) l : S1x256.Idx) a).val :=
  forall_fin2 rfl hc
theorem hxA (t : ℕ) (r : Fin 136) (l : Fin 256) (c : Fin 16384) (hc : c.val = 256 * t + l.val) : ∀ a : Fin 2,
    ((ix2 r c : S136x16384.Idx) a).val = (![0, 256 * t] : Fin 2 → ℕ) a + ((ix2 r l : S136x256.Idx) a).val :=
  forall_fin2 (Nat.zero_add _).symm hc

/-- The maximum after a trip's stores: the newest piece of a tile is its own. -/
theorem read_mL (t : ℕ) (l : Fin 256) (c : Fin 16384) (hc : c.val = 256 * t + l.val) (n : ℕ) (hn : n ≤ 64) (ht : t < n) :
    arg11.view.read (Elt Ideal) (arg11.view.writes (Elt Ideal) f11 (mL arg4 arg9 arg11 arg12 X4 X9 k f11 f12 n hn)) (ix2 0 c)
      = mNew (F := Ideal) (sB arg4 arg9 arg12 X4 X9 k f12 t (by omega)) (mB arg11 f11 t (by omega)) (ix2 0 l) := by
  induction n with
  | zero => omega
  | succ n ih =>
    rw [mL.eq_2]
    by_cases h : t = n
    · subst h
      refine (View.read_writes_cons_unit_of_mem arg11.view f11 (inbM t (by omega)) _ (mL arg4 arg9 arg11 arg12 X4 X9 k f11 f12 t (by omega)) (ix2 0 c)
        (ix2 (0 : Fin 1) l : S1x256.Idx) rfl (hxM t l c hc)).trans ?_
      pointwise []
    · refine (View.read_writes_cons_unit_of_not_mem arg11.view f11 (inbM n (by omega)) _ (mL arg4 arg9 arg11 arg12 X4 X9 k f11 f12 n (by omega)) (ix2 0 c) rfl
        (1 : Fin 2) ?_).trans (ih (by omega) (by omega))
      left
      show c.val < 256 * n
      omega

/-- The accumulator after a trip's stores, at a tile other than the last, -/
theorem read_accL (t : ℕ) (r : Fin 136) (l : Fin 256) (c : Fin 16384) (hc : c.val = 256 * t + l.val) (n : ℕ) (hn : n ≤ 63) (ht : t < n) :
    arg10.view.read (Elt Ideal) (arg10.view.writes (Elt Ideal) f10 (accL arg4 arg5 arg9 arg10 arg11 arg12 arg13 arg14 X4 X5 X9 k f10 f11 f12 f13 f14 n hn)) (ix2 r c)
      = aV (F := Ideal) arg4 arg5 arg9 arg10 arg11 arg12 X4 X5 X9 k f10 f11 f12 t (by omega) (ix2 r l) := by
  induction n with
  | zero => omega
  | succ n ih =>
    rw [accL.eq_2]
    by_cases h : t = n
    · subst h
      exact View.read_writes_cons_unit_of_mem arg10.view f10 (inbA t (by omega)) _ (accL arg4 arg5 arg9 arg10 arg11 arg12 arg13 arg14 X4 X5 X9 k f10 f11 f12 f13 f14 t (by omega)) (ix2 r c)
        (ix2 r l : S136x256.Idx) rfl (hxA t r l c hc)
    · refine (View.read_writes_cons_unit_of_not_mem arg10.view f10 (inbA n (by omega)) _ (accL arg4 arg5 arg9 arg10 arg11 arg12 arg13 arg14 X4 X5 X9 k f10 f11 f12 f13 f14 n (by omega)) (ix2 r c) rfl
        (1 : Fin 2) ?_).trans (ih (by omega) (by omega))
      left
      show c.val < 256 * n
      omega

/-- and at the last tile. -/
theorem read_accL_last (r : Fin 136) (l : Fin 256) (c : Fin 16384) (hc : c.val = 256 * 63 + l.val) (n : ℕ) (hn : n ≤ 63) :
    arg10.view.read (Elt Ideal) (arg10.view.writes (Elt Ideal) f10 (accL arg4 arg5 arg9 arg10 arg11 arg12 arg13 arg14 X4 X5 X9 k f10 f11 f12 f13 f14 n hn)) (ix2 r c)
      = aPend (F := Ideal) arg5 arg10 arg13 arg14 X5 k f10 f13 f14 (ix2 r l) := by
  induction n with
  | zero =>
    rw [accL.eq_1]
    exact View.read_writes_cons_unit_of_mem arg10.view f10 (inbA 63 (le_refl _)) _ [] (ix2 r c)
        (ix2 r l : S136x256.Idx) rfl (hxA 63 r l c hc)
  | succ n ih =>
    rw [accL.eq_2]
    refine (View.read_writes_cons_unit_of_not_mem arg10.view f10 (inbA n (by omega)) _ (accL arg4 arg5 arg9 arg10 arg11 arg12 arg13 arg14 X4 X5 X9 k f10 f11 f12 f13 f14 n (by omega)) (ix2 r c) rfl
        (1 : Fin 2) ?_).trans (ih (by omega))
    right
    show 256 * n + 256 ≤ c.val
    omega

end Loads

end Cert.KernelIdeal.Att
-- ==== Proof.Flash.lean ====
module

public import Idealize.ShloMosaic.Lib.Pointwise

@[expose] public section

noncomputable section

/-!
# The running softmax of one query column

One query column against 11 chunks of 768 keys: the running maximum and the rescaled accumulator of one row of values,
as the kernel computes them, chunk by chunk.
-/

namespace Cert.KernelIdeal.Att

open Idealize.ShloMosaic

/-- The largest score among the first `k` chunks. -/
def Mx (s : ℕ → EReal) : ℕ → EReal
  | 0 => ⊥
  | k + 1 => max (Mx s k) ((Finset.univ : Finset (Fin 768)).fold max ⊥ fun i => s (768 * k + i.val))

/-- The weight of key `j` against the maximum of the first `k` chunks. -/
def Wt (s : ℕ → EReal) (k j : ℕ) : EReal := Ideal.exp2 (s j - Mx s k)

/-- The accumulator after `k` chunks, of the values `v`. -/
def Ac (s v : ℕ → EReal) : ℕ → EReal
  | 0 => 0
  | k + 1 => Ideal.exp2 (Mx s k - Mx s (k + 1)) * Ac s v k
      + ((∑ i : Fin 256, v (768 * k + i.val) * Wt s (k + 1) (768 * k + i.val)
        + ∑ i : Fin 256, v (768 * k + (256 + i.val)) * Wt s (k + 1) (768 * k + (256 + i.val)))
        + ∑ i : Fin 256, v (768 * k + (512 + i.val)) * Wt s (k + 1) (768 * k + (512 + i.val)))

/-- The scores of one query against all keys. -/
def scF (K : Fin 8448 → Fin 128 → EReal) (q : Fin 128 → EReal) (j : ℕ) : EReal :=
  if h : j < 8448 then ∑ d : Fin 128, K ⟨j, h⟩ d * q d else 0

/-- One row of the values, stored in 33 blocks of 256 keys. -/
def vF (V : Fin 33 → Fin 256 → EReal) (j : ℕ) : EReal :=
  if h : j < 8448 then V ⟨j / 256, by omega⟩ ⟨j % 256, by omega⟩ else 0

theorem scF_of (K : Fin 8448 → Fin 128 → EReal) (q : Fin 128 → EReal) (j : ℕ) (y : Fin 8448) (h : y.val = j) :
    scF K q j = ∑ d : Fin 128, K y d * q d := by
  subst h; exact dif_pos y.isLt

theorem vF_of (V : Fin 33 → Fin 256 → EReal) (j : ℕ) (y : Fin 33) (i : Fin 256) (h : j = 256 * y.val + i.val) :
    vF V j = V y i := by
  subst h
  have h1 : 256 * y.val + i.val < 8448 := by omega
  unfold vF
  rw [dif_pos h1]
  have e1 : (⟨(256 * y.val + i.val) / 256, by omega⟩ : Fin 33) = y := Fin.ext (by show (256 * y.val + i.val) / 256 = y.val; omega)
  have e2 : (⟨(256 * y.val + i.val) % 256, by omega⟩ : Fin 256) = i := Fin.ext (by show (256 * y.val + i.val) % 256 = i.val; omega)
  rw [e1, e2]

end Cert.KernelIdeal.Att
-- ==== Proof.Loop.lean ====
module

public import proofs.«01_k».proof.Proof.Step
public import proofs.«01_k».proof.Proof.Flash

@[expose] public section

set_option maxRecDepth 16384

noncomputable section

/-!
# What the buffers hold after each trip of the attention loop

The running maximum and the accumulator of every tile but the last are those of the chunks gone through; the last tile's
accumulator is one chunk behind, its weights and its rescaling factor being kept for the next trip.
-/

namespace Cert.KernelIdeal.Att

open Cert.KernelIdeal.Gen
open Idealize.ShloMosaic Idealize.ShloMosaic.TcCoe Idealize.ShloMosaic.Tactic

section Inv

variable (arg4 : Memref sig .tc .vmem S1x8448x128 .bf16) (arg5 : Memref sig .tc .vmem S1x1x33x136x256 .bf16)
  (arg9 : Memref sig .tc .vmem S16384x128 .bf16) (arg10 : Memref sig .tc .vmem S136x16384 .f32)
  (arg11 : Memref sig .tc .vmem S1x16384 .f32) (arg12 : Memref sig .tc .vmem S768x256 .f32)
  (arg13 : Memref sig .tc .vmem S768x256 .bf16) (arg14 : Memref sig .tc .vmem S1x256 .f32)
  (X4 : BufTy.Contents (Elt Ideal) arg4.view.ty) (X5 : BufTy.Contents (Elt Ideal) arg5.view.ty)
  (X9 : BufTy.Contents (Elt Ideal) arg9.view.ty)

/-- The scores of query column `c`. -/
def sC (c : Fin 16384) : ℕ → EReal :=
  scF (fun j d => arg4.view.read (Elt Ideal) X4 (ix3 0 j d)) (fun d => arg9.view.read (Elt Ideal) X9 (ix2 c d))

/-- Row `r` of the values. -/
def vR (r : Fin 136) : ℕ → EReal :=
  vF (fun y i => arg5.view.read (Elt Ideal) X5 (ix5 0 0 y r i))

/-- Column `l` of the last tile. -/
def cL (l : Fin 256) : Fin 16384 := ⟨256 * 63 + l.val, by omega⟩

/-- What the buffers hold when `k` chunks have been gone through. -/
structure Inv (k : ℕ) (f10 : BufTy.Contents (Elt Ideal) arg10.view.ty) (f11 : BufTy.Contents (Elt Ideal) arg11.view.ty)
    (f12 : BufTy.Contents (Elt Ideal) arg12.view.ty) (f13 : BufTy.Contents (Elt Ideal) arg13.view.ty)
    (f14 : BufTy.Contents (Elt Ideal) arg14.view.ty) : Prop where
  hM : ∀ c : Fin 16384, arg11.view.read (Elt Ideal) f11 (ix2 0 c) = Mx (sC arg4 arg9 X4 X9 c) k
  hA : ∀ (r : Fin 136) (c : Fin 16384), c.val < 16128 →
    arg10.view.read (Elt Ideal) f10 (ix2 r c) = Ac (sC arg4 arg9 X4 X9 c) (vR arg5 X5 r) k
  hL : ∀ (r : Fin 136) (l : Fin 256),
    arg10.view.read (Elt Ideal) f10 (ix2 r (cL l)) = Ac (sC arg4 arg9 X4 X9 (cL l)) (vR arg5 X5 r) (k - 1)
  hS : ∀ (i : Fin 768) (c : Fin 16384) (l : Fin 256), c.val = l.val →
    arg12.view.read (Elt Ideal) f12 (ix2 i l) = sC arg4 arg9 X4 X9 c (768 * min k 10 + i.val)
  hP : ∀ (i : Fin 768) (l : Fin 256), arg13.view.read (Elt Ideal) f13 (ix2 i l)
    = if k = 0 then 0 else Wt (sC arg4 arg9 X4 X9 (cL l)) k (768 * (k - 1) + i.val)
  hR : ∀ l : Fin 256, arg14.view.read (Elt Ideal) f14 (ix2 0 l)
    = if k = 0 then 1 else Ideal.exp2 (Mx (sC arg4 arg9 X4 X9 (cL l)) (k - 1) - Mx (sC arg4 arg9 X4 X9 (cL l)) k)

variable {arg4 arg5 arg9 arg10 arg11 arg12 arg13 arg14 X4 X5 X9}
variable {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty}
    {f14 : BufTy.Contents (Elt Ideal) arg14.view.ty} (k : Fin k0_t1_loop.trips)

theorem lt_trips (k : Fin k0_t1_loop.trips) : k.val < 11 := lt_of_lt_of_eq k.isLt trips_eq

/-- A tile's scores are the scores of its columns against the chunk's keys. -/
theorem sB_apply (h : Inv arg4 arg5 arg9 arg10 arg11 arg12 arg13 arg14 X4 X5 X9 k.val f10 f11 f12 f13 f14)
    (t : ℕ) (ht : t ≤ 63) (i : Fin 768) (l : Fin 256) (c : Fin 16384) (hc : c.val = 256 * t + l.val) :
    sB (F := Ideal) arg4 arg9 arg12 X4 X9 k f12 t ht (ix2 i l) = sC arg4 arg9 X4 X9 c (768 * k.val + i.val) := by
  have hk := lt_trips k
  cases t with
  | zero =>
    rw [sB.eq_1]
    refine (readAt_unit_apply arg12.view f12 inb_S768x256_S768x256_0_0 (ix2 i l) (ix2 i l) rfl
      (forall_fin2 (Nat.zero_add _).symm (Nat.zero_add _).symm)).trans ?_
    rw [h.hS i c l (by omega), Nat.min_eq_left (by omega)]
  | succ t =>
    rw [sB.eq_2, sT_apply]
    unfold sC
    rw [scF_of _ _ _ ⟨768 * k.val + i.val, by omega⟩ rfl]
    refine Finset.sum_congr rfl fun d _ => ?_
    rw [kB_apply arg4 X4 k i d ⟨768 * k.val + i.val, by omega⟩ rfl, qB_apply arg9 X9 (t + 1) ht l d c hc]

/-- A tile's new maximum. -/
theorem mNew_eq (h : Inv arg4 arg5 arg9 arg10 arg11 arg12 arg13 arg14 X4 X5 X9 k.val f10 f11 f12 f13 f14)
    (t : ℕ) (ht : t ≤ 63) (l : Fin 256) (c : Fin 16384) (hc : c.val = 256 * t + l.val) :
    mNew (F := Ideal) (sB arg4 arg9 arg12 X4 X9 k f12 t ht) (mB arg11 f11 t ht) (ix2 0 l)
      = Mx (sC arg4 arg9 X4 X9 c) (k.val + 1) := by
  rw [mNew_apply, mB_apply arg11 f11 t ht l c hc, h.hM]
  simp only [sB_apply k h t ht _ l c hc]
  rfl

/-- A tile's weights. -/
theorem pT_eq (h : Inv arg4 arg5 arg9 arg10 arg11 arg12 arg13 arg14 X4 X5 X9 k.val f10 f11 f12 f13 f14)
    (t : ℕ) (ht : t ≤ 63) (i : Fin 768) (l : Fin 256) (c : Fin 16384) (hc : c.val = 256 * t + l.val) :
    pT (F := Ideal) (sB arg4 arg9 arg12 X4 X9 k f12 t ht) (mB arg11 f11 t ht) (ix2 i l)
      = Wt (sC arg4 arg9 X4 X9 c) (k.val + 1) (768 * k.val + i.val) := by
  rw [pT_apply, mNew_eq k h t ht l c hc, sB_apply k h t ht i l c hc]
  rfl

/-- A tile's rescaling factor. -/
theorem alphaT_eq (h : Inv arg4 arg5 arg9 arg10 arg11 arg12 arg13 arg14 X4 X5 X9 k.val f10 f11 f12 f13 f14)
    (t : ℕ) (ht : t ≤ 63) (l : Fin 256) (c : Fin 16384) (hc : c.val = 256 * t + l.val) :
    alphaT (F := Ideal) (sB arg4 arg9 arg12 X4 X9 k f12 t ht) (mB arg11 f11 t ht) (ix2 0 l)
      = Ideal.exp2 (Mx (sC arg4 arg9 X4 X9 c) k.val - Mx (sC arg4 arg9 X4 X9 c) (k.val + 1)) := by
  rw [alphaT_apply, mNew_eq k h t ht l c hc, mB_apply arg11 f11 t ht l c hc, h.hM]
  rfl

theorem vR_of (r : Fin 136) (j : ℕ) (y : Fin 33) (i : Fin 256) (h : j = 256 * y.val + i.val) :
    vR arg5 X5 r j = arg5.view.read (Elt Ideal) X5 (ix5 0 0 y r i) := vF_of _ j y i h

/-- A tile's new accumulator. -/
theorem aV_eq (h : Inv arg4 arg5 arg9 arg10 arg11 arg12 arg13 arg14 X4 X5 X9 k.val f10 f11 f12 f13 f14)
    (t : ℕ) (ht : t < 63) (r : Fin 136) (l : Fin 256) (c : Fin 16384) (hc : c.val = 256 * t + l.val) :
    aV (F := Ideal) arg4 arg5 arg9 arg10 arg11 arg12 X4 X5 X9 k f10 f11 f12 t ht.le (ix2 r l)
      = Ac (sC arg4 arg9 X4 X9 c) (vR arg5 X5 r) (k.val + 1) := by
  have hk := lt_trips k
  unfold aV
  rw [accT_apply, alphaT_eq k h t ht.le l c hc, aB_apply arg10 f10 t ht.le r l c hc, h.hA r c (by omega)]
  simp only [pT_eq k h t ht.le _ l c hc]
  rw [Ac.eq_2]
  refine congrArg₂ (· + ·) rfl (congrArg₂ (· + ·) (congrArg₂ (· + ·) ?_ ?_) ?_)
  · refine Finset.sum_congr rfl fun i _ => ?_
    rw [vB0_apply arg5 X5 k r i ⟨3 * k.val, by omega⟩ rfl, vR_of r _ ⟨3 * k.val, by omega⟩ i (by show _ = 256 * (3 * k.val) + _; omega)]
  · refine Finset.sum_congr rfl fun i _ => ?_
    rw [vB1_apply arg5 X5 k r i ⟨3 * k.val + 1, by omega⟩ rfl, vR_of r _ ⟨3 * k.val + 1, by omega⟩ i (by show _ = 256 * (3 * k.val + 1) + _; omega)]
  · refine Finset.sum_congr rfl fun i _ => ?_
    rw [vB2_apply arg5 X5 k r i ⟨3 * k.val + 2, by omega⟩ rfl, vR_of r _ ⟨3 * k.val + 2, by omega⟩ i (by show _ = 256 * (3 * k.val + 2) + _; omega)]

/-- The last tile's accumulator brought up to date: at the start it stays zero. -/
theorem aPend_eq (h : Inv arg4 arg5 arg9 arg10 arg11 arg12 arg13 arg14 X4 X5 X9 k.val f10 f11 f12 f13 f14)
    (r : Fin 136) (l : Fin 256) :
    aPend (F := Ideal) arg5 arg10 arg13 arg14 X5 k f10 f13 f14 (ix2 r l)
      = Ac (sC arg4 arg9 X4 X9 (cL l)) (vR arg5 X5 r) k.val := by
  have hk := lt_trips k
  have hp : ∀ i : Fin 768, arg13.view.readAt (Elt Ideal) (Rect.unit (s := S768x256) ![0, 0] S768x256.size inb_S768x256_S768x256_0_0).toLoadRect f13 (ix2 i l)
      = arg13.view.read (Elt Ideal) f13 (ix2 i l) := fun i =>
    readAt_unit_apply arg13.view f13 inb_S768x256_S768x256_0_0 (ix2 i l) (ix2 i l) rfl
      (forall_fin2 (Nat.zero_add _).symm (Nat.zero_add _).symm)
  have hr : arg14.view.readAt (Elt Ideal) (Rect.unit (s := S1x256) ![0, 0] S1x256.size inb_S1x256_S1x256_0_0).toLoadRect f14 (ix2 0 l)
      = arg14.view.read (Elt Ideal) f14 (ix2 0 l) :=
    readAt_unit_apply arg14.view f14 inb_S1x256_S1x256_0_0 (ix2 0 l) (ix2 0 l) rfl
      (forall_fin2 rfl (Nat.zero_add _).symm)
  unfold aPend
  rw [accT_apply, aB_apply arg10 f10 63 (le_refl _) r l (cL l) rfl, hr, h.hL, h.hR]
  simp only [hp, h.hP]
  rcases Nat.eq_zero_or_pos k.val with h0 | h0
  · simp [h0, Ac]
  · obtain ⟨n, hn⟩ : ∃ n, k.val = n + 1 := ⟨k.val - 1, by omega⟩
    simp only [hn, Nat.add_sub_cancel, if_neg (Nat.succ_ne_zero n)]
    rw [Ac.eq_2]
    refine congrArg₂ (· + ·) rfl (congrArg₂ (· + ·) (congrArg₂ (· + ·) ?_ ?_) ?_)
    · refine Finset.sum_congr rfl fun i _ => ?_
      rw [vP0_apply arg5 X5 k r i ⟨3 * n, by omega⟩ (by show 3 * n = 3 * (k.val - 1); omega), vR_of r _ ⟨3 * n, by omega⟩ i (by show _ = 256 * (3 * n) + _; omega)]
    · refine Finset.sum_congr rfl fun i _ => ?_
      rw [vP1_apply arg5 X5 k r i ⟨3 * n + 1, by omega⟩ (by show 3 * n + 1 = 3 * (k.val - 1) + 1; omega), vR_of r _ ⟨3 * n + 1, by omega⟩ i (by show _ = 256 * (3 * n + 1) + _; omega)]
    · refine Finset.sum_congr rfl fun i _ => ?_
      rw [vP2_apply arg5 X5 k r i ⟨3 * n + 2, by omega⟩ (by show 3 * n + 2 = 3 * (k.val - 1) + 2; omega), vR_of r _ ⟨3 * n + 2, by omega⟩ i (by show _ = 256 * (3 * n + 2) + _; omega)]

/-- A trip goes on to the next chunk. -/
theorem inv_step (h : Inv arg4 arg5 arg9 arg10 arg11 arg12 arg13 arg14 X4 X5 X9 k.val f10 f11 f12 f13 f14) :
    Inv arg4 arg5 arg9 arg10 arg11 arg12 arg13 arg14 X4 X5 X9 (k.val + 1)
      (arg10.view.writes (Elt Ideal) f10 (accL arg4 arg5 arg9 arg10 arg11 arg12 arg13 arg14 X4 X5 X9 k f10 f11 f12 f13 f14 63 (le_refl _)))
      (arg11.view.writes (Elt Ideal) f11 (mL arg4 arg9 arg11 arg12 X4 X9 k f11 f12 64 (le_refl _)))
      (arg12.view.writes (Elt Ideal) f12 (sL arg4 arg9 X4 X9 k))
      (arg13.view.writes (Elt Ideal) f13 (pL arg4 arg9 arg11 arg12 X4 X9 k f11 f12))
      (arg14.view.writes (Elt Ideal) f14 (alL arg4 arg9 arg11 arg12 X4 X9 k f11 f12)) where
  hM c := by
    rw [read_mL arg4 arg9 arg11 arg12 X4 X9 k f11 f12 (c.val / 256) ⟨c.val % 256, by omega⟩ c (by show _ = _ + c.val % 256; omega) 64 (le_refl _) (by omega)]
    exact mNew_eq k h _ _ _ c (by show _ = _ + c.val % 256; omega)
  hA r c hc := by
    rw [read_accL arg4 arg5 arg9 arg10 arg11 arg12 arg13 arg14 X4 X5 X9 k f10 f11 f12 f13 f14 (c.val / 256) r ⟨c.val % 256, by omega⟩ c (by show _ = _ + c.val % 256; omega) 63 (le_refl _) (by omega)]
    exact aV_eq k h _ (by omega) r _ c (by show _ = _ + c.val % 256; omega)
  hL r l := by
    rw [read_accL_last arg4 arg5 arg9 arg10 arg11 arg12 arg13 arg14 X4 X5 X9 k f10 f11 f12 f13 f14 r l (cL l) rfl 63 (le_refl _)]
    exact aPend_eq k h r l
  hS i c l hc := by
    have hk := lt_trips k
    unfold sL
    refine (View.read_writes_cons_unit_of_mem arg12.view f12 inb_S768x256_S768x256_0_0 _ [] (ix2 i l) (ix2 i l : S768x256.Idx) rfl
      (forall_fin2 (Nat.zero_add _).symm (Nat.zero_add _).symm)).trans ?_
    pointwise []
    rw [sT_apply]
    unfold sC
    rw [scF_of _ _ _ ⟨768 * min (k.val + 1) 10 + i.val, by omega⟩ rfl]
    refine Finset.sum_congr rfl fun d _ => ?_
    rw [kN_apply arg4 X4 k i d ⟨768 * min (k.val + 1) 10 + i.val, by omega⟩ rfl, qB_apply arg9 X9 0 (by omega) l d c (by omega)]
  hP i l := by
    unfold pL
    refine (View.read_writes_cons_unit_of_mem arg13.view f13 inb_S768x256_S768x256_0_0 _ [] (ix2 i l) (ix2 i l : S768x256.Idx) rfl
      (forall_fin2 (Nat.zero_add _).symm (Nat.zero_add _).symm)).trans ?_
    pointwise []
    rw [pT_eq k h 63 (le_refl _) i l (cL l) rfl, Nat.add_sub_cancel]
  hR l := by
    unfold alL
    refine (View.read_writes_cons_unit_of_mem arg14.view f14 inb_S1x256_S1x256_0_0 _ [] (ix2 0 l) (ix2 (0 : Fin 1) l : S1x256.Idx) rfl
      (forall_fin2 rfl (Nat.zero_add _).symm)).trans ?_
    pointwise []
    rw [alphaT_eq k h 63 (le_refl _) l (cL l) rfl, Nat.add_sub_cancel]

end Inv

section Loop

variable (𝒱 : Variants) (c : Dev nD) (bd : Option 𝒱.V) (i : grid0.Coords) (arg3 : Memref sig .tc .vmem S1x8192x128 .f32) (harg3 : arg3.IsWhole) (arg4 : Memref sig .tc .vmem S1x8448x128 .bf16) (harg4 : arg4.IsWhole) (arg5 : Memref sig .tc .vmem S1x1x33x136x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x128 .bf16) (harg8 : arg8.IsWhole) (arg9 : Memref sig .tc .vmem S16384x128 .bf16) (harg9 : arg9.IsWhole) (arg10 : Memref sig .tc .vmem S136x16384 .f32) (harg10 : arg10.IsWhole) (arg11 : Memref sig .tc .vmem S1x16384 .f32) (harg11 : arg11.IsWhole) (arg12 : Memref sig .tc .vmem S768x256 .f32) (harg12 : arg12.IsWhole) (arg13 : Memref sig .tc .vmem S768x256 .bf16) (harg13 : arg13.IsWhole) (arg14 : Memref sig .tc .vmem S1x256 .f32) (harg14 : arg14.IsWhole)
  (kf : FVec Ideal S768x128 .bf16) (qf : Vec Ideal S256x128 .bf16) (zf : FVec Ideal S768x256 .f32)
  (X4 : BufTy.Contents (Elt Ideal) arg4.view.ty) (X5 : BufTy.Contents (Elt Ideal) arg5.view.ty)
  (X9 : BufTy.Contents (Elt Ideal) arg9.view.ty)
  (f10 : BufTy.Contents (Elt Ideal) arg10.view.ty) (f11 : BufTy.Contents (Elt Ideal) arg11.view.ty)
  (f12 : BufTy.Contents (Elt Ideal) arg12.view.ty) (f13 : BufTy.Contents (Elt Ideal) arg13.view.ty)
  (f14 : BufTy.Contents (Elt Ideal) arg14.view.ty)

/-- After `k` trips the buffers hold what `k` chunks leave. -/
theorem inv_loop (h : Inv arg4 arg5 arg9 arg10 arg11 arg12 arg13 arg14 X4 X5 X9 0 f10 f11 f12 f13 f14) (k : ℕ) (hk : k ≤ k0_t1_loop.trips) :
    Inv arg4 arg5 arg9 arg10 arg11 arg12 arg13 arg14 X4 X5 X9 k
      (arg10.view.writes (Elt Ideal) f10 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 k).1)
      (arg11.view.writes (Elt Ideal) f11 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 k).2.1)
      (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 k).2.2.1)
      (arg13.view.writes (Elt Ideal) f13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 k).2.2.2.1)
      (arg14.view.writes (Elt Ideal) f14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 k).2.2.2.2) := by
  induction k with
  | zero => exact h
  | succ k ih =>
    have := inv_step (⟨k, hk⟩ : Fin k0_t1_loop.trips) (ih (Nat.le_of_succ_le hk))
    rw [pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 kf qf zf X4 X5 X9 f10 f11 f12 f13 f14 ⟨k, hk⟩, tripL_eq]
    simpa only [View.writes_append] using this

end Loop

end Cert.KernelIdeal.Att
-- ==== Proof.OutVal.lean ====
module

public import proofs.«01_k».proof.Proof.Out
public import proofs.«01_k».proof.Proof.Loop
public import Idealize.ShloMosaic.Lib.VecWindow

@[expose] public section

set_option maxRecDepth 16384

noncomputable section

/-!
# The block one grid point writes, at an index

The attention of one head in the extended reals, as the kernel computes it: the running softmax of the two halves of each
query, their difference, and the normalisation of each row.
-/

namespace Cert.KernelIdeal.Att

open Cert.KernelIdeal.Gen
open Idealize.ShloMosaic Idealize.ShloMosaic.TcCoe Idealize.ShloMosaic.Tactic

/-- What the scores are scaled by: one over the product of 8 and the logarithm of 2. -/
def scK : EReal := (((8 * Real.log 2)⁻¹ : ℝ) : EReal)

/-- Lane `d` of query column `c`: columns below 8192 have the first 64 lanes, the others the last 64. -/
def qM (x0 : Vec Ideal S1x8192x128 .f32) (c : Fin 16384) (d : Fin 128) : EReal :=
  if h : c.val < 8192 then (if d.val < 64 then x0 (ix3 0 ⟨c.val, h⟩ d) * scK else 0)
  else (if d.val < 64 then 0 else x0 (ix3 0 ⟨c.val - 8192, by omega⟩ d) * scK)

/-- Row `r` of the accumulator of column `c` at the end. -/
def aF (x0 : Vec Ideal S1x8192x128 .f32) (x1 : Vec Ideal S1x8448x128 .bf16) (x2 : Vec Ideal S1x1x33x136x256 .bf16)
    (r : Fin 136) (c : Fin 16384) : EReal :=
  Ac (scF (fun j d => x1 (ix3 0 j d)) (qM x0 c)) (vF (fun y i => x2 (ix5 0 0 y r i))) 11

/-- The weight of the second attention. -/
def lamK (x3 : Vec Ideal S4x64 .f32) : EReal :=
  Ideal.exp (∑ d : Fin 64, x3 (ix2 0 d) * x3 (ix2 1 d)) - Ideal.exp (∑ d : Fin 64, x3 (ix2 2 d) * x3 (ix2 3 d))
    + Ideal.ofBits .f32 0x3E4CCCCD#32

/-- The difference of the two attentions, query `q`, lane `e`. -/
def oK (x0 : Vec Ideal S1x8192x128 .f32) (x1 : Vec Ideal S1x8448x128 .bf16) (x2 : Vec Ideal S1x1x33x136x256 .bf16)
    (x3 : Vec Ideal S4x64 .f32) (q : Fin 8192) (e : Fin 128) : EReal :=
  Ideal.div (aF x0 x1 x2 ⟨e.val, by omega⟩ ⟨q.val, by omega⟩) (aF x0 x1 x2 128 ⟨q.val, by omega⟩)
    - lamK x3 * Ideal.div (aF x0 x1 x2 ⟨e.val, by omega⟩ ⟨8192 + q.val, by omega⟩) (aF x0 x1 x2 128 ⟨8192 + q.val, by omega⟩)

/-- A row `o` normalised, scaled by `g`, at lane `e`. -/
def rmsK (o g : Fin 128 → EReal) (e : Fin 128) : EReal :=
  o e * Ideal.rsqrt (Ideal.div (∑ d : Fin 128, o d * o d) (Ideal.ofBits .f32 0x43000000#32) + Ideal.ofBits .f32 0x358637BD#32)
    * g e * Ideal.ofBits .f32 0x3F4CCCCD#32

theorem pay466_apply (lam : Vec Ideal S4x64 .f32) (den : Vec Ideal S1x16384 .f32) (n1 n2 : Vec Ideal S128x8192 .f32) (q : Fin 8192) (e : Fin 128) :
    k0_pay466 (F := Ideal) lam den n1 n2 (ix2 q e)
      = Ideal.div (n1 (ix2 e q)) (den (ix2 0 ⟨q.val, by omega⟩))
        - lamK lam * Ideal.div (n2 (ix2 e q)) (den (ix2 0 ⟨8192 + q.val, by omega⟩)) := by
  pointwise [k0_pay466, lamK]

theorem pay1_apply (o : FVec Ideal S8192x128 .f32) (g : Vec Ideal S1x128 .f32) (q : Fin 8192) (e : Fin 128) :
    k0_pay1 (F := Ideal) o g (ix3 0 q e)
      = o (ix2 q e) * Ideal.rsqrt (Ideal.div (∑ d : Fin 128, o (ix2 q d) * o (ix2 q d)) (Ideal.ofBits .f32 0x43000000#32) + Ideal.ofBits .f32 0x358637BD#32)
        * g (ix2 0 e) * Ideal.ofBits .f32 0x3F4CCCCD#32 := by
  pointwise [k0_pay1]

theorem cmp_slt64 : ∀ d : Fin 128, IntOp.cmpi .slt (BitVec.ofNat 32 d.val) 64#32 = if d.val < 64 then 1#1 else 0#1 := by
  decide +kernel

theorem cmp_sge64 : ∀ d : Fin 128, IntOp.cmpi .sge (BitVec.ofNat 32 d.val) 64#32 = if d.val < 64 then 0#1 else 1#1 := by
  decide +kernel

theorem pay455_apply (x : Vec Ideal S1x8192x128 .f32) (q : Fin 8192) (d : Fin 128) :
    k0_pay455 (F := Ideal) x (ix2 q d) = if d.val < 64 then x (ix3 0 q d) * scK else 0 := by
  pointwise [k0_pay455, k0_pay453, k0_pay454]
  rw [show (Named.named κ "scale" (0x3E38AA3B#32 : BitVec (FTy.bits .f32)) : Ideal .f32) = scK from IdealRules.named_const.ideal_named_scalar _ _ _ _ rfl]
  rw [cmp_slt64]
  by_cases h : d.val < 64 <;> simp [h, Scalar.select]

theorem pay456_apply (x : Vec Ideal S1x8192x128 .f32) (q : Fin 8192) (d : Fin 128) :
    k0_pay456 (F := Ideal) x (ix2 q d) = if d.val < 64 then 0 else x (ix3 0 q d) * scK := by
  pointwise [k0_pay456, k0_pay453, k0_pay454]
  rw [show (Named.named κ "scale" (0x3E38AA3B#32 : BitVec (FTy.bits .f32)) : Ideal .f32) = scK from IdealRules.named_const.ideal_named_scalar _ _ _ _ rfl]
  rw [cmp_sge64]
  by_cases h : d.val < 64 <;> simp [h, Scalar.select]

theorem pay457_apply (c : Fin 16384) : k0_pay457 (F := Ideal) (ix2 0 c) = ⊥ := by
  pointwise [k0_pay457]
  exact IdealRules.named_const.ideal_named_scalar _ _ _ _ rfl

theorem pay458_apply (r : Fin 136) (c : Fin 16384) : k0_pay458 (F := Ideal) (ix2 r c) = 0 := by
  pointwise [k0_pay458]

theorem pay461_apply (i : Fin 768) (l : Fin 256) : k0_pay461 (F := Ideal) (ix2 i l) = 0 := by
  pointwise [k0_pay461]

theorem pay462_apply (l : Fin 256) : k0_pay462 (F := Ideal) (ix2 0 l) = 1 := by
  pointwise [k0_pay462]

/-- The last tile's update is a tile's accumulator. -/
theorem pay465_eq (al : Vec Ideal S1x256 .f32) (p : Vec Ideal S768x256 .bf16) (v0 v1 v2 : Vec Ideal S1x1x1x136x256 .bf16) (a : Vec Ideal S136x256 .f32) :
    k0_pay465 (F := Ideal) p al (k0_pay464 p v0 v1) v2 a = accT (F := Ideal) v0 v1 v2 p al a := rfl

/-- The first scores are a chunk's scores of a tile. -/
theorem pay460_apply (kb : Vec Ideal S1x768x128 .bf16) (q : Vec Ideal S256x128 .bf16) (j : Fin 768) (l : Fin 256) :
    k0_pay460 (F := Ideal) (k0_pay459 kb) q (constant S768x256 .f32 0x00000000#32) (ix2 j l)
      = ∑ d : Fin 128, kb (ix3 0 j d) * q (ix2 l d) := by
  have h : k0_pay460 (F := Ideal) (k0_pay459 kb) q (constant S768x256 .f32 0x00000000#32) (ix2 j l) = sT (F := Ideal) kb q (ix2 j l) := by
    pointwise [k0_pay460, k0_pay459, sT]
  rw [h, sT_apply]

end Cert.KernelIdeal.Att
-- ==== Proof.OutValue.lean ====
module

public import proofs.«01_k».proof.Proof.OutVal

@[expose] public section

set_option maxRecDepth 16384

noncomputable section

/-!
# The block one grid point writes

The loop starts from what was stored before it, and what is read back after it are the accumulators of all 11 chunks.
-/

namespace Cert.KernelIdeal.Att

open Cert.KernelIdeal.Gen
open Idealize.ShloMosaic Idealize.ShloMosaic.TcCoe Idealize.ShloMosaic.Tactic

section Body

variable (c : Dev nD) (i : grid0.Coords) (arg3 : Memref sig .tc .vmem S1x8192x128 .f32) (harg3 : arg3.IsWhole) (arg4 : Memref sig .tc .vmem S1x8448x128 .bf16) (harg4 : arg4.IsWhole) (arg5 : Memref sig .tc .vmem S1x1x33x136x256 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x128 .bf16) (harg8 : arg8.IsWhole) (arg9 : Memref sig .tc .vmem S16384x128 .bf16) (harg9 : arg9.IsWhole) (arg10 : Memref sig .tc .vmem S136x16384 .f32) (harg10 : arg10.IsWhole) (arg11 : Memref sig .tc .vmem S1x16384 .f32) (harg11 : arg11.IsWhole) (arg12 : Memref sig .tc .vmem S768x256 .f32) (harg12 : arg12.IsWhole) (arg13 : Memref sig .tc .vmem S768x256 .bf16) (harg13 : arg13.IsWhole) (arg14 : Memref sig .tc .vmem S1x256 .f32) (harg14 : arg14.IsWhole)
  (x0 : Vec Ideal S1x8192x128 .f32) (x1 : Vec Ideal S1x8448x128 .bf16) (x2 : Vec Ideal S1x1x33x136x256 .bf16) (x3 : Vec Ideal S4x64 .f32) (x4 : Vec Ideal S1x128 .f32)

theorem qIn_eq : qIn (F := Ideal) arg3 harg3 x0 = x0 :=
  by
    refine funext fun (y : S1x8192x128.Idx) => ?_
    refine (readAt_unit_apply arg3.view (harg3.unread x0) inb_S1x8192x128_S1x8192x128_0_0_0 y y rfl
      (forall_fin3 (Nat.zero_add _).symm (Nat.zero_add _).symm (Nat.zero_add _).symm)).trans ?_
    rw [harg3.read_unread]

theorem read_qL (cc : Fin 16384) (d : Fin 128) :
    arg9.view.read (Elt Ideal) (arg9.view.writes (Elt Ideal) arg9.view.junk (qL (F := Ideal) arg3 harg3 x0)) (ix2 cc d) = qM x0 cc d := by
  unfold qL qM
  by_cases h : cc.val < 8192
  · rw [dif_pos h]
    refine (View.read_writes_cons_unit_of_not_mem arg9.view _ inb_S16384x128_S8192x128_8192_0 _ _ (ix2 cc d) rfl (0 : Fin 2) (.inl h)).trans ?_
    refine (View.read_writes_cons_unit_of_mem arg9.view _ inb_S16384x128_S8192x128_0_0 _ [] (ix2 cc d) (ix2 (⟨cc.val, h⟩ : Fin 8192) d : S8192x128.Idx) rfl
      (forall_fin2 (Nat.zero_add _).symm (Nat.zero_add _).symm)).trans ?_
    rw [pay455_apply, qIn_eq]
  · rw [dif_neg h]
    refine (View.read_writes_cons_unit_of_mem arg9.view _ inb_S16384x128_S8192x128_8192_0 _ _ (ix2 cc d) (ix2 (⟨cc.val - 8192, by omega⟩ : Fin 8192) d : S8192x128.Idx) rfl
      (forall_fin2 (by show cc.val = 8192 + (cc.val - 8192); omega) (Nat.zero_add _).symm)).trans ?_
    rw [pay456_apply, qIn_eq]

/-- The scores of a column. -/
theorem sC_eq (cc : Fin 16384) :
    sC arg4 arg9 (harg4.unread x1) (arg9.view.writes (Elt Ideal) arg9.view.junk (qL (F := Ideal) arg3 harg3 x0)) cc
      = scF (fun j d => x1 (ix3 0 j d)) (qM x0 cc) := by
  unfold sC
  rw [harg4.read_unread]
  congr 1
  funext d
  exact read_qL arg3 harg3 arg9 x0 cc d

theorem vR_eq (r : Fin 136) : vR arg5 (harg5.unread x2) r = vF (fun y i => x2 (ix5 0 0 y r i)) := by
  unfold vR
  rw [harg5.read_unread]

theorem read_mL0 (cc : Fin 16384) :
    arg11.view.read (Elt Ideal) (arg11.view.writes (Elt Ideal) arg11.view.junk (mL0 (F := Ideal))) (ix2 0 cc) = ⊥ :=
  (congrFun (View.read_writes_full (Val := Elt Ideal) arg11.view arg11.view.junk inb_S1x16384_S1x16384_0_0 (k0_pay457 (F := Ideal)) []) (ix2 0 cc)).trans (pay457_apply cc)

theorem read_aL0 (r : Fin 136) (cc : Fin 16384) :
    arg10.view.read (Elt Ideal) (arg10.view.writes (Elt Ideal) arg10.view.junk (aL0 (F := Ideal))) (ix2 r cc) = 0 :=
  (congrFun (View.read_writes_full (Val := Elt Ideal) arg10.view arg10.view.junk inb_S136x16384_S136x16384_0_0 (k0_pay458 (F := Ideal)) []) (ix2 r cc)).trans (pay458_apply r cc)

theorem read_pL0 (y : Fin 768) (l : Fin 256) :
    arg13.view.read (Elt Ideal) (arg13.view.writes (Elt Ideal) arg13.view.junk (pL0 (F := Ideal))) (ix2 y l) = 0 :=
  (congrFun (View.read_writes_full (Val := Elt Ideal) arg13.view arg13.view.junk inb_S768x256_S768x256_0_0 (k0_pay461 (F := Ideal)) []) (ix2 y l)).trans (pay461_apply y l)

theorem read_rL0 (l : Fin 256) :
    arg14.view.read (Elt Ideal) (arg14.view.writes (Elt Ideal) arg14.view.junk (rL0 (F := Ideal))) (ix2 0 l) = 1 :=
  (congrFun (View.read_writes_full (Val := Elt Ideal) arg14.view arg14.view.junk inb_S1x256_S1x256_0_0 (k0_pay462 (F := Ideal)) []) (ix2 0 l)).trans (pay462_apply l)

theorem sIn_apply (y : Fin 768) (l : Fin 256) (cc : Fin 16384) (hc : cc.val = l.val) (y' : Fin 8448) (hy : y'.val = y.val) :
    sIn (F := Ideal) arg3 harg3 arg4 harg4 arg9 x0 x1 (ix2 y l) = ∑ d : Fin 128, x1 (ix3 0 y' d) * qM x0 cc d := by
  unfold sIn kIn qTile
  rw [pay460_apply]
  refine Finset.sum_congr rfl fun d _ => ?_
  refine congrArg₂ (· * ·) ?_ ?_
  · refine (readAt_unit_apply arg4.view (harg4.unread x1) inb_S1x8448x128_S1x768x128_0_0_0 (ix3 (0 : Fin 1) y d : S1x768x128.Idx) (ix3 (0 : Fin 1) y' d : S1x8448x128.Idx) rfl
      (forall_fin3 rfl (by show y'.val = 0 + y.val; omega) (Nat.zero_add _).symm)).trans ?_
    rw [harg4.read_unread]
  · refine (readAt_unit_apply arg9.view (arg9.view.writes (Elt Ideal) arg9.view.junk (qL (F := Ideal) arg3 harg3 x0)) inb_S16384x128_S256x128_0_0 (ix2 l d : S256x128.Idx) (ix2 cc d : S16384x128.Idx) rfl
      (forall_fin2 (by show cc.val = 0 + l.val; omega) (Nat.zero_add _).symm)).trans ?_
    exact read_qL arg3 harg3 arg9 x0 cc d

theorem read_sL0 (y : Fin 768) (l : Fin 256) :
    arg12.view.read (Elt Ideal) (arg12.view.writes (Elt Ideal) arg12.view.junk (sL0 (F := Ideal) arg3 harg3 arg4 harg4 arg9 x0 x1)) (ix2 y l)
      = sIn (F := Ideal) arg3 harg3 arg4 harg4 arg9 x0 x1 (ix2 y l) :=
  (congrFun (View.read_writes_full (Val := Elt Ideal) arg12.view arg12.view.junk inb_S768x256_S768x256_0_0 (sIn (F := Ideal) arg3 harg3 arg4 harg4 arg9 x0 x1) []) (ix2 y l))

/-- What the buffers hold before the loop. -/
theorem inv_start :
    Inv arg4 arg5 arg9 arg10 arg11 arg12 arg13 arg14 (harg4.unread x1) (harg5.unread x2)
      (arg9.view.writes (Elt Ideal) arg9.view.junk (qL (F := Ideal) arg3 harg3 x0)) 0
      (arg10.view.writes (Elt Ideal) arg10.view.junk aL0) (arg11.view.writes (Elt Ideal) arg11.view.junk mL0)
      (arg12.view.writes (Elt Ideal) arg12.view.junk (sL0 arg3 harg3 arg4 harg4 arg9 x0 x1))
      (arg13.view.writes (Elt Ideal) arg13.view.junk pL0) (arg14.view.writes (Elt Ideal) arg14.view.junk rL0) where
  hM cc := read_mL0 arg11 cc
  hA r cc _ := read_aL0 arg10 r cc
  hL r l := read_aL0 arg10 r (cL l)
  hS y cc l hc := by
    rw [read_sL0, sIn_apply arg3 harg3 arg4 harg4 arg9 x0 x1 y l cc hc ⟨y.val, by omega⟩ rfl, sC_eq,
      scF_of _ _ _ ⟨y.val, by omega⟩ (by show y.val = 768 * min 0 10 + y.val; omega)]
  hP y l := read_pL0 arg13 y l
  hR l := read_rL0 arg14 l

/-- What the buffers hold after the loop. -/
theorem inv_end :
    Inv arg4 arg5 arg9 arg10 arg11 arg12 arg13 arg14 (harg4.unread x1) (harg5.unread x2)
      (arg9.view.writes (Elt Ideal) arg9.view.junk (qL (F := Ideal) arg3 harg3 x0)) 11
      (arg10.view.writes (Elt Ideal) arg10.view.junk ((pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)).1 ++ aL0))
      (arg11.view.writes (Elt Ideal) arg11.view.junk ((pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)).2.1 ++ mL0))
      (arg12.view.writes (Elt Ideal) arg12.view.junk ((pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)).2.2.1 ++ sL0 arg3 harg3 arg4 harg4 arg9 x0 x1))
      (arg13.view.writes (Elt Ideal) arg13.view.junk ((pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)).2.2.2.1 ++ pL0))
      (arg14.view.writes (Elt Ideal) arg14.view.junk ((pbK c i arg3 harg3 arg4 harg4 arg5 harg5 arg6 harg6 arg7 harg7 arg8 harg8 arg9 harg9 arg10 harg10 arg11 harg11 arg12 harg12 arg13 harg13 arg14 harg14 x0 x1 x2 (Scf.trips k0_t1_loop.lb k0_t1_loop.ub k0_t1_loop.st)).2.2.2.2 ++ rL0)) := by
  have h := inv_loop Variants.none c none i arg3 harg3 arg4 harg4 arg5 harg5 arg6 harg6 arg7 harg7 arg8 harg8 arg9 harg9 arg10 harg10 arg11 harg11 arg12 harg12 arg13 harg13 arg14 harg14 (kIn arg4 harg4 x1) (qTile arg3 harg3 arg9 x0) (constant S768x256 .f32 0x00000000#32) (harg4.unread x1) (harg5.unread x2)
    (arg9.view.writes (Elt Ideal) arg9.view.junk (qL (F := Ideal) arg3 harg3 x0)) _ _ _ _ _
    (inv_start arg3 harg3 arg4 harg4 arg5 harg5 arg9 arg10 arg11 arg12 arg13 arg14 x0 x1 x2) k0_t1_loop.trips (le_refl _)
  simp only [View.writes_append]
  have e : (11 : ℕ) = k0_t1_loop.trips := trips_eq.symm
  rw [e]
  exact h

/-- The accumulators read back at the end. -/
theorem read_aEnd (r : Fin 136) (cc : Fin 16384) :
    arg10.view.read (Elt Ideal) (arg10.view.writes (Elt Ideal) arg10.view.junk (aEnd c i arg3 harg3 arg4 harg4 arg5 harg5 arg6 harg6 arg7 harg7 arg8 harg8 arg9 harg9 arg10 harg10 arg11 harg11 arg12 harg12 arg13 harg13 arg14 harg14 x0 x1 x2)) (ix2 r cc)
      = aF x0 x1 x2 r cc := by
  have h := inv_end c i arg3 harg3 arg4 harg4 arg5 harg5 arg6 harg6 arg7 harg7 arg8 harg8 arg9 harg9 arg10 harg10 arg11 harg11 arg12 harg12 arg13 harg13 arg14 harg14 x0 x1 x2
  unfold aF
  rw [← sC_eq arg3 harg3 arg4 harg4 arg9 x0 x1, ← vR_eq arg5 harg5 x2]
  unfold aEnd
  by_cases hc : cc.val < 16128
  · refine (View.read_writes_cons_unit_of_not_mem arg10.view _ inb_S136x16384_S136x256_0_16128 _ _ (ix2 r cc) rfl (1 : Fin 2) (.inl hc)).trans ?_
    exact h.hA r cc hc
  · obtain ⟨l, hl⟩ : ∃ l : Fin 256, cc = cL l := ⟨⟨cc.val - 16128, by omega⟩, Fin.ext (by show cc.val = 256 * 63 + (cc.val - 16128); omega)⟩
    subst hl
    refine (View.read_writes_cons_unit_of_mem arg10.view _ inb_S136x16384_S136x256_0_16128 _ _ (ix2 r (cL l)) (ix2 r l : S136x256.Idx) rfl
      (forall_fin2 (Nat.zero_add _).symm rfl)).trans ?_
    have hp : ∀ y : Fin 768, arg13.view.readAt (Elt Ideal) (Rect.unit (s := S768x256) ![0, 0] S768x256.size inb_S768x256_S768x256_0_0).toLoadRect _ (ix2 y l)
        = _ := fun y => (readAt_unit_apply arg13.view _ inb_S768x256_S768x256_0_0 (ix2 y l) (ix2 y l) rfl
        (forall_fin2 (Nat.zero_add _).symm (Nat.zero_add _).symm)).trans (h.hP y l)
    have hr := (readAt_unit_apply arg14.view _ inb_S1x256_S1x256_0_0 (ix2 0 l) (ix2 0 l) rfl
        (forall_fin2 rfl (Nat.zero_add _).symm)).trans (h.hR l)
    have ha := (readAt_unit_apply arg10.view _ inb_S136x16384_S136x256_0_16128 (ix2 r l) (ix2 r (cL l)) rfl
        (forall_fin2 (Nat.zero_add _).symm rfl)).trans (h.hL r l)
    rw [pay465_eq, accT_apply]
    unfold View.readCov
    rw [hr, ha]
    simp only [hp]
    simp only [if_neg (Nat.succ_ne_zero 10), show (11 : ℕ) - 1 = 10 from rfl]
    show _ = Ac _ _ (10 + 1)
    rw [Ac.eq_2 _ _ 10]
    refine congrArg₂ (· + ·) rfl (congrArg₂ (· + ·) (congrArg₂ (· + ·) ?_ ?_) ?_)
    · refine Finset.sum_congr rfl fun y _ => ?_
      rw [readAt_unit_apply arg5.view _ inb_S1x1x33x136x256_S1x1x1x136x256_0_0_30_0_0 (ix5 0 0 0 r y) (ix5 0 0 30 r y) rfl
        (forall_fin5 rfl rfl rfl (Nat.zero_add _).symm (Nat.zero_add _).symm), vR_of r (768 * 10 + y.val) 30 y (by show _ = 256 * 30 + y.val; omega)]
    · refine Finset.sum_congr rfl fun y _ => ?_
      rw [readAt_unit_apply arg5.view _ inb_S1x1x33x136x256_S1x1x1x136x256_0_0_31_0_0 (ix5 0 0 0 r y) (ix5 0 0 31 r y) rfl
        (forall_fin5 rfl rfl rfl (Nat.zero_add _).symm (Nat.zero_add _).symm), vR_of r (768 * 10 + (256 + y.val)) 31 y (by show _ = 256 * 31 + y.val; omega)]
    · refine Finset.sum_congr rfl fun y _ => ?_
      rw [readAt_unit_apply arg5.view _ inb_S1x1x33x136x256_S1x1x1x136x256_0_0_32_0_0 (ix5 0 0 0 r y) (ix5 0 0 32 r y) rfl
        (forall_fin5 rfl rfl rfl (Nat.zero_add _).symm (Nat.zero_add _).symm), vR_of r (768 * 10 + (512 + y.val)) 32 y (by show _ = 256 * 32 + y.val; omega)]

/-- The block one grid point writes, at query `q` and lane `e`. -/
theorem outP_apply (q : Fin 8192) (e : Fin 128) :
    outP c i arg3 harg3 arg4 harg4 arg5 harg5 arg6 harg6 arg7 harg7 arg8 harg8 arg9 harg9 arg10 harg10 arg11 harg11 arg12 harg12 arg13 harg13 arg14 harg14 x0 x1 x2 x3 x4 (ix3 0 q e) = rmsK (oK x0 x1 x2 x3 q) (fun e => x4 (ix2 0 e)) e := by
  have hd : ∀ cc : Fin 16384, arg10.view.readCov (aEnd c i arg3 harg3 arg4 harg4 arg5 harg5 arg6 harg6 arg7 harg7 arg8 harg8 arg9 harg9 arg10 harg10 arg11 harg11 arg12 harg12 arg13 harg13 arg14 harg14 x0 x1 x2) (Rect.unit (s := S136x16384) ![128, 0] S1x16384.size inb_S136x16384_S1x16384_128_0).toLoadRect (ix2 0 cc)
      = aF x0 x1 x2 128 cc := fun cc =>
    (readAt_unit_apply arg10.view _ inb_S136x16384_S1x16384_128_0 (ix2 0 cc) (ix2 128 cc) rfl (forall_fin2 rfl (Nat.zero_add _).symm)).trans
      (read_aEnd c i arg3 harg3 arg4 harg4 arg5 harg5 arg6 harg6 arg7 harg7 arg8 harg8 arg9 harg9 arg10 harg10 arg11 harg11 arg12 harg12 arg13 harg13 arg14 harg14 x0 x1 x2 128 cc)
  have h1 : ∀ (e : Fin 128) (q : Fin 8192), arg10.view.readCov (aEnd c i arg3 harg3 arg4 harg4 arg5 harg5 arg6 harg6 arg7 harg7 arg8 harg8 arg9 harg9 arg10 harg10 arg11 harg11 arg12 harg12 arg13 harg13 arg14 harg14 x0 x1 x2) (Rect.unit (s := S136x16384) ![0, 0] S128x8192.size inb_S136x16384_S128x8192_0_0).toLoadRect (ix2 e q)
      = aF x0 x1 x2 ⟨e.val, by omega⟩ ⟨q.val, by omega⟩ := fun e q =>
    (readAt_unit_apply arg10.view _ inb_S136x16384_S128x8192_0_0 (ix2 e q) (ix2 (⟨e.val, by omega⟩ : Fin 136) (⟨q.val, by omega⟩ : Fin 16384)) rfl (forall_fin2 (Nat.zero_add _).symm (Nat.zero_add _).symm)).trans
      (read_aEnd c i arg3 harg3 arg4 harg4 arg5 harg5 arg6 harg6 arg7 harg7 arg8 harg8 arg9 harg9 arg10 harg10 arg11 harg11 arg12 harg12 arg13 harg13 arg14 harg14 x0 x1 x2 _ _)
  have h2 : ∀ (e : Fin 128) (q : Fin 8192), arg10.view.readCov (aEnd c i arg3 harg3 arg4 harg4 arg5 harg5 arg6 harg6 arg7 harg7 arg8 harg8 arg9 harg9 arg10 harg10 arg11 harg11 arg12 harg12 arg13 harg13 arg14 harg14 x0 x1 x2) (Rect.unit (s := S136x16384) ![0, 8192] S128x8192.size inb_S136x16384_S128x8192_0_8192).toLoadRect (ix2 e q)
      = aF x0 x1 x2 ⟨e.val, by omega⟩ ⟨8192 + q.val, by omega⟩ := fun e q =>
    (readAt_unit_apply arg10.view _ inb_S136x16384_S128x8192_0_8192 (ix2 e q) (ix2 (⟨e.val, by omega⟩ : Fin 136) (⟨8192 + q.val, by omega⟩ : Fin 16384)) rfl (forall_fin2 (Nat.zero_add _).symm rfl)).trans
      (read_aEnd c i arg3 harg3 arg4 harg4 arg5 harg5 arg6 harg6 arg7 harg7 arg8 harg8 arg9 harg9 arg10 harg10 arg11 harg11 arg12 harg12 arg13 harg13 arg14 harg14 x0 x1 x2 _ _)
  have h6 : arg6.view.readAt (Elt Ideal) (Rect.unit (s := S4x64) ![0, 0] S4x64.size inb_S4x64_S4x64_0_0).toLoadRect (harg6.unread x3) = x3 :=
    by
    refine funext fun (y : S4x64.Idx) => ?_
    refine (readAt_unit_apply arg6.view (harg6.unread x3) inb_S4x64_S4x64_0_0 y y rfl
      (forall_fin2 (Nat.zero_add _).symm (Nat.zero_add _).symm)).trans ?_
    rw [harg6.read_unread]
  have h7 : arg7.view.readAt (Elt Ideal) (Rect.unit (s := S1x128) ![0, 0] S1x128.size inb_S1x128_S1x128_0_0).toLoadRect (harg7.unread x4) = x4 :=
    by
    refine funext fun (y : S1x128.Idx) => ?_
    refine (readAt_unit_apply arg7.view (harg7.unread x4) inb_S1x128_S1x128_0_0 y y rfl
      (forall_fin2 (Nat.zero_add _).symm (Nat.zero_add _).symm)).trans ?_
    rw [harg7.read_unread]
  unfold outP
  rw [pay1_apply, h6, h7]
  simp only [pay466_apply, hd, h1, h2]
  rfl

end Body

end Cert.KernelIdeal.Att
-- ==== Proof.Host.lean ====
module

public import proofs.«01_k».proof.Proof.OutValue
public import proofs.«01_k».proof.Proof.KRun
public import Idealize.ShloMosaic.Lib.Pointwise
public import Idealize.ShloMosaic.Lib.StableHlo.RunRead

@[expose] public section

set_option maxRecDepth 16384

noncomputable section

/-!
# The attention's operands

What the host operations before the attention leave in its operands, as terms over the arguments, and read at an index.
-/

namespace Cert.KernelIdeal.Att

open Cert.KernelIdeal Cert.KernelIdeal.Gen
open Idealize.ShloMosaic Idealize.ShloMosaic.TcCoe Idealize.ShloMosaic.Tactic

/-- Two sequences of keys (or values) one after the other. -/
def catK (a : Vec Ideal S2x256x512 .f32) (b : Vec Ideal S2x8192x512 .f32) (i : Fin 2) (j : Fin 8448) (n : Fin 512) : EReal :=
  if h : j.val < 256 then a (ix3 i ⟨j.val, h⟩ n) else b (ix3 i ⟨j.val - 256, by omega⟩ n)

/-- Two blocks of keys side by side. -/
def kCat (a : Vec Ideal S2x256x512 .bf16) (b : Vec Ideal S2x8192x512 .bf16) : Vec Ideal S2x8448x512 .bf16 :=
  concatenate S2x8448x512 1 [⟨S2x256x512, a⟩, ⟨S2x8192x512, b⟩] concatenates_S2x256x512_S2x8192x512_S2x8448x512_d1

/-- The keys: the context's, then the sequence's. -/
def kAll (x1 : Vec Ideal S2x256x512 .f32) (x2 : Vec Ideal S2x8192x512 .f32) : Vec Ideal S2x8448x512 .bf16 :=
  kCat (truncf (F := Ideal) .bf16 (x1 : FVec Ideal S2x256x512 .f32) bitsLt_bf16_f32) (truncf (F := Ideal) .bf16 (x2 : FVec Ideal S2x8192x512 .f32) bitsLt_bf16_f32)

theorem kAll_apply (x1 : Vec Ideal S2x256x512 .f32) (x2 : Vec Ideal S2x8192x512 .f32) (i : Fin 2) (j : Fin 8448) (n : Fin 512) :
    kAll x1 x2 (ix3 i j n) = catK x1 x2 i j n := by
  unfold kAll kCat catK
  pointwise []

/-- The context's values as one tile: transposed, above a row of ones and rows of zeros. -/
def vtC (x : Vec Ideal S2x256x512 .f32) : Vec Ideal S2x4x1x136x256 .bf16 :=
  concatenate S2x4x1x136x256 3 [⟨S2x4x1x128x256, truncf (F := Ideal) .bf16 ((transpose S2x4x1x128x256 [0, 3, 1, 4, 2] (shapeCast S2x1x256x4x128 x shapeCasts_S2x256x512_S2x1x256x4x128) transposes_S2x1x256x4x128_S2x4x1x128x256_0_3_1_4_2) : FVec Ideal S2x4x1x128x256 .f32) bitsLt_bf16_f32⟩,
    ⟨S2x4x1x1x256, (broadcastInDim S2x4x1x1x256 ![] bcast_S_S2x4x1x1x256 (constant (F := Ideal) S_ .bf16 0x3F80#16) : Vec Ideal S2x4x1x1x256 .bf16)⟩,
    ⟨S2x4x1x7x256, (broadcastInDim S2x4x1x7x256 ![] bcast_S_S2x4x1x7x256 (constant (F := Ideal) S_ .bf16 0x0000#16) : Vec Ideal S2x4x1x7x256 .bf16)⟩]
    concatenates_S2x4x1x128x256_S2x4x1x1x256_S2x4x1x7x256_S2x4x1x136x256_d3

/-- The sequence's values as 32 tiles of 256 positions. -/
def vtS (x : Vec Ideal S2x8192x512 .f32) : Vec Ideal S2x4x32x136x256 .bf16 :=
  concatenate S2x4x32x136x256 3 [⟨S2x4x32x128x256, truncf (F := Ideal) .bf16 ((transpose S2x4x32x128x256 [0, 3, 1, 4, 2] (shapeCast S2x32x256x4x128 x shapeCasts_S2x8192x512_S2x32x256x4x128) transposes_S2x32x256x4x128_S2x4x32x128x256_0_3_1_4_2) : FVec Ideal S2x4x32x128x256 .f32) bitsLt_bf16_f32⟩,
    ⟨S2x4x32x1x256, (broadcastInDim S2x4x32x1x256 ![] bcast_S_S2x4x32x1x256 (constant (F := Ideal) S_ .bf16 0x3F80#16) : Vec Ideal S2x4x32x1x256 .bf16)⟩,
    ⟨S2x4x32x7x256, (broadcastInDim S2x4x32x7x256 ![] bcast_S_S2x4x32x7x256 (constant (F := Ideal) S_ .bf16 0x0000#16) : Vec Ideal S2x4x32x7x256 .bf16)⟩]
    concatenates_S2x4x32x128x256_S2x4x32x1x256_S2x4x32x7x256_S2x4x32x136x256_d3

theorem vtC_apply (x : Vec Ideal S2x256x512 .f32) (b : Fin 2) (h : Fin 4) (r : Fin 136) (i : Fin 256) :
    vtC x (ix5 b h 0 r i) = if hr : r.val < 128 then x (ix3 b i ⟨h.val * 128 + r.val, by omega⟩) else if r.val = 128 then 1 else 0 := by
  unfold vtC
  pointwise []
  split
  · rfl
  · by_cases h1 : r.val = 128
    · rw [dif_pos (by omega), if_pos h1]
    · rw [dif_neg (by omega), if_neg h1]

theorem vtS_apply (x : Vec Ideal S2x8192x512 .f32) (b : Fin 2) (h : Fin 4) (y : Fin 32) (r : Fin 136) (i : Fin 256) :
    vtS x (ix5 b h y r i) = if hr : r.val < 128 then x (ix3 b ⟨y.val * 256 + i.val, by omega⟩ ⟨h.val * 128 + r.val, by omega⟩) else if r.val = 128 then 1 else 0 := by
  unfold vtS
  pointwise []
  split
  · rfl
  · by_cases h1 : r.val = 128
    · rw [dif_pos (by omega), if_pos h1]
    · rw [dif_neg (by omega), if_neg h1]

/-- The context's tile, then the sequence's tiles. -/
def vtCat (u : Vec Ideal S2x4x1x136x256 .bf16) (w : Vec Ideal S2x4x32x136x256 .bf16) : Vec Ideal S2x4x33x136x256 .bf16 :=
  concatenate S2x4x33x136x256 2 [⟨S2x4x1x136x256, u⟩, ⟨S2x4x32x136x256, w⟩] concatenates_S2x4x1x136x256_S2x4x32x136x256_S2x4x33x136x256_d2

theorem vtCat_apply (u : Vec Ideal S2x4x1x136x256 .bf16) (w : Vec Ideal S2x4x32x136x256 .bf16) (b : Fin 2) (h : Fin 4) (y : Fin 33) (r : Fin 136) (i : Fin 256) :
    vtCat u w (ix5 b h y r i) = if hy : y.val < 1 then u (ix5 b h ⟨y.val, hy⟩ r i) else w (ix5 b h ⟨y.val - 1, by omega⟩ r i) := by
  unfold vtCat
  pointwise []

/-- The vectors of the second map's weight, one under the other. -/
def lamAll (x5 x6 x7 x8 : Vec Ideal S64 .f32) : Vec Ideal S4x64 .f32 :=
  concatenate S4x64 0 [⟨S1x64, broadcastInDim S1x64 ![1] bcast_S64_S1x64_1 x5⟩, ⟨S1x64, broadcastInDim S1x64 ![1] bcast_S64_S1x64_1 x6⟩,
    ⟨S1x64, broadcastInDim S1x64 ![1] bcast_S64_S1x64_1 x7⟩, ⟨S1x64, broadcastInDim S1x64 ![1] bcast_S64_S1x64_1 x8⟩] concatenates_S1x64_S1x64_S1x64_S1x64_S4x64_d0

theorem lamAll_apply (x5 x6 x7 x8 : Vec Ideal S64 .f32) (d : Fin 64) :
    lamAll x5 x6 x7 x8 (ix2 0 d) = x5 (ix1 d) ∧ lamAll x5 x6 x7 x8 (ix2 1 d) = x6 (ix1 d)
      ∧ lamAll x5 x6 x7 x8 (ix2 2 d) = x7 (ix1 d) ∧ lamAll x5 x6 x7 x8 (ix2 3 d) = x8 (ix1 d) := by
  unfold lamAll
  refine ⟨?_, ?_, ?_, ?_⟩ <;> pointwise []

theorem gAll_apply (x9 : Vec Ideal S128 .f32) (e : Fin 128) : shapeCast S1x128 x9 shapeCasts_S128_S1x128 (ix2 0 e) = x9 (ix1 e) := by
  pointwise []

variable (m : (ℓ : Loc nD τ sig) → Buf (Elt Ideal) ℓ) (c : Dev nD)

theorem V_v7 : V m c main_v7 = kAll (m ((c : Thread nD τ).loc main_arg1)) (m ((c : Thread nD τ).loc main_arg2)) := by
  unfold V
  after_reads_simp
  refine congrArg₂ kCat ?_ ?_ <;> (after_reads_simp <;> rfl)

theorem V_v20 : V m c main_v20 = vtCat (vtC (m ((c : Thread nD τ).loc main_arg3))) (vtS (m ((c : Thread nD τ).loc main_arg4))) := by
  unfold V
  after_reads_simp
  refine congrArg₂ vtCat ?_ ?_ <;> (after_reads_simp <;> rfl)

theorem V_v4 : V m c main_v4 = lamAll (m ((c : Thread nD τ).loc main_arg5)) (m ((c : Thread nD τ).loc main_arg6)) (m ((c : Thread nD τ).loc main_arg7)) (m ((c : Thread nD τ).loc main_arg8)) := by
  unfold V
  after_reads_simp
  rfl

theorem V_v21 : V m c main_v21 = shapeCast S1x128 (m ((c : Thread nD τ).loc main_arg9) : Vec Ideal S128 .f32) shapeCasts_S128_S1x128 := by
  unfold V
  after_reads_simp
  rfl

end Cert.KernelIdeal.Att
-- ==== Proof.Block.lean ====
module

public import proofs.«01_k».proof.Proof.Host
public import proofs.«01_k».proof.Proof.KRun
public import Idealize.ShloMosaic.Lib.Pointwise
public import Idealize.ShloMosaic.Lib.StableHlo.RunRead

@[expose] public section

set_option maxRecDepth 16384

noncomputable section

/-! # What a grid point reads and where it writes

  Grid point `4b + h` handles head `h` of batch element `b`. Here are the operands' blocks of that point, entry by entry,
  in the arguments of the program, and the result entry by entry in the block of the point that writes it. -/

namespace Cert.KernelIdeal.Att

open Cert.KernelIdeal Cert.KernelIdeal.Gen
open Idealize.ShloMosaic Idealize.ShloMosaic.TcCoe Idealize.ShloMosaic.Tactic

/-- The grid point of a batch element and a head. -/
def pt (b : Fin 2) (h : Fin 4) : Fin cfg0.N := ⟨b.val * 4 + h.val, by have : cfg0.N = 8 := rfl; omega⟩

theorem idx0 : ∀ (b : Fin 2) (h : Fin 4), win0_0.index (pt b h) 0 = b.val ∧ win0_0.index (pt b h) 1 = 0 ∧ win0_0.index (pt b h) 2 = h.val := by
  decide +kernel
theorem idx1 : ∀ (b : Fin 2) (h : Fin 4), win0_1.index (pt b h) 0 = b.val ∧ win0_1.index (pt b h) 1 = 0 ∧ win0_1.index (pt b h) 2 = h.val := by
  decide +kernel
theorem idx2 : ∀ (b : Fin 2) (h : Fin 4), win0_2.index (pt b h) 0 = b.val ∧ win0_2.index (pt b h) 1 = h.val ∧ win0_2.index (pt b h) 2 = 0
    ∧ win0_2.index (pt b h) 3 = 0 ∧ win0_2.index (pt b h) 4 = 0 := by
  decide +kernel
theorem idx3 : ∀ (b : Fin 2) (h : Fin 4), win0_3.index (pt b h) 0 = 0 ∧ win0_3.index (pt b h) 1 = 0 := by
  decide +kernel
theorem idx4 : ∀ (b : Fin 2) (h : Fin 4), win0_4.index (pt b h) 0 = 0 ∧ win0_4.index (pt b h) 1 = 0 := by
  decide +kernel
theorem idx5 : ∀ (b : Fin 2) (h : Fin 4), win0_5.index (pt b h) 0 = b.val ∧ win0_5.index (pt b h) 1 = 0 ∧ win0_5.index (pt b h) 2 = h.val := by
  decide +kernel

variable (m : (ℓ : Loc nD τ sig) → Buf (Elt Ideal) ℓ) (c : Dev nD) (b : Fin 2) (h : Fin 4)

theorem blk0 (q : Fin 8192) (d : Fin 128) :
    (iblk m c 0 (pt b h) : Vec Ideal S1x8192x128 .f32) (ix3 0 q d)
      = (m ((c : Thread nD τ).loc main_arg0) : Vec Ideal S2x8192x512 .f32) (ix3 b q ⟨h.val * 128 + d.val, by omega⟩) := by
  obtain ⟨h0, h1, h2⟩ := idx0 b h
  unfold iblk
  rw [View.read_apply]
  show V m c main_arg0 _ = _
  rw [V_main_arg0]
  congr 1
  funext a
  apply Fin.ext
  match a with
  | ⟨0, _⟩ => show win0_0.index (pt b h) 0 * 1 + 1 * 0 = b.val; omega
  | ⟨1, _⟩ => show win0_0.index (pt b h) 1 * 8192 + 1 * q.val = q.val; omega
  | ⟨2, _⟩ => show win0_0.index (pt b h) 2 * 128 + 1 * d.val = h.val * 128 + d.val; omega

theorem blk1 (j : Fin 8448) (d : Fin 128) :
    (iblk m c 1 (pt b h) : Vec Ideal S1x8448x128 .bf16) (ix3 0 j d)
      = kAll (m ((c : Thread nD τ).loc main_arg1)) (m ((c : Thread nD τ).loc main_arg2)) (ix3 b j ⟨h.val * 128 + d.val, by omega⟩) := by
  obtain ⟨h0, h1, h2⟩ := idx1 b h
  unfold iblk
  rw [View.read_apply]
  show V m c main_v7 _ = _
  rw [V_v7]
  congr 1
  funext a
  apply Fin.ext
  match a with
  | ⟨0, _⟩ => show win0_1.index (pt b h) 0 * 1 + 1 * 0 = b.val; omega
  | ⟨1, _⟩ => show win0_1.index (pt b h) 1 * 8448 + 1 * j.val = j.val; omega
  | ⟨2, _⟩ => show win0_1.index (pt b h) 2 * 128 + 1 * d.val = h.val * 128 + d.val; omega

theorem blk2 (y : Fin 33) (r : Fin 136) (i : Fin 256) :
    (iblk m c 2 (pt b h) : Vec Ideal S1x1x33x136x256 .bf16) (ix5 0 0 y r i)
      = vtCat (vtC (m ((c : Thread nD τ).loc main_arg3))) (vtS (m ((c : Thread nD τ).loc main_arg4))) (ix5 b h y r i) := by
  obtain ⟨h0, h1, h2, h3, h4⟩ := idx2 b h
  unfold iblk
  rw [View.read_apply]
  show V m c main_v20 _ = _
  rw [V_v20]
  congr 1
  funext a
  apply Fin.ext
  match a with
  | ⟨0, _⟩ => show win0_2.index (pt b h) 0 * 1 + 1 * 0 = b.val; omega
  | ⟨1, _⟩ => show win0_2.index (pt b h) 1 * 1 + 1 * 0 = h.val; omega
  | ⟨2, _⟩ => show win0_2.index (pt b h) 2 * 33 + 1 * y.val = y.val; omega
  | ⟨3, _⟩ => show win0_2.index (pt b h) 3 * 136 + 1 * r.val = r.val; omega
  | ⟨4, _⟩ => show win0_2.index (pt b h) 4 * 256 + 1 * i.val = i.val; omega

theorem blk3 (k : Fin 4) (d : Fin 64) :
    (iblk m c 3 (pt b h) : Vec Ideal S4x64 .f32) (ix2 k d)
      = lamAll (m ((c : Thread nD τ).loc main_arg5)) (m ((c : Thread nD τ).loc main_arg6)) (m ((c : Thread nD τ).loc main_arg7)) (m ((c : Thread nD τ).loc main_arg8)) (ix2 k d) := by
  obtain ⟨h0, h1⟩ := idx3 b h
  unfold iblk
  rw [View.read_apply]
  show V m c main_v4 _ = _
  rw [V_v4]
  congr 1
  funext a
  apply Fin.ext
  match a with
  | ⟨0, _⟩ => show win0_3.index (pt b h) 0 * 4 + 1 * k.val = k.val; omega
  | ⟨1, _⟩ => show win0_3.index (pt b h) 1 * 64 + 1 * d.val = d.val; omega

theorem blk4 (e : Fin 128) :
    (iblk m c 4 (pt b h) : Vec Ideal S1x128 .f32) (ix2 0 e) = (m ((c : Thread nD τ).loc main_arg9) : Vec Ideal S128 .f32) (ix1 e) := by
  obtain ⟨h0, h1⟩ := idx4 b h
  refine Eq.trans ?_ (gAll_apply _ e)
  unfold iblk
  rw [View.read_apply]
  show V m c main_v21 _ = _
  rw [V_v21]
  congr 1
  funext a
  apply Fin.ext
  match a with
  | ⟨0, _⟩ => show win0_4.index (pt b h) 0 * 1 + 1 * 0 = 0; omega
  | ⟨1, _⟩ => show win0_4.index (pt b h) 1 * 128 + 1 * e.val = e.val; omega

/-- The result, entry by entry: head `h`'s lanes hold what the point of `b` and `h` computed. -/
theorem result_apply (q : Fin 8192) (e : Fin 128) (n : Fin 512) (hn : n.val = h.val * 128 + e.val) :
    ((dats m 0 c).arrAt 5 cfg0.N : Vec Ideal S2x8192x512 .bf16) (ix3 b q n)
      = rmsK (oK (iblk m c 0 (pt b h)) (iblk m c 1 (pt b h)) (iblk m c 2 (pt b h)) (iblk m c 3 (pt b h)) q)
          (fun e => (iblk m c 4 (pt b h) : Vec Ideal S1x128 .f32) (ix2 0 e)) e := by
  obtain ⟨h0, h1, h2⟩ := idx5 b h
  have hb := congrFun (blocks5 m c (pt b h) (flush0_5 (pt b h))) (ix3 (n0 := 1) (n1 := 8192) (n2 := 128) 0 q e)
  rw [View.read_apply, flushed5] at hb
  refine Eq.trans ?_ (hb.trans ?_)
  · show (dats m 0 c).arrAt 5 cfg0.N _ = (dats m 0 c).arrAt 5 cfg0.N _
    congr 1
    funext a
    apply Fin.ext
    match a with
    | ⟨0, _⟩ => show b.val = win0_5.index (pt b h) 0 * 1 + 1 * 0; omega
    | ⟨1, _⟩ => show q.val = win0_5.index (pt b h) 1 * 8192 + 1 * q.val; omega
    | ⟨2, _⟩ => show n.val = win0_5.index (pt b h) 2 * 128 + 1 * e.val; omega
  · exact outP_apply (q := q) (e := e) ..

end Cert.KernelIdeal.Att
-- ==== Proof.FlashMath.lean ====
module

public import proofs.«01_k».proof.Proof.Flash
public import Idealize.ShloMosaic.PureOps.Ideal.Laws

@[expose] public section

noncomputable section

/-!
# The running softmax in closed form

For real values the accumulator of the running softmax is the sum over all keys of the value times its weight against the
largest score, whatever the scores are (they may be infinite).
-/

namespace Cert.KernelIdeal.Att

open Idealize.ShloMosaic

/-- A weight below the maximum is a nonnegative real. -/
theorem exp2_sub_real (s M : EReal) (h : s ≤ M) : ∃ r : ℝ, 0 ≤ r ∧ Ideal.exp2 (s - M) = (r : EReal) := by
  induction M using EReal.rec with
  | bot =>
    rw [le_bot_iff.mp h]
    exact ⟨0, le_refl _, rfl⟩
  | top =>
    refine ⟨0, le_refl _, ?_⟩
    rw [EReal.sub_top]; rfl
  | coe M =>
    induction s using EReal.rec with
    | bot => exact ⟨0, le_refl _, rfl⟩
    | top => exact absurd (top_le_iff.mp h) (EReal.coe_ne_top M)
    | coe s => exact ⟨(2 : ℝ) ^ (s - M), Real.rpow_nonneg (by norm_num) _, rfl⟩

/-- Rescaling from one maximum to a later one. -/
theorem exp2_chain (s M M' : EReal) (h : s ≤ M) (h' : M ≤ M') :
    Ideal.exp2 (M - M') * Ideal.exp2 (s - M) = Ideal.exp2 (s - M') := by
  induction M' using EReal.rec with
  | bot =>
    have e1 := le_bot_iff.mp h'
    subst e1
    have e2 := le_bot_iff.mp h
    subst e2
    show (0 : EReal) * 0 = 0
    simp
  | top =>
    rw [EReal.sub_top, EReal.sub_top]
    show (0 : EReal) * _ = 0
    simp
  | coe M' =>
    induction M using EReal.rec with
    | bot =>
      rw [le_bot_iff.mp h]
      show (0 : EReal) * 0 = 0
      simp
    | top => exact absurd (top_le_iff.mp h') (EReal.coe_ne_top M')
    | coe M =>
      induction s using EReal.rec with
      | bot =>
        show _ * (0 : EReal) = 0
        simp
      | top => exact absurd (top_le_iff.mp h) (EReal.coe_ne_top M)
      | coe s =>
        show (((2 : ℝ) ^ (M - M') : ℝ) : EReal) * (((2 : ℝ) ^ (s - M) : ℝ) : EReal) = (((2 : ℝ) ^ (s - M') : ℝ) : EReal)
        rw [← EReal.coe_mul, ← Real.rpow_add (by norm_num)]
        congr 2
        ring

/-- The running maximum is the least bound of the scores gone through. -/
theorem Mx_le_iff (s : ℕ → EReal) (k : ℕ) (c : EReal) : Mx s k ≤ c ↔ ∀ j, j < 768 * k → s j ≤ c := by
  induction k with
  | zero => simp [Mx]
  | succ k ih =>
    show max (Mx s k) _ ≤ c ↔ _
    rw [max_le_iff, ih, Finset.fold_max_le]
    constructor
    · rintro ⟨h1, -, h2⟩ j hj
      by_cases h : j < 768 * k
      · exact h1 j h
      · have := h2 ⟨j - 768 * k, by omega⟩ (Finset.mem_univ _)
        rwa [show 768 * k + (j - 768 * k) = j by omega] at this
    · exact fun h => ⟨fun j hj => h j (by omega), bot_le, fun i _ => h _ (by omega)⟩

theorem le_Mx (s : ℕ → EReal) (k j : ℕ) (hj : j < 768 * k) : s j ≤ Mx s k := (Mx_le_iff s k _).mp (le_refl _) j hj

theorem Mx_mono (s : ℕ → EReal) (k : ℕ) : Mx s k ≤ Mx s (k + 1) := le_max_left _ _

/-- The weight as a real number. -/
def pr (s : ℕ → EReal) (k j : ℕ) : ℝ := (Wt s k j).toReal

theorem Wt_coe (s : ℕ → EReal) (k j : ℕ) (hj : j < 768 * k) : Wt s k j = (pr s k j : EReal) := by
  obtain ⟨r, -, hr⟩ := exp2_sub_real _ _ (le_Mx s k j hj)
  unfold pr Wt
  rw [hr, EReal.toReal_coe]

theorem sum_coe {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The accumulator in closed form. -/
theorem Ac_closed (s v : ℕ → EReal) (w : ℕ → ℝ) (k : ℕ) (hv : ∀ j, j < 768 * k → v j = (w j : EReal)) :
    Ac s v k = ((∑ j ∈ Finset.range (768 * k), w j * pr s k j : ℝ) : EReal) := by
  induction k with
  | zero => simp [Ac]
  | succ k ih =>
    rw [Ac.eq_2, ih fun j hj => hv j (by omega)]
    obtain ⟨a, -, ha⟩ := exp2_sub_real _ _ (Mx_mono s k)
    have hterm : ∀ j, j < 768 * (k + 1) → v j * Wt s (k + 1) j = ((w j * pr s (k + 1) j : ℝ) : EReal) := fun j hj => by
      rw [hv j hj, Wt_coe s (k + 1) j hj, EReal.coe_mul]
    have hold : ∀ j, j < 768 * k → a * pr s k j = pr s (k + 1) j := fun j hj => by
      have h := exp2_chain (s j) (Mx s k) (Mx s (k + 1)) (le_Mx s k j hj) (Mx_mono s k)
      rw [ha] at h
      change (a : EReal) * Wt s k j = Wt s (k + 1) j at h
      rw [Wt_coe s k j hj, Wt_coe s (k + 1) j (by omega), ← EReal.coe_mul] at h
      exact EReal.coe_injective h
    have h3 : ∀ o : ℕ, o + 256 ≤ 768 → ∑ i : Fin 256, v (768 * k + (o + i.val)) * Wt s (k + 1) (768 * k + (o + i.val))
        = ((∑ i ∈ Finset.range 256, w (768 * k + (o + i)) * pr s (k + 1) (768 * k + (o + i)) : ℝ) : EReal) := fun o ho => by
      rw [← Fin.sum_univ_eq_sum_range (fun i => w (768 * k + (o + i)) * pr s (k + 1) (768 * k + (o + i))) 256, ← sum_coe]
      exact Finset.sum_congr rfl fun i _ => hterm _ (by omega)
    have h0 := h3 0 (by omega)
    simp only [Nat.zero_add] at h0
    rw [ha, h0, h3 256 (by omega), h3 512 (by omega), ← EReal.coe_mul, ← EReal.coe_add, ← EReal.coe_add, ← EReal.coe_add]
    refine congrArg _ ?_
    rw [show 768 * (k + 1) = 768 * k + (256 + (256 + 256)) by omega, Finset.sum_range_add, Finset.sum_range_add _ 256, Finset.sum_range_add _ 256 256, Finset.mul_sum]
    have e1 : ∑ i ∈ Finset.range (768 * k), a * (w i * pr s k i) = ∑ i ∈ Finset.range (768 * k), w i * pr s (k + 1) i :=
      Finset.sum_congr rfl fun j hj => by
        rw [← hold j (Finset.mem_range.mp hj)]; ring
    have e2 : ∀ i, 768 * k + (256 + (256 + i)) = 768 * k + (512 + i) := fun i => by omega
    rw [e1]
    simp only [e2]
    ring

/-- Base two and base e: `2 ^ (c a) = e ^ a` for `c = 1 / log 2`, on the extended reals. -/
theorem exp2_scale (s M : EReal) :
    Ideal.exp2 ((((Real.log 2)⁻¹ : ℝ) : EReal) * s - (((Real.log 2)⁻¹ : ℝ) : EReal) * M) = Ideal.exp (s - M) := by
  have hc : 0 < (Real.log 2)⁻¹ := inv_pos.mpr (Real.log_pos (by norm_num))
  induction s using EReal.rec with
  | bot =>
    rw [EReal.coe_mul_bot_of_pos hc]
    rw [EReal.bot_sub, EReal.bot_sub]; rfl
  | top =>
    rw [EReal.coe_mul_top_of_pos hc]
    induction M using EReal.rec with
    | bot => rw [EReal.coe_mul_bot_of_pos hc]; rfl
    | top => rw [EReal.coe_mul_top_of_pos hc]; rfl
    | coe M => rw [← EReal.coe_mul, EReal.top_sub_coe, EReal.top_sub_coe]; rfl
  | coe s =>
    induction M using EReal.rec with
    | bot => rw [EReal.coe_mul_bot_of_pos hc]; rfl
    | top => rw [EReal.coe_mul_top_of_pos hc]; rfl
    | coe M =>
      rw [← EReal.coe_mul, ← EReal.coe_mul, ← EReal.coe_sub, ← EReal.coe_sub]
      show (((2 : ℝ) ^ ((Real.log 2)⁻¹ * s - (Real.log 2)⁻¹ * M) : ℝ) : EReal) = ((Real.exp (s - M) : ℝ) : EReal)
      rw [Real.rpow_def_of_pos (by norm_num)]
      congr 2
      have : Real.log 2 ≠ 0 := (Real.log_pos (by norm_num)).ne'
      field_simp

/-- A positive real times a sum. -/
theorem coe_mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- The largest scaled score is the largest score, scaled. -/
theorem Mx_scale (S : ℕ → EReal) (s : Fin 8448 → EReal) (c : ℝ) (hc : 0 ≤ c) (hS : ∀ j : Fin 8448, S j.val = (c : EReal) * s j) :
    Mx S 11 = (c : EReal) * (Finset.univ : Finset (Fin 8448)).fold max ⊥ s := by
  have hmono : ∀ a b : EReal, a ≤ b → (c : EReal) * a ≤ (c : EReal) * b := fun a b h =>
    mul_le_mul_of_nonneg_left h (EReal.coe_nonneg.mpr hc)
  apply le_antisymm
  · rw [Mx_le_iff]
    intro j hj
    rw [hS ⟨j, hj⟩]
    exact hmono _ _ ((Finset.le_fold_max _).mpr (Or.inr ⟨_, Finset.mem_univ _, le_refl _⟩))
  · obtain ⟨j, -, hj⟩ := Finset.exists_mem_eq_sup (Finset.univ : Finset (Fin 8448)) ⟨0, Finset.mem_univ _⟩ s
    have e : (Finset.univ : Finset (Fin 8448)).fold max ⊥ s = s j := hj
    rw [e, ← hS j]
    exact le_Mx S 11 j.val j.isLt

/-- The kernel's weights are the reference's. -/
theorem Wt_scale (S : ℕ → EReal) (s : Fin 8448 → EReal) (hS : ∀ j : Fin 8448, S j.val = (((Real.log 2)⁻¹ : ℝ) : EReal) * s j) (j : Fin 8448) :
    Wt S 11 j.val = Ideal.exp (s j - (Finset.univ : Finset (Fin 8448)).fold max ⊥ s) := by
  unfold Wt
  rw [hS j, Mx_scale S s _ (inv_nonneg.mpr (Real.log_nonneg (by norm_num))) hS, exp2_scale]

/-- The reference's weights are real and not negative, and the kernel's accumulators are sums of them. -/
theorem flash (S : ℕ → EReal) (s : Fin 8448 → EReal) (hS : ∀ j : Fin 8448, S j.val = (((Real.log 2)⁻¹ : ℝ) : EReal) * s j) :
    ∃ r : Fin 8448 → ℝ, (∀ j, 0 ≤ r j) ∧ (∀ j, Ideal.exp (s j - (Finset.univ : Finset (Fin 8448)).fold max ⊥ s) = (r j : EReal))
      ∧ ∀ (v : ℕ → EReal) (w : Fin 8448 → ℝ), (∀ j : Fin 8448, v j.val = (w j : EReal)) → Ac S v 11 = ((∑ j, w j * r j : ℝ) : EReal) := by
  refine ⟨fun j => pr S 11 j.val, fun j => ?_, fun j => ?_, fun v w hv => ?_⟩
  · obtain ⟨r, h0, hr⟩ := exp2_sub_real _ _ (le_Mx S 11 j.val j.isLt)
    show 0 ≤ (Ideal.exp2 (S j.val - Mx S 11)).toReal
    rw [hr, EReal.toReal_coe]; exact h0
  · rw [← Wt_scale S s hS j, Wt_coe S 11 j.val j.isLt]
  · rw [Ac_closed S v (fun j => (v j).toReal) 11 fun j hj => by rw [hv ⟨j, hj⟩, EReal.toReal_coe]]
    rw [show 768 * 11 = 8448 from rfl, ← Fin.sum_univ_eq_sum_range (fun j => (v j).toReal * pr S 11 j) 8448]
    refine congrArg _ (Finset.sum_congr rfl fun j _ => ?_)
    rw [hv j, EReal.toReal_coe]

end Cert.KernelIdeal.Att
-- ==== Proof.DiffMath.lean ====
module

public import proofs.«01_k».proof.Proof.FlashMath

@[expose] public section

noncomputable section

/-!
# The difference of two softmax averages, normalised

Dividing the two weighted sums at the end gives the same normalised row as dividing the weights first, also where a
softmax has no weight at all (an infinite score): there both rows are zero.
-/

namespace Cert.KernelIdeal.Att

open Idealize.ShloMosaic

/-- A row `o` normalised, scaled by `g`, at lane `e`. -/
def rms (o g : Fin 128 → EReal) (e : Fin 128) : EReal :=
  o e * Ideal.rsqrt (Ideal.div (∑ d : Fin 128, o d * o d) (Ideal.ofBits .f32 0x43000000#32) + Ideal.ofBits .f32 0x358637BD#32)
    * g e * Ideal.ofBits .f32 0x3F4CCCCD#32

theorem ofBits_128 : Ideal.ofBits .f32 0x43000000#32 = ((128 : ℝ) : EReal) := by
  simp [Ideal.ofBits, Ideal.ieee]
  rw [← EReal.coe_mul]; norm_num

theorem ofBits_eighth : Ideal.ofBits .f32 0x3E000000#32 = (((8 : ℝ)⁻¹ : ℝ) : EReal) := by
  simp [Ideal.ofBits, Ideal.ieee]
  rw [← EReal.coe_mul]; norm_num

theorem ofBits_eps : ∃ r : ℝ, Ideal.ofBits .f32 0x358637BD#32 = (r : EReal) := by
  simp [Ideal.ofBits, Ideal.ieee]
  exact ⟨_, (EReal.coe_mul _ _).symm⟩

theorem ofBits_lam : ∃ r : ℝ, Ideal.ofBits .f32 0x3E4CCCCD#32 = (r : EReal) := by
  simp [Ideal.ofBits, Ideal.ieee]
  exact ⟨_, (EReal.coe_mul _ _).symm⟩

/-- A row of zeros and infinities is normalised to zeros. -/
theorem rms_zero (o g : Fin 128 → EReal) (h : ∀ e, o e = 0 ∨ o e = ⊤ ∨ o e = ⊥) (e : Fin 128) : rms o g e = 0 := by
  unfold rms
  rcases (show o e = 0 ∨ (o e = ⊤ ∨ o e = ⊥) from h e) with h0 | hi
  · rw [h0]; simp
  · have hsq : o e * o e = ⊤ := by
      rcases hi with h | h <;> rw [h] <;> simp
    have hnn : ∀ d, 0 ≤ o d * o d := fun d => by
      rcases h d with h | h | h <;> rw [h] <;> simp
    have hs : ∑ d : Fin 128, o d * o d = ⊤ := by
      apply top_le_iff.mp
      rw [← hsq]
      exact Finset.single_le_sum (f := fun d => o d * o d) (fun d _ => hnn d) (Finset.mem_univ e)
    obtain ⟨r, hr⟩ := ofBits_eps
    have hd : Ideal.div (⊤ : EReal) ((128 : ℝ) : EReal) = ⊤ := by
      have h128 : ((128 : ℝ) : EReal) ≠ 0 := by
        rw [← EReal.coe_zero]; exact fun h => by have := EReal.coe_injective h; norm_num at this
      show (if ((128 : ℝ) : EReal) = 0 then _ else (⊤ : EReal) * ((128 : ℝ) : EReal)⁻¹) = ⊤
      rw [if_neg h128, ← EReal.coe_inv]
      exact EReal.top_mul_coe_of_pos (by norm_num)
    rw [hs, ofBits_128, hd, hr, EReal.top_add_coe]
    show o e * (0 : EReal) * _ * _ = 0
    simp

theorem sum_const_inf {ι : Type} (t : Finset ι) (f : ι → EReal) (h : ∀ i, f i = 0 ∨ f i = ⊤ ∨ f i = ⊥) :
    ∑ i ∈ t, f i = 0 ∨ ∑ i ∈ t, f i = ⊤ ∨ ∑ i ∈ t, f i = ⊥ := by
  classical
  induction t using Finset.induction_on with
  | empty => simp
  | insert a t ha ih =>
    rw [Finset.sum_insert ha]
    rcases h a with h | h | h <;> rcases ih with h' | h' | h' <;> rw [h, h'] <;> simp

theorem div_coe (x y : ℝ) (hy : y ≠ 0) : Ideal.div (x : EReal) (y : EReal) = ((x / y : ℝ) : EReal) := by
  have h : (y : EReal) ≠ 0 := by
    rw [← EReal.coe_zero]; exact fun h => hy (EReal.coe_injective h)
  show (if (y : EReal) = 0 then _ else (x : EReal) * (y : EReal)⁻¹) = _
  rw [if_neg h, ← EReal.coe_inv, ← EReal.coe_mul, div_eq_mul_inv]

theorem div_zero_zero : Ideal.div (0 : EReal) 0 = ⊥ := by
  show (if (0 : EReal) = 0 then (if (0 : EReal) < 0 then ⊤ else ⊥) else _) = (⊥ : EReal)
  simp

/-- Nothing over nothing, times a real. -/
theorem coe_mul_bot_cases (lam : ℝ) : (lam : EReal) * ⊥ = 0 ∧ lam = 0 ∨ (lam : EReal) * ⊥ = ⊤ ∨ (lam : EReal) * ⊥ = ⊥ := by
  rcases lt_trichotomy lam 0 with h | h | h
  · exact Or.inr (Or.inl (EReal.coe_mul_bot_of_neg h))
  · subst h; exact Or.inl ⟨by simp, rfl⟩
  · exact Or.inr (Or.inr (EReal.coe_mul_bot_of_pos h))

variable (r0 r1 : Fin 8448 → ℝ) (h0 : ∀ j, 0 ≤ r0 j) (h1 : ∀ j, 0 ≤ r1 j) (lam : ℝ) (w : Fin 128 → Fin 8448 → ℝ)

/-- The row as the kernel forms it. -/
def oKer (e : Fin 128) : EReal :=
  Ideal.div ((∑ j, w e j * r0 j : ℝ) : EReal) ((∑ j, r0 j : ℝ) : EReal)
    - (lam : EReal) * Ideal.div ((∑ j, w e j * r1 j : ℝ) : EReal) ((∑ j, r1 j : ℝ) : EReal)

/-- The weight of key `j` as the reference forms it. -/
def aRef (j : Fin 8448) : EReal :=
  Ideal.div (r0 j : EReal) ((∑ j, r0 j : ℝ) : EReal) - (lam : EReal) * Ideal.div (r1 j : EReal) ((∑ j, r1 j : ℝ) : EReal)

/-- The row as the reference forms it. -/
def oRef (e : Fin 128) : EReal := ∑ j, (w e j : EReal) * aRef r0 r1 lam j

include h0 h1 in
/-- Either the rows agree, or every entry is the same infinity. -/
theorem ker_ref : (∀ e, oKer r0 r1 lam w e = oRef r0 r1 lam w e)
    ∨ (∃ x : EReal, (x = ⊤ ∨ x = ⊥) ∧ (∀ e, oKer r0 r1 lam w e = x) ∧ ∀ j, aRef r0 r1 lam j = x) := by
  have hz : ∀ r : Fin 8448 → ℝ, (∀ j, 0 ≤ r j) → ∑ j, r j = 0 → ∀ j, r j = 0 := fun r hr hs j =>
    (Finset.sum_eq_zero_iff_of_nonneg fun j _ => hr j).mp hs j (Finset.mem_univ j)
  by_cases hD0 : ∑ j, r0 j = 0
  · have hr0 := hz r0 h0 hD0
    refine Or.inr ?_
    have hx : ∀ y : EReal, (⊥ : EReal) - y = ⊥ := fun y => EReal.bot_sub y
    refine ⟨⊥, Or.inr rfl, fun e => ?_, fun j => ?_⟩
    · unfold oKer
      simp only [hr0, mul_zero, Finset.sum_const_zero, EReal.coe_zero, div_zero_zero, hx]
    · unfold aRef
      simp only [hr0, Finset.sum_const_zero, EReal.coe_zero, div_zero_zero, hx]
  · by_cases hD1 : ∑ j, r1 j = 0
    · have hr1 := hz r1 h1 hD1
      have hK : ∀ e, oKer r0 r1 lam w e = (((∑ j, w e j * r0 j) / ∑ j, r0 j : ℝ) : EReal) - (lam : EReal) * ⊥ := fun e => by
        unfold oKer
        rw [div_coe _ _ hD0]
        simp only [hr1, mul_zero, Finset.sum_const_zero, EReal.coe_zero, div_zero_zero]
      have hA : ∀ j, aRef r0 r1 lam j = ((r0 j / ∑ j, r0 j : ℝ) : EReal) - (lam : EReal) * ⊥ := fun j => by
        unfold aRef
        rw [div_coe _ _ hD0]
        simp only [hr1, Finset.sum_const_zero, EReal.coe_zero, div_zero_zero]
      rcases coe_mul_bot_cases lam with ⟨h, -⟩ | h | h
      · refine Or.inl fun e => ?_
        unfold oRef
        simp only [hK, hA, h, sub_zero, ← EReal.coe_mul, sum_coe]
        refine congrArg _ ?_
        rw [Finset.sum_div]
        exact Finset.sum_congr rfl fun j _ => by ring
      · refine Or.inr ⟨⊥, Or.inr rfl, fun e => ?_, fun j => ?_⟩
        · rw [hK, h, EReal.sub_top]
        · rw [hA, h, EReal.sub_top]
      · refine Or.inr ⟨⊤, Or.inl rfl, fun e => ?_, fun j => ?_⟩
        · rw [hK, h, EReal.coe_sub_bot]
        · rw [hA, h, EReal.coe_sub_bot]
    · refine Or.inl fun e => ?_
      unfold oKer oRef aRef
      simp only [div_coe _ _ hD0, div_coe _ _ hD1, ← EReal.coe_mul, ← EReal.coe_sub, sum_coe]
      refine congrArg _ ?_
      rw [Finset.sum_div, Finset.sum_div, Finset.mul_sum, ← Finset.sum_sub_distrib]
      exact Finset.sum_congr rfl fun j _ => by ring

include h0 h1 in
/-- The normalised rows are the same. -/
theorem rms_eq (g : Fin 128 → EReal) (e : Fin 128) : rms (oKer r0 r1 lam w) g e = rms (oRef r0 r1 lam w) g e := by
  rcases ker_ref r0 r1 h0 h1 lam w with h | ⟨x, hx, hK, hA⟩
  · rw [show oKer r0 r1 lam w = oRef r0 r1 lam w from funext h]
  · rw [rms_zero _ g (fun e => by rw [hK]; exact Or.inr hx) e, rms_zero _ g (fun e => ?_) e]
    unfold oRef
    refine sum_const_inf _ _ fun j => ?_
    rw [hA]
    rcases lt_trichotomy (w e j) 0 with h | h | h <;> rcases hx with hx | hx <;> rw [hx]
    · exact Or.inr (Or.inr (EReal.coe_mul_top_of_neg h))
    · exact Or.inr (Or.inl (EReal.coe_mul_bot_of_neg h))
    · exact Or.inl (by rw [h]; simp)
    · exact Or.inl (by rw [h]; simp)
    · exact Or.inr (Or.inl (EReal.coe_mul_top_of_pos h))
    · exact Or.inr (Or.inr (EReal.coe_mul_bot_of_pos h))

end Cert.KernelIdeal.Att
-- ==== Proof.RefValue.lean ====
module

public import proofs.«01_k».proof.Proof.Gen.ReferenceIdeal.Read
public import Idealize.ShloMosaic.Lib.Pointwise

@[expose] public section

set_option maxRecDepth 16384

noncomputable section

/-!
# The reference at an index

Each step of the reference read at an index from the step before it.
-/

namespace Cert.ReferenceIdeal.Att

open Cert.ReferenceIdeal Cert.ReferenceIdeal.Gen Cert.ReferenceIdeal.Read
open Idealize.ShloMosaic Idealize.ShloMosaic.TcCoe Idealize.ShloMosaic.Tactic

variable (x0 : (⟨S2x8192x512, .f32⟩ : BufTy).Contents (Elt Ideal)) (x1 : (⟨S2x256x512, .f32⟩ : BufTy).Contents (Elt Ideal))
  (x2 : (⟨S2x8192x512, .f32⟩ : BufTy).Contents (Elt Ideal)) (x3 : (⟨S2x256x512, .f32⟩ : BufTy).Contents (Elt Ideal))
  (x4 : (⟨S2x8192x512, .f32⟩ : BufTy).Contents (Elt Ideal)) (x5 x6 x7 x8 : (⟨S64, .f32⟩ : BufTy).Contents (Elt Ideal))
  (x9 : (⟨S128, .f32⟩ : BufTy).Contents (Elt Ideal))

/-- Two sequences of keys (or values) one after the other. -/
def catR (a : (⟨S2x256x512, .f32⟩ : BufTy).Contents (Elt Ideal)) (b : (⟨S2x8192x512, .f32⟩ : BufTy).Contents (Elt Ideal))
    (i : Fin 2) (j : Fin 8448) (n : Fin 512) : EReal :=
  if h : j.val < 256 then a (ix3 i ⟨j.val, h⟩ n) else b (ix3 i ⟨j.val - 256, by omega⟩ n)

theorem v11_apply (i : Fin 2) (j : Fin 8448) (n : Fin 512) : val_main_v11 (F := Ideal) x1 x2 (ix3 i j n) = catR x1 x2 i j n := by
  unfold val_main_v11 catR
  pointwise []

theorem v8_apply (b : Fin 2) (q : Fin 8192) (h : Fin 4) (i : Fin 2) (d : Fin 64) :
    val_main_v8 (F := Ideal) x0 (ix5 b q h i d) = x0 (ix3 b q ⟨h.val * 128 + i.val * 64 + d.val, by omega⟩) := by
  pointwise [val_main_v8]

/-- The scaled queries. -/
theorem v10_apply (b : Fin 2) (q : Fin 8192) (h : Fin 4) (i : Fin 2) (d : Fin 64) :
    val_main_v10 (F := Ideal) x0 (ix5 b q h i d)
      = x0 (ix3 b q ⟨h.val * 128 + i.val * 64 + d.val, by omega⟩) * Ideal.ofBits .f32 0x3E000000#32 := by
  rw [val_main_v10_apply, v8_apply]
  rfl

theorem v12_apply (b : Fin 2) (j : Fin 8448) (h : Fin 4) (i : Fin 2) (d : Fin 64) :
    val_main_v12 (F := Ideal) x1 x2 (ix5 b j h i d) = catR x1 x2 b j ⟨h.val * 128 + i.val * 64 + d.val, by omega⟩ := by
  rw [← v11_apply]
  unfold val_main_v12
  generalize val_main_v11 (F := Ideal) x1 x2 = y
  pointwise []

theorem v14_apply (b : Fin 2) (j : Fin 8448) (h : Fin 4) (e : Fin 128) :
    val_main_v14 (F := Ideal) x3 x4 (ix4 b j h e) = catR x3 x4 b j ⟨h.val * 128 + e.val, by omega⟩ := by
  rw [← v11_apply]
  unfold val_main_v14 val_main_v13 val_main_v11
  generalize concatenate S2x8448x512 1 [⟨S2x256x512, (x3)⟩, ⟨S2x8192x512, (x4)⟩] concatenates_S2x256x512_S2x8192x512_S2x8448x512_d1 = y
  pointwise []

/-- The score of query `q` and key `j`, in branch `i` of head `h`. -/
def sR (b : Fin 2) (h : Fin 4) (i : Fin 2) (q : Fin 8192) (j : Fin 8448) : EReal :=
  ∑ d : Fin 64, x0 (ix3 b q ⟨h.val * 128 + i.val * 64 + d.val, by omega⟩) * Ideal.ofBits .f32 0x3E000000#32
    * catR x1 x2 b j ⟨h.val * 128 + i.val * 64 + d.val, by omega⟩

theorem v15_apply (b : Fin 2) (h : Fin 4) (i : Fin 2) (q : Fin 8192) (j : Fin 8448) :
    val_main_v15 (F := Ideal) x0 x1 x2 (ix5 b h i q j) = sR x0 x1 x2 b h i q j := by
  have e : val_main_v15 (F := Ideal) x0 x1 x2 (ix5 b h i q j)
      = ∑ d : Fin 64, val_main_v10 (F := Ideal) x0 (ix5 b q h i d) * val_main_v12 (F := Ideal) x1 x2 (ix5 b j h i d) := by
    unfold val_main_v15
    generalize val_main_v10 (F := Ideal) x0 = y0
    generalize val_main_v12 (F := Ideal) x1 x2 = y1
    pointwise []
  rw [e]
  exact Finset.sum_congr rfl fun d _ => congrArg₂ (· * ·) (v10_apply x0 b q h i d) (v12_apply x1 x2 b j h i d)

theorem ofBits_negInf' : Ideal.ofBits .f32 0xFF800000#32 = (⊥ : EReal) := by simp [Ideal.ofBits, Ideal.ieee]

/-- The largest score of a query. -/
def mR (b : Fin 2) (h : Fin 4) (i : Fin 2) (q : Fin 8192) : EReal :=
  (Finset.univ : Finset (Fin 8448)).fold max ⊥ fun j => sR x0 x1 x2 b h i q j

theorem v16_apply (b : Fin 2) (h : Fin 4) (i : Fin 2) (q : Fin 8192) :
    val_main_v16 (F := Ideal) x0 x1 x2 (ix4 b h i q) = mR x0 x1 x2 b h i q := by
  unfold mR
  simp only [← v15_apply]
  unfold val_main_v16
  generalize val_main_v15 (F := Ideal) x0 x1 x2 = y
  pointwise [val_main_cst_3]
  rw [ofBits_negInf']

theorem v18_apply (b : Fin 2) (h : Fin 4) (i : Fin 2) (q : Fin 8192) :
    val_main_v18 (F := Ideal) x0 x1 x2 (ix4 b h i q) = mR x0 x1 x2 b h i q := by
  rw [val_main_v18_apply, v16_apply]
  show max (Ideal.ofBits .f32 0xFF800000#32) _ = _
  rw [ofBits_negInf']
  exact max_eq_right bot_le

theorem v20_apply (b : Fin 2) (h : Fin 4) (i : Fin 2) (q : Fin 8192) (j : Fin 8448) :
    val_main_v20 (F := Ideal) x0 x1 x2 (ix5 b h i q j) = mR x0 x1 x2 b h i q := by
  rw [← v18_apply]
  unfold val_main_v20 val_main_v19
  generalize val_main_v18 (F := Ideal) x0 x1 x2 = y
  pointwise []

theorem v22_apply (b : Fin 2) (h : Fin 4) (i : Fin 2) (q : Fin 8192) (j : Fin 8448) :
    val_main_v22 (F := Ideal) x0 x1 x2 (ix5 b h i q j) = Ideal.exp (sR x0 x1 x2 b h i q j - mR x0 x1 x2 b h i q) := by
  rw [val_main_v22_apply, val_main_v21_apply, v20_apply, v15_apply]
  rfl

theorem v23_apply (b : Fin 2) (h : Fin 4) (i : Fin 2) (q : Fin 8192) :
    val_main_v23 (F := Ideal) x0 x1 x2 (ix4 b h i q) = ∑ j : Fin 8448, Ideal.exp (sR x0 x1 x2 b h i q j - mR x0 x1 x2 b h i q) := by
  simp only [← v22_apply]
  unfold val_main_v23
  generalize val_main_v22 (F := Ideal) x0 x1 x2 = y
  pointwise [val_main_cst_5]

theorem v25_apply (b : Fin 2) (h : Fin 4) (i : Fin 2) (q : Fin 8192) (j : Fin 8448) :
    val_main_v25 (F := Ideal) x0 x1 x2 (ix5 b h i q j) = val_main_v23 (F := Ideal) x0 x1 x2 (ix4 b h i q) := by
  unfold val_main_v25 val_main_v24
  generalize val_main_v23 (F := Ideal) x0 x1 x2 = y
  pointwise []

/-- The weight of key `j`. -/
def pR (b : Fin 2) (h : Fin 4) (i : Fin 2) (q : Fin 8192) (j : Fin 8448) : EReal :=
  Ideal.div (Ideal.exp (sR x0 x1 x2 b h i q j - mR x0 x1 x2 b h i q)) (∑ j : Fin 8448, Ideal.exp (sR x0 x1 x2 b h i q j - mR x0 x1 x2 b h i q))

theorem v26_apply (b : Fin 2) (h : Fin 4) (i : Fin 2) (q : Fin 8192) (j : Fin 8448) :
    val_main_v26 (F := Ideal) x0 x1 x2 (ix5 b h i q j) = pR x0 x1 x2 b h i q j := by
  rw [val_main_v26_apply, v25_apply, v22_apply, v23_apply]
  rfl

theorem v28_apply (b : Fin 2) (h : Fin 4) (q : Fin 8192) (j : Fin 8448) :
    val_main_v28 (F := Ideal) x0 x1 x2 (ix4 b h q j) = pR x0 x1 x2 b h 0 q j := by
  rw [← v26_apply]
  unfold val_main_v28 val_main_v27
  generalize val_main_v26 (F := Ideal) x0 x1 x2 = y
  pointwise []

theorem v30_apply (b : Fin 2) (h : Fin 4) (q : Fin 8192) (j : Fin 8448) :
    val_main_v30 (F := Ideal) x0 x1 x2 (ix4 b h q j) = pR x0 x1 x2 b h 1 q j := by
  rw [← v26_apply]
  unfold val_main_v30 val_main_v29
  generalize val_main_v26 (F := Ideal) x0 x1 x2 = y
  pointwise []

/-- The weight of the second attention. -/
def lamR : EReal :=
  Ideal.exp (∑ d : Fin 64, x5 (ix1 d) * x6 (ix1 d)) - Ideal.exp (∑ d : Fin 64, x7 (ix1 d) * x8 (ix1 d)) + Ideal.ofBits .f32 0x3E4CCCCD#32

theorem v31_apply (b : Fin 2) (h : Fin 4) (q : Fin 8192) (j : Fin 8448) :
    val_main_v31 (F := Ideal) x5 x6 x7 x8 (ix4 b h q j) = lamR x5 x6 x7 x8 := by
  unfold lamR
  pointwise [val_main_v31, val_main_v7, val_main_v6, val_main_v5, val_main_v4, val_main_v3, val_main_v2, val_main_v1, val_main_v0, val_main_cst, val_main_cst_0, val_main_cst_1]

theorem v33_apply (b : Fin 2) (h : Fin 4) (q : Fin 8192) (j : Fin 8448) :
    val_main_v33 (F := Ideal) x0 x1 x2 x5 x6 x7 x8 (ix4 b h q j) = pR x0 x1 x2 b h 0 q j - lamR x5 x6 x7 x8 * pR x0 x1 x2 b h 1 q j := by
  rw [val_main_v33_apply, val_main_v32_apply, v28_apply, v30_apply, v31_apply]
  rfl

/-- The difference of the two attentions. -/
def oR (b : Fin 2) (h : Fin 4) (q : Fin 8192) (e : Fin 128) : EReal :=
  ∑ j : Fin 8448, catR x3 x4 b j ⟨h.val * 128 + e.val, by omega⟩ * (pR x0 x1 x2 b h 0 q j - lamR x5 x6 x7 x8 * pR x0 x1 x2 b h 1 q j)

theorem v35_apply (b : Fin 2) (q : Fin 8192) (h : Fin 4) (e : Fin 128) :
    val_main_v35 (F := Ideal) x0 x1 x2 x3 x4 x5 x6 x7 x8 (ix4 b q h e) = oR x0 x1 x2 x3 x4 x5 x6 x7 x8 b h q e := by
  unfold oR
  simp only [← v33_apply, ← v14_apply]
  unfold val_main_v35 val_main_v34
  generalize val_main_v33 (F := Ideal) x0 x1 x2 x5 x6 x7 x8 = y0
  generalize val_main_v14 (F := Ideal) x3 x4 = y1
  pointwise []

end Cert.ReferenceIdeal.Att
-- ==== Proof.Operands.lean ====
module

public import proofs.«01_k».proof.Proof.Block
public import proofs.«01_k».proof.Proof.DiffMath
public import proofs.«01_k».proof.Proof.RefValue

@[expose] public section

noncomputable section

/-!
# Scores, values and weight of a grid point

The kernel's scores are the reference's over `ln 2`, its rows of values are the reference's values and a row of ones, and
the weight of the second map is a real number.
-/

namespace Cert.KernelIdeal.Att

open Cert.KernelIdeal Cert.KernelIdeal.Gen
open Idealize.ShloMosaic Idealize.ShloMosaic.TcCoe Idealize.ShloMosaic.Tactic

/-- The kernel's factor is the reference's over `ln 2`. -/
theorem scK_eq : scK = (((Real.log 2)⁻¹ : ℝ) : EReal) * Ideal.ofBits .f32 0x3E000000#32 := by
  rw [ofBits_eighth, ← EReal.coe_mul]
  unfold scK
  rw [mul_inv, mul_comm]

theorem scaled_term (k x : EReal) : k * (x * scK) = (((Real.log 2)⁻¹ : ℝ) : EReal) * (x * Ideal.ofBits .f32 0x3E000000#32 * k) := by
  rw [scK_eq]
  ac_rfl

theorem log2_nonneg : (0 : ℝ) ≤ (Real.log 2)⁻¹ := inv_nonneg.mpr (Real.log_nonneg (by norm_num))

/-- The first half of the lanes. -/
theorem score_lo (K x : Fin 128 → EReal) (K' x' : Fin 64 → EReal) (hK : ∀ d : Fin 64, K ⟨d.val, by omega⟩ = K' d) (hx : ∀ d : Fin 64, x ⟨d.val, by omega⟩ = x' d) :
    (∑ d : Fin 128, K d * (if d.val < 64 then x d * scK else 0))
      = (((Real.log 2)⁻¹ : ℝ) : EReal) * ∑ d : Fin 64, x' d * Ideal.ofBits .f32 0x3E000000#32 * K' d := by
  rw [coe_mul_sum _ log2_nonneg]
  refine (Fin.sum_univ_add (a := 64) (b := 64) (fun d : Fin 128 => K d * (if d.val < 64 then x d * scK else 0))).trans ?_
  rw [Finset.sum_eq_zero (s := Finset.univ) (f := fun i : Fin 64 => K (Fin.natAdd 64 i) * (if (Fin.natAdd 64 i).val < 64 then x (Fin.natAdd 64 i) * scK else 0)), add_zero]
  · refine Finset.sum_congr rfl fun d _ => ?_
    rw [← hK, ← hx, ← scaled_term]
    exact congrArg _ (if_pos d.isLt)
  · intro d _
    rw [if_neg (by show ¬ (64 + d.val < 64); omega), mul_zero]

/-- The second half of the lanes. -/
theorem score_hi (K x : Fin 128 → EReal) (K' x' : Fin 64 → EReal) (hK : ∀ d : Fin 64, K ⟨64 + d.val, by omega⟩ = K' d) (hx : ∀ d : Fin 64, x ⟨64 + d.val, by omega⟩ = x' d) :
    (∑ d : Fin 128, K d * (if d.val < 64 then 0 else x d * scK))
      = (((Real.log 2)⁻¹ : ℝ) : EReal) * ∑ d : Fin 64, x' d * Ideal.ofBits .f32 0x3E000000#32 * K' d := by
  rw [coe_mul_sum _ log2_nonneg]
  refine (Fin.sum_univ_add (a := 64) (b := 64) (fun d : Fin 128 => K d * (if d.val < 64 then 0 else x d * scK))).trans ?_
  rw [Finset.sum_eq_zero (s := Finset.univ) (f := fun i : Fin 64 => K (Fin.castAdd 64 i) * (if (Fin.castAdd 64 i).val < 64 then 0 else x (Fin.castAdd 64 i) * scK)), zero_add]
  · refine Finset.sum_congr rfl fun d _ => ?_
    rw [← hK, ← hx, ← scaled_term]
    exact congrArg _ (if_neg (by show ¬ (64 + d.val < 64); omega))
  · intro d _
    rw [if_pos (show (Fin.castAdd 64 d).val < 64 from d.isLt), mul_zero]

variable (m : (ℓ : Loc nD τ sig) → Buf (Elt Ideal) ℓ) (c : Dev nD) (b : Fin 2) (h : Fin 4)

/-- The scores of the first map. -/
theorem scores0 (q : Fin 8192) (j : Fin 8448) :
    scF (fun j d => (iblk m c 1 (pt b h) : Vec Ideal S1x8448x128 .bf16) (ix3 0 j d)) (qM (iblk m c 0 (pt b h)) ⟨q.val, by omega⟩) j.val
      = (((Real.log 2)⁻¹ : ℝ) : EReal) * Cert.ReferenceIdeal.Att.sR (m ((c : Thread nD τ).loc main_arg0)) (m ((c : Thread nD τ).loc main_arg1))
          (m ((c : Thread nD τ).loc main_arg2)) b h 0 q j := by
  rw [scF_of _ _ _ j rfl]
  unfold qM
  simp only [dif_pos q.isLt]
  refine score_lo (fun d => (iblk m c 1 (pt b h) : Vec Ideal S1x8448x128 .bf16) (ix3 0 j d)) (fun d => (iblk m c 0 (pt b h) : Vec Ideal S1x8192x128 .f32) (ix3 0 q d))
    (fun d => Cert.ReferenceIdeal.Att.catR (m ((c : Thread nD τ).loc main_arg1)) (m ((c : Thread nD τ).loc main_arg2)) b j ⟨h.val * 128 + (0 : Fin 2).val * 64 + d.val, by simp; omega⟩)
    (fun d => (m ((c : Thread nD τ).loc main_arg0) : Vec Ideal S2x8192x512 .f32) (ix3 b q ⟨h.val * 128 + (0 : Fin 2).val * 64 + d.val, by simp; omega⟩)) (fun d => ?_) (fun d => ?_)
  · refine (blk1 m c b h j _).trans ((kAll_apply _ _ _ _ _).trans ?_)
    exact congrArg (catK _ _ b j) (Fin.ext (by show h.val * 128 + d.val = h.val * 128 + 0 * 64 + d.val; omega))
  · refine (blk0 m c b h q _).trans ?_
    exact congrArg (fun n => (m ((c : Thread nD τ).loc main_arg0) : Vec Ideal S2x8192x512 .f32) (ix3 b q n)) (Fin.ext (by show h.val * 128 + d.val = h.val * 128 + 0 * 64 + d.val; omega))

/-- The scores of the second map. -/
theorem scores1 (q : Fin 8192) (j : Fin 8448) :
    scF (fun j d => (iblk m c 1 (pt b h) : Vec Ideal S1x8448x128 .bf16) (ix3 0 j d)) (qM (iblk m c 0 (pt b h)) ⟨8192 + q.val, by omega⟩) j.val
      = (((Real.log 2)⁻¹ : ℝ) : EReal) * Cert.ReferenceIdeal.Att.sR (m ((c : Thread nD τ).loc main_arg0)) (m ((c : Thread nD τ).loc main_arg1))
          (m ((c : Thread nD τ).loc main_arg2)) b h 1 q j := by
  rw [scF_of _ _ _ j rfl]
  unfold qM
  simp only [dif_neg (show ¬ (8192 + q.val < 8192) by omega)]
  have hq : (⟨8192 + q.val - 8192, by omega⟩ : Fin 8192) = q := Fin.ext (by show 8192 + q.val - 8192 = q.val; omega)
  rw [hq]
  refine score_hi (fun d => (iblk m c 1 (pt b h) : Vec Ideal S1x8448x128 .bf16) (ix3 0 j d)) (fun d => (iblk m c 0 (pt b h) : Vec Ideal S1x8192x128 .f32) (ix3 0 q d))
    (fun d => Cert.ReferenceIdeal.Att.catR (m ((c : Thread nD τ).loc main_arg1)) (m ((c : Thread nD τ).loc main_arg2)) b j ⟨h.val * 128 + (1 : Fin 2).val * 64 + d.val, by simp; omega⟩)
    (fun d => (m ((c : Thread nD τ).loc main_arg0) : Vec Ideal S2x8192x512 .f32) (ix3 b q ⟨h.val * 128 + (1 : Fin 2).val * 64 + d.val, by simp; omega⟩)) (fun d => ?_) (fun d => ?_)
  · refine (blk1 m c b h j _).trans ((kAll_apply _ _ _ _ _).trans ?_)
    exact congrArg (catK _ _ b j) (Fin.ext (by show h.val * 128 + (64 + d.val) = h.val * 128 + 1 * 64 + d.val; omega))
  · refine (blk0 m c b h q _).trans ?_
    exact congrArg (fun n => (m ((c : Thread nD τ).loc main_arg0) : Vec Ideal S2x8192x512 .f32) (ix3 b q n)) (Fin.ext (by show h.val * 128 + (64 + d.val) = h.val * 128 + 1 * 64 + d.val; omega))

/-- A row of the values, key by key. -/
theorem values (r : Fin 136) (hr : r.val < 128) (j : Fin 8448) :
    vF (fun y i => (iblk m c 2 (pt b h) : Vec Ideal S1x1x33x136x256 .bf16) (ix5 0 0 y r i)) j.val
      = catK (m ((c : Thread nD τ).loc main_arg3)) (m ((c : Thread nD τ).loc main_arg4)) b j ⟨h.val * 128 + r.val, by omega⟩ := by
  unfold vF catK
  rw [dif_pos j.isLt]
  refine (blk2 m c b h _ _ _).trans ?_
  rw [vtCat_apply]
  by_cases hj : j.val < 256
  · have hy : j.val / 256 < 1 := by omega
    rw [dif_pos hj, dif_pos hy]
    rw [Subsingleton.elim (⟨j.val / 256, hy⟩ : Fin 1) 0, vtC_apply, dif_pos hr]
    have e : (⟨j.val % 256, by omega⟩ : Fin 256) = ⟨j.val, hj⟩ := Fin.ext (by show j.val % 256 = j.val; omega)
    rw [e]
  · have hy : ¬ j.val / 256 < 1 := by omega
    rw [dif_neg hj, dif_neg hy, vtS_apply, dif_pos hr]
    have e : (⟨(j.val / 256 - 1) * 256 + j.val % 256, by omega⟩ : Fin 8192) = ⟨j.val - 256, by omega⟩ :=
      Fin.ext (by show (j.val / 256 - 1) * 256 + j.val % 256 = j.val - 256; omega)
    rw [e]

/-- The row of ones. -/
theorem ones (j : Fin 8448) :
    vF (fun y i => (iblk m c 2 (pt b h) : Vec Ideal S1x1x33x136x256 .bf16) (ix5 0 0 y 128 i)) j.val = ((1 : ℝ) : EReal) := by
  unfold vF
  rw [dif_pos j.isLt]
  refine (blk2 m c b h _ _ _).trans ?_
  rw [vtCat_apply]
  by_cases hy : j.val / 256 < 1
  · rw [dif_pos hy, Subsingleton.elim (⟨j.val / 256, hy⟩ : Fin 1) 0, vtC_apply, dif_neg (by decide), if_pos (show (128 : Fin 136).val = 128 from rfl)]
    rfl
  · rw [dif_neg hy, vtS_apply, dif_neg (by decide), if_pos (show (128 : Fin 136).val = 128 from rfl)]
    rfl

/-- The weight of the second map, from real vectors. -/
theorem lam_real (x5 x6 x7 x8 : Vec Ideal S64 .f32) (h5 : ∀ i, ∃ r : ℝ, x5 i = (r : EReal)) (h6 : ∀ i, ∃ r : ℝ, x6 i = (r : EReal))
    (h7 : ∀ i, ∃ r : ℝ, x7 i = (r : EReal)) (h8 : ∀ i, ∃ r : ℝ, x8 i = (r : EReal)) :
    ∃ lam : ℝ, Cert.ReferenceIdeal.Att.lamR x5 x6 x7 x8 = (lam : EReal) := by
  choose f5 e5 using h5
  choose f6 e6 using h6
  choose f7 e7 using h7
  choose f8 e8 using h8
  obtain ⟨k, hk⟩ := ofBits_lam
  unfold Cert.ReferenceIdeal.Att.lamR
  simp only [e5, e6, e7, e8, ← EReal.coe_mul, sum_coe, hk]
  refine ⟨Real.exp (∑ d : Fin 64, f5 (ix1 d) * f6 (ix1 d)) - Real.exp (∑ d : Fin 64, f7 (ix1 d) * f8 (ix1 d)) + k, ?_⟩
  rw [EReal.coe_add, EReal.coe_sub]
  rfl

theorem lam_eq : lamK (iblk m c 3 (pt b h)) = Cert.ReferenceIdeal.Att.lamR (m ((c : Thread nD τ).loc main_arg5)) (m ((c : Thread nD τ).loc main_arg6))
    (m ((c : Thread nD τ).loc main_arg7)) (m ((c : Thread nD τ).loc main_arg8)) := by
  unfold lamK Cert.ReferenceIdeal.Att.lamR
  simp only [blk3, (lamAll_apply _ _ _ _ _).1, (lamAll_apply _ _ _ _ _).2.1, (lamAll_apply _ _ _ _ _).2.2.1, (lamAll_apply _ _ _ _ _).2.2.2]

end Cert.KernelIdeal.Att
end
-- ==== Proof.Equation.lean ====
module

public import proofs.«01_k».proof.Proof.Operands

@[expose] public section

noncomputable section

/-!
# The two results are the same

Where the values and the vectors of the second map's weight are real, a row of the kernel's result is a row of the
reference's.
-/

namespace Cert.KernelIdeal.Att

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD) (b : Fin 2) (h : Fin 4)

/-- The reference's difference of attentions at this kernel's arguments. -/
def oA (q : Fin 8192) (e : Fin 128) : EReal :=
  Cert.ReferenceIdeal.Att.oR (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) b h q e

theorem rows_eq (h3 : ∀ i, ∃ r : ℝ, (m ((c : Thread nD τ).loc main_arg3) : Vec Ideal S2x256x512 .f32) i = (r : EReal))
    (h4 : ∀ i, ∃ r : ℝ, (m ((c : Thread nD τ).loc main_arg4) : Vec Ideal S2x8192x512 .f32) i = (r : EReal))
    (h5 : ∀ i, ∃ r : ℝ, (m ((c : Thread nD τ).loc main_arg5) : Vec Ideal S64 .f32) i = (r : EReal))
    (h6 : ∀ i, ∃ r : ℝ, (m ((c : Thread nD τ).loc main_arg6) : Vec Ideal S64 .f32) i = (r : EReal))
    (h7 : ∀ i, ∃ r : ℝ, (m ((c : Thread nD τ).loc main_arg7) : Vec Ideal S64 .f32) i = (r : EReal))
    (h8 : ∀ i, ∃ r : ℝ, (m ((c : Thread nD τ).loc main_arg8) : Vec Ideal S64 .f32) i = (r : EReal))
    (q : Fin 8192) (g : Fin 128 → EReal) (e : Fin 128) :
    rmsK (oK (iblk m c 0 (pt b h)) (iblk m c 1 (pt b h)) (iblk m c 2 (pt b h)) (iblk m c 3 (pt b h)) q) g e = rms (oA m c b h q) g e := by
  obtain ⟨r0, p0, e0, f0⟩ := flash _ _ (scores0 m c b h q)
  obtain ⟨r1, p1, e1, f1⟩ := flash _ _ (scores1 m c b h q)
  obtain ⟨lam, hlam⟩ := lam_real _ _ _ _ h5 h6 h7 h8
  have hcat : ∀ (e : Fin 128) (j : Fin 8448), ∃ r : ℝ,
      catK (m ((c : Thread nD τ).loc main_arg3)) (m ((c : Thread nD τ).loc main_arg4)) b j ⟨h.val * 128 + e.val, by omega⟩ = (r : EReal) := fun e j => by
    unfold catK
    split
    · exact h3 _
    · exact h4 _
  choose w hw using hcat
  have hK : oK (iblk m c 0 (pt b h)) (iblk m c 1 (pt b h)) (iblk m c 2 (pt b h)) (iblk m c 3 (pt b h)) q = oKer r0 r1 lam w := by
    funext e
    unfold oK oKer aF
    rw [f0 _ (w e) (fun j => (values m c b h _ e.isLt j).trans (hw e j)), f1 _ (w e) (fun j => (values m c b h _ e.isLt j).trans (hw e j)),
      f0 _ (fun _ => 1) (ones m c b h), f1 _ (fun _ => 1) (ones m c b h), lam_eq, hlam]
    simp only [one_mul]
  have hR : oA m c b h q = oRef r0 r1 lam w := by
    funext e
    unfold oA Cert.ReferenceIdeal.Att.oR oRef aRef
    refine Finset.sum_congr rfl fun j _ => ?_
    unfold Cert.ReferenceIdeal.Att.pR Cert.ReferenceIdeal.Att.mR
    simp only [e0, e1, sum_coe, hlam]
    exact congrArg (· * _) (hw e j)
  rw [hK, hR]
  exact rms_eq r0 r1 p0 p1 lam w g e

end Cert.KernelIdeal.Att
end
-- ==== Proof.RefResult.lean ====
module

public import proofs.«01_k».proof.Proof.RefValue
public import Idealize.ShloMosaic.Lib.Pointwise

@[expose] public section

set_option maxRecDepth 16384

noncomputable section

/-!
# The reference's result at an index

The differences of the two attentions, normalised row by row, and laid out head by head.
-/

namespace Cert.ReferenceIdeal.Att

open Cert.ReferenceIdeal Cert.ReferenceIdeal.Gen Cert.ReferenceIdeal.Read
open Idealize.ShloMosaic Idealize.ShloMosaic.TcCoe Idealize.ShloMosaic.Tactic

variable (x0 : (⟨S2x8192x512, .f32⟩ : BufTy).Contents (Elt Ideal)) (x1 : (⟨S2x256x512, .f32⟩ : BufTy).Contents (Elt Ideal))
  (x2 : (⟨S2x8192x512, .f32⟩ : BufTy).Contents (Elt Ideal)) (x3 : (⟨S2x256x512, .f32⟩ : BufTy).Contents (Elt Ideal))
  (x4 : (⟨S2x8192x512, .f32⟩ : BufTy).Contents (Elt Ideal)) (x5 x6 x7 x8 : (⟨S64, .f32⟩ : BufTy).Contents (Elt Ideal))
  (x9 : (⟨S128, .f32⟩ : BufTy).Contents (Elt Ideal))

/-- A row's mean square, with the small constant added. -/
def varR (b : Fin 2) (q : Fin 8192) (h : Fin 4) : EReal :=
  Ideal.div (∑ d : Fin 128, oR x0 x1 x2 x3 x4 x5 x6 x7 x8 b h q d * oR x0 x1 x2 x3 x4 x5 x6 x7 x8 b h q d) (Ideal.ofBits .f32 0x43000000#32) + Ideal.ofBits .f32 0x358637BD#32

theorem v36_apply (b : Fin 2) (q : Fin 8192) (h : Fin 4) (e : Fin 128) :
    val_main_v36 (F := Ideal) x0 x1 x2 x3 x4 x5 x6 x7 x8 (ix4 b q h e) = oR x0 x1 x2 x3 x4 x5 x6 x7 x8 b h q e * oR x0 x1 x2 x3 x4 x5 x6 x7 x8 b h q e := by
  rw [val_main_v36_apply, v35_apply]
  generalize oR x0 x1 x2 x3 x4 x5 x6 x7 x8 b h q e = o
  rfl

theorem v37_apply (b : Fin 2) (q : Fin 8192) (h : Fin 4) :
    val_main_v37 (F := Ideal) x0 x1 x2 x3 x4 x5 x6 x7 x8 (ix3 b q h) = ∑ d : Fin 128, oR x0 x1 x2 x3 x4 x5 x6 x7 x8 b h q d * oR x0 x1 x2 x3 x4 x5 x6 x7 x8 b h q d := by
  simp only [← v36_apply]
  unfold val_main_v37
  generalize val_main_v36 (F := Ideal) x0 x1 x2 x3 x4 x5 x6 x7 x8 = y
  pointwise [val_main_cst_6]

theorem v38_apply (b : Fin 2) (q : Fin 8192) (h : Fin 4) :
    val_main_v38 (F := Ideal) x0 x1 x2 x3 x4 x5 x6 x7 x8 (ix4 b q h 0) = ∑ d : Fin 128, oR x0 x1 x2 x3 x4 x5 x6 x7 x8 b h q d * oR x0 x1 x2 x3 x4 x5 x6 x7 x8 b h q d := by
  rw [← v37_apply]
  unfold val_main_v38
  generalize val_main_v37 (F := Ideal) x0 x1 x2 x3 x4 x5 x6 x7 x8 = y
  pointwise []

theorem v39_apply (b : Fin 2) (q : Fin 8192) (h : Fin 4) :
    val_main_v39 (F := Ideal) (ix4 b q h 0) = Ideal.ofBits .f32 0x43000000#32 := by
  pointwise [val_main_v39, val_main_cst_7]

theorem v41_apply (b : Fin 2) (q : Fin 8192) (h : Fin 4) :
    val_main_v41 (F := Ideal) (ix4 b q h 0) = Ideal.ofBits .f32 0x358637BD#32 := by
  pointwise [val_main_v41, val_main_cst_8]

theorem v42_apply (b : Fin 2) (q : Fin 8192) (h : Fin 4) :
    val_main_v42 (F := Ideal) x0 x1 x2 x3 x4 x5 x6 x7 x8 (ix4 b q h 0) = varR x0 x1 x2 x3 x4 x5 x6 x7 x8 b q h := by
  rw [val_main_v42_apply, val_main_v40_apply, v38_apply, v39_apply, v41_apply]
  unfold varR
  generalize oR x0 x1 x2 x3 x4 x5 x6 x7 x8 b h q = o
  rfl

theorem v44_apply (b : Fin 2) (q : Fin 8192) (h : Fin 4) (e : Fin 128) :
    val_main_v44 (F := Ideal) x0 x1 x2 x3 x4 x5 x6 x7 x8 (ix4 b q h e) = Ideal.rsqrt (varR x0 x1 x2 x3 x4 x5 x6 x7 x8 b q h) := by
  rw [← v42_apply]
  unfold val_main_v44 val_main_v43
  generalize val_main_v42 (F := Ideal) x0 x1 x2 x3 x4 x5 x6 x7 x8 = y
  pointwise []

theorem v47_apply (b : Fin 2) (q : Fin 8192) (h : Fin 4) (e : Fin 128) :
    val_main_v47 (F := Ideal) x9 (ix4 b q h e) = x9 (ix1 e) := by
  unfold val_main_v47 val_main_v46
  pointwise []

theorem v49_apply (b : Fin 2) (q : Fin 8192) (h : Fin 4) (e : Fin 128) :
    val_main_v49 (F := Ideal) (ix4 b q h e) = Ideal.ofBits .f32 0x3F4CCCCD#32 := by
  pointwise [val_main_v49, val_main_cst_9]

/-- The normalised rows, by head. -/
theorem v50_apply (b : Fin 2) (q : Fin 8192) (h : Fin 4) (e : Fin 128) :
    val_main_v50 (F := Ideal) x0 x1 x2 x3 x4 x5 x6 x7 x8 x9 (ix4 b q h e)
      = oR x0 x1 x2 x3 x4 x5 x6 x7 x8 b h q e
        * Ideal.rsqrt (Ideal.div (∑ d : Fin 128, oR x0 x1 x2 x3 x4 x5 x6 x7 x8 b h q d * oR x0 x1 x2 x3 x4 x5 x6 x7 x8 b h q d) (Ideal.ofBits .f32 0x43000000#32) + Ideal.ofBits .f32 0x358637BD#32)
        * x9 (ix1 e) * Ideal.ofBits .f32 0x3F4CCCCD#32 := by
  rw [val_main_v50_apply, val_main_v48_apply, val_main_v45_apply, v35_apply, v44_apply, v47_apply, v49_apply]
  unfold varR
  generalize oR x0 x1 x2 x3 x4 x5 x6 x7 x8 b h q = o
  rfl

/-- The heads side by side. -/
theorem heads_apply (y : (⟨S2x8192x4x128, .f32⟩ : BufTy).Contents (Elt Ideal)) (b : Fin 2) (q : Fin 8192) (h : Fin 4) (e : Fin 128) (n : Fin 512)
    (hn : n.val = h.val * 128 + e.val) :
    shapeCast S2x8192x512 y shapeCasts_S2x8192x4x128_S2x8192x512 (ix3 b q n) = y (ix4 b q h e) := by
  refine shapeCast_apply y shapeCasts_S2x8192x4x128_S2x8192x512 _ (ix4 b q h e) ?_
  rewrite [Shape.rowMajor_val_three, Shape.rowMajor_val_four]
  show ((b.val * 8192 + q.val) * 4 + h.val) * 128 + e.val = (b.val * 8192 + q.val) * 512 + n.val
  omega

/-- The reference's result, query `q`, head `h`, lane `e`. -/
theorem v52_apply (b : Fin 2) (q : Fin 8192) (h : Fin 4) (e : Fin 128) (n : Fin 512) (hn : n.val = h.val * 128 + e.val) :
    val_main_v52 (F := Ideal) x0 x1 x2 x3 x4 x5 x6 x7 x8 x9 (ix3 b q n)
      = oR x0 x1 x2 x3 x4 x5 x6 x7 x8 b h q e
        * Ideal.rsqrt (Ideal.div (∑ d : Fin 128, oR x0 x1 x2 x3 x4 x5 x6 x7 x8 b h q d * oR x0 x1 x2 x3 x4 x5 x6 x7 x8 b h q d) (Ideal.ofBits .f32 0x43000000#32) + Ideal.ofBits .f32 0x358637BD#32)
        * x9 (ix1 e) * Ideal.ofBits .f32 0x3F4CCCCD#32 := by
  rw [← v50_apply]
  unfold val_main_v52 val_main_v51
  generalize val_main_v50 (F := Ideal) x0 x1 x2 x3 x4 x5 x6 x7 x8 x9 = y
  exact (show truncf (F := Ideal) .bf16 (shapeCast S2x8192x512 y shapeCasts_S2x8192x4x128_S2x8192x512) bitsLt_bf16_f32 (ix3 b q n)
    = shapeCast S2x8192x512 y shapeCasts_S2x8192x4x128_S2x8192x512 (ix3 b q n) from rfl).trans (heads_apply y b q h e n hn)

end Cert.ReferenceIdeal.Att
-- ==== Proof.Pre.lean ====
module

public import proofs.«01_k».proof.Defs
public import proofs.«01_k».proof.Proof.Gen.Pre_finite_values
public import Idealize.ShloMosaic.Lib.Pointwise

@[expose] public section

noncomputable section

/-!
# The precondition, entry by entry

The values and the vectors of the second map's weight are finite: each of their entries is a real number.
-/

namespace Cert.Pre_finite_values

open Idealize.ShloMosaic Idealize.ShloMosaic.TcCoe Idealize.ShloMosaic.Tactic
open Facts

theorem foldl_and {α : Type} (f : α → BitVec 1) (l : List α) (a : BitVec 1) (h : l.foldl (fun r n => IntOp.andi r (f n)) a = 1#1) :
    a = 1#1 ∧ ∀ n ∈ l, f n = 1#1 := by
  induction l generalizing a with
  | nil => exact ⟨h, fun n hn => absurd hn List.not_mem_nil⟩
  | cons x l ih =>
    obtain ⟨h1, h2⟩ := ih _ h
    have hab : ∀ a b : BitVec 1, IntOp.andi a b = 1#1 → a = 1#1 ∧ b = 1#1 := by decide
    obtain ⟨ha, hx⟩ := hab _ _ h1
    refine ⟨ha, fun n hn => ?_⟩
    rcases List.mem_cons.mp hn with rfl | hn
    · exact hx
    · exact h2 n hn

theorem and_true (a b : BitVec 1) : IntOp.andi a b = 1#1 → a = 1#1 ∧ b = 1#1 := by
  revert a b; decide

/-- A conjunction over all entries that holds, holds at each. -/
theorem all_of_reduce {s : Shape} {axes : List (Fin s.rank)} (x : s.Idx → BitVec 1) (c : S_.Idx → BitVec 1) (h : s.ReducesTo axes S_) (hu : 0 < S_.numel) (j : S_.Idx)
    (hx : Host.reduce IntOp.andi x c h hu j = 1#1) (i : s.Idx) : x i = 1#1 := by
  have := (foldl_and (fun n => x (s.rowMajor.symm n)) _ _ hx).2 (s.rowMajor i)
    (List.mem_filter.mpr ⟨List.mem_finRange _, by
      refine decide_eq_true ?_
      funext a
      exact a.elim0⟩)
  simpa using this

/-- An extended real of finite size is a real. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot =>
    exfalso
    simp [Ideal.cmp] at h
  | coe r => exact ⟨r, rfl⟩
  | top =>
    exfalso
    simp [Ideal.cmp] at h

variable [Facts]

/-- What the precondition says. -/
theorem real_of_fn (x0 : FVec Ideal S2x8192x512 .f32) (x1 : FVec Ideal S2x256x512 .f32) (x2 : FVec Ideal S2x8192x512 .f32) (x3 : FVec Ideal S2x256x512 .f32)
    (x4 : FVec Ideal S2x8192x512 .f32) (x5 x6 x7 x8 : FVec Ideal S64 .f32) (x9 : FVec Ideal S128 .f32)
    (h : fn (F := Ideal) x0 x1 x2 x3 x4 x5 x6 x7 x8 x9 = fun _ => 1#1) :
    (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) := by
  have h := congrFun h (Shape.Idx.first h_S_)
  unfold fn fn_part1 at h
  obtain ⟨h, h8⟩ := and_true _ _ h
  obtain ⟨h, h7⟩ := and_true _ _ h
  obtain ⟨h, h6⟩ := and_true _ _ h
  obtain ⟨h, h5⟩ := and_true _ _ h
  obtain ⟨h3, h4⟩ := and_true _ _ h
  exact ⟨fun i => real_of_lt _ (all_of_reduce _ _ _ _ _ h3 i), fun i => real_of_lt _ (all_of_reduce _ _ _ _ _ h4 i),
    fun i => real_of_lt _ (all_of_reduce _ _ _ _ _ h5 i), fun i => real_of_lt _ (all_of_reduce _ _ _ _ _ h6 i),
    fun i => real_of_lt _ (all_of_reduce _ _ _ _ _ h7 i), fun i => real_of_lt _ (all_of_reduce _ _ _ _ _ h8 i)⟩

end Cert.Pre_finite_values
end
-- ==== Proof.Value.lean ====
module

public import proofs.«01_k».proof.Defs
public import proofs.«01_k».proof.Proof.Equation
public import proofs.«01_k».proof.Proof.RefResult
public import proofs.«01_k».proof.Proof.Pre

@[expose] public section

noncomputable section

/-!
# The kernel's result is the reference's

Every entry of the result lies in some head's lanes, where the kernel's row and the reference's are the same.
-/

namespace Cert.KernelIdeal.Att

open Cert.KernelIdeal Cert.KernelIdeal.Gen
open Idealize.ShloMosaic Idealize.ShloMosaic.TcCoe Idealize.ShloMosaic.Tactic

theorem entry_eq [Cert.Pre_finite_values.Facts] (m : (ℓ : Loc nD τ sig) → Buf (Elt Ideal) ℓ) (hpre : Cert.Pre_KernelIdeal_finite_values m) (c : Dev nD)
    (b : Fin 2) (q : Fin 8192) (n : Fin 512) :
    Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 b q n)
      = ((dats m 0 c).arrAt 5 cfg0.N : Vec Ideal S2x8192x512 .bf16) (ix3 b q n) := by
  obtain ⟨h3, h4, h5, h6, h7, h8⟩ := Cert.Pre_finite_values.real_of_fn _ _ _ _ _ _ _ _ _ _ (hpre c)
  have hnn : n.val = (⟨n.val / 128, by omega⟩ : Fin 4).val * 128 + (⟨n.val % 128, by omega⟩ : Fin 128).val := by
    show n.val = n.val / 128 * 128 + n.val % 128
    omega
  rw [result_apply m c b ⟨n.val / 128, by omega⟩ q ⟨n.val % 128, by omega⟩ n hnn, rows_eq m c b _ h3 h4 h5 h6 h7 h8 q _ _]
  refine (Cert.ReferenceIdeal.Att.v52_apply _ _ _ _ _ _ _ _ _ _ b q ⟨n.val / 128, by omega⟩ ⟨n.val % 128, by omega⟩ n hnn).trans ?_
  unfold rms oA
  simp only [blk4]

theorem result_eq [Cert.Pre_finite_values.Facts] (m : (ℓ : Loc nD τ sig) → Buf (Elt Ideal) ℓ) (hpre : Cert.Pre_KernelIdeal_finite_values m) (c : Dev nD) :
    Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = ((dats m 0 c).arrAt 5 cfg0.N : Vec Ideal S2x8192x512 .bf16) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact entry_eq m hpre c (i 0) (i 1) (i 2)

end Cert.KernelIdeal.Att
end
-- ==== Proof.InMath.lean ====
module

public import Idealize.ShloMosaic.Lib.Pointwise

@[expose] public section

noncomputable section

/-!
# The input projection's results, element by element

Both programs' results in the extended reals, as functions of the arguments. Rows and columns are natural numbers, and a
row or column outside the arrays is zero, which is what the convolution reads beyond the sequence's ends.
-/

namespace InProj

open Idealize.ShloMosaic

abbrev one : EReal := 1
abbrev zero : EReal := 0
abbrev eps : EReal := Ideal.ofBits .f32 0x358637BD#32

/-- A row `x`, normalised, scaled by `g` and modulated by `sc` and `sh`. -/
def hRow (x g sc sh : Fin 1024 → EReal) (d : Fin 1024) : EReal :=
  x d * Ideal.rsqrt (Ideal.div (∑ e : Fin 1024, x e * x e) (Ideal.ofBits .f32 0x44800000#32) + eps) * g d * (one + sc d) + sh d

/-! The arguments as functions of their indices. -/
def aX (f : (⟨3, ![2, 8192, 1024]⟩ : Shape).Idx → EReal) (b : Fin 2) (t : Fin 8192) (d : Fin 1024) : EReal := f (ix3 b t d)
def aG (f : (⟨1, ![1024]⟩ : Shape).Idx → EReal) (d : Fin 1024) : EReal := f (ix1 d)
def aM (f : (⟨2, ![2, 1024]⟩ : Shape).Idx → EReal) (b : Fin 2) (d : Fin 1024) : EReal := f (ix2 b d)
def aT (f : (⟨2, ![8192, 16]⟩ : Shape).Idx → EReal) (t : Fin 8192) (e : Fin 16) : EReal := f (ix2 t e)
def aW (f : (⟨2, ![1024, 3600]⟩ : Shape).Idx → EReal) (d : Fin 1024) (n : Fin 3600) : EReal := f (ix2 d n)
def aC (f : (⟨2, ![3, 1536]⟩ : Shape).Idx → EReal) (k : Fin 3) (n : Fin 1536) : EReal := f (ix2 k n)
def aE (f : (⟨2, ![2, 4]⟩ : Shape).Idx → EReal) (l : Fin 8) : EReal := f (ix2 ⟨l.val / 4, by omega⟩ ⟨l.val % 4, Nat.mod_lt _ (by decide)⟩)

section

variable (x : Fin 2 → Fin 8192 → Fin 1024 → EReal) (g : Fin 1024 → EReal) (sh sc : Fin 2 → Fin 1024 → EReal)
  (cr sr cc si : Fin 8192 → Fin 16 → EReal) (w : Fin 1024 → Fin 3600 → EReal) (cw : Fin 3 → Fin 1536 → EReal) (al dt : Fin 8 → EReal)

/-- Column `n` of the projection of row `t`. -/
def P (b : Fin 2) (t n : ℕ) : EReal :=
  if ht : t < 8192 then (if hn : n < 3600 then ∑ d : Fin 1024, hRow (x b ⟨t, ht⟩) g (sc b) (sh b) d * w d ⟨n, hn⟩ else 0) else 0

/-- The angle's cosine (or sine) of lane `l` of 64: the row's in the first half, the column's in the second. -/
def ang (u v : Fin 16 → EReal) (l : ℕ) : EReal :=
  if l % 64 < 32 then u ⟨l % 16, Nat.mod_lt _ (by decide)⟩ else v ⟨l % 16, Nat.mod_lt _ (by decide)⟩

/-- The rotation of the lanes `p` at lane `l`. -/
def rope (p : ℕ → EReal) (c s : ℕ → EReal) (l : ℕ) : EReal :=
  if l % 32 < 16 then p l * c l - p (l + 16) * s l else p l * c l + p (l - 16) * s l

/-- Lane `l` of the rotated columns from `o` on. -/
def R (o : ℕ) (b : Fin 2) (t : Fin 8192) (l : ℕ) : EReal :=
  rope (fun l => P x g sh sc w b t.val (o + l)) (ang (cr t) (cc t)) (ang (sr t) (si t)) l

/-- The logistic weight. -/
def silu (z : EReal) : EReal := z * Ideal.div one (one + Ideal.exp (-z))

/-- The convolution of three rows. -/
def conv (u v z : EReal) (a b c : EReal) : EReal := silu (u * a + v * b + z * c)

/-- Column `n` of the convolution at row `t`. -/
def S (b : Fin 2) (t : ℕ) (n : Fin 1536) : EReal :=
  conv (if t = 0 then 0 else P x g sh sc w b (t - 1) (1536 + n.val)) (P x g sh sc w b t (1536 + n.val)) (P x g sh sc w b (t + 1) (1536 + n.val))
    (cw 0 n) (cw 1 n) (cw 2 n)

/-- A row of 128 lanes over its length. -/
def l2 (s : Fin 128 → EReal) (e : Fin 128) : EReal := s e * Ideal.rsqrt (∑ d : Fin 128, s d * s d + eps)

/-- Softplus. -/
def softplus (z : EReal) : EReal := max z 0 + Ideal.log1p (Ideal.exp (-(max z (-z))))

/-- The decays and the weights of a row, in 128 lanes. -/
def GB (b : Fin 2) (t : ℕ) (l : ℕ) : EReal :=
  if h : l < 8 then -Ideal.exp (al ⟨l, h⟩) * softplus (P x g sh sc w b t (3584 + l) + dt ⟨l, h⟩)
  else if l < 16 then Ideal.div one (one + Ideal.exp (-(P x g sh sc w b t (3584 + l)))) else 0

end

end InProj
-- ==== Proof.InTile.lean ====
module

public import proofs.«01_k».proof.Proof.Gen.Kernel2Ideal.Skeleton
public import proofs.«01_k».proof.Proof.InMath
public import Idealize.ShloMosaic.Lib.Pointwise

@[expose] public section

set_option maxRecDepth 16384

noncomputable section

/-!
# One tile of the input projection

The body works on four tiles of 256 rows. Each tile is the same computation: its rows are normalised and projected, the
first and second 512 columns are rotated, the next 512 transposed, the convolution's columns take the neighbouring rows,
and the last 16 columns give the decays and the weights.
-/

namespace Cert.Kernel2Ideal.In

open Cert.Kernel2Ideal.Gen
open Idealize.ShloMosaic Idealize.ShloMosaic.TcCoe Idealize.ShloMosaic.Tactic
open InProj (hRow one zero eps silu conv l2 softplus rope)

section Tile

variable {F : FTy → Type} [FloatOps F]

/-- A tile's rows, normalised and modulated, and their projections. -/
def hT (x : Vec F S1x256x1024 .f32) (g : Vec F S1x1024 .f32) (sc sh : Vec F S1x1x1024 .f32) : FVec F S256x1024 .bf16 := k0_pay22 x g sc sh
def pT (h : FVec F S256x1024 .bf16) (w : Vec F S1024x512 .bf16) : FVec F S256x512 .f32 := k0_pay26 h w
def pC (h : FVec F S256x1024 .bf16) (w : Vec F S1024x1536 .bf16) : FVec F S256x1536 .f32 := k0_pay27 h w
def pA (h : FVec F S256x1024 .bf16) (w : Vec F S1024x128 .bf16) : FVec F S256x128 .f32 := k0_pay29 h w

/-- The projection of the rows next to the block. -/
def pH (xp xn : Vec F S1x8x1024 .f32) (g : Vec F S1x1024 .f32) (sc sh : Vec F S1x1x1024 .f32) (w : Vec F S1024x1536 .bf16) : FVec F S16x1536 .f32 :=
  k0_pay8 (k0_pay5 xp xn) (k0_pay6 xp xn) k0_pay7 g sc sh w

/-- 128 lanes rotated. -/
def rope1 (s co si : FVec F S256x128 .f32) : FVec F S256x128 .f32 :=
  addf (mulf s co) (mulf (select k0_pay2 (dynamicRotate 1 112#32 none s rotates_S256x128_d1) (dynamicRotate 1 16#32 none s rotates_S256x128_d1)) si)

/-- 512 columns rotated. -/
def ropeT (t : FVec F S256x512 .f32) (co si : Vec F S256x128 .f32) : FVec F S256x512 .f32 :=
  concatenate S256x512 1 [⟨S256x128, rope1 (extractStridedSlice S256x128 ![0, 0] t slices_S256x512_o0_0_S256x128) (k0_pay31 co) (k0_pay32 si)⟩,
    ⟨S256x128, rope1 (extractStridedSlice S256x128 ![0, 128] t slices_S256x512_o0_128_S256x128) (k0_pay31 co) (k0_pay32 si)⟩,
    ⟨S256x128, rope1 (extractStridedSlice S256x128 ![0, 256] t slices_S256x512_o0_256_S256x128) (k0_pay31 co) (k0_pay32 si)⟩,
    ⟨S256x128, rope1 (extractStridedSlice S256x128 ![0, 384] t slices_S256x512_o0_384_S256x128) (k0_pay31 co) (k0_pay32 si)⟩]
    concatenates_S256x128_S256x128_S256x128_S256x128_S256x512_d1

def qT (t : FVec F S256x512 .f32) (co si : Vec F S256x128 .f32) : FVec F S1x256x512 .bf16 :=
  shapeCast S1x256x512 (truncf .bf16 (mulf (ropeT t co si) (broadcast S256x512 (Scalar.ofBits .f32 0x3E38AA3B#32))) bitsLt_bf16_f32) shapeCasts_S256x512_S1x256x512
def kT (t : FVec F S256x512 .f32) (co si : Vec F S256x128 .f32) : FVec F S1x256x512 .bf16 :=
  shapeCast S1x256x512 (truncf .bf16 (ropeT t co si) bitsLt_bf16_f32) shapeCasts_S256x512_S1x256x512
def vT (t : FVec F S256x512 .f32) : FVec F S1x4x1x128x256 .bf16 := k0_pay41 t
def oT : FVec F S1x4x1x8x256 .bf16 := k0_pay42 k0_pay3
def gateT (t : FVec F S256x512 .f32) : FVec F S1x256x512 .f32 := k0_pay43 t

/-- The rows' numbers in the tile. -/
def rowT : IVec S256x1 32 := iota .tc S256x1 32 [0] iota_S256x1_d0_w32

/-- The convolution with the rows before and after the tile. -/
def sT (cw : FVec F S8x1536 .f32) (t : FVec F S256x1536 .f32) (pr nx : FVec F S1x1536 .f32) : FVec F S256x1536 .f32 :=
  k0_pay47 cw t (k0_pay44 rowT t nx) (k0_pay45 rowT cw pr t) (k0_pay46 cw)

/-- 128 lanes of each row over their length. -/
def l2T (s : FVec F S256x128 .f32) : FVec F S256x128 .f32 :=
  mulf s (broadcastTo S256x128 (rsqrt (addf (shapeCast S256x1 (multiReduction .add [1] S256 (mulf s s) 0x00000000#32 reduces_S256x128_S256 (.inl rfl) rfl) shapeCasts_S256_S256x1)
    (broadcast S256x1 (Scalar.ofBits .f32 0x358637BD#32)))) broadcasts_S256x1_S256x128)
def gqT (s : FVec F S256x128 .f32) : FVec F S1x256x128 .f32 :=
  shapeCast S1x256x128 (mulf (l2T s) (broadcast S256x128 (Scalar.ofBits .f32 0x3DB504F3#32))) shapeCasts_S256x128_S1x256x128
def gkT (s : FVec F S256x128 .f32) : FVec F S1x256x128 .f32 := shapeCast S1x256x128 (l2T s) shapeCasts_S256x128_S1x256x128
def gvT (s : FVec F S256x1536 .f32) : FVec F S1x256x512 .f32 := k0_pay60 s

/-- The lanes' numbers. -/
def laneT : IVec S256x128 32 := iota .tc S256x128 32 [1] iota_S256x128_d1_w32

def abT (t : FVec F S256x128 .f32) (dt al : Vec F S1x128 .f32) : FVec F S1x256x128 .f32 := k0_pay62 laneT t dt al
def abtT (t : FVec F S256x128 .f32) (dt al : Vec F S1x128 .f32) : FVec F S1x16x256 .f32 := k0_pay64 (k0_pay63 laneT t dt al)

end Tile

end Cert.Kernel2Ideal.In
-- ==== Proof.InPieces.lean ====
module

public import proofs.«01_k».proof.Proof.Gen.Kernel2Ideal.Value
public import proofs.«01_k».proof.Proof.InTile

@[expose] public section

set_option maxRecDepth 16384

noncomputable section

/-!
# What one grid point of the input projection writes

The body's stores, tile by tile, as functions of its input blocks.
-/

namespace Cert.Kernel2Ideal.In

open Cert.Kernel2Ideal.Gen
open Idealize.ShloMosaic Idealize.ShloMosaic.TcCoe Idealize.ShloMosaic.Tactic

section Body

variable {F : FTy → Type} [FloatOps F]

/-- The rows of tile 0. -/
def xI0 (arg2 : Memref sig .tc .vmem S1x1024x1024 .f32) (harg2 : arg2.IsWhole) (x0 : Vec F S1x1024x1024 .f32) : Vec F S1x256x1024 .f32 :=
  arg2.view.readAt (Elt F) (Rect.unit (s := S1x1024x1024) ![0, 0, 0] S1x256x1024.size inb_S1x1024x1024_S1x256x1024_0_0_0).toLoadRect (harg2.unread x0)

/-- The rows of tile 1. -/
def xI1 (arg2 : Memref sig .tc .vmem S1x1024x1024 .f32) (harg2 : arg2.IsWhole) (x0 : Vec F S1x1024x1024 .f32) : Vec F S1x256x1024 .f32 :=
  arg2.view.readAt (Elt F) (Rect.unit (s := S1x1024x1024) ![0, 256, 0] S1x256x1024.size inb_S1x1024x1024_S1x256x1024_0_256_0).toLoadRect (harg2.unread x0)

/-- The rows of tile 2. -/
def xI2 (arg2 : Memref sig .tc .vmem S1x1024x1024 .f32) (harg2 : arg2.IsWhole) (x0 : Vec F S1x1024x1024 .f32) : Vec F S1x256x1024 .f32 :=
  arg2.view.readAt (Elt F) (Rect.unit (s := S1x1024x1024) ![0, 512, 0] S1x256x1024.size inb_S1x1024x1024_S1x256x1024_0_512_0).toLoadRect (harg2.unread x0)

/-- The rows of tile 3. -/
def xI3 (arg2 : Memref sig .tc .vmem S1x1024x1024 .f32) (harg2 : arg2.IsWhole) (x0 : Vec F S1x1024x1024 .f32) : Vec F S1x256x1024 .f32 :=
  arg2.view.readAt (Elt F) (Rect.unit (s := S1x1024x1024) ![0, 768, 0] S1x256x1024.size inb_S1x1024x1024_S1x256x1024_0_768_0).toLoadRect (harg2.unread x0)

def xpI (arg3 : Memref sig .tc .vmem S1x8x1024 .f32) (harg3 : arg3.IsWhole) (x1 : Vec F S1x8x1024 .f32) : Vec F S1x8x1024 .f32 :=
  arg3.view.readAt (Elt F) (Rect.unit (s := S1x8x1024) ![0, 0, 0] S1x8x1024.size inb_S1x8x1024_S1x8x1024_0_0_0).toLoadRect (harg3.unread x1)

def xnI (arg4 : Memref sig .tc .vmem S1x8x1024 .f32) (harg4 : arg4.IsWhole) (x2 : Vec F S1x8x1024 .f32) : Vec F S1x8x1024 .f32 :=
  arg4.view.readAt (Elt F) (Rect.unit (s := S1x8x1024) ![0, 0, 0] S1x8x1024.size inb_S1x8x1024_S1x8x1024_0_0_0).toLoadRect (harg4.unread x2)

def gI (arg5 : Memref sig .tc .vmem S1x1024 .f32) (harg5 : arg5.IsWhole) (x3 : Vec F S1x1024 .f32) : Vec F S1x1024 .f32 :=
  arg5.view.readAt (Elt F) (Rect.unit (s := S1x1024) ![0, 0] S1x1024.size inb_S1x1024_S1x1024_0_0).toLoadRect (harg5.unread x3)

def shI (arg6 : Memref sig .tc .vmem S1x1x1024 .f32) (harg6 : arg6.IsWhole) (x4 : Vec F S1x1x1024 .f32) : Vec F S1x1x1024 .f32 :=
  arg6.view.readAt (Elt F) (Rect.unit (s := S1x1x1024) ![0, 0, 0] S1x1x1024.size inb_S1x1x1024_S1x1x1024_0_0_0).toLoadRect (harg6.unread x4)

def scI (arg7 : Memref sig .tc .vmem S1x1x1024 .f32) (harg7 : arg7.IsWhole) (x5 : Vec F S1x1x1024 .f32) : Vec F S1x1x1024 .f32 :=
  arg7.view.readAt (Elt F) (Rect.unit (s := S1x1x1024) ![0, 0, 0] S1x1x1024.size inb_S1x1x1024_S1x1x1024_0_0_0).toLoadRect (harg7.unread x5)

def coI0 (arg8 : Memref sig .tc .vmem S1024x128 .f32) (harg8 : arg8.IsWhole) (x6 : Vec F S1024x128 .f32) : Vec F S256x128 .f32 :=
  arg8.view.readAt (Elt F) (Rect.unit (s := S1024x128) ![0, 0] S256x128.size inb_S1024x128_S256x128_0_0).toLoadRect (harg8.unread x6)

def siI0 (arg9 : Memref sig .tc .vmem S1024x128 .f32) (harg9 : arg9.IsWhole) (x7 : Vec F S1024x128 .f32) : Vec F S256x128 .f32 :=
  arg9.view.readAt (Elt F) (Rect.unit (s := S1024x128) ![0, 0] S256x128.size inb_S1024x128_S256x128_0_0).toLoadRect (harg9.unread x7)

def coI1 (arg8 : Memref sig .tc .vmem S1024x128 .f32) (harg8 : arg8.IsWhole) (x6 : Vec F S1024x128 .f32) : Vec F S256x128 .f32 :=
  arg8.view.readAt (Elt F) (Rect.unit (s := S1024x128) ![256, 0] S256x128.size inb_S1024x128_S256x128_256_0).toLoadRect (harg8.unread x6)

def siI1 (arg9 : Memref sig .tc .vmem S1024x128 .f32) (harg9 : arg9.IsWhole) (x7 : Vec F S1024x128 .f32) : Vec F S256x128 .f32 :=
  arg9.view.readAt (Elt F) (Rect.unit (s := S1024x128) ![256, 0] S256x128.size inb_S1024x128_S256x128_256_0).toLoadRect (harg9.unread x7)

def coI2 (arg8 : Memref sig .tc .vmem S1024x128 .f32) (harg8 : arg8.IsWhole) (x6 : Vec F S1024x128 .f32) : Vec F S256x128 .f32 :=
  arg8.view.readAt (Elt F) (Rect.unit (s := S1024x128) ![512, 0] S256x128.size inb_S1024x128_S256x128_512_0).toLoadRect (harg8.unread x6)

def siI2 (arg9 : Memref sig .tc .vmem S1024x128 .f32) (harg9 : arg9.IsWhole) (x7 : Vec F S1024x128 .f32) : Vec F S256x128 .f32 :=
  arg9.view.readAt (Elt F) (Rect.unit (s := S1024x128) ![512, 0] S256x128.size inb_S1024x128_S256x128_512_0).toLoadRect (harg9.unread x7)

def coI3 (arg8 : Memref sig .tc .vmem S1024x128 .f32) (harg8 : arg8.IsWhole) (x6 : Vec F S1024x128 .f32) : Vec F S256x128 .f32 :=
  arg8.view.readAt (Elt F) (Rect.unit (s := S1024x128) ![768, 0] S256x128.size inb_S1024x128_S256x128_768_0).toLoadRect (harg8.unread x6)

def siI3 (arg9 : Memref sig .tc .vmem S1024x128 .f32) (harg9 : arg9.IsWhole) (x7 : Vec F S1024x128 .f32) : Vec F S256x128 .f32 :=
  arg9.view.readAt (Elt F) (Rect.unit (s := S1024x128) ![768, 0] S256x128.size inb_S1024x128_S256x128_768_0).toLoadRect (harg9.unread x7)

def wQ (arg10 : Memref sig .tc .vmem S1024x3712 .bf16) (harg10 : arg10.IsWhole) (x8 : Vec F S1024x3712 .bf16) : Vec F S1024x512 .bf16 :=
  arg10.view.readAt (Elt F) (Rect.unit (s := S1024x3712) ![0, 0] S1024x512.size inb_S1024x3712_S1024x512_0_0).toLoadRect (harg10.unread x8)

def wK (arg10 : Memref sig .tc .vmem S1024x3712 .bf16) (harg10 : arg10.IsWhole) (x8 : Vec F S1024x3712 .bf16) : Vec F S1024x512 .bf16 :=
  arg10.view.readAt (Elt F) (Rect.unit (s := S1024x3712) ![0, 512] S1024x512.size inb_S1024x3712_S1024x512_0_512).toLoadRect (harg10.unread x8)

def wV (arg10 : Memref sig .tc .vmem S1024x3712 .bf16) (harg10 : arg10.IsWhole) (x8 : Vec F S1024x3712 .bf16) : Vec F S1024x512 .bf16 :=
  arg10.view.readAt (Elt F) (Rect.unit (s := S1024x3712) ![0, 1024] S1024x512.size inb_S1024x3712_S1024x512_0_1024).toLoadRect (harg10.unread x8)

def wC (arg10 : Memref sig .tc .vmem S1024x3712 .bf16) (harg10 : arg10.IsWhole) (x8 : Vec F S1024x3712 .bf16) : Vec F S1024x1536 .bf16 :=
  arg10.view.readAt (Elt F) (Rect.unit (s := S1024x3712) ![0, 1536] S1024x1536.size inb_S1024x3712_S1024x1536_0_1536).toLoadRect (harg10.unread x8)

def wG (arg10 : Memref sig .tc .vmem S1024x3712 .bf16) (harg10 : arg10.IsWhole) (x8 : Vec F S1024x3712 .bf16) : Vec F S1024x512 .bf16 :=
  arg10.view.readAt (Elt F) (Rect.unit (s := S1024x3712) ![0, 3072] S1024x512.size inb_S1024x3712_S1024x512_0_3072).toLoadRect (harg10.unread x8)

def wA (arg10 : Memref sig .tc .vmem S1024x3712 .bf16) (harg10 : arg10.IsWhole) (x8 : Vec F S1024x3712 .bf16) : Vec F S1024x128 .bf16 :=
  arg10.view.readAt (Elt F) (Rect.unit (s := S1024x3712) ![0, 3584] S1024x128.size inb_S1024x3712_S1024x128_0_3584).toLoadRect (harg10.unread x8)

def cwI (arg11 : Memref sig .tc .vmem S8x1536 .f32) (harg11 : arg11.IsWhole) (x9 : Vec F S8x1536 .f32) : Vec F S8x1536 .f32 :=
  arg11.view.readAt (Elt F) (Rect.unit (s := S8x1536) ![0, 0] S8x1536.size inb_S8x1536_S8x1536_0_0).toLoadRect (harg11.unread x9)

def alI (arg12 : Memref sig .tc .vmem S1x128 .f32) (harg12 : arg12.IsWhole) (x10 : Vec F S1x128 .f32) : Vec F S1x128 .f32 :=
  arg12.view.readAt (Elt F) (Rect.unit (s := S1x128) ![0, 0] S1x128.size inb_S1x128_S1x128_0_0).toLoadRect (harg12.unread x10)

def dtI (arg13 : Memref sig .tc .vmem S1x128 .f32) (harg13 : arg13.IsWhole) (x11 : Vec F S1x128 .f32) : Vec F S1x128 .f32 :=
  arg13.view.readAt (Elt F) (Rect.unit (s := S1x128) ![0, 0] S1x128.size inb_S1x128_S1x128_0_0).toLoadRect (harg13.unread x11)

def hK0 (arg2 : Memref sig .tc .vmem S1x1024x1024 .f32) (harg2 : arg2.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (x0 : Vec F S1x1024x1024 .f32) (x3 : Vec F S1x1024 .f32) (x4 : Vec F S1x1x1024 .f32) (x5 : Vec F S1x1x1024 .f32) : FVec F S256x1024 .bf16 :=
  hT (xI0 arg2 harg2 x0) (gI arg5 harg5 x3) (scI arg7 harg7 x5) (shI arg6 harg6 x4)

def hK1 (arg2 : Memref sig .tc .vmem S1x1024x1024 .f32) (harg2 : arg2.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (x0 : Vec F S1x1024x1024 .f32) (x3 : Vec F S1x1024 .f32) (x4 : Vec F S1x1x1024 .f32) (x5 : Vec F S1x1x1024 .f32) : FVec F S256x1024 .bf16 :=
  hT (xI1 arg2 harg2 x0) (gI arg5 harg5 x3) (scI arg7 harg7 x5) (shI arg6 harg6 x4)

def hK2 (arg2 : Memref sig .tc .vmem S1x1024x1024 .f32) (harg2 : arg2.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (x0 : Vec F S1x1024x1024 .f32) (x3 : Vec F S1x1024 .f32) (x4 : Vec F S1x1x1024 .f32) (x5 : Vec F S1x1x1024 .f32) : FVec F S256x1024 .bf16 :=
  hT (xI2 arg2 harg2 x0) (gI arg5 harg5 x3) (scI arg7 harg7 x5) (shI arg6 harg6 x4)

def hK3 (arg2 : Memref sig .tc .vmem S1x1024x1024 .f32) (harg2 : arg2.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (x0 : Vec F S1x1024x1024 .f32) (x3 : Vec F S1x1024 .f32) (x4 : Vec F S1x1x1024 .f32) (x5 : Vec F S1x1x1024 .f32) : FVec F S256x1024 .bf16 :=
  hT (xI3 arg2 harg2 x0) (gI arg5 harg5 x3) (scI arg7 harg7 x5) (shI arg6 harg6 x4)

/-- The row before the block, and the row after it. -/
def prI (i : grid0.Coords) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) : FVec F S1x1536 .f32 :=
  k0_pay9 (BitVec.ofNat 32 (i 1).val) (k0_pay5 (xpI arg3 harg3 x1) (xnI arg4 harg4 x2)) (k0_pay6 (xpI arg3 harg3 x1) (xnI arg4 harg4 x2)) k0_pay7 (gI arg5 harg5 x3) (scI arg7 harg7 x5) (shI arg6 harg6 x4) (wC arg10 harg10 x8)

def nxI (i : grid0.Coords) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) : FVec F S1x1536 .f32 :=
  k0_pay10 (BitVec.ofNat 32 (i 1).val) (k0_pay5 (xpI arg3 harg3 x1) (xnI arg4 harg4 x2)) (k0_pay6 (xpI arg3 harg3 x1) (xnI arg4 harg4 x2)) k0_pay7 (gI arg5 harg5 x3) (scI arg7 harg7 x5) (shI arg6 harg6 x4) (wC arg10 harg10 x8)

def sK0 (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (arg11 : Memref sig .tc .vmem S8x1536 .f32) (harg11 : arg11.IsWhole) (x0 : Vec F S1x1024x1024 .f32) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) (x9 : Vec F S8x1536 .f32) : FVec F S256x1536 .f32 :=
  sT (k0_pay4 (cwI arg11 harg11 x9)) (pC (hK0 arg2 harg2 arg5 harg5 arg6 harg6 arg7 harg7 x0 x3 x4 x5) (wC arg10 harg10 x8)) (prI i arg3 harg3 arg4 harg4 arg5 harg5 arg6 harg6 arg7 harg7 arg10 harg10 x1 x2 x3 x4 x5 x8) (k0_pay30 (hK1 arg2 harg2 arg5 harg5 arg6 harg6 arg7 harg7 x0 x3 x4 x5) (wC arg10 harg10 x8))

def sK1 (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (arg11 : Memref sig .tc .vmem S8x1536 .f32) (harg11 : arg11.IsWhole) (x0 : Vec F S1x1024x1024 .f32) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) (x9 : Vec F S8x1536 .f32) : FVec F S256x1536 .f32 :=
  sT (k0_pay4 (cwI arg11 harg11 x9)) (pC (hK1 arg2 harg2 arg5 harg5 arg6 harg6 arg7 harg7 x0 x3 x4 x5) (wC arg10 harg10 x8)) (extractStridedSlice S1x1536 ![255, 0] (pC (hK0 arg2 harg2 arg5 harg5 arg6 harg6 arg7 harg7 x0 x3 x4 x5) (wC arg10 harg10 x8)) slices_S256x1536_o255_0_S1x1536) (k0_pay30 (hK2 arg2 harg2 arg5 harg5 arg6 harg6 arg7 harg7 x0 x3 x4 x5) (wC arg10 harg10 x8))

def sK2 (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (arg11 : Memref sig .tc .vmem S8x1536 .f32) (harg11 : arg11.IsWhole) (x0 : Vec F S1x1024x1024 .f32) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) (x9 : Vec F S8x1536 .f32) : FVec F S256x1536 .f32 :=
  sT (k0_pay4 (cwI arg11 harg11 x9)) (pC (hK2 arg2 harg2 arg5 harg5 arg6 harg6 arg7 harg7 x0 x3 x4 x5) (wC arg10 harg10 x8)) (extractStridedSlice S1x1536 ![255, 0] (pC (hK1 arg2 harg2 arg5 harg5 arg6 harg6 arg7 harg7 x0 x3 x4 x5) (wC arg10 harg10 x8)) slices_S256x1536_o255_0_S1x1536) (k0_pay30 (hK3 arg2 harg2 arg5 harg5 arg6 harg6 arg7 harg7 x0 x3 x4 x5) (wC arg10 harg10 x8))

def sK3 (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg10 : Memref sig .tc .vmem S1024x3712 .bf16) (harg10 : arg10.IsWhole) (arg11 : Memref sig .tc .vmem S8x1536 .f32) (harg11 : arg11.IsWhole) (x0 : Vec F S1x1024x1024 .f32) (x1 : Vec F S1x8x1024 .f32) (x2 : Vec F S1x8x1024 .f32) (x3 : Vec F S1x1024 .f32) (x4 : Vec F S1x1x1024 .f32) (x5 : Vec F S1x1x1024 .f32) (x8 : Vec F S1024x3712 .bf16) (x9 : Vec F S8x1536 .f32) : FVec F S256x1536 .f32 :=
  sT (k0_pay4 (cwI arg11 harg11 x9)) (pC (hK3 arg2 harg2 arg5 harg5 arg6 harg6 arg7 harg7 x0 x3 x4 x5) (wC arg10 harg10 x8)) (extractStridedSlice S1x1536 ![255, 0] (pC (hK2 arg2 harg2 arg5 harg5 arg6 harg6 arg7 harg7 x0 x3 x4 x5) (wC arg10 harg10 x8)) slices_S256x1536_o255_0_S1x1536) (nxI i arg3 harg3 arg4 harg4 arg5 harg5 arg6 harg6 arg7 harg7 arg10 harg10 x1 x2 x3 x4 x5 x8)

variable (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x3712 .bf16) (harg10 : arg10.IsWhole) (arg11 : Memref sig .tc .vmem S8x1536 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x4x4x136x256 .bf16) (harg16 : arg16.IsWhole) (arg17 : Memref sig .tc .vmem S1x1024x512 .f32) (harg17 : arg17.IsWhole) (arg18 : Memref sig .tc .vmem S1x1024x512 .f32) (harg18 : arg18.IsWhole) (arg19 : Memref sig .tc .vmem S1x1024x512 .f32) (harg19 : arg19.IsWhole) (arg20 : Memref sig .tc .vmem S1x1024x512 .f32) (harg20 : arg20.IsWhole) (arg21 : Memref sig .tc .vmem S1x1024x128 .f32) (harg21 : arg21.IsWhole) (arg22 : Memref sig .tc .vmem S1x16x1024 .f32) (harg22 : arg22.IsWhole)
  (x0 : Vec F S1x1024x1024 .f32) (x1 : Vec F S1x8x1024 .f32) (x2 : Vec F S1x8x1024 .f32) (x3 : Vec F S1x1024 .f32) (x4 : Vec F S1x1x1024 .f32) (x5 : Vec F S1x1x1024 .f32) (x6 : Vec F S1024x128 .f32) (x7 : Vec F S1024x128 .f32) (x8 : Vec F S1024x3712 .bf16) (x9 : Vec F S8x1536 .f32) (x10 : Vec F S1x128 .f32) (x11 : Vec F S1x128 .f32)

theorem L12_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).1
    = [⟨Rect.unit ![0, 768, 0] S1x256x512.size inb_S1x1024x512_S1x256x512_0_768_0, qT (pT (hK3 arg2 harg2 arg5 harg5 arg6 harg6 arg7 harg7 x0 x3 x4 x5) (wQ arg10 harg10 x8)) (coI3 arg8 harg8 x6) (siI3 arg9 harg9 x7)⟩,
      ⟨Rect.unit ![0, 512, 0] S1x256x512.size inb_S1x1024x512_S1x256x512_0_512_0, qT (pT (hK2 arg2 harg2 arg5 harg5 arg6 harg6 arg7 harg7 x0 x3 x4 x5) (wQ arg10 harg10 x8)) (coI2 arg8 harg8 x6) (siI2 arg9 harg9 x7)⟩,
      ⟨Rect.unit ![0, 256, 0] S1x256x512.size inb_S1x1024x512_S1x256x512_0_256_0, qT (pT (hK1 arg2 harg2 arg5 harg5 arg6 harg6 arg7 harg7 x0 x3 x4 x5) (wQ arg10 harg10 x8)) (coI1 arg8 harg8 x6) (siI1 arg9 harg9 x7)⟩,
      ⟨Rect.unit ![0, 0, 0] S1x256x512.size inb_S1x1024x512_S1x256x512_0_0_0, qT (pT (hK0 arg2 harg2 arg5 harg5 arg6 harg6 arg7 harg7 x0 x3 x4 x5) (wQ arg10 harg10 x8)) (coI0 arg8 harg8 x6) (siI0 arg9 harg9 x7)⟩] := by
  sl_kernel_rfl

theorem L13_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.1
    = [⟨Rect.unit ![0, 768, 0] S1x256x512.size inb_S1x1024x512_S1x256x512_0_768_0, kT (pT (hK3 arg2 harg2 arg5 harg5 arg6 harg6 arg7 harg7 x0 x3 x4 x5) (wK arg10 harg10 x8)) (coI3 arg8 harg8 x6) (siI3 arg9 harg9 x7)⟩,
      ⟨Rect.unit ![0, 512, 0] S1x256x512.size inb_S1x1024x512_S1x256x512_0_512_0, kT (pT (hK2 arg2 harg2 arg5 harg5 arg6 harg6 arg7 harg7 x0 x3 x4 x5) (wK arg10 harg10 x8)) (coI2 arg8 harg8 x6) (siI2 arg9 harg9 x7)⟩,
      ⟨Rect.unit ![0, 256, 0] S1x256x512.size inb_S1x1024x512_S1x256x512_0_256_0, kT (pT (hK1 arg2 harg2 arg5 harg5 arg6 harg6 arg7 harg7 x0 x3 x4 x5) (wK arg10 harg10 x8)) (coI1 arg8 harg8 x6) (siI1 arg9 harg9 x7)⟩,
      ⟨Rect.unit ![0, 0, 0] S1x256x512.size inb_S1x1024x512_S1x256x512_0_0_0, kT (pT (hK0 arg2 harg2 arg5 harg5 arg6 harg6 arg7 harg7 x0 x3 x4 x5) (wK arg10 harg10 x8)) (coI0 arg8 harg8 x6) (siI0 arg9 harg9 x7)⟩] := by
  sl_kernel_rfl

theorem L14_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.1
    = [⟨Rect.unit ![0, 0, 3, 128, 0] S1x4x1x8x256.size inb_S1x4x4x136x256_S1x4x1x8x256_0_0_3_128_0, oT⟩,
      ⟨Rect.unit ![0, 0, 3, 0, 0] S1x4x1x128x256.size inb_S1x4x4x136x256_S1x4x1x128x256_0_0_3_0_0, vT (pT (hK3 arg2 harg2 arg5 harg5 arg6 harg6 arg7 harg7 x0 x3 x4 x5) (wV arg10 harg10 x8))⟩,
      ⟨Rect.unit ![0, 0, 2, 128, 0] S1x4x1x8x256.size inb_S1x4x4x136x256_S1x4x1x8x256_0_0_2_128_0, oT⟩,
      ⟨Rect.unit ![0, 0, 2, 0, 0] S1x4x1x128x256.size inb_S1x4x4x136x256_S1x4x1x128x256_0_0_2_0_0, vT (pT (hK2 arg2 harg2 arg5 harg5 arg6 harg6 arg7 harg7 x0 x3 x4 x5) (wV arg10 harg10 x8))⟩,
      ⟨Rect.unit ![0, 0, 1, 128, 0] S1x4x1x8x256.size inb_S1x4x4x136x256_S1x4x1x8x256_0_0_1_128_0, oT⟩,
      ⟨Rect.unit ![0, 0, 1, 0, 0] S1x4x1x128x256.size inb_S1x4x4x136x256_S1x4x1x128x256_0_0_1_0_0, vT (pT (hK1 arg2 harg2 arg5 harg5 arg6 harg6 arg7 harg7 x0 x3 x4 x5) (wV arg10 harg10 x8))⟩,
      ⟨Rect.unit ![0, 0, 0, 128, 0] S1x4x1x8x256.size inb_S1x4x4x136x256_S1x4x1x8x256_0_0_0_128_0, oT⟩,
      ⟨Rect.unit ![0, 0, 0, 0, 0] S1x4x1x128x256.size inb_S1x4x4x136x256_S1x4x1x128x256_0_0_0_0_0, vT (pT (hK0 arg2 harg2 arg5 harg5 arg6 harg6 arg7 harg7 x0 x3 x4 x5) (wV arg10 harg10 x8))⟩] := by
  sl_kernel_rfl

theorem L15_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.1
    = [⟨Rect.unit ![0, 768, 384] S1x256x128.size inb_S1x1024x512_S1x256x128_0_768_384, gqT (extractStridedSlice S256x128 ![0, 384] (sK3 i arg2 harg2 arg3 harg3 arg4 harg4 arg5 harg5 arg6 harg6 arg7 harg7 arg10 harg10 arg11 harg11 x0 x1 x2 x3 x4 x5 x8 x9) slices_S256x1536_o0_384_S256x128)⟩,
      ⟨Rect.unit ![0, 768, 256] S1x256x128.size inb_S1x1024x512_S1x256x128_0_768_256, gqT (extractStridedSlice S256x128 ![0, 256] (sK3 i arg2 harg2 arg3 harg3 arg4 harg4 arg5 harg5 arg6 harg6 arg7 harg7 arg10 harg10 arg11 harg11 x0 x1 x2 x3 x4 x5 x8 x9) slices_S256x1536_o0_256_S256x128)⟩,
      ⟨Rect.unit ![0, 768, 128] S1x256x128.size inb_S1x1024x512_S1x256x128_0_768_128, gqT (extractStridedSlice S256x128 ![0, 128] (sK3 i arg2 harg2 arg3 harg3 arg4 harg4 arg5 harg5 arg6 harg6 arg7 harg7 arg10 harg10 arg11 harg11 x0 x1 x2 x3 x4 x5 x8 x9) slices_S256x1536_o0_128_S256x128)⟩,
      ⟨Rect.unit ![0, 768, 0] S1x256x128.size inb_S1x1024x512_S1x256x128_0_768_0, gqT (extractStridedSlice S256x128 ![0, 0] (sK3 i arg2 harg2 arg3 harg3 arg4 harg4 arg5 harg5 arg6 harg6 arg7 harg7 arg10 harg10 arg11 harg11 x0 x1 x2 x3 x4 x5 x8 x9) slices_S256x1536_o0_0_S256x128)⟩,
      ⟨Rect.unit ![0, 512, 384] S1x256x128.size inb_S1x1024x512_S1x256x128_0_512_384, gqT (extractStridedSlice S256x128 ![0, 384] (sK2 i arg2 harg2 arg3 harg3 arg4 harg4 arg5 harg5 arg6 harg6 arg7 harg7 arg10 harg10 arg11 harg11 x0 x1 x2 x3 x4 x5 x8 x9) slices_S256x1536_o0_384_S256x128)⟩,
      ⟨Rect.unit ![0, 512, 256] S1x256x128.size inb_S1x1024x512_S1x256x128_0_512_256, gqT (extractStridedSlice S256x128 ![0, 256] (sK2 i arg2 harg2 arg3 harg3 arg4 harg4 arg5 harg5 arg6 harg6 arg7 harg7 arg10 harg10 arg11 harg11 x0 x1 x2 x3 x4 x5 x8 x9) slices_S256x1536_o0_256_S256x128)⟩,
      ⟨Rect.unit ![0, 512, 128] S1x256x128.size inb_S1x1024x512_S1x256x128_0_512_128, gqT (extractStridedSlice S256x128 ![0, 128] (sK2 i arg2 harg2 arg3 harg3 arg4 harg4 arg5 harg5 arg6 harg6 arg7 harg7 arg10 harg10 arg11 harg11 x0 x1 x2 x3 x4 x5 x8 x9) slices_S256x1536_o0_128_S256x128)⟩,
      ⟨Rect.unit ![0, 512, 0] S1x256x128.size inb_S1x1024x512_S1x256x128_0_512_0, gqT (extractStridedSlice S256x128 ![0, 0] (sK2 i arg2 harg2 arg3 harg3 arg4 harg4 arg5 harg5 arg6 harg6 arg7 harg7 arg10 harg10 arg11 harg11 x0 x1 x2 x3 x4 x5 x8 x9) slices_S256x1536_o0_0_S256x128)⟩,
      ⟨Rect.unit ![0, 256, 384] S1x256x128.size inb_S1x1024x512_S1x256x128_0_256_384, gqT (extractStridedSlice S256x128 ![0, 384] (sK1 i arg2 harg2 arg3 harg3 arg4 harg4 arg5 harg5 arg6 harg6 arg7 harg7 arg10 harg10 arg11 harg11 x0 x1 x2 x3 x4 x5 x8 x9) slices_S256x1536_o0_384_S256x128)⟩,
      ⟨Rect.unit ![0, 256, 256] S1x256x128.size inb_S1x1024x512_S1x256x128_0_256_256, gqT (extractStridedSlice S256x128 ![0, 256] (sK1 i arg2 harg2 arg3 harg3 arg4 harg4 arg5 harg5 arg6 harg6 arg7 harg7 arg10 harg10 arg11 harg11 x0 x1 x2 x3 x4 x5 x8 x9) slices_S256x1536_o0_256_S256x128)⟩,
      ⟨Rect.unit ![0, 256, 128] S1x256x128.size inb_S1x1024x512_S1x256x128_0_256_128, gqT (extractStridedSlice S256x128 ![0, 128] (sK1 i arg2 harg2 arg3 harg3 arg4 harg4 arg5 harg5 arg6 harg6 arg7 harg7 arg10 harg10 arg11 harg11 x0 x1 x2 x3 x4 x5 x8 x9) slices_S256x1536_o0_128_S256x128)⟩,
      ⟨Rect.unit ![0, 256, 0] S1x256x128.size inb_S1x1024x512_S1x256x128_0_256_0, gqT (extractStridedSlice S256x128 ![0, 0] (sK1 i arg2 harg2 arg3 harg3 arg4 harg4 arg5 harg5 arg6 harg6 arg7 harg7 arg10 harg10 arg11 harg11 x0 x1 x2 x3 x4 x5 x8 x9) slices_S256x1536_o0_0_S256x128)⟩,
      ⟨Rect.unit ![0, 0, 384] S1x256x128.size inb_S1x1024x512_S1x256x128_0_0_384, gqT (extractStridedSlice S256x128 ![0, 384] (sK0 i arg2 harg2 arg3 harg3 arg4 harg4 arg5 harg5 arg6 harg6 arg7 harg7 arg10 harg10 arg11 harg11 x0 x1 x2 x3 x4 x5 x8 x9) slices_S256x1536_o0_384_S256x128)⟩,
      ⟨Rect.unit ![0, 0, 256] S1x256x128.size inb_S1x1024x512_S1x256x128_0_0_256, gqT (extractStridedSlice S256x128 ![0, 256] (sK0 i arg2 harg2 arg3 harg3 arg4 harg4 arg5 harg5 arg6 harg6 arg7 harg7 arg10 harg10 arg11 harg11 x0 x1 x2 x3 x4 x5 x8 x9) slices_S256x1536_o0_256_S256x128)⟩,
      ⟨Rect.unit ![0, 0, 128] S1x256x128.size inb_S1x1024x512_S1x256x128_0_0_128, gqT (extractStridedSlice S256x128 ![0, 128] (sK0 i arg2 harg2 arg3 harg3 arg4 harg4 arg5 harg5 arg6 harg6 arg7 harg7 arg10 harg10 arg11 harg11 x0 x1 x2 x3 x4 x5 x8 x9) slices_S256x1536_o0_128_S256x128)⟩,
      ⟨Rect.unit ![0, 0, 0] S1x256x128.size inb_S1x1024x512_S1x256x128_0_0_0, gqT (extractStridedSlice S256x128 ![0, 0] (sK0 i arg2 harg2 arg3 harg3 arg4 harg4 arg5 harg5 arg6 harg6 arg7 harg7 arg10 harg10 arg11 harg11 x0 x1 x2 x3 x4 x5 x8 x9) slices_S256x1536_o0_0_S256x128)⟩] := by
  sl_kernel_rfl

theorem L16_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.2.1
    = [⟨Rect.unit ![0, 768, 384] S1x256x128.size inb_S1x1024x512_S1x256x128_0_768_384, gkT (extractStridedSlice S256x128 ![0, 896] (sK3 i arg2 harg2 arg3 harg3 arg4 harg4 arg5 harg5 arg6 harg6 arg7 harg7 arg10 harg10 arg11 harg11 x0 x1 x2 x3 x4 x5 x8 x9) slices_S256x1536_o0_896_S256x128)⟩,
      ⟨Rect.unit ![0, 768, 256] S1x256x128.size inb_S1x1024x512_S1x256x128_0_768_256, gkT (extractStridedSlice S256x128 ![0, 768] (sK3 i arg2 harg2 arg3 harg3 arg4 harg4 arg5 harg5 arg6 harg6 arg7 harg7 arg10 harg10 arg11 harg11 x0 x1 x2 x3 x4 x5 x8 x9) slices_S256x1536_o0_768_S256x128)⟩,
      ⟨Rect.unit ![0, 768, 128] S1x256x128.size inb_S1x1024x512_S1x256x128_0_768_128, gkT (extractStridedSlice S256x128 ![0, 640] (sK3 i arg2 harg2 arg3 harg3 arg4 harg4 arg5 harg5 arg6 harg6 arg7 harg7 arg10 harg10 arg11 harg11 x0 x1 x2 x3 x4 x5 x8 x9) slices_S256x1536_o0_640_S256x128)⟩,
      ⟨Rect.unit ![0, 768, 0] S1x256x128.size inb_S1x1024x512_S1x256x128_0_768_0, gkT (extractStridedSlice S256x128 ![0, 512] (sK3 i arg2 harg2 arg3 harg3 arg4 harg4 arg5 harg5 arg6 harg6 arg7 harg7 arg10 harg10 arg11 harg11 x0 x1 x2 x3 x4 x5 x8 x9) slices_S256x1536_o0_512_S256x128)⟩,
      ⟨Rect.unit ![0, 512, 384] S1x256x128.size inb_S1x1024x512_S1x256x128_0_512_384, gkT (extractStridedSlice S256x128 ![0, 896] (sK2 i arg2 harg2 arg3 harg3 arg4 harg4 arg5 harg5 arg6 harg6 arg7 harg7 arg10 harg10 arg11 harg11 x0 x1 x2 x3 x4 x5 x8 x9) slices_S256x1536_o0_896_S256x128)⟩,
      ⟨Rect.unit ![0, 512, 256] S1x256x128.size inb_S1x1024x512_S1x256x128_0_512_256, gkT (extractStridedSlice S256x128 ![0, 768] (sK2 i arg2 harg2 arg3 harg3 arg4 harg4 arg5 harg5 arg6 harg6 arg7 harg7 arg10 harg10 arg11 harg11 x0 x1 x2 x3 x4 x5 x8 x9) slices_S256x1536_o0_768_S256x128)⟩,
      ⟨Rect.unit ![0, 512, 128] S1x256x128.size inb_S1x1024x512_S1x256x128_0_512_128, gkT (extractStridedSlice S256x128 ![0, 640] (sK2 i arg2 harg2 arg3 harg3 arg4 harg4 arg5 harg5 arg6 harg6 arg7 harg7 arg10 harg10 arg11 harg11 x0 x1 x2 x3 x4 x5 x8 x9) slices_S256x1536_o0_640_S256x128)⟩,
      ⟨Rect.unit ![0, 512, 0] S1x256x128.size inb_S1x1024x512_S1x256x128_0_512_0, gkT (extractStridedSlice S256x128 ![0, 512] (sK2 i arg2 harg2 arg3 harg3 arg4 harg4 arg5 harg5 arg6 harg6 arg7 harg7 arg10 harg10 arg11 harg11 x0 x1 x2 x3 x4 x5 x8 x9) slices_S256x1536_o0_512_S256x128)⟩,
      ⟨Rect.unit ![0, 256, 384] S1x256x128.size inb_S1x1024x512_S1x256x128_0_256_384, gkT (extractStridedSlice S256x128 ![0, 896] (sK1 i arg2 harg2 arg3 harg3 arg4 harg4 arg5 harg5 arg6 harg6 arg7 harg7 arg10 harg10 arg11 harg11 x0 x1 x2 x3 x4 x5 x8 x9) slices_S256x1536_o0_896_S256x128)⟩,
      ⟨Rect.unit ![0, 256, 256] S1x256x128.size inb_S1x1024x512_S1x256x128_0_256_256, gkT (extractStridedSlice S256x128 ![0, 768] (sK1 i arg2 harg2 arg3 harg3 arg4 harg4 arg5 harg5 arg6 harg6 arg7 harg7 arg10 harg10 arg11 harg11 x0 x1 x2 x3 x4 x5 x8 x9) slices_S256x1536_o0_768_S256x128)⟩,
      ⟨Rect.unit ![0, 256, 128] S1x256x128.size inb_S1x1024x512_S1x256x128_0_256_128, gkT (extractStridedSlice S256x128 ![0, 640] (sK1 i arg2 harg2 arg3 harg3 arg4 harg4 arg5 harg5 arg6 harg6 arg7 harg7 arg10 harg10 arg11 harg11 x0 x1 x2 x3 x4 x5 x8 x9) slices_S256x1536_o0_640_S256x128)⟩,
      ⟨Rect.unit ![0, 256, 0] S1x256x128.size inb_S1x1024x512_S1x256x128_0_256_0, gkT (extractStridedSlice S256x128 ![0, 512] (sK1 i arg2 harg2 arg3 harg3 arg4 harg4 arg5 harg5 arg6 harg6 arg7 harg7 arg10 harg10 arg11 harg11 x0 x1 x2 x3 x4 x5 x8 x9) slices_S256x1536_o0_512_S256x128)⟩,
      ⟨Rect.unit ![0, 0, 384] S1x256x128.size inb_S1x1024x512_S1x256x128_0_0_384, gkT (extractStridedSlice S256x128 ![0, 896] (sK0 i arg2 harg2 arg3 harg3 arg4 harg4 arg5 harg5 arg6 harg6 arg7 harg7 arg10 harg10 arg11 harg11 x0 x1 x2 x3 x4 x5 x8 x9) slices_S256x1536_o0_896_S256x128)⟩,
      ⟨Rect.unit ![0, 0, 256] S1x256x128.size inb_S1x1024x512_S1x256x128_0_0_256, gkT (extractStridedSlice S256x128 ![0, 768] (sK0 i arg2 harg2 arg3 harg3 arg4 harg4 arg5 harg5 arg6 harg6 arg7 harg7 arg10 harg10 arg11 harg11 x0 x1 x2 x3 x4 x5 x8 x9) slices_S256x1536_o0_768_S256x128)⟩,
      ⟨Rect.unit ![0, 0, 128] S1x256x128.size inb_S1x1024x512_S1x256x128_0_0_128, gkT (extractStridedSlice S256x128 ![0, 640] (sK0 i arg2 harg2 arg3 harg3 arg4 harg4 arg5 harg5 arg6 harg6 arg7 harg7 arg10 harg10 arg11 harg11 x0 x1 x2 x3 x4 x5 x8 x9) slices_S256x1536_o0_640_S256x128)⟩,
      ⟨Rect.unit ![0, 0, 0] S1x256x128.size inb_S1x1024x512_S1x256x128_0_0_0, gkT (extractStridedSlice S256x128 ![0, 512] (sK0 i arg2 harg2 arg3 harg3 arg4 harg4 arg5 harg5 arg6 harg6 arg7 harg7 arg10 harg10 arg11 harg11 x0 x1 x2 x3 x4 x5 x8 x9) slices_S256x1536_o0_512_S256x128)⟩] := by
  sl_kernel_rfl

theorem L17_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.2.2.1
    = [⟨Rect.unit ![0, 768, 0] S1x256x512.size inb_S1x1024x512_S1x256x512_0_768_0, gvT (sK3 i arg2 harg2 arg3 harg3 arg4 harg4 arg5 harg5 arg6 harg6 arg7 harg7 arg10 harg10 arg11 harg11 x0 x1 x2 x3 x4 x5 x8 x9)⟩,
      ⟨Rect.unit ![0, 512, 0] S1x256x512.size inb_S1x1024x512_S1x256x512_0_512_0, gvT (sK2 i arg2 harg2 arg3 harg3 arg4 harg4 arg5 harg5 arg6 harg6 arg7 harg7 arg10 harg10 arg11 harg11 x0 x1 x2 x3 x4 x5 x8 x9)⟩,
      ⟨Rect.unit ![0, 256, 0] S1x256x512.size inb_S1x1024x512_S1x256x512_0_256_0, gvT (sK1 i arg2 harg2 arg3 harg3 arg4 harg4 arg5 harg5 arg6 harg6 arg7 harg7 arg10 harg10 arg11 harg11 x0 x1 x2 x3 x4 x5 x8 x9)⟩,
      ⟨Rect.unit ![0, 0, 0] S1x256x512.size inb_S1x1024x512_S1x256x512_0_0_0, gvT (sK0 i arg2 harg2 arg3 harg3 arg4 harg4 arg5 harg5 arg6 harg6 arg7 harg7 arg10 harg10 arg11 harg11 x0 x1 x2 x3 x4 x5 x8 x9)⟩] := by
  sl_kernel_rfl

theorem L18_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.2.2.2.1
    = [⟨Rect.unit ![0, 768, 0] S1x256x512.size inb_S1x1024x512_S1x256x512_0_768_0, gateT (pT (hK3 arg2 harg2 arg5 harg5 arg6 harg6 arg7 harg7 x0 x3 x4 x5) (wG arg10 harg10 x8))⟩,
      ⟨Rect.unit ![0, 512, 0] S1x256x512.size inb_S1x1024x512_S1x256x512_0_512_0, gateT (pT (hK2 arg2 harg2 arg5 harg5 arg6 harg6 arg7 harg7 x0 x3 x4 x5) (wG arg10 harg10 x8))⟩,
      ⟨Rect.unit ![0, 256, 0] S1x256x512.size inb_S1x1024x512_S1x256x512_0_256_0, gateT (pT (hK1 arg2 harg2 arg5 harg5 arg6 harg6 arg7 harg7 x0 x3 x4 x5) (wG arg10 harg10 x8))⟩,
      ⟨Rect.unit ![0, 0, 0] S1x256x512.size inb_S1x1024x512_S1x256x512_0_0_0, gateT (pT (hK0 arg2 harg2 arg5 harg5 arg6 harg6 arg7 harg7 x0 x3 x4 x5) (wG arg10 harg10 x8))⟩] := by
  sl_kernel_rfl

theorem L19_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.2.2.2.2.1
    = [⟨Rect.unit ![0, 768, 0] S1x256x128.size inb_S1x1024x128_S1x256x128_0_768_0, abT (pA (hK3 arg2 harg2 arg5 harg5 arg6 harg6 arg7 harg7 x0 x3 x4 x5) (wA arg10 harg10 x8)) (dtI arg13 harg13 x11) (alI arg12 harg12 x10)⟩,
      ⟨Rect.unit ![0, 512, 0] S1x256x128.size inb_S1x1024x128_S1x256x128_0_512_0, abT (pA (hK2 arg2 harg2 arg5 harg5 arg6 harg6 arg7 harg7 x0 x3 x4 x5) (wA arg10 harg10 x8)) (dtI arg13 harg13 x11) (alI arg12 harg12 x10)⟩,
      ⟨Rect.unit ![0, 256, 0] S1x256x128.size inb_S1x1024x128_S1x256x128_0_256_0, abT (pA (hK1 arg2 harg2 arg5 harg5 arg6 harg6 arg7 harg7 x0 x3 x4 x5) (wA arg10 harg10 x8)) (dtI arg13 harg13 x11) (alI arg12 harg12 x10)⟩,
      ⟨Rect.unit ![0, 0, 0] S1x256x128.size inb_S1x1024x128_S1x256x128_0_0_0, abT (pA (hK0 arg2 harg2 arg5 harg5 arg6 harg6 arg7 harg7 x0 x3 x4 x5) (wA arg10 harg10 x8)) (dtI arg13 harg13 x11) (alI arg12 harg12 x10)⟩] := by
  sl_kernel_rfl

theorem L20_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11).2.2.2.2.2.2.2.2.1
    = [⟨Rect.unit ![0, 0, 768] S1x16x256.size inb_S1x16x1024_S1x16x256_0_0_768, abtT (pA (hK3 arg2 harg2 arg5 harg5 arg6 harg6 arg7 harg7 x0 x3 x4 x5) (wA arg10 harg10 x8)) (dtI arg13 harg13 x11) (alI arg12 harg12 x10)⟩,
      ⟨Rect.unit ![0, 0, 512] S1x16x256.size inb_S1x16x1024_S1x16x256_0_0_512, abtT (pA (hK2 arg2 harg2 arg5 harg5 arg6 harg6 arg7 harg7 x0 x3 x4 x5) (wA arg10 harg10 x8)) (dtI arg13 harg13 x11) (alI arg12 harg12 x10)⟩,
      ⟨Rect.unit ![0, 0, 256] S1x16x256.size inb_S1x16x1024_S1x16x256_0_0_256, abtT (pA (hK1 arg2 harg2 arg5 harg5 arg6 harg6 arg7 harg7 x0 x3 x4 x5) (wA arg10 harg10 x8)) (dtI arg13 harg13 x11) (alI arg12 harg12 x10)⟩,
      ⟨Rect.unit ![0, 0, 0] S1x16x256.size inb_S1x16x1024_S1x16x256_0_0_0, abtT (pA (hK0 arg2 harg2 arg5 harg5 arg6 harg6 arg7 harg7 x0 x3 x4 x5) (wA arg10 harg10 x8)) (dtI arg13 harg13 x11) (alI arg12 harg12 x10)⟩] := by
  sl_kernel_rfl

end Body

end Cert.Kernel2Ideal.In
-- ==== Proof.InStore.lean ====
module

public import proofs.«01_k».proof.Proof.InPieces
public import Idealize.ShloMosaic.Lib.WritesUnit

@[expose] public section

set_option maxRecDepth 16384

noncomputable section

/-!
# Reading the loads and the stores of the input projection

A load of a rectangle at an index, and a block written in four tiles at an index.
-/

namespace Cert.Kernel2Ideal.In

open Cert.Kernel2Ideal.Gen
open Idealize.ShloMosaic Idealize.ShloMosaic.TcCoe Idealize.ShloMosaic.Tactic

/-- A load of a unit-stride rectangle at a position reads the buffer at the offsets plus the position. -/
theorem readAt_unit_apply {sig : RefSig} {κ : Kind} {sp : Space} {s : Shape} {e : EltTy} {Val : EltTy → Type}
    (v : View sig κ sp s e) (f : v.ty.Contents Val) {off size : Fin s.rank → ℕ} (inb : ∀ a, off a + size a ≤ s.size a)
    (x : (Rect.unit off size inb).shape.Idx) (y : s.Idx) (h : ∀ a, (y a).val = off a + (x a).val) :
    v.readAt Val (Rect.unit off size inb).toLoadRect f x = v.read Val f y := by
  have hy : (Rect.unit off size inb).toLoadRect.idx x = y := funext fun a => Fin.ext (by
    show off a + 1 * (x a).val = (y a).val
    rw [h a, Nat.one_mul])
  exact congrArg (v.read Val f) hy

theorem forall_fin2 {p : Fin 2 → Prop} (h0 : p 0) (h1 : p 1) : ∀ a, p a := by
  intro a; fin_cases a <;> assumption
theorem forall_fin3 {p : Fin 3 → Prop} (h0 : p 0) (h1 : p 1) (h2 : p 2) : ∀ a, p a := by
  intro a; fin_cases a <;> assumption
theorem forall_fin5 {p : Fin 5 → Prop} (h0 : p 0) (h1 : p 1) (h2 : p 2) (h3 : p 3) (h4 : p 4) : ∀ a, p a := by
  intro a; fin_cases a <;> assumption

section Stores

variable {κ : Kind} {sp : Space} {e : EltTy} {Val : EltTy → Type}

theorem read4 (v : View sig κ sp S1x1024x512 e) (f : v.ty.Contents Val) (T0 T1 T2 T3 : S1x256x512.Idx → Val e) (T : Fin 4 → S1x256x512.Idx → Val e)
    (h0 : T0 = T 0) (h1 : T1 = T 1) (h2 : T2 = T 2) (h3 : T3 = T 3) (k : Fin 4) (r : Fin 256) (n : Fin 512) :
    v.read Val (v.writes Val f [⟨Rect.unit ![0, 768, 0] S1x256x512.size inb_S1x1024x512_S1x256x512_0_768_0, T3⟩, ⟨Rect.unit ![0, 512, 0] S1x256x512.size inb_S1x1024x512_S1x256x512_0_512_0, T2⟩, ⟨Rect.unit ![0, 256, 0] S1x256x512.size inb_S1x1024x512_S1x256x512_0_256_0, T1⟩, ⟨Rect.unit ![0, 0, 0] S1x256x512.size inb_S1x1024x512_S1x256x512_0_0_0, T0⟩]) (ix3 (0 : Fin 1) (⟨k.val * 256 + r.val, by omega⟩ : Fin 1024) n) = T k (ix3 0 r n) := by
  subst h0 h1 h2 h3
  have hr := r.isLt
  match k with
  | ⟨0, _⟩ =>
    refine (View.read_writes_cons_unit_of_not_mem v f inb_S1x1024x512_S1x256x512_0_768_0 _ _ (ix3 (0 : Fin 1) (⟨0 * 256 + r.val, by omega⟩ : Fin 1024) n) rfl (1 : Fin 3) (.inl (by show 0 * 256 + r.val < 768; omega))).trans ?_
    refine (View.read_writes_cons_unit_of_not_mem v f inb_S1x1024x512_S1x256x512_0_512_0 _ _ (ix3 (0 : Fin 1) (⟨0 * 256 + r.val, by omega⟩ : Fin 1024) n) rfl (1 : Fin 3) (.inl (by show 0 * 256 + r.val < 512; omega))).trans ?_
    refine (View.read_writes_cons_unit_of_not_mem v f inb_S1x1024x512_S1x256x512_0_256_0 _ _ (ix3 (0 : Fin 1) (⟨0 * 256 + r.val, by omega⟩ : Fin 1024) n) rfl (1 : Fin 3) (.inl (by show 0 * 256 + r.val < 256; omega))).trans ?_
    exact View.read_writes_cons_unit_of_mem v f inb_S1x1024x512_S1x256x512_0_0_0 _ _ (ix3 (0 : Fin 1) (⟨0 * 256 + r.val, by omega⟩ : Fin 1024) n) (ix3 0 r n : S1x256x512.Idx) rfl (forall_fin3 (Nat.zero_add _).symm (by show 0 * 256 + r.val = 0 + r.val; omega) (Nat.zero_add _).symm)
  | ⟨1, _⟩ =>
    refine (View.read_writes_cons_unit_of_not_mem v f inb_S1x1024x512_S1x256x512_0_768_0 _ _ (ix3 (0 : Fin 1) (⟨1 * 256 + r.val, by omega⟩ : Fin 1024) n) rfl (1 : Fin 3) (.inl (by show 1 * 256 + r.val < 768; omega))).trans ?_
    refine (View.read_writes_cons_unit_of_not_mem v f inb_S1x1024x512_S1x256x512_0_512_0 _ _ (ix3 (0 : Fin 1) (⟨1 * 256 + r.val, by omega⟩ : Fin 1024) n) rfl (1 : Fin 3) (.inl (by show 1 * 256 + r.val < 512; omega))).trans ?_
    exact View.read_writes_cons_unit_of_mem v f inb_S1x1024x512_S1x256x512_0_256_0 _ _ (ix3 (0 : Fin 1) (⟨1 * 256 + r.val, by omega⟩ : Fin 1024) n) (ix3 0 r n : S1x256x512.Idx) rfl (forall_fin3 (Nat.zero_add _).symm (by show 1 * 256 + r.val = 256 + r.val; omega) (Nat.zero_add _).symm)
  | ⟨2, _⟩ =>
    refine (View.read_writes_cons_unit_of_not_mem v f inb_S1x1024x512_S1x256x512_0_768_0 _ _ (ix3 (0 : Fin 1) (⟨2 * 256 + r.val, by omega⟩ : Fin 1024) n) rfl (1 : Fin 3) (.inl (by show 2 * 256 + r.val < 768; omega))).trans ?_
    exact View.read_writes_cons_unit_of_mem v f inb_S1x1024x512_S1x256x512_0_512_0 _ _ (ix3 (0 : Fin 1) (⟨2 * 256 + r.val, by omega⟩ : Fin 1024) n) (ix3 0 r n : S1x256x512.Idx) rfl (forall_fin3 (Nat.zero_add _).symm (by show 2 * 256 + r.val = 512 + r.val; omega) (Nat.zero_add _).symm)
  | ⟨3, _⟩ =>
    exact View.read_writes_cons_unit_of_mem v f inb_S1x1024x512_S1x256x512_0_768_0 _ _ (ix3 (0 : Fin 1) (⟨3 * 256 + r.val, by omega⟩ : Fin 1024) n) (ix3 0 r n : S1x256x512.Idx) rfl (forall_fin3 (Nat.zero_add _).symm (by show 3 * 256 + r.val = 768 + r.val; omega) (Nat.zero_add _).symm)

theorem read4b (v : View sig κ sp S1x1024x128 e) (f : v.ty.Contents Val) (T0 T1 T2 T3 : S1x256x128.Idx → Val e) (T : Fin 4 → S1x256x128.Idx → Val e)
    (h0 : T0 = T 0) (h1 : T1 = T 1) (h2 : T2 = T 2) (h3 : T3 = T 3) (k : Fin 4) (r : Fin 256) (n : Fin 128) :
    v.read Val (v.writes Val f [⟨Rect.unit ![0, 768, 0] S1x256x128.size inb_S1x1024x128_S1x256x128_0_768_0, T3⟩, ⟨Rect.unit ![0, 512, 0] S1x256x128.size inb_S1x1024x128_S1x256x128_0_512_0, T2⟩, ⟨Rect.unit ![0, 256, 0] S1x256x128.size inb_S1x1024x128_S1x256x128_0_256_0, T1⟩, ⟨Rect.unit ![0, 0, 0] S1x256x128.size inb_S1x1024x128_S1x256x128_0_0_0, T0⟩]) (ix3 (0 : Fin 1) (⟨k.val * 256 + r.val, by omega⟩ : Fin 1024) n) = T k (ix3 0 r n) := by
  subst h0 h1 h2 h3
  have hr := r.isLt
  match k with
  | ⟨0, _⟩ =>
    refine (View.read_writes_cons_unit_of_not_mem v f inb_S1x1024x128_S1x256x128_0_768_0 _ _ (ix3 (0 : Fin 1) (⟨0 * 256 + r.val, by omega⟩ : Fin 1024) n) rfl (1 : Fin 3) (.inl (by show 0 * 256 + r.val < 768; omega))).trans ?_
    refine (View.read_writes_cons_unit_of_not_mem v f inb_S1x1024x128_S1x256x128_0_512_0 _ _ (ix3 (0 : Fin 1) (⟨0 * 256 + r.val, by omega⟩ : Fin 1024) n) rfl (1 : Fin 3) (.inl (by show 0 * 256 + r.val < 512; omega))).trans ?_
    refine (View.read_writes_cons_unit_of_not_mem v f inb_S1x1024x128_S1x256x128_0_256_0 _ _ (ix3 (0 : Fin 1) (⟨0 * 256 + r.val, by omega⟩ : Fin 1024) n) rfl (1 : Fin 3) (.inl (by show 0 * 256 + r.val < 256; omega))).trans ?_
    exact View.read_writes_cons_unit_of_mem v f inb_S1x1024x128_S1x256x128_0_0_0 _ _ (ix3 (0 : Fin 1) (⟨0 * 256 + r.val, by omega⟩ : Fin 1024) n) (ix3 0 r n : S1x256x128.Idx) rfl (forall_fin3 (Nat.zero_add _).symm (by show 0 * 256 + r.val = 0 + r.val; omega) (Nat.zero_add _).symm)
  | ⟨1, _⟩ =>
    refine (View.read_writes_cons_unit_of_not_mem v f inb_S1x1024x128_S1x256x128_0_768_0 _ _ (ix3 (0 : Fin 1) (⟨1 * 256 + r.val, by omega⟩ : Fin 1024) n) rfl (1 : Fin 3) (.inl (by show 1 * 256 + r.val < 768; omega))).trans ?_
    refine (View.read_writes_cons_unit_of_not_mem v f inb_S1x1024x128_S1x256x128_0_512_0 _ _ (ix3 (0 : Fin 1) (⟨1 * 256 + r.val, by omega⟩ : Fin 1024) n) rfl (1 : Fin 3) (.inl (by show 1 * 256 + r.val < 512; omega))).trans ?_
    exact View.read_writes_cons_unit_of_mem v f inb_S1x1024x128_S1x256x128_0_256_0 _ _ (ix3 (0 : Fin 1) (⟨1 * 256 + r.val, by omega⟩ : Fin 1024) n) (ix3 0 r n : S1x256x128.Idx) rfl (forall_fin3 (Nat.zero_add _).symm (by show 1 * 256 + r.val = 256 + r.val; omega) (Nat.zero_add _).symm)
  | ⟨2, _⟩ =>
    refine (View.read_writes_cons_unit_of_not_mem v f inb_S1x1024x128_S1x256x128_0_768_0 _ _ (ix3 (0 : Fin 1) (⟨2 * 256 + r.val, by omega⟩ : Fin 1024) n) rfl (1 : Fin 3) (.inl (by show 2 * 256 + r.val < 768; omega))).trans ?_
    exact View.read_writes_cons_unit_of_mem v f inb_S1x1024x128_S1x256x128_0_512_0 _ _ (ix3 (0 : Fin 1) (⟨2 * 256 + r.val, by omega⟩ : Fin 1024) n) (ix3 0 r n : S1x256x128.Idx) rfl (forall_fin3 (Nat.zero_add _).symm (by show 2 * 256 + r.val = 512 + r.val; omega) (Nat.zero_add _).symm)
  | ⟨3, _⟩ =>
    exact View.read_writes_cons_unit_of_mem v f inb_S1x1024x128_S1x256x128_0_768_0 _ _ (ix3 (0 : Fin 1) (⟨3 * 256 + r.val, by omega⟩ : Fin 1024) n) (ix3 0 r n : S1x256x128.Idx) rfl (forall_fin3 (Nat.zero_add _).symm (by show 3 * 256 + r.val = 768 + r.val; omega) (Nat.zero_add _).symm)

theorem read4t (v : View sig κ sp S1x16x1024 e) (f : v.ty.Contents Val) (T0 T1 T2 T3 : S1x16x256.Idx → Val e) (T : Fin 4 → S1x16x256.Idx → Val e)
    (h0 : T0 = T 0) (h1 : T1 = T 1) (h2 : T2 = T 2) (h3 : T3 = T 3) (k : Fin 4) (r : Fin 256) (n : Fin 16) :
    v.read Val (v.writes Val f [⟨Rect.unit ![0, 0, 768] S1x16x256.size inb_S1x16x1024_S1x16x256_0_0_768, T3⟩, ⟨Rect.unit ![0, 0, 512] S1x16x256.size inb_S1x16x1024_S1x16x256_0_0_512, T2⟩, ⟨Rect.unit ![0, 0, 256] S1x16x256.size inb_S1x16x1024_S1x16x256_0_0_256, T1⟩, ⟨Rect.unit ![0, 0, 0] S1x16x256.size inb_S1x16x1024_S1x16x256_0_0_0, T0⟩]) (ix3 (0 : Fin 1) n (⟨k.val * 256 + r.val, by omega⟩ : Fin 1024)) = T k (ix3 0 n r) := by
  subst h0 h1 h2 h3
  have hr := r.isLt
  match k with
  | ⟨0, _⟩ =>
    refine (View.read_writes_cons_unit_of_not_mem v f inb_S1x16x1024_S1x16x256_0_0_768 _ _ (ix3 (0 : Fin 1) n (⟨0 * 256 + r.val, by omega⟩ : Fin 1024)) rfl (2 : Fin 3) (.inl (by show 0 * 256 + r.val < 768; omega))).trans ?_
    refine (View.read_writes_cons_unit_of_not_mem v f inb_S1x16x1024_S1x16x256_0_0_512 _ _ (ix3 (0 : Fin 1) n (⟨0 * 256 + r.val, by omega⟩ : Fin 1024)) rfl (2 : Fin 3) (.inl (by show 0 * 256 + r.val < 512; omega))).trans ?_
    refine (View.read_writes_cons_unit_of_not_mem v f inb_S1x16x1024_S1x16x256_0_0_256 _ _ (ix3 (0 : Fin 1) n (⟨0 * 256 + r.val, by omega⟩ : Fin 1024)) rfl (2 : Fin 3) (.inl (by show 0 * 256 + r.val < 256; omega))).trans ?_
    exact View.read_writes_cons_unit_of_mem v f inb_S1x16x1024_S1x16x256_0_0_0 _ _ (ix3 (0 : Fin 1) n (⟨0 * 256 + r.val, by omega⟩ : Fin 1024)) (ix3 0 n r : S1x16x256.Idx) rfl (forall_fin3 (Nat.zero_add _).symm (Nat.zero_add _).symm (by show 0 * 256 + r.val = 0 + r.val; omega))
  | ⟨1, _⟩ =>
    refine (View.read_writes_cons_unit_of_not_mem v f inb_S1x16x1024_S1x16x256_0_0_768 _ _ (ix3 (0 : Fin 1) n (⟨1 * 256 + r.val, by omega⟩ : Fin 1024)) rfl (2 : Fin 3) (.inl (by show 1 * 256 + r.val < 768; omega))).trans ?_
    refine (View.read_writes_cons_unit_of_not_mem v f inb_S1x16x1024_S1x16x256_0_0_512 _ _ (ix3 (0 : Fin 1) n (⟨1 * 256 + r.val, by omega⟩ : Fin 1024)) rfl (2 : Fin 3) (.inl (by show 1 * 256 + r.val < 512; omega))).trans ?_
    exact View.read_writes_cons_unit_of_mem v f inb_S1x16x1024_S1x16x256_0_0_256 _ _ (ix3 (0 : Fin 1) n (⟨1 * 256 + r.val, by omega⟩ : Fin 1024)) (ix3 0 n r : S1x16x256.Idx) rfl (forall_fin3 (Nat.zero_add _).symm (Nat.zero_add _).symm (by show 1 * 256 + r.val = 256 + r.val; omega))
  | ⟨2, _⟩ =>
    refine (View.read_writes_cons_unit_of_not_mem v f inb_S1x16x1024_S1x16x256_0_0_768 _ _ (ix3 (0 : Fin 1) n (⟨2 * 256 + r.val, by omega⟩ : Fin 1024)) rfl (2 : Fin 3) (.inl (by show 2 * 256 + r.val < 768; omega))).trans ?_
    exact View.read_writes_cons_unit_of_mem v f inb_S1x16x1024_S1x16x256_0_0_512 _ _ (ix3 (0 : Fin 1) n (⟨2 * 256 + r.val, by omega⟩ : Fin 1024)) (ix3 0 n r : S1x16x256.Idx) rfl (forall_fin3 (Nat.zero_add _).symm (Nat.zero_add _).symm (by show 2 * 256 + r.val = 512 + r.val; omega))
  | ⟨3, _⟩ =>
    exact View.read_writes_cons_unit_of_mem v f inb_S1x16x1024_S1x16x256_0_0_768 _ _ (ix3 (0 : Fin 1) n (⟨3 * 256 + r.val, by omega⟩ : Fin 1024)) (ix3 0 n r : S1x16x256.Idx) rfl (forall_fin3 (Nat.zero_add _).symm (Nat.zero_add _).symm (by show 3 * 256 + r.val = 768 + r.val; omega))

theorem read4v (v : View sig κ sp S1x4x4x136x256 e) (f : v.ty.Contents Val) (O : S1x4x1x8x256.Idx → Val e) (T0 T1 T2 T3 : S1x4x1x128x256.Idx → Val e) (T : Fin 4 → S1x4x1x128x256.Idx → Val e)
    (h0 : T0 = T 0) (h1 : T1 = T 1) (h2 : T2 = T 2) (h3 : T3 = T 3) (h k : Fin 4) (d : Fin 136) (r : Fin 256) :
    v.read Val (v.writes Val f [⟨Rect.unit ![0, 0, 3, 128, 0] S1x4x1x8x256.size inb_S1x4x4x136x256_S1x4x1x8x256_0_0_3_128_0, O⟩, ⟨Rect.unit ![0, 0, 3, 0, 0] S1x4x1x128x256.size inb_S1x4x4x136x256_S1x4x1x128x256_0_0_3_0_0, T3⟩, ⟨Rect.unit ![0, 0, 2, 128, 0] S1x4x1x8x256.size inb_S1x4x4x136x256_S1x4x1x8x256_0_0_2_128_0, O⟩, ⟨Rect.unit ![0, 0, 2, 0, 0] S1x4x1x128x256.size inb_S1x4x4x136x256_S1x4x1x128x256_0_0_2_0_0, T2⟩, ⟨Rect.unit ![0, 0, 1, 128, 0] S1x4x1x8x256.size inb_S1x4x4x136x256_S1x4x1x8x256_0_0_1_128_0, O⟩, ⟨Rect.unit ![0, 0, 1, 0, 0] S1x4x1x128x256.size inb_S1x4x4x136x256_S1x4x1x128x256_0_0_1_0_0, T1⟩, ⟨Rect.unit ![0, 0, 0, 128, 0] S1x4x1x8x256.size inb_S1x4x4x136x256_S1x4x1x8x256_0_0_0_128_0, O⟩, ⟨Rect.unit ![0, 0, 0, 0, 0] S1x4x1x128x256.size inb_S1x4x4x136x256_S1x4x1x128x256_0_0_0_0_0, T0⟩]) (ix5 (0 : Fin 1) h k d r)
      = if hd : d.val < 128 then T k (ix5 0 h 0 ⟨d.val, hd⟩ r) else O (ix5 0 h 0 ⟨d.val - 128, by omega⟩ r) := by
  subst h0 h1 h2 h3
  match k with
  | ⟨0, hk⟩ =>
    refine (View.read_writes_cons_unit_of_not_mem v f inb_S1x4x4x136x256_S1x4x1x8x256_0_0_3_128_0 _ _ (ix5 (0 : Fin 1) h (⟨0, hk⟩ : Fin 4) d r) rfl (2 : Fin 5) (.inl (by show 0 < 3; omega))).trans ?_
    refine (View.read_writes_cons_unit_of_not_mem v f inb_S1x4x4x136x256_S1x4x1x128x256_0_0_3_0_0 _ _ (ix5 (0 : Fin 1) h (⟨0, hk⟩ : Fin 4) d r) rfl (2 : Fin 5) (.inl (by show 0 < 3; omega))).trans ?_
    refine (View.read_writes_cons_unit_of_not_mem v f inb_S1x4x4x136x256_S1x4x1x8x256_0_0_2_128_0 _ _ (ix5 (0 : Fin 1) h (⟨0, hk⟩ : Fin 4) d r) rfl (2 : Fin 5) (.inl (by show 0 < 2; omega))).trans ?_
    refine (View.read_writes_cons_unit_of_not_mem v f inb_S1x4x4x136x256_S1x4x1x128x256_0_0_2_0_0 _ _ (ix5 (0 : Fin 1) h (⟨0, hk⟩ : Fin 4) d r) rfl (2 : Fin 5) (.inl (by show 0 < 2; omega))).trans ?_
    refine (View.read_writes_cons_unit_of_not_mem v f inb_S1x4x4x136x256_S1x4x1x8x256_0_0_1_128_0 _ _ (ix5 (0 : Fin 1) h (⟨0, hk⟩ : Fin 4) d r) rfl (2 : Fin 5) (.inl (by show 0 < 1; omega))).trans ?_
    refine (View.read_writes_cons_unit_of_not_mem v f inb_S1x4x4x136x256_S1x4x1x128x256_0_0_1_0_0 _ _ (ix5 (0 : Fin 1) h (⟨0, hk⟩ : Fin 4) d r) rfl (2 : Fin 5) (.inl (by show 0 < 1; omega))).trans ?_
    by_cases hd : d.val < 128
    · rw [dif_pos hd]
      refine (View.read_writes_cons_unit_of_not_mem v f inb_S1x4x4x136x256_S1x4x1x8x256_0_0_0_128_0 _ _ (ix5 (0 : Fin 1) h (⟨0, hk⟩ : Fin 4) d r) rfl (3 : Fin 5) (.inl hd)).trans ?_
      exact View.read_writes_cons_unit_of_mem v f inb_S1x4x4x136x256_S1x4x1x128x256_0_0_0_0_0 _ _ (ix5 (0 : Fin 1) h (⟨0, hk⟩ : Fin 4) d r) (ix5 0 h 0 ⟨d.val, hd⟩ r : S1x4x1x128x256.Idx) rfl (forall_fin5 (Nat.zero_add _).symm (Nat.zero_add _).symm (by show 0 = 0 + 0; omega) (Nat.zero_add _).symm (Nat.zero_add _).symm)
    · rw [dif_neg hd]
      exact View.read_writes_cons_unit_of_mem v f inb_S1x4x4x136x256_S1x4x1x8x256_0_0_0_128_0 _ _ (ix5 (0 : Fin 1) h (⟨0, hk⟩ : Fin 4) d r) (ix5 0 h 0 ⟨d.val - 128, by omega⟩ r : S1x4x1x8x256.Idx) rfl (forall_fin5 (Nat.zero_add _).symm (Nat.zero_add _).symm (by show 0 = 0 + 0; omega) (by show d.val = 128 + (d.val - 128); omega) (Nat.zero_add _).symm)
  | ⟨1, hk⟩ =>
    refine (View.read_writes_cons_unit_of_not_mem v f inb_S1x4x4x136x256_S1x4x1x8x256_0_0_3_128_0 _ _ (ix5 (0 : Fin 1) h (⟨1, hk⟩ : Fin 4) d r) rfl (2 : Fin 5) (.inl (by show 1 < 3; omega))).trans ?_
    refine (View.read_writes_cons_unit_of_not_mem v f inb_S1x4x4x136x256_S1x4x1x128x256_0_0_3_0_0 _ _ (ix5 (0 : Fin 1) h (⟨1, hk⟩ : Fin 4) d r) rfl (2 : Fin 5) (.inl (by show 1 < 3; omega))).trans ?_
    refine (View.read_writes_cons_unit_of_not_mem v f inb_S1x4x4x136x256_S1x4x1x8x256_0_0_2_128_0 _ _ (ix5 (0 : Fin 1) h (⟨1, hk⟩ : Fin 4) d r) rfl (2 : Fin 5) (.inl (by show 1 < 2; omega))).trans ?_
    refine (View.read_writes_cons_unit_of_not_mem v f inb_S1x4x4x136x256_S1x4x1x128x256_0_0_2_0_0 _ _ (ix5 (0 : Fin 1) h (⟨1, hk⟩ : Fin 4) d r) rfl (2 : Fin 5) (.inl (by show 1 < 2; omega))).trans ?_
    by_cases hd : d.val < 128
    · rw [dif_pos hd]
      refine (View.read_writes_cons_unit_of_not_mem v f inb_S1x4x4x136x256_S1x4x1x8x256_0_0_1_128_0 _ _ (ix5 (0 : Fin 1) h (⟨1, hk⟩ : Fin 4) d r) rfl (3 : Fin 5) (.inl hd)).trans ?_
      exact View.read_writes_cons_unit_of_mem v f inb_S1x4x4x136x256_S1x4x1x128x256_0_0_1_0_0 _ _ (ix5 (0 : Fin 1) h (⟨1, hk⟩ : Fin 4) d r) (ix5 0 h 0 ⟨d.val, hd⟩ r : S1x4x1x128x256.Idx) rfl (forall_fin5 (Nat.zero_add _).symm (Nat.zero_add _).symm (by show 1 = 1 + 0; omega) (Nat.zero_add _).symm (Nat.zero_add _).symm)
    · rw [dif_neg hd]
      exact View.read_writes_cons_unit_of_mem v f inb_S1x4x4x136x256_S1x4x1x8x256_0_0_1_128_0 _ _ (ix5 (0 : Fin 1) h (⟨1, hk⟩ : Fin 4) d r) (ix5 0 h 0 ⟨d.val - 128, by omega⟩ r : S1x4x1x8x256.Idx) rfl (forall_fin5 (Nat.zero_add _).symm (Nat.zero_add _).symm (by show 1 = 1 + 0; omega) (by show d.val = 128 + (d.val - 128); omega) (Nat.zero_add _).symm)
  | ⟨2, hk⟩ =>
    refine (View.read_writes_cons_unit_of_not_mem v f inb_S1x4x4x136x256_S1x4x1x8x256_0_0_3_128_0 _ _ (ix5 (0 : Fin 1) h (⟨2, hk⟩ : Fin 4) d r) rfl (2 : Fin 5) (.inl (by show 2 < 3; omega))).trans ?_
    refine (View.read_writes_cons_unit_of_not_mem v f inb_S1x4x4x136x256_S1x4x1x128x256_0_0_3_0_0 _ _ (ix5 (0 : Fin 1) h (⟨2, hk⟩ : Fin 4) d r) rfl (2 : Fin 5) (.inl (by show 2 < 3; omega))).trans ?_
    by_cases hd : d.val < 128
    · rw [dif_pos hd]
      refine (View.read_writes_cons_unit_of_not_mem v f inb_S1x4x4x136x256_S1x4x1x8x256_0_0_2_128_0 _ _ (ix5 (0 : Fin 1) h (⟨2, hk⟩ : Fin 4) d r) rfl (3 : Fin 5) (.inl hd)).trans ?_
      exact View.read_writes_cons_unit_of_mem v f inb_S1x4x4x136x256_S1x4x1x128x256_0_0_2_0_0 _ _ (ix5 (0 : Fin 1) h (⟨2, hk⟩ : Fin 4) d r) (ix5 0 h 0 ⟨d.val, hd⟩ r : S1x4x1x128x256.Idx) rfl (forall_fin5 (Nat.zero_add _).symm (Nat.zero_add _).symm (by show 2 = 2 + 0; omega) (Nat.zero_add _).symm (Nat.zero_add _).symm)
    · rw [dif_neg hd]
      exact View.read_writes_cons_unit_of_mem v f inb_S1x4x4x136x256_S1x4x1x8x256_0_0_2_128_0 _ _ (ix5 (0 : Fin 1) h (⟨2, hk⟩ : Fin 4) d r) (ix5 0 h 0 ⟨d.val - 128, by omega⟩ r : S1x4x1x8x256.Idx) rfl (forall_fin5 (Nat.zero_add _).symm (Nat.zero_add _).symm (by show 2 = 2 + 0; omega) (by show d.val = 128 + (d.val - 128); omega) (Nat.zero_add _).symm)
  | ⟨3, hk⟩ =>
    by_cases hd : d.val < 128
    · rw [dif_pos hd]
      refine (View.read_writes_cons_unit_of_not_mem v f inb_S1x4x4x136x256_S1x4x1x8x256_0_0_3_128_0 _ _ (ix5 (0 : Fin 1) h (⟨3, hk⟩ : Fin 4) d r) rfl (3 : Fin 5) (.inl hd)).trans ?_
      exact View.read_writes_cons_unit_of_mem v f inb_S1x4x4x136x256_S1x4x1x128x256_0_0_3_0_0 _ _ (ix5 (0 : Fin 1) h (⟨3, hk⟩ : Fin 4) d r) (ix5 0 h 0 ⟨d.val, hd⟩ r : S1x4x1x128x256.Idx) rfl (forall_fin5 (Nat.zero_add _).symm (Nat.zero_add _).symm (by show 3 = 3 + 0; omega) (Nat.zero_add _).symm (Nat.zero_add _).symm)
    · rw [dif_neg hd]
      exact View.read_writes_cons_unit_of_mem v f inb_S1x4x4x136x256_S1x4x1x8x256_0_0_3_128_0 _ _ (ix5 (0 : Fin 1) h (⟨3, hk⟩ : Fin 4) d r) (ix5 0 h 0 ⟨d.val - 128, by omega⟩ r : S1x4x1x8x256.Idx) rfl (forall_fin5 (Nat.zero_add _).symm (Nat.zero_add _).symm (by show 3 = 3 + 0; omega) (by show d.val = 128 + (d.val - 128); omega) (Nat.zero_add _).symm)

theorem read16 (v : View sig κ sp S1x1024x512 e) (f : v.ty.Contents Val) (T00 T01 T02 T03 T10 T11 T12 T13 T20 T21 T22 T23 T30 T31 T32 T33 : S1x256x128.Idx → Val e) (T : Fin 4 → Fin 4 → S1x256x128.Idx → Val e)
    (h00 : T00 = T 0 0) (h01 : T01 = T 0 1) (h02 : T02 = T 0 2) (h03 : T03 = T 0 3) (h10 : T10 = T 1 0) (h11 : T11 = T 1 1) (h12 : T12 = T 1 2) (h13 : T13 = T 1 3) (h20 : T20 = T 2 0) (h21 : T21 = T 2 1) (h22 : T22 = T 2 2) (h23 : T23 = T 2 3) (h30 : T30 = T 3 0) (h31 : T31 = T 3 1) (h32 : T32 = T 3 2) (h33 : T33 = T 3 3)
    (k h : Fin 4) (r : Fin 256) (n : Fin 128) :
    v.read Val (v.writes Val f [⟨Rect.unit ![0, 768, 384] S1x256x128.size inb_S1x1024x512_S1x256x128_0_768_384, T33⟩, ⟨Rect.unit ![0, 768, 256] S1x256x128.size inb_S1x1024x512_S1x256x128_0_768_256, T32⟩, ⟨Rect.unit ![0, 768, 128] S1x256x128.size inb_S1x1024x512_S1x256x128_0_768_128, T31⟩, ⟨Rect.unit ![0, 768, 0] S1x256x128.size inb_S1x1024x512_S1x256x128_0_768_0, T30⟩, ⟨Rect.unit ![0, 512, 384] S1x256x128.size inb_S1x1024x512_S1x256x128_0_512_384, T23⟩, ⟨Rect.unit ![0, 512, 256] S1x256x128.size inb_S1x1024x512_S1x256x128_0_512_256, T22⟩, ⟨Rect.unit ![0, 512, 128] S1x256x128.size inb_S1x1024x512_S1x256x128_0_512_128, T21⟩, ⟨Rect.unit ![0, 512, 0] S1x256x128.size inb_S1x1024x512_S1x256x128_0_512_0, T20⟩, ⟨Rect.unit ![0, 256, 384] S1x256x128.size inb_S1x1024x512_S1x256x128_0_256_384, T13⟩, ⟨Rect.unit ![0, 256, 256] S1x256x128.size inb_S1x1024x512_S1x256x128_0_256_256, T12⟩, ⟨Rect.unit ![0, 256, 128] S1x256x128.size inb_S1x1024x512_S1x256x128_0_256_128, T11⟩, ⟨Rect.unit ![0, 256, 0] S1x256x128.size inb_S1x1024x512_S1x256x128_0_256_0, T10⟩, ⟨Rect.unit ![0, 0, 384] S1x256x128.size inb_S1x1024x512_S1x256x128_0_0_384, T03⟩, ⟨Rect.unit ![0, 0, 256] S1x256x128.size inb_S1x1024x512_S1x256x128_0_0_256, T02⟩, ⟨Rect.unit ![0, 0, 128] S1x256x128.size inb_S1x1024x512_S1x256x128_0_0_128, T01⟩, ⟨Rect.unit ![0, 0, 0] S1x256x128.size inb_S1x1024x512_S1x256x128_0_0_0, T00⟩]) (ix3 (0 : Fin 1) (⟨k.val * 256 + r.val, by omega⟩ : Fin 1024) (⟨h.val * 128 + n.val, by omega⟩ : Fin 512))
      = T k h (ix3 0 r n) := by
  subst h00 h01 h02 h03 h10 h11 h12 h13 h20 h21 h22 h23 h30 h31 h32 h33
  have hr := r.isLt
  have hn := n.isLt
  match k, h with
  | ⟨0, _⟩, ⟨0, _⟩ =>
    refine (View.read_writes_cons_unit_of_not_mem v f inb_S1x1024x512_S1x256x128_0_768_384 _ _ (ix3 (0 : Fin 1) (⟨0 * 256 + r.val, by omega⟩ : Fin 1024) (⟨0 * 128 + n.val, by omega⟩ : Fin 512)) rfl (1 : Fin 3) (.inl (by show 0 * 256 + r.val < 768; omega))).trans ?_
    refine (View.read_writes_cons_unit_of_not_mem v f inb_S1x1024x512_S1x256x128_0_768_256 _ _ (ix3 (0 : Fin 1) (⟨0 * 256 + r.val, by omega⟩ : Fin 1024) (⟨0 * 128 + n.val, by omega⟩ : Fin 512)) rfl (1 : Fin 3) (.inl (by show 0 * 256 + r.val < 768; omega))).trans ?_
    refine (View.read_writes_cons_unit_of_not_mem v f inb_S1x1024x512_S1x256x128_0_768_128 _ _ (ix3 (0 : Fin 1) (⟨0 * 256 + r.val, by omega⟩ : Fin 1024) (⟨0 * 128 + n.val, by omega⟩ : Fin 512)) rfl (1 : Fin 3) (.inl (by show 0 * 256 + r.val < 768; omega))).trans ?_
    refine (View.read_writes_cons_unit_of_not_mem v f inb_S1x1024x512_S1x256x128_0_768_0 _ _ (ix3 (0 : Fin 1) (⟨0 * 256 + r.val, by omega⟩ : Fin 1024) (⟨0 * 128 + n.val, by omega⟩ : Fin 512)) rfl (1 : Fin 3) (.inl (by show 0 * 256 + r.val < 768; omega))).trans ?_
    refine (View.read_writes_cons_unit_of_not_mem v f inb_S1x1024x512_S1x256x128_0_512_384 _ _ (ix3 (0 : Fin 1) (⟨0 * 256 + r.val, by omega⟩ : Fin 1024) (⟨0 * 128 + n.val, by omega⟩ : Fin 512)) rfl (1 : Fin 3) (.inl (by show 0 * 256 + r.val < 512; omega))).trans ?_
    refine (View.read_writes_cons_unit_of_not_mem v f inb_S1x1024x512_S1x256x128_0_512_256 _ _ (ix3 (0 : Fin 1) (⟨0 * 256 + r.val, by omega⟩ : Fin 1024) (⟨0 * 128 + n.val, by omega⟩ : Fin 512)) rfl (1 : Fin 3) (.inl (by show 0 * 256 + r.val < 512; omega))).trans ?_
    refine (View.read_writes_cons_unit_of_not_mem v f inb_S1x1024x512_S1x256x128_0_512_128 _ _ (ix3 (0 : Fin 1) (⟨0 * 256 + r.val, by omega⟩ : Fin 1024) (⟨0 * 128 + n.val, by omega⟩ : Fin 512)) rfl (1 : Fin 3) (.inl (by show 0 * 256 + r.val < 512; omega))).trans ?_
    refine (View.read_writes_cons_unit_of_not_mem v f inb_S1x1024x512_S1x256x128_0_512_0 _ _ (ix3 (0 : Fin 1) (⟨0 * 256 + r.val, by omega⟩ : Fin 1024) (⟨0 * 128 + n.val, by omega⟩ : Fin 512)) rfl (1 : Fin 3) (.inl (by show 0 * 256 + r.val < 512; omega))).trans ?_
    refine (View.read_writes_cons_unit_of_not_mem v f inb_S1x1024x512_S1x256x128_0_256_384 _ _ (ix3 (0 : Fin 1) (⟨0 * 256 + r.val, by omega⟩ : Fin 1024) (⟨0 * 128 + n.val, by omega⟩ : Fin 512)) rfl (1 : Fin 3) (.inl (by show 0 * 256 + r.val < 256; omega))).trans ?_
    refine (View.read_writes_cons_unit_of_not_mem v f inb_S1x1024x512_S1x256x128_0_256_256 _ _ (ix3 (0 : Fin 1) (⟨0 * 256 + r.val, by omega⟩ : Fin 1024) (⟨0 * 128 + n.val, by omega⟩ : Fin 512)) rfl (1 : Fin 3) (.inl (by show 0 * 256 + r.val < 256; omega))).trans ?_
    refine (View.read_writes_cons_unit_of_not_mem v f inb_S1x1024x512_S1x256x128_0_256_128 _ _ (ix3 (0 : Fin 1) (⟨0 * 256 + r.val, by omega⟩ : Fin 1024) (⟨0 * 128 + n.val, by omega⟩ : Fin 512)) rfl (1 : Fin 3) (.inl (by show 0 * 256 + r.val < 256; omega))).trans ?_
    refine (View.read_writes_cons_unit_of_not_mem v f inb_S1x1024x512_S1x256x128_0_256_0 _ _ (ix3 (0 : Fin 1) (⟨0 * 256 + r.val, by omega⟩ : Fin 1024) (⟨0 * 128 + n.val, by omega⟩ : Fin 512)) rfl (1 : Fin 3) (.inl (by show 0 * 256 + r.val < 256; omega))).trans ?_
    refine (View.read_writes_cons_unit_of_not_mem v f inb_S1x1024x512_S1x256x128_0_0_384 _ _ (ix3 (0 : Fin 1) (⟨0 * 256 + r.val, by omega⟩ : Fin 1024) (⟨0 * 128 + n.val, by omega⟩ : Fin 512)) rfl (2 : Fin 3) (.inl (by show 0 * 128 + n.val < 384; omega))).trans ?_
    refine (View.read_writes_cons_unit_of_not_mem v f inb_S1x1024x512_S1x256x128_0_0_256 _ _ (ix3 (0 : Fin 1) (⟨0 * 256 + r.val, by omega⟩ : Fin 1024) (⟨0 * 128 + n.val, by omega⟩ : Fin 512)) rfl (2 : Fin 3) (.inl (by show 0 * 128 + n.val < 256; omega))).trans ?_
    refine (View.read_writes_cons_unit_of_not_mem v f inb_S1x1024x512_S1x256x128_0_0_128 _ _ (ix3 (0 : Fin 1) (⟨0 * 256 + r.val, by omega⟩ : Fin 1024) (⟨0 * 128 + n.val, by omega⟩ : Fin 512)) rfl (2 : Fin 3) (.inl (by show 0 * 128 + n.val < 128; omega))).trans ?_
    exact View.read_writes_cons_unit_of_mem v f inb_S1x1024x512_S1x256x128_0_0_0 _ _ (ix3 (0 : Fin 1) (⟨0 * 256 + r.val, by omega⟩ : Fin 1024) (⟨0 * 128 + n.val, by omega⟩ : Fin 512)) (ix3 0 r n : S1x256x128.Idx) rfl (forall_fin3 (Nat.zero_add _).symm (by show 0 * 256 + r.val = 0 + r.val; omega) (by show 0 * 128 + n.val = 0 + n.val; omega))
  | ⟨0, _⟩, ⟨1, _⟩ =>
    refine (View.read_writes_cons_unit_of_not_mem v f inb_S1x1024x512_S1x256x128_0_768_384 _ _ (ix3 (0 : Fin 1) (⟨0 * 256 + r.val, by omega⟩ : Fin 1024) (⟨1 * 128 + n.val, by omega⟩ : Fin 512)) rfl (1 : Fin 3) (.inl (by show 0 * 256 + r.val < 768; omega))).trans ?_
    refine (View.read_writes_cons_unit_of_not_mem v f inb_S1x1024x512_S1x256x128_0_768_256 _ _ (ix3 (0 : Fin 1) (⟨0 * 256 + r.val, by omega⟩ : Fin 1024) (⟨1 * 128 + n.val, by omega⟩ : Fin 512)) rfl (1 : Fin 3) (.inl (by show 0 * 256 + r.val < 768; omega))).trans ?_
    refine (View.read_writes_cons_unit_of_not_mem v f inb_S1x1024x512_S1x256x128_0_768_128 _ _ (ix3 (0 : Fin 1) (⟨0 * 256 + r.val, by omega⟩ : Fin 1024) (⟨1 * 128 + n.val, by omega⟩ : Fin 512)) rfl (1 : Fin 3) (.inl (by show 0 * 256 + r.val < 768; omega))).trans ?_
    refine (View.read_writes_cons_unit_of_not_mem v f inb_S1x1024x512_S1x256x128_0_768_0 _ _ (ix3 (0 : Fin 1) (⟨0 * 256 + r.val, by omega⟩ : Fin 1024) (⟨1 * 128 + n.val, by omega⟩ : Fin 512)) rfl (1 : Fin 3) (.inl (by show 0 * 256 + r.val < 768; omega))).trans ?_
    refine (View.read_writes_cons_unit_of_not_mem v f inb_S1x1024x512_S1x256x128_0_512_384 _ _ (ix3 (0 : Fin 1) (⟨0 * 256 + r.val, by omega⟩ : Fin 1024) (⟨1 * 128 + n.val, by omega⟩ : Fin 512)) rfl (1 : Fin 3) (.inl (by show 0 * 256 + r.val < 512; omega))).trans ?_
    refine (View.read_writes_cons_unit_of_not_mem v f inb_S1x1024x512_S1x256x128_0_512_256 _ _ (ix3 (0 : Fin 1) (⟨0 * 256 + r.val, by omega⟩ : Fin 1024) (⟨1 * 128 + n.val, by omega⟩ : Fin 512)) rfl (1 : Fin 3) (.inl (by show 0 * 256 + r.val < 512; omega))).trans ?_
    refine (View.read_writes_cons_unit_of_not_mem v f inb_S1x1024x512_S1x256x128_0_512_128 _ _ (ix3 (0 : Fin 1) (⟨0 * 256 + r.val, by omega⟩ : Fin 1024) (⟨1 * 128 + n.val, by omega⟩ : Fin 512)) rfl (1 : Fin 3) (.inl (by show 0 * 256 + r.val < 512; omega))).trans ?_
    refine (View.read_writes_cons_unit_of_not_mem v f inb_S1x1024x512_S1x256x128_0_512_0 _ _ (ix3 (0 : Fin 1) (⟨0 * 256 + r.val, by omega⟩ : Fin 1024) (⟨1 * 128 + n.val, by omega⟩ : Fin 512)) rfl (1 : Fin 3) (.inl (by show 0 * 256 + r.val < 512; omega))).trans ?_
    refine (View.read_writes_cons_unit_of_not_mem v f inb_S1x1024x512_S1x256x128_0_256_384 _ _ (ix3 (0 : Fin 1) (⟨0 * 256 + r.val, by omega⟩ : Fin 1024) (⟨1 * 128 + n.val, by omega⟩ : Fin 512)) rfl (1 : Fin 3) (.inl (by show 0 * 256 + r.val < 256; omega))).trans ?_
    refine (View.read_writes_cons_unit_of_not_mem v f inb_S1x1024x512_S1x256x128_0_256_256 _ _ (ix3 (0 : Fin 1) (⟨0 * 256 + r.val, by omega⟩ : Fin 1024) (⟨1 * 128 + n.val, by omega⟩ : Fin 512)) rfl (1 : Fin 3) (.inl (by show 0 * 256 + r.val < 256; omega))).trans ?_
    refine (View.read_writes_cons_unit_of_not_mem v f inb_S1x1024x512_S1x256x128_0_256_128 _ _ (ix3 (0 : Fin 1) (⟨0 * 256 + r.val, by omega⟩ : Fin 1024) (⟨1 * 128 + n.val, by omega⟩ : Fin 512)) rfl (1 : Fin 3) (.inl (by show 0 * 256 + r.val < 256; omega))).trans ?_
    refine (View.read_writes_cons_unit_of_not_mem v f inb_S1x1024x512_S1x256x128_0_256_0 _ _ (ix3 (0 : Fin 1) (⟨0 * 256 + r.val, by omega⟩ : Fin 1024) (⟨1 * 128 + n.val, by omega⟩ : Fin 512)) rfl (1 : Fin 3) (.inl (by show 0 * 256 + r.val < 256; omega))).trans ?_
    refine (View.read_writes_cons_unit_of_not_mem v f inb_S1x1024x512_S1x256x128_0_0_384 _ _ (ix3 (0 : Fin 1) (⟨0 * 256 + r.val, by omega⟩ : Fin 1024) (⟨1 * 128 + n.val, by omega⟩ : Fin 512)) rfl (2 : Fin 3) (.inl (by show 1 * 128 + n.val < 384; omega))).trans ?_
    refine (View.read_writes_cons_unit_of_not_mem v f inb_S1x1024x512_S1x256x128_0_0_256 _ _ (ix3 (0 : Fin 1) (⟨0 * 256 + r.val, by omega⟩ : Fin 1024) (⟨1 * 128 + n.val, by omega⟩ : Fin 512)) rfl (2 : Fin 3) (.inl (by show 1 * 128 + n.val < 256; omega))).trans ?_
    exact View.read_writes_cons_unit_of_mem v f inb_S1x1024x512_S1x256x128_0_0_128 _ _ (ix3 (0 : Fin 1) (⟨0 * 256 + r.val, by omega⟩ : Fin 1024) (⟨1 * 128 + n.val, by omega⟩ : Fin 512)) (ix3 0 r n : S1x256x128.Idx) rfl (forall_fin3 (Nat.zero_add _).symm (by show 0 * 256 + r.val = 0 + r.val; omega) (by show 1 * 128 + n.val = 128 + n.val; omega))
  | ⟨0, _⟩, ⟨2, _⟩ =>
    refine (View.read_writes_cons_unit_of_not_mem v f inb_S1x1024x512_S1x256x128_0_768_384 _ _ (ix3 (0 : Fin 1) (⟨0 * 256 + r.val, by omega⟩ : Fin 1024) (⟨2 * 128 + n.val, by omega⟩ : Fin 512)) rfl (1 : Fin 3) (.inl (by show 0 * 256 + r.val < 768; omega))).trans ?_
    refine (View.read_writes_cons_unit_of_not_mem v f inb_S1x1024x512_S1x256x128_0_768_256 _ _ (ix3 (0 : Fin 1) (⟨0 * 256 + r.val, by omega⟩ : Fin 1024) (⟨2 * 128 + n.val, by omega⟩ : Fin 512)) rfl (1 : Fin 3) (.inl (by show 0 * 256 + r.val < 768; omega))).trans ?_
    refine (View.read_writes_cons_unit_of_not_mem v f inb_S1x1024x512_S1x256x128_0_768_128 _ _ (ix3 (0 : Fin 1) (⟨0 * 256 + r.val, by omega⟩ : Fin 1024) (⟨2 * 128 + n.val, by omega⟩ : Fin 512)) rfl (1 : Fin 3) (.inl (by show 0 * 256 + r.val < 768; omega))).trans ?_
    refine (View.read_writes_cons_unit_of_not_mem v f inb_S1x1024x512_S1x256x128_0_768_0 _ _ (ix3 (0 : Fin 1) (⟨0 * 256 + r.val, by omega⟩ : Fin 1024) (⟨2 * 128 + n.val, by omega⟩ : Fin 512)) rfl (1 : Fin 3) (.inl (by show 0 * 256 + r.val < 768; omega))).trans ?_
    refine (View.read_writes_cons_unit_of_not_mem v f inb_S1x1024x512_S1x256x128_0_512_384 _ _ (ix3 (0 : Fin 1) (⟨0 * 256 + r.val, by omega⟩ : Fin 1024) (⟨2 * 128 + n.val, by omega⟩ : Fin 512)) rfl (1 : Fin 3) (.inl (by show 0 * 256 + r.val < 512; omega))).trans ?_
    refine (View.read_writes_cons_unit_of_not_mem v f inb_S1x1024x512_S1x256x128_0_512_256 _ _ (ix3 (0 : Fin 1) (⟨0 * 256 + r.val, by omega⟩ : Fin 1024) (⟨2 * 128 + n.val, by omega⟩ : Fin 512)) rfl (1 : Fin 3) (.inl (by show 0 * 256 + r.val < 512; omega))).trans ?_
    refine (View.read_writes_cons_unit_of_not_mem v f inb_S1x1024x512_S1x256x128_0_512_128 _ _ (ix3 (0 : Fin 1) (⟨0 * 256 + r.val, by omega⟩ : Fin 1024) (⟨2 * 128 + n.val, by omega⟩ : Fin 512)) rfl (1 : Fin 3) (.inl (by show 0 * 256 + r.val < 512; omega))).trans ?_
    refine (View.read_writes_cons_unit_of_not_mem v f inb_S1x1024x512_S1x256x128_0_512_0 _ _ (ix3 (0 : Fin 1) (⟨0 * 256 + r.val, by omega⟩ : Fin 1024) (⟨2 * 128 + n.val, by omega⟩ : Fin 512)) rfl (1 : Fin 3) (.inl (by show 0 * 256 + r.val < 512; omega))).trans ?_
    refine (View.read_writes_cons_unit_of_not_mem v f inb_S1x1024x512_S1x256x128_0_256_384 _ _ (ix3 (0 : Fin 1) (⟨0 * 256 + r.val, by omega⟩ : Fin 1024) (⟨2 * 128 + n.val, by omega⟩ : Fin 512)) rfl (1 : Fin 3) (.inl (by show 0 * 256 + r.val < 256; omega))).trans ?_
    refine (View.read_writes_cons_unit_of_not_mem v f inb_S1x1024x512_S1x256x128_0_256_256 _ _ (ix3 (0 : Fin 1) (⟨0 * 256 + r.val, by omega⟩ : Fin 1024) (⟨2 * 128 + n.val, by omega⟩ : Fin 512)) rfl (1 : Fin 3) (.inl (by show 0 * 256 + r.val < 256; omega))).trans ?_
    refine (View.read_writes_cons_unit_of_not_mem v f inb_S1x1024x512_S1x256x128_0_256_128 _ _ (ix3 (0 : Fin 1) (⟨0 * 256 + r.val, by omega⟩ : Fin 1024) (⟨2 * 128 + n.val, by omega⟩ : Fin 512)) rfl (1 : Fin 3) (.inl (by show 0 * 256 + r.val < 256; omega))).trans ?_
    refine (View.read_writes_cons_unit_of_not_mem v f inb_S1x1024x512_S1x256x128_0_256_0 _ _ (ix3 (0 : Fin 1) (⟨0 * 256 + r.val, by omega⟩ : Fin 1024) (⟨2 * 128 + n.val, by omega⟩ : Fin 512)) rfl (1 : Fin 3) (.inl (by show 0 * 256 + r.val < 256; omega))).trans ?_
    refine (View.read_writes_cons_unit_of_not_mem v f inb_S1x1024x512_S1x256x128_0_0_384 _ _ (ix3 (0 : Fin 1) (⟨0 * 256 + r.val, by omega⟩ : Fin 1024) (⟨2 * 128 + n.val, by omega⟩ : Fin 512)) rfl (2 : Fin 3) (.inl (by show 2 * 128 + n.val < 384; omega))).trans ?_
    exact View.read_writes_cons_unit_of_mem v f inb_S1x1024x512_S1x256x128_0_0_256 _ _ (ix3 (0 : Fin 1) (⟨0 * 256 + r.val, by omega⟩ : Fin 1024) (⟨2 * 128 + n.val, by omega⟩ : Fin 512)) (ix3 0 r n : S1x256x128.Idx) rfl (forall_fin3 (Nat.zero_add _).symm (by show 0 * 256 + r.val = 0 + r.val; omega) (by show 2 * 128 + n.val = 256 + n.val; omega))
  | ⟨0, _⟩, ⟨3, _⟩ =>
    refine (View.read_writes_cons_unit_of_not_mem v f inb_S1x1024x512_S1x256x128_0_768_384 _ _ (ix3 (0 : Fin 1) (⟨0 * 256 + r.val, by omega⟩ : Fin 1024) (⟨3 * 128 + n.val, by omega⟩ : Fin 512)) rfl (1 : Fin 3) (.inl (by show 0 * 256 + r.val < 768; omega))).trans ?_
    refine (View.read_writes_cons_unit_of_not_mem v f inb_S1x1024x512_S1x256x128_0_768_256 _ _ (ix3 (0 : Fin 1) (⟨0 * 256 + r.val, by omega⟩ : Fin 1024) (⟨3 * 128 + n.val, by omega⟩ : Fin 512)) rfl (1 : Fin 3) (.inl (by show 0 * 256 + r.val < 768; omega))).trans ?_
    refine (View.read_writes_cons_unit_of_not_mem v f inb_S1x1024x512_S1x256x128_0_768_128 _ _ (ix3 (0 : Fin 1) (⟨0 * 256 + r.val, by omega⟩ : Fin 1024) (⟨3 * 128 + n.val, by omega⟩ : Fin 512)) rfl (1 : Fin 3) (.inl (by show 0 * 256 + r.val < 768; omega))).trans ?_
    refine (View.read_writes_cons_unit_of_not_mem v f inb_S1x1024x512_S1x256x128_0_768_0 _ _ (ix3 (0 : Fin 1) (⟨0 * 256 + r.val, by omega⟩ : Fin 1024) (⟨3 * 128 + n.val, by omega⟩ : Fin 512)) rfl (1 : Fin 3) (.inl (by show 0 * 256 + r.val < 768; omega))).trans ?_
    refine (View.read_writes_cons_unit_of_not_mem v f inb_S1x1024x512_S1x256x128_0_512_384 _ _ (ix3 (0 : Fin 1) (⟨0 * 256 + r.val, by omega⟩ : Fin 1024) (⟨3 * 128 + n.val, by omega⟩ : Fin 512)) rfl (1 : Fin 3) (.inl (by show 0 * 256 + r.val < 512; omega))).trans ?_
    refine (View.read_writes_cons_unit_of_not_mem v f inb_S1x1024x512_S1x256x128_0_512_256 _ _ (ix3 (0 : Fin 1) (⟨0 * 256 + r.val, by omega⟩ : Fin 1024) (⟨3 * 128 + n.val, by omega⟩ : Fin 512)) rfl (1 : Fin 3) (.inl (by show 0 * 256 + r.val < 512; omega))).trans ?_
    refine (View.read_writes_cons_unit_of_not_mem v f inb_S1x1024x512_S1x256x128_0_512_128 _ _ (ix3 (0 : Fin 1) (⟨0 * 256 + r.val, by omega⟩ : Fin 1024) (⟨3 * 128 + n.val, by omega⟩ : Fin 512)) rfl (1 : Fin 3) (.inl (by show 0 * 256 + r.val < 512; omega))).trans ?_
    refine (View.read_writes_cons_unit_of_not_mem v f inb_S1x1024x512_S1x256x128_0_512_0 _ _ (ix3 (0 : Fin 1) (⟨0 * 256 + r.val, by omega⟩ : Fin 1024) (⟨3 * 128 + n.val, by omega⟩ : Fin 512)) rfl (1 : Fin 3) (.inl (by show 0 * 256 + r.val < 512; omega))).trans ?_
    refine (View.read_writes_cons_unit_of_not_mem v f inb_S1x1024x512_S1x256x128_0_256_384 _ _ (ix3 (0 : Fin 1) (⟨0 * 256 + r.val, by omega⟩ : Fin 1024) (⟨3 * 128 + n.val, by omega⟩ : Fin 512)) rfl (1 : Fin 3) (.inl (by show 0 * 256 + r.val < 256; omega))).trans ?_
    refine (View.read_writes_cons_unit_of_not_mem v f inb_S1x1024x512_S1x256x128_0_256_256 _ _ (ix3 (0 : Fin 1) (⟨0 * 256 + r.val, by omega⟩ : Fin 1024) (⟨3 * 128 + n.val, by omega⟩ : Fin 512)) rfl (1 : Fin 3) (.inl (by show 0 * 256 + r.val < 256; omega))).trans ?_
    refine (View.read_writes_cons_unit_of_not_mem v f inb_S1x1024x512_S1x256x128_0_256_128 _ _ (ix3 (0 : Fin 1) (⟨0 * 256 + r.val, by omega⟩ : Fin 1024) (⟨3 * 128 + n.val, by omega⟩ : Fin 512)) rfl (1 : Fin 3) (.inl (by show 0 * 256 + r.val < 256; omega))).trans ?_
    refine (View.read_writes_cons_unit_of_not_mem v f inb_S1x1024x512_S1x256x128_0_256_0 _ _ (ix3 (0 : Fin 1) (⟨0 * 256 + r.val, by omega⟩ : Fin 1024) (⟨3 * 128 + n.val, by omega⟩ : Fin 512)) rfl (1 : Fin 3) (.inl (by show 0 * 256 + r.val < 256; omega))).trans ?_
    exact View.read_writes_cons_unit_of_mem v f inb_S1x1024x512_S1x256x128_0_0_384 _ _ (ix3 (0 : Fin 1) (⟨0 * 256 + r.val, by omega⟩ : Fin 1024) (⟨3 * 128 + n.val, by omega⟩ : Fin 512)) (ix3 0 r n : S1x256x128.Idx) rfl (forall_fin3 (Nat.zero_add _).symm (by show 0 * 256 + r.val = 0 + r.val; omega) (by show 3 * 128 + n.val = 384 + n.val; omega))
  | ⟨1, _⟩, ⟨0, _⟩ =>
    refine (View.read_writes_cons_unit_of_not_mem v f inb_S1x1024x512_S1x256x128_0_768_384 _ _ (ix3 (0 : Fin 1) (⟨1 * 256 + r.val, by omega⟩ : Fin 1024) (⟨0 * 128 + n.val, by omega⟩ : Fin 512)) rfl (1 : Fin 3) (.inl (by show 1 * 256 + r.val < 768; omega))).trans ?_
    refine (View.read_writes_cons_unit_of_not_mem v f inb_S1x1024x512_S1x256x128_0_768_256 _ _ (ix3 (0 : Fin 1) (⟨1 * 256 + r.val, by omega⟩ : Fin 1024) (⟨0 * 128 + n.val, by omega⟩ : Fin 512)) rfl (1 : Fin 3) (.inl (by show 1 * 256 + r.val < 768; omega))).trans ?_
    refine (View.read_writes_cons_unit_of_not_mem v f inb_S1x1024x512_S1x256x128_0_768_128 _ _ (ix3 (0 : Fin 1) (⟨1 * 256 + r.val, by omega⟩ : Fin 1024) (⟨0 * 128 + n.val, by omega⟩ : Fin 512)) rfl (1 : Fin 3) (.inl (by show 1 * 256 + r.val < 768; omega))).trans ?_
    refine (View.read_writes_cons_unit_of_not_mem v f inb_S1x1024x512_S1x256x128_0_768_0 _ _ (ix3 (0 : Fin 1) (⟨1 * 256 + r.val, by omega⟩ : Fin 1024) (⟨0 * 128 + n.val, by omega⟩ : Fin 512)) rfl (1 : Fin 3) (.inl (by show 1 * 256 + r.val < 768; omega))).trans ?_
    refine (View.read_writes_cons_unit_of_not_mem v f inb_S1x1024x512_S1x256x128_0_512_384 _ _ (ix3 (0 : Fin 1) (⟨1 * 256 + r.val, by omega⟩ : Fin 1024) (⟨0 * 128 + n.val, by omega⟩ : Fin 512)) rfl (1 : Fin 3) (.inl (by show 1 * 256 + r.val < 512; omega))).trans ?_
    refine (View.read_writes_cons_unit_of_not_mem v f inb_S1x1024x512_S1x256x128_0_512_256 _ _ (ix3 (0 : Fin 1) (⟨1 * 256 + r.val, by omega⟩ : Fin 1024) (⟨0 * 128 + n.val, by omega⟩ : Fin 512)) rfl (1 : Fin 3) (.inl (by show 1 * 256 + r.val < 512; omega))).trans ?_
    refine (View.read_writes_cons_unit_of_not_mem v f inb_S1x1024x512_S1x256x128_0_512_128 _ _ (ix3 (0 : Fin 1) (⟨1 * 256 + r.val, by omega⟩ : Fin 1024) (⟨0 * 128 + n.val, by omega⟩ : Fin 512)) rfl (1 : Fin 3) (.inl (by show 1 * 256 + r.val < 512; omega))).trans ?_
    refine (View.read_writes_cons_unit_of_not_mem v f inb_S1x1024x512_S1x256x128_0_512_0 _ _ (ix3 (0 : Fin 1) (⟨1 * 256 + r.val, by omega⟩ : Fin 1024) (⟨0 * 128 + n.val, by omega⟩ : Fin 512)) rfl (1 : Fin 3) (.inl (by show 1 * 256 + r.val < 512; omega))).trans ?_
    refine (View.read_writes_cons_unit_of_not_mem v f inb_S1x1024x512_S1x256x128_0_256_384 _ _ (ix3 (0 : Fin 1) (⟨1 * 256 + r.val, by omega⟩ : Fin 1024) (⟨0 * 128 + n.val, by omega⟩ : Fin 512)) rfl (2 : Fin 3) (.inl (by show 0 * 128 + n.val < 384; omega))).trans ?_
    refine (View.read_writes_cons_unit_of_not_mem v f inb_S1x1024x512_S1x256x128_0_256_256 _ _ (ix3 (0 : Fin 1) (⟨1 * 256 + r.val, by omega⟩ : Fin 1024) (⟨0 * 128 + n.val, by omega⟩ : Fin 512)) rfl (2 : Fin 3) (.inl (by show 0 * 128 + n.val < 256; omega))).trans ?_
    refine (View.read_writes_cons_unit_of_not_mem v f inb_S1x1024x512_S1x256x128_0_256_128 _ _ (ix3 (0 : Fin 1) (⟨1 * 256 + r.val, by omega⟩ : Fin 1024) (⟨0 * 128 + n.val, by omega⟩ : Fin 512)) rfl (2 : Fin 3) (.inl (by show 0 * 128 + n.val < 128; omega))).trans ?_
    exact View.read_writes_cons_unit_of_mem v f inb_S1x1024x512_S1x256x128_0_256_0 _ _ (ix3 (0 : Fin 1) (⟨1 * 256 + r.val, by omega⟩ : Fin 1024) (⟨0 * 128 + n.val, by omega⟩ : Fin 512)) (ix3 0 r n : S1x256x128.Idx) rfl (forall_fin3 (Nat.zero_add _).symm (by show 1 * 256 + r.val = 256 + r.val; omega) (by show 0 * 128 + n.val = 0 + n.val; omega))
  | ⟨1, _⟩, ⟨1, _⟩ =>
    refine (View.read_writes_cons_unit_of_not_mem v f inb_S1x1024x512_S1x256x128_0_768_384 _ _ (ix3 (0 : Fin 1) (⟨1 * 256 + r.val, by omega⟩ : Fin 1024) (⟨1 * 128 + n.val, by omega⟩ : Fin 512)) rfl (1 : Fin 3) (.inl (by show 1 * 256 + r.val < 768; omega))).trans ?_
    refine (View.read_writes_cons_unit_of_not_mem v f inb_S1x1024x512_S1x256x128_0_768_256 _ _ (ix3 (0 : Fin 1) (⟨1 * 256 + r.val, by omega⟩ : Fin 1024) (⟨1 * 128 + n.val, by omega⟩ : Fin 512)) rfl (1 : Fin 3) (.inl (by show 1 * 256 + r.val < 768; omega))).trans ?_
    refine (View.read_writes_cons_unit_of_not_mem v f inb_S1x1024x512_S1x256x128_0_768_128 _ _ (ix3 (0 : Fin 1) (⟨1 * 256 + r.val, by omega⟩ : Fin 1024) (⟨1 * 128 + n.val, by omega⟩ : Fin 512)) rfl (1 : Fin 3) (.inl (by show 1 * 256 + r.val < 768; omega))).trans ?_
    refine (View.read_writes_cons_unit_of_not_mem v f inb_S1x1024x512_S1x256x128_0_768_0 _ _ (ix3 (0 : Fin 1) (⟨1 * 256 + r.val, by omega⟩ : Fin 1024) (⟨1 * 128 + n.val, by omega⟩ : Fin 512)) rfl (1 : Fin 3) (.inl (by show 1 * 256 + r.val < 768; omega))).trans ?_
    refine (View.read_writes_cons_unit_of_not_mem v f inb_S1x1024x512_S1x256x128_0_512_384 _ _ (ix3 (0 : Fin 1) (⟨1 * 256 + r.val, by omega⟩ : Fin 1024) (⟨1 * 128 + n.val, by omega⟩ : Fin 512)) rfl (1 : Fin 3) (.inl (by show 1 * 256 + r.val < 512; omega))).trans ?_
    refine (View.read_writes_cons_unit_of_not_mem v f inb_S1x1024x512_S1x256x128_0_512_256 _ _ (ix3 (0 : Fin 1) (⟨1 * 256 + r.val, by omega⟩ : Fin 1024) (⟨1 * 128 + n.val, by omega⟩ : Fin 512)) rfl (1 : Fin 3) (.inl (by show 1 * 256 + r.val < 512; omega))).trans ?_
    refine (View.read_writes_cons_unit_of_not_mem v f inb_S1x1024x512_S1x256x128_0_512_128 _ _ (ix3 (0 : Fin 1) (⟨1 * 256 + r.val, by omega⟩ : Fin 1024) (⟨1 * 128 + n.val, by omega⟩ : Fin 512)) rfl (1 : Fin 3) (.inl (by show 1 * 256 + r.val < 512; omega))).trans ?_
    refine (View.read_writes_cons_unit_of_not_mem v f inb_S1x1024x512_S1x256x128_0_512_0 _ _ (ix3 (0 : Fin 1) (⟨1 * 256 + r.val, by omega⟩ : Fin 1024) (⟨1 * 128 + n.val, by omega⟩ : Fin 512)) rfl (1 : Fin 3) (.inl (by show 1 * 256 + r.val < 512; omega))).trans ?_
    refine (View.read_writes_cons_unit_of_not_mem v f inb_S1x1024x512_S1x256x128_0_256_384 _ _ (ix3 (0 : Fin 1) (⟨1 * 256 + r.val, by omega⟩ : Fin 1024) (⟨1 * 128 + n.val, by omega⟩ : Fin 512)) rfl (2 : Fin 3) (.inl (by show 1 * 128 + n.val < 384; omega))).trans ?_
    refine (View.read_writes_cons_unit_of_not_mem v f inb_S1x1024x512_S1x256x128_0_256_256 _ _ (ix3 (0 : Fin 1) (⟨1 * 256 + r.val, by omega⟩ : Fin 1024) (⟨1 * 128 + n.val, by omega⟩ : Fin 512)) rfl (2 : Fin 3) (.inl (by show 1 * 128 + n.val < 256; omega))).trans ?_
    exact View.read_writes_cons_unit_of_mem v f inb_S1x1024x512_S1x256x128_0_256_128 _ _ (ix3 (0 : Fin 1) (⟨1 * 256 + r.val, by omega⟩ : Fin 1024) (⟨1 * 128 + n.val, by omega⟩ : Fin 512)) (ix3 0 r n : S1x256x128.Idx) rfl (forall_fin3 (Nat.zero_add _).symm (by show 1 * 256 + r.val = 256 + r.val; omega) (by show 1 * 128 + n.val = 128 + n.val; omega))
  | ⟨1, _⟩, ⟨2, _⟩ =>
    refine (View.read_writes_cons_unit_of_not_mem v f inb_S1x1024x512_S1x256x128_0_768_384 _ _ (ix3 (0 : Fin 1) (⟨1 * 256 + r.val, by omega⟩ : Fin 1024) (⟨2 * 128 + n.val, by omega⟩ : Fin 512)) rfl (1 : Fin 3) (.inl (by show 1 * 256 + r.val < 768; omega))).trans ?_
    refine (View.read_writes_cons_unit_of_not_mem v f inb_S1x1024x512_S1x256x128_0_768_256 _ _ (ix3 (0 : Fin 1) (⟨1 * 256 + r.val, by omega⟩ : Fin 1024) (⟨2 * 128 + n.val, by omega⟩ : Fin 512)) rfl (1 : Fin 3) (.inl (by show 1 * 256 + r.val < 768; omega))).trans ?_
    refine (View.read_writes_cons_unit_of_not_mem v f inb_S1x1024x512_S1x256x128_0_768_128 _ _ (ix3 (0 : Fin 1) (⟨1 * 256 + r.val, by omega⟩ : Fin 1024) (⟨2 * 128 + n.val, by omega⟩ : Fin 512)) rfl (1 : Fin 3) (.inl (by show 1 * 256 + r.val < 768; omega))).trans ?_
    refine (View.read_writes_cons_unit_of_not_mem v f inb_S1x1024x512_S1x256x128_0_768_0 _ _ (ix3 (0 : Fin 1) (⟨1 * 256 + r.val, by omega⟩ : Fin 1024) (⟨2 * 128 + n.val, by omega⟩ : Fin 512)) rfl (1 : Fin 3) (.inl (by show 1 * 256 + r.val < 768; omega))).trans ?_
    refine (View.read_writes_cons_unit_of_not_mem v f inb_S1x1024x512_S1x256x128_0_512_384 _ _ (ix3 (0 : Fin 1) (⟨1 * 256 + r.val, by omega⟩ : Fin 1024) (⟨2 * 128 + n.val, by omega⟩ : Fin 512)) rfl (1 : Fin 3) (.inl (by show 1 * 256 + r.val < 512; omega))).trans ?_
    refine (View.read_writes_cons_unit_of_not_mem v f inb_S1x1024x512_S1x256x128_0_512_256 _ _ (ix3 (0 : Fin 1) (⟨1 * 256 + r.val, by omega⟩ : Fin 1024) (⟨2 * 128 + n.val, by omega⟩ : Fin 512)) rfl (1 : Fin 3) (.inl (by show 1 * 256 + r.val < 512; omega))).trans ?_
    refine (View.read_writes_cons_unit_of_not_mem v f inb_S1x1024x512_S1x256x128_0_512_128 _ _ (ix3 (0 : Fin 1) (⟨1 * 256 + r.val, by omega⟩ : Fin 1024) (⟨2 * 128 + n.val, by omega⟩ : Fin 512)) rfl (1 : Fin 3) (.inl (by show 1 * 256 + r.val < 512; omega))).trans ?_
    refine (View.read_writes_cons_unit_of_not_mem v f inb_S1x1024x512_S1x256x128_0_512_0 _ _ (ix3 (0 : Fin 1) (⟨1 * 256 + r.val, by omega⟩ : Fin 1024) (⟨2 * 128 + n.val, by omega⟩ : Fin 512)) rfl (1 : Fin 3) (.inl (by show 1 * 256 + r.val < 512; omega))).trans ?_
    refine (View.read_writes_cons_unit_of_not_mem v f inb_S1x1024x512_S1x256x128_0_256_384 _ _ (ix3 (0 : Fin 1) (⟨1 * 256 + r.val, by omega⟩ : Fin 1024) (⟨2 * 128 + n.val, by omega⟩ : Fin 512)) rfl (2 : Fin 3) (.inl (by show 2 * 128 + n.val < 384; omega))).trans ?_
    exact View.read_writes_cons_unit_of_mem v f inb_S1x1024x512_S1x256x128_0_256_256 _ _ (ix3 (0 : Fin 1) (⟨1 * 256 + r.val, by omega⟩ : Fin 1024) (⟨2 * 128 + n.val, by omega⟩ : Fin 512)) (ix3 0 r n : S1x256x128.Idx) rfl (forall_fin3 (Nat.zero_add _).symm (by show 1 * 256 + r.val = 256 + r.val; omega) (by show 2 * 128 + n.val = 256 + n.val; omega))
  | ⟨1, _⟩, ⟨3, _⟩ =>
    refine (View.read_writes_cons_unit_of_not_mem v f inb_S1x1024x512_S1x256x128_0_768_384 _ _ (ix3 (0 : Fin 1) (⟨1 * 256 + r.val, by omega⟩ : Fin 1024) (⟨3 * 128 + n.val, by omega⟩ : Fin 512)) rfl (1 : Fin 3) (.inl (by show 1 * 256 + r.val < 768; omega))).trans ?_
    refine (View.read_writes_cons_unit_of_not_mem v f inb_S1x1024x512_S1x256x128_0_768_256 _ _ (ix3 (0 : Fin 1) (⟨1 * 256 + r.val, by omega⟩ : Fin 1024) (⟨3 * 128 + n.val, by omega⟩ : Fin 512)) rfl (1 : Fin 3) (.inl (by show 1 * 256 + r.val < 768; omega))).trans ?_
    refine (View.read_writes_cons_unit_of_not_mem v f inb_S1x1024x512_S1x256x128_0_768_128 _ _ (ix3 (0 : Fin 1) (⟨1 * 256 + r.val, by omega⟩ : Fin 1024) (⟨3 * 128 + n.val, by omega⟩ : Fin 512)) rfl (1 : Fin 3) (.inl (by show 1 * 256 + r.val < 768; omega))).trans ?_
    refine (View.read_writes_cons_unit_of_not_mem v f inb_S1x1024x512_S1x256x128_0_768_0 _ _ (ix3 (0 : Fin 1) (⟨1 * 256 + r.val, by omega⟩ : Fin 1024) (⟨3 * 128 + n.val, by omega⟩ : Fin 512)) rfl (1 : Fin 3) (.inl (by show 1 * 256 + r.val < 768; omega))).trans ?_
    refine (View.read_writes_cons_unit_of_not_mem v f inb_S1x1024x512_S1x256x128_0_512_384 _ _ (ix3 (0 : Fin 1) (⟨1 * 256 + r.val, by omega⟩ : Fin 1024) (⟨3 * 128 + n.val, by omega⟩ : Fin 512)) rfl (1 : Fin 3) (.inl (by show 1 * 256 + r.val < 512; omega))).trans ?_
    refine (View.read_writes_cons_unit_of_not_mem v f inb_S1x1024x512_S1x256x128_0_512_256 _ _ (ix3 (0 : Fin 1) (⟨1 * 256 + r.val, by omega⟩ : Fin 1024) (⟨3 * 128 + n.val, by omega⟩ : Fin 512)) rfl (1 : Fin 3) (.inl (by show 1 * 256 + r.val < 512; omega))).trans ?_
    refine (View.read_writes_cons_unit_of_not_mem v f inb_S1x1024x512_S1x256x128_0_512_128 _ _ (ix3 (0 : Fin 1) (⟨1 * 256 + r.val, by omega⟩ : Fin 1024) (⟨3 * 128 + n.val, by omega⟩ : Fin 512)) rfl (1 : Fin 3) (.inl (by show 1 * 256 + r.val < 512; omega))).trans ?_
    refine (View.read_writes_cons_unit_of_not_mem v f inb_S1x1024x512_S1x256x128_0_512_0 _ _ (ix3 (0 : Fin 1) (⟨1 * 256 + r.val, by omega⟩ : Fin 1024) (⟨3 * 128 + n.val, by omega⟩ : Fin 512)) rfl (1 : Fin 3) (.inl (by show 1 * 256 + r.val < 512; omega))).trans ?_
    exact View.read_writes_cons_unit_of_mem v f inb_S1x1024x512_S1x256x128_0_256_384 _ _ (ix3 (0 : Fin 1) (⟨1 * 256 + r.val, by omega⟩ : Fin 1024) (⟨3 * 128 + n.val, by omega⟩ : Fin 512)) (ix3 0 r n : S1x256x128.Idx) rfl (forall_fin3 (Nat.zero_add _).symm (by show 1 * 256 + r.val = 256 + r.val; omega) (by show 3 * 128 + n.val = 384 + n.val; omega))
  | ⟨2, _⟩, ⟨0, _⟩ =>
    refine (View.read_writes_cons_unit_of_not_mem v f inb_S1x1024x512_S1x256x128_0_768_384 _ _ (ix3 (0 : Fin 1) (⟨2 * 256 + r.val, by omega⟩ : Fin 1024) (⟨0 * 128 + n.val, by omega⟩ : Fin 512)) rfl (1 : Fin 3) (.inl (by show 2 * 256 + r.val < 768; omega))).trans ?_
    refine (View.read_writes_cons_unit_of_not_mem v f inb_S1x1024x512_S1x256x128_0_768_256 _ _ (ix3 (0 : Fin 1) (⟨2 * 256 + r.val, by omega⟩ : Fin 1024) (⟨0 * 128 + n.val, by omega⟩ : Fin 512)) rfl (1 : Fin 3) (.inl (by show 2 * 256 + r.val < 768; omega))).trans ?_
    refine (View.read_writes_cons_unit_of_not_mem v f inb_S1x1024x512_S1x256x128_0_768_128 _ _ (ix3 (0 : Fin 1) (⟨2 * 256 + r.val, by omega⟩ : Fin 1024) (⟨0 * 128 + n.val, by omega⟩ : Fin 512)) rfl (1 : Fin 3) (.inl (by show 2 * 256 + r.val < 768; omega))).trans ?_
    refine (View.read_writes_cons_unit_of_not_mem v f inb_S1x1024x512_S1x256x128_0_768_0 _ _ (ix3 (0 : Fin 1) (⟨2 * 256 + r.val, by omega⟩ : Fin 1024) (⟨0 * 128 + n.val, by omega⟩ : Fin 512)) rfl (1 : Fin 3) (.inl (by show 2 * 256 + r.val < 768; omega))).trans ?_
    refine (View.read_writes_cons_unit_of_not_mem v f inb_S1x1024x512_S1x256x128_0_512_384 _ _ (ix3 (0 : Fin 1) (⟨2 * 256 + r.val, by omega⟩ : Fin 1024) (⟨0 * 128 + n.val, by omega⟩ : Fin 512)) rfl (2 : Fin 3) (.inl (by show 0 * 128 + n.val < 384; omega))).trans ?_
    refine (View.read_writes_cons_unit_of_not_mem v f inb_S1x1024x512_S1x256x128_0_512_256 _ _ (ix3 (0 : Fin 1) (⟨2 * 256 + r.val, by omega⟩ : Fin 1024) (⟨0 * 128 + n.val, by omega⟩ : Fin 512)) rfl (2 : Fin 3) (.inl (by show 0 * 128 + n.val < 256; omega))).trans ?_
    refine (View.read_writes_cons_unit_of_not_mem v f inb_S1x1024x512_S1x256x128_0_512_128 _ _ (ix3 (0 : Fin 1) (⟨2 * 256 + r.val, by omega⟩ : Fin 1024) (⟨0 * 128 + n.val, by omega⟩ : Fin 512)) rfl (2 : Fin 3) (.inl (by show 0 * 128 + n.val < 128; omega))).trans ?_
    exact View.read_writes_cons_unit_of_mem v f inb_S1x1024x512_S1x256x128_0_512_0 _ _ (ix3 (0 : Fin 1) (⟨2 * 256 + r.val, by omega⟩ : Fin 1024) (⟨0 * 128 + n.val, by omega⟩ : Fin 512)) (ix3 0 r n : S1x256x128.Idx) rfl (forall_fin3 (Nat.zero_add _).symm (by show 2 * 256 + r.val = 512 + r.val; omega) (by show 0 * 128 + n.val = 0 + n.val; omega))
  | ⟨2, _⟩, ⟨1, _⟩ =>
    refine (View.read_writes_cons_unit_of_not_mem v f inb_S1x1024x512_S1x256x128_0_768_384 _ _ (ix3 (0 : Fin 1) (⟨2 * 256 + r.val, by omega⟩ : Fin 1024) (⟨1 * 128 + n.val, by omega⟩ : Fin 512)) rfl (1 : Fin 3) (.inl (by show 2 * 256 + r.val < 768; omega))).trans ?_
    refine (View.read_writes_cons_unit_of_not_mem v f inb_S1x1024x512_S1x256x128_0_768_256 _ _ (ix3 (0 : Fin 1) (⟨2 * 256 + r.val, by omega⟩ : Fin 1024) (⟨1 * 128 + n.val, by omega⟩ : Fin 512)) rfl (1 : Fin 3) (.inl (by show 2 * 256 + r.val < 768; omega))).trans ?_
    refine (View.read_writes_cons_unit_of_not_mem v f inb_S1x1024x512_S1x256x128_0_768_128 _ _ (ix3 (0 : Fin 1) (⟨2 * 256 + r.val, by omega⟩ : Fin 1024) (⟨1 * 128 + n.val, by omega⟩ : Fin 512)) rfl (1 : Fin 3) (.inl (by show 2 * 256 + r.val < 768; omega))).trans ?_
    refine (View.read_writes_cons_unit_of_not_mem v f inb_S1x1024x512_S1x256x128_0_768_0 _ _ (ix3 (0 : Fin 1) (⟨2 * 256 + r.val, by omega⟩ : Fin 1024) (⟨1 * 128 + n.val, by omega⟩ : Fin 512)) rfl (1 : Fin 3) (.inl (by show 2 * 256 + r.val < 768; omega))).trans ?_
    refine (View.read_writes_cons_unit_of_not_mem v f inb_S1x1024x512_S1x256x128_0_512_384 _ _ (ix3 (0 : Fin 1) (⟨2 * 256 + r.val, by omega⟩ : Fin 1024) (⟨1 * 128 + n.val, by omega⟩ : Fin 512)) rfl (2 : Fin 3) (.inl (by show 1 * 128 + n.val < 384; omega))).trans ?_
    refine (View.read_writes_cons_unit_of_not_mem v f inb_S1x1024x512_S1x256x128_0_512_256 _ _ (ix3 (0 : Fin 1) (⟨2 * 256 + r.val, by omega⟩ : Fin 1024) (⟨1 * 128 + n.val, by omega⟩ : Fin 512)) rfl (2 : Fin 3) (.inl (by show 1 * 128 + n.val < 256; omega))).trans ?_
    exact View.read_writes_cons_unit_of_mem v f inb_S1x1024x512_S1x256x128_0_512_128 _ _ (ix3 (0 : Fin 1) (⟨2 * 256 + r.val, by omega⟩ : Fin 1024) (⟨1 * 128 + n.val, by omega⟩ : Fin 512)) (ix3 0 r n : S1x256x128.Idx) rfl (forall_fin3 (Nat.zero_add _).symm (by show 2 * 256 + r.val = 512 + r.val; omega) (by show 1 * 128 + n.val = 128 + n.val; omega))
  | ⟨2, _⟩, ⟨2, _⟩ =>
    refine (View.read_writes_cons_unit_of_not_mem v f inb_S1x1024x512_S1x256x128_0_768_384 _ _ (ix3 (0 : Fin 1) (⟨2 * 256 + r.val, by omega⟩ : Fin 1024) (⟨2 * 128 + n.val, by omega⟩ : Fin 512)) rfl (1 : Fin 3) (.inl (by show 2 * 256 + r.val < 768; omega))).trans ?_
    refine (View.read_writes_cons_unit_of_not_mem v f inb_S1x1024x512_S1x256x128_0_768_256 _ _ (ix3 (0 : Fin 1) (⟨2 * 256 + r.val, by omega⟩ : Fin 1024) (⟨2 * 128 + n.val, by omega⟩ : Fin 512)) rfl (1 : Fin 3) (.inl (by show 2 * 256 + r.val < 768; omega))).trans ?_
    refine (View.read_writes_cons_unit_of_not_mem v f inb_S1x1024x512_S1x256x128_0_768_128 _ _ (ix3 (0 : Fin 1) (⟨2 * 256 + r.val, by omega⟩ : Fin 1024) (⟨2 * 128 + n.val, by omega⟩ : Fin 512)) rfl (1 : Fin 3) (.inl (by show 2 * 256 + r.val < 768; omega))).trans ?_
    refine (View.read_writes_cons_unit_of_not_mem v f inb_S1x1024x512_S1x256x128_0_768_0 _ _ (ix3 (0 : Fin 1) (⟨2 * 256 + r.val, by omega⟩ : Fin 1024) (⟨2 * 128 + n.val, by omega⟩ : Fin 512)) rfl (1 : Fin 3) (.inl (by show 2 * 256 + r.val < 768; omega))).trans ?_
    refine (View.read_writes_cons_unit_of_not_mem v f inb_S1x1024x512_S1x256x128_0_512_384 _ _ (ix3 (0 : Fin 1) (⟨2 * 256 + r.val, by omega⟩ : Fin 1024) (⟨2 * 128 + n.val, by omega⟩ : Fin 512)) rfl (2 : Fin 3) (.inl (by show 2 * 128 + n.val < 384; omega))).trans ?_
    exact View.read_writes_cons_unit_of_mem v f inb_S1x1024x512_S1x256x128_0_512_256 _ _ (ix3 (0 : Fin 1) (⟨2 * 256 + r.val, by omega⟩ : Fin 1024) (⟨2 * 128 + n.val, by omega⟩ : Fin 512)) (ix3 0 r n : S1x256x128.Idx) rfl (forall_fin3 (Nat.zero_add _).symm (by show 2 * 256 + r.val = 512 + r.val; omega) (by show 2 * 128 + n.val = 256 + n.val; omega))
  | ⟨2, _⟩, ⟨3, _⟩ =>
    refine (View.read_writes_cons_unit_of_not_mem v f inb_S1x1024x512_S1x256x128_0_768_384 _ _ (ix3 (0 : Fin 1) (⟨2 * 256 + r.val, by omega⟩ : Fin 1024) (⟨3 * 128 + n.val, by omega⟩ : Fin 512)) rfl (1 : Fin 3) (.inl (by show 2 * 256 + r.val < 768; omega))).trans ?_
    refine (View.read_writes_cons_unit_of_not_mem v f inb_S1x1024x512_S1x256x128_0_768_256 _ _ (ix3 (0 : Fin 1) (⟨2 * 256 + r.val, by omega⟩ : Fin 1024) (⟨3 * 128 + n.val, by omega⟩ : Fin 512)) rfl (1 : Fin 3) (.inl (by show 2 * 256 + r.val < 768; omega))).trans ?_
    refine (View.read_writes_cons_unit_of_not_mem v f inb_S1x1024x512_S1x256x128_0_768_128 _ _ (ix3 (0 : Fin 1) (⟨2 * 256 + r.val, by omega⟩ : Fin 1024) (⟨3 * 128 + n.val, by omega⟩ : Fin 512)) rfl (1 : Fin 3) (.inl (by show 2 * 256 + r.val < 768; omega))).trans ?_
    refine (View.read_writes_cons_unit_of_not_mem v f inb_S1x1024x512_S1x256x128_0_768_0 _ _ (ix3 (0 : Fin 1) (⟨2 * 256 + r.val, by omega⟩ : Fin 1024) (⟨3 * 128 + n.val, by omega⟩ : Fin 512)) rfl (1 : Fin 3) (.inl (by show 2 * 256 + r.val < 768; omega))).trans ?_
    exact View.read_writes_cons_unit_of_mem v f inb_S1x1024x512_S1x256x128_0_512_384 _ _ (ix3 (0 : Fin 1) (⟨2 * 256 + r.val, by omega⟩ : Fin 1024) (⟨3 * 128 + n.val, by omega⟩ : Fin 512)) (ix3 0 r n : S1x256x128.Idx) rfl (forall_fin3 (Nat.zero_add _).symm (by show 2 * 256 + r.val = 512 + r.val; omega) (by show 3 * 128 + n.val = 384 + n.val; omega))
  | ⟨3, _⟩, ⟨0, _⟩ =>
    refine (View.read_writes_cons_unit_of_not_mem v f inb_S1x1024x512_S1x256x128_0_768_384 _ _ (ix3 (0 : Fin 1) (⟨3 * 256 + r.val, by omega⟩ : Fin 1024) (⟨0 * 128 + n.val, by omega⟩ : Fin 512)) rfl (2 : Fin 3) (.inl (by show 0 * 128 + n.val < 384; omega))).trans ?_
    refine (View.read_writes_cons_unit_of_not_mem v f inb_S1x1024x512_S1x256x128_0_768_256 _ _ (ix3 (0 : Fin 1) (⟨3 * 256 + r.val, by omega⟩ : Fin 1024) (⟨0 * 128 + n.val, by omega⟩ : Fin 512)) rfl (2 : Fin 3) (.inl (by show 0 * 128 + n.val < 256; omega))).trans ?_
    refine (View.read_writes_cons_unit_of_not_mem v f inb_S1x1024x512_S1x256x128_0_768_128 _ _ (ix3 (0 : Fin 1) (⟨3 * 256 + r.val, by omega⟩ : Fin 1024) (⟨0 * 128 + n.val, by omega⟩ : Fin 512)) rfl (2 : Fin 3) (.inl (by show 0 * 128 + n.val < 128; omega))).trans ?_
    exact View.read_writes_cons_unit_of_mem v f inb_S1x1024x512_S1x256x128_0_768_0 _ _ (ix3 (0 : Fin 1) (⟨3 * 256 + r.val, by omega⟩ : Fin 1024) (⟨0 * 128 + n.val, by omega⟩ : Fin 512)) (ix3 0 r n : S1x256x128.Idx) rfl (forall_fin3 (Nat.zero_add _).symm (by show 3 * 256 + r.val = 768 + r.val; omega) (by show 0 * 128 + n.val = 0 + n.val; omega))
  | ⟨3, _⟩, ⟨1, _⟩ =>
    refine (View.read_writes_cons_unit_of_not_mem v f inb_S1x1024x512_S1x256x128_0_768_384 _ _ (ix3 (0 : Fin 1) (⟨3 * 256 + r.val, by omega⟩ : Fin 1024) (⟨1 * 128 + n.val, by omega⟩ : Fin 512)) rfl (2 : Fin 3) (.inl (by show 1 * 128 + n.val < 384; omega))).trans ?_
    refine (View.read_writes_cons_unit_of_not_mem v f inb_S1x1024x512_S1x256x128_0_768_256 _ _ (ix3 (0 : Fin 1) (⟨3 * 256 + r.val, by omega⟩ : Fin 1024) (⟨1 * 128 + n.val, by omega⟩ : Fin 512)) rfl (2 : Fin 3) (.inl (by show 1 * 128 + n.val < 256; omega))).trans ?_
    exact View.read_writes_cons_unit_of_mem v f inb_S1x1024x512_S1x256x128_0_768_128 _ _ (ix3 (0 : Fin 1) (⟨3 * 256 + r.val, by omega⟩ : Fin 1024) (⟨1 * 128 + n.val, by omega⟩ : Fin 512)) (ix3 0 r n : S1x256x128.Idx) rfl (forall_fin3 (Nat.zero_add _).symm (by show 3 * 256 + r.val = 768 + r.val; omega) (by show 1 * 128 + n.val = 128 + n.val; omega))
  | ⟨3, _⟩, ⟨2, _⟩ =>
    refine (View.read_writes_cons_unit_of_not_mem v f inb_S1x1024x512_S1x256x128_0_768_384 _ _ (ix3 (0 : Fin 1) (⟨3 * 256 + r.val, by omega⟩ : Fin 1024) (⟨2 * 128 + n.val, by omega⟩ : Fin 512)) rfl (2 : Fin 3) (.inl (by show 2 * 128 + n.val < 384; omega))).trans ?_
    exact View.read_writes_cons_unit_of_mem v f inb_S1x1024x512_S1x256x128_0_768_256 _ _ (ix3 (0 : Fin 1) (⟨3 * 256 + r.val, by omega⟩ : Fin 1024) (⟨2 * 128 + n.val, by omega⟩ : Fin 512)) (ix3 0 r n : S1x256x128.Idx) rfl (forall_fin3 (Nat.zero_add _).symm (by show 3 * 256 + r.val = 768 + r.val; omega) (by show 2 * 128 + n.val = 256 + n.val; omega))
  | ⟨3, _⟩, ⟨3, _⟩ =>
    exact View.read_writes_cons_unit_of_mem v f inb_S1x1024x512_S1x256x128_0_768_384 _ _ (ix3 (0 : Fin 1) (⟨3 * 256 + r.val, by omega⟩ : Fin 1024) (⟨3 * 128 + n.val, by omega⟩ : Fin 512)) (ix3 0 r n : S1x256x128.Idx) rfl (forall_fin3 (Nat.zero_add _).symm (by show 3 * 256 + r.val = 768 + r.val; omega) (by show 3 * 128 + n.val = 384 + n.val; omega))

theorem read4_of (v : View sig κ sp S1x1024x512 e) (f : v.ty.Contents Val) (T0 T1 T2 T3 : S1x256x512.Idx → Val e) (G : Fin 1024 → Fin 512 → Val e)
    (H0 : ∀ (r : Fin 256) (n : Fin 512), T0 (ix3 0 r n) = G ⟨0 * 256 + r.val, by omega⟩ n) (H1 : ∀ (r : Fin 256) (n : Fin 512), T1 (ix3 0 r n) = G ⟨1 * 256 + r.val, by omega⟩ n)
    (H2 : ∀ (r : Fin 256) (n : Fin 512), T2 (ix3 0 r n) = G ⟨2 * 256 + r.val, by omega⟩ n) (H3 : ∀ (r : Fin 256) (n : Fin 512), T3 (ix3 0 r n) = G ⟨3 * 256 + r.val, by omega⟩ n)
    (r : Fin 1024) (n : Fin 512) :
    v.read Val (v.writes Val f [⟨Rect.unit ![0, 768, 0] S1x256x512.size inb_S1x1024x512_S1x256x512_0_768_0, T3⟩, ⟨Rect.unit ![0, 512, 0] S1x256x512.size inb_S1x1024x512_S1x256x512_0_512_0, T2⟩, ⟨Rect.unit ![0, 256, 0] S1x256x512.size inb_S1x1024x512_S1x256x512_0_256_0, T1⟩, ⟨Rect.unit ![0, 0, 0] S1x256x512.size inb_S1x1024x512_S1x256x512_0_0_0, T0⟩]) (ix3 0 r n) = G r n := by
  have e := read4 v f T0 T1 T2 T3 ![T0, T1, T2, T3] rfl rfl rfl rfl ⟨r.val / 256, by omega⟩ ⟨r.val % 256, Nat.mod_lt _ (by decide)⟩ n
  have hr : (⟨r.val / 256 * 256 + r.val % 256, by omega⟩ : Fin 1024) = r := Fin.ext (by show r.val / 256 * 256 + r.val % 256 = r.val; omega)
  have key : ∀ (k : Fin 4) (q : Fin 256), (![T0, T1, T2, T3] k) (ix3 0 q n) = G ⟨k.val * 256 + q.val, by omega⟩ n := by
    intro k q
    match k with
    | ⟨0, _⟩ => exact H0 q n
    | ⟨1, _⟩ => exact H1 q n
    | ⟨2, _⟩ => exact H2 q n
    | ⟨3, _⟩ => exact H3 q n
  rw [key] at e
  simp only [hr] at e
  exact e

theorem read4b_of (v : View sig κ sp S1x1024x128 e) (f : v.ty.Contents Val) (T0 T1 T2 T3 : S1x256x128.Idx → Val e) (G : Fin 1024 → Fin 128 → Val e)
    (H0 : ∀ (r : Fin 256) (n : Fin 128), T0 (ix3 0 r n) = G ⟨0 * 256 + r.val, by omega⟩ n) (H1 : ∀ (r : Fin 256) (n : Fin 128), T1 (ix3 0 r n) = G ⟨1 * 256 + r.val, by omega⟩ n)
    (H2 : ∀ (r : Fin 256) (n : Fin 128), T2 (ix3 0 r n) = G ⟨2 * 256 + r.val, by omega⟩ n) (H3 : ∀ (r : Fin 256) (n : Fin 128), T3 (ix3 0 r n) = G ⟨3 * 256 + r.val, by omega⟩ n)
    (r : Fin 1024) (n : Fin 128) :
    v.read Val (v.writes Val f [⟨Rect.unit ![0, 768, 0] S1x256x128.size inb_S1x1024x128_S1x256x128_0_768_0, T3⟩, ⟨Rect.unit ![0, 512, 0] S1x256x128.size inb_S1x1024x128_S1x256x128_0_512_0, T2⟩, ⟨Rect.unit ![0, 256, 0] S1x256x128.size inb_S1x1024x128_S1x256x128_0_256_0, T1⟩, ⟨Rect.unit ![0, 0, 0] S1x256x128.size inb_S1x1024x128_S1x256x128_0_0_0, T0⟩]) (ix3 0 r n) = G r n := by
  have e := read4b v f T0 T1 T2 T3 ![T0, T1, T2, T3] rfl rfl rfl rfl ⟨r.val / 256, by omega⟩ ⟨r.val % 256, Nat.mod_lt _ (by decide)⟩ n
  have hr : (⟨r.val / 256 * 256 + r.val % 256, by omega⟩ : Fin 1024) = r := Fin.ext (by show r.val / 256 * 256 + r.val % 256 = r.val; omega)
  have key : ∀ (k : Fin 4) (q : Fin 256), (![T0, T1, T2, T3] k) (ix3 0 q n) = G ⟨k.val * 256 + q.val, by omega⟩ n := by
    intro k q
    match k with
    | ⟨0, _⟩ => exact H0 q n
    | ⟨1, _⟩ => exact H1 q n
    | ⟨2, _⟩ => exact H2 q n
    | ⟨3, _⟩ => exact H3 q n
  rw [key] at e
  simp only [hr] at e
  exact e

theorem read4t_of (v : View sig κ sp S1x16x1024 e) (f : v.ty.Contents Val) (T0 T1 T2 T3 : S1x16x256.Idx → Val e) (G : Fin 1024 → Fin 16 → Val e)
    (H0 : ∀ (r : Fin 256) (n : Fin 16), T0 (ix3 0 n r) = G ⟨0 * 256 + r.val, by omega⟩ n) (H1 : ∀ (r : Fin 256) (n : Fin 16), T1 (ix3 0 n r) = G ⟨1 * 256 + r.val, by omega⟩ n)
    (H2 : ∀ (r : Fin 256) (n : Fin 16), T2 (ix3 0 n r) = G ⟨2 * 256 + r.val, by omega⟩ n) (H3 : ∀ (r : Fin 256) (n : Fin 16), T3 (ix3 0 n r) = G ⟨3 * 256 + r.val, by omega⟩ n)
    (r : Fin 1024) (n : Fin 16) :
    v.read Val (v.writes Val f [⟨Rect.unit ![0, 0, 768] S1x16x256.size inb_S1x16x1024_S1x16x256_0_0_768, T3⟩, ⟨Rect.unit ![0, 0, 512] S1x16x256.size inb_S1x16x1024_S1x16x256_0_0_512, T2⟩, ⟨Rect.unit ![0, 0, 256] S1x16x256.size inb_S1x16x1024_S1x16x256_0_0_256, T1⟩, ⟨Rect.unit ![0, 0, 0] S1x16x256.size inb_S1x16x1024_S1x16x256_0_0_0, T0⟩]) (ix3 0 n r) = G r n := by
  have e := read4t v f T0 T1 T2 T3 ![T0, T1, T2, T3] rfl rfl rfl rfl ⟨r.val / 256, by omega⟩ ⟨r.val % 256, Nat.mod_lt _ (by decide)⟩ n
  have hr : (⟨r.val / 256 * 256 + r.val % 256, by omega⟩ : Fin 1024) = r := Fin.ext (by show r.val / 256 * 256 + r.val % 256 = r.val; omega)
  have key : ∀ (k : Fin 4) (q : Fin 256), (![T0, T1, T2, T3] k) (ix3 0 n q) = G ⟨k.val * 256 + q.val, by omega⟩ n := by
    intro k q
    match k with
    | ⟨0, _⟩ => exact H0 q n
    | ⟨1, _⟩ => exact H1 q n
    | ⟨2, _⟩ => exact H2 q n
    | ⟨3, _⟩ => exact H3 q n
  rw [key] at e
  simp only [hr] at e
  exact e

theorem read16_of (v : View sig κ sp S1x1024x512 e) (f : v.ty.Contents Val) (T00 T01 T02 T03 T10 T11 T12 T13 T20 T21 T22 T23 T30 T31 T32 T33 : S1x256x128.Idx → Val e) (G : Fin 1024 → Fin 4 → Fin 128 → Val e)
    (H00 : ∀ (r : Fin 256) (n : Fin 128), T00 (ix3 0 r n) = G ⟨0 * 256 + r.val, by omega⟩ 0 n)
    (H01 : ∀ (r : Fin 256) (n : Fin 128), T01 (ix3 0 r n) = G ⟨0 * 256 + r.val, by omega⟩ 1 n)
    (H02 : ∀ (r : Fin 256) (n : Fin 128), T02 (ix3 0 r n) = G ⟨0 * 256 + r.val, by omega⟩ 2 n)
    (H03 : ∀ (r : Fin 256) (n : Fin 128), T03 (ix3 0 r n) = G ⟨0 * 256 + r.val, by omega⟩ 3 n)
    (H10 : ∀ (r : Fin 256) (n : Fin 128), T10 (ix3 0 r n) = G ⟨1 * 256 + r.val, by omega⟩ 0 n)
    (H11 : ∀ (r : Fin 256) (n : Fin 128), T11 (ix3 0 r n) = G ⟨1 * 256 + r.val, by omega⟩ 1 n)
    (H12 : ∀ (r : Fin 256) (n : Fin 128), T12 (ix3 0 r n) = G ⟨1 * 256 + r.val, by omega⟩ 2 n)
    (H13 : ∀ (r : Fin 256) (n : Fin 128), T13 (ix3 0 r n) = G ⟨1 * 256 + r.val, by omega⟩ 3 n)
    (H20 : ∀ (r : Fin 256) (n : Fin 128), T20 (ix3 0 r n) = G ⟨2 * 256 + r.val, by omega⟩ 0 n)
    (H21 : ∀ (r : Fin 256) (n : Fin 128), T21 (ix3 0 r n) = G ⟨2 * 256 + r.val, by omega⟩ 1 n)
    (H22 : ∀ (r : Fin 256) (n : Fin 128), T22 (ix3 0 r n) = G ⟨2 * 256 + r.val, by omega⟩ 2 n)
    (H23 : ∀ (r : Fin 256) (n : Fin 128), T23 (ix3 0 r n) = G ⟨2 * 256 + r.val, by omega⟩ 3 n)
    (H30 : ∀ (r : Fin 256) (n : Fin 128), T30 (ix3 0 r n) = G ⟨3 * 256 + r.val, by omega⟩ 0 n)
    (H31 : ∀ (r : Fin 256) (n : Fin 128), T31 (ix3 0 r n) = G ⟨3 * 256 + r.val, by omega⟩ 1 n)
    (H32 : ∀ (r : Fin 256) (n : Fin 128), T32 (ix3 0 r n) = G ⟨3 * 256 + r.val, by omega⟩ 2 n)
    (H33 : ∀ (r : Fin 256) (n : Fin 128), T33 (ix3 0 r n) = G ⟨3 * 256 + r.val, by omega⟩ 3 n)
    (r : Fin 1024) (n : Fin 512) :
    v.read Val (v.writes Val f [⟨Rect.unit ![0, 768, 384] S1x256x128.size inb_S1x1024x512_S1x256x128_0_768_384, T33⟩, ⟨Rect.unit ![0, 768, 256] S1x256x128.size inb_S1x1024x512_S1x256x128_0_768_256, T32⟩, ⟨Rect.unit ![0, 768, 128] S1x256x128.size inb_S1x1024x512_S1x256x128_0_768_128, T31⟩, ⟨Rect.unit ![0, 768, 0] S1x256x128.size inb_S1x1024x512_S1x256x128_0_768_0, T30⟩, ⟨Rect.unit ![0, 512, 384] S1x256x128.size inb_S1x1024x512_S1x256x128_0_512_384, T23⟩, ⟨Rect.unit ![0, 512, 256] S1x256x128.size inb_S1x1024x512_S1x256x128_0_512_256, T22⟩, ⟨Rect.unit ![0, 512, 128] S1x256x128.size inb_S1x1024x512_S1x256x128_0_512_128, T21⟩, ⟨Rect.unit ![0, 512, 0] S1x256x128.size inb_S1x1024x512_S1x256x128_0_512_0, T20⟩, ⟨Rect.unit ![0, 256, 384] S1x256x128.size inb_S1x1024x512_S1x256x128_0_256_384, T13⟩, ⟨Rect.unit ![0, 256, 256] S1x256x128.size inb_S1x1024x512_S1x256x128_0_256_256, T12⟩, ⟨Rect.unit ![0, 256, 128] S1x256x128.size inb_S1x1024x512_S1x256x128_0_256_128, T11⟩, ⟨Rect.unit ![0, 256, 0] S1x256x128.size inb_S1x1024x512_S1x256x128_0_256_0, T10⟩, ⟨Rect.unit ![0, 0, 384] S1x256x128.size inb_S1x1024x512_S1x256x128_0_0_384, T03⟩, ⟨Rect.unit ![0, 0, 256] S1x256x128.size inb_S1x1024x512_S1x256x128_0_0_256, T02⟩, ⟨Rect.unit ![0, 0, 128] S1x256x128.size inb_S1x1024x512_S1x256x128_0_0_128, T01⟩, ⟨Rect.unit ![0, 0, 0] S1x256x128.size inb_S1x1024x512_S1x256x128_0_0_0, T00⟩]) (ix3 0 r n) = G r ⟨n.val / 128, by omega⟩ ⟨n.val % 128, Nat.mod_lt _ (by decide)⟩ := by
  have e := read16 v f T00 T01 T02 T03 T10 T11 T12 T13 T20 T21 T22 T23 T30 T31 T32 T33 ![![T00, T01, T02, T03], ![T10, T11, T12, T13], ![T20, T21, T22, T23], ![T30, T31, T32, T33]] rfl rfl rfl rfl rfl rfl rfl rfl rfl rfl rfl rfl rfl rfl rfl rfl
    ⟨r.val / 256, by omega⟩ ⟨n.val / 128, by omega⟩ ⟨r.val % 256, Nat.mod_lt _ (by decide)⟩ ⟨n.val % 128, Nat.mod_lt _ (by decide)⟩
  have hr : (⟨r.val / 256 * 256 + r.val % 256, by omega⟩ : Fin 1024) = r := Fin.ext (by show r.val / 256 * 256 + r.val % 256 = r.val; omega)
  have hn : (⟨n.val / 128 * 128 + n.val % 128, by omega⟩ : Fin 512) = n := Fin.ext (by show n.val / 128 * 128 + n.val % 128 = n.val; omega)
  have key : ∀ (k h : Fin 4) (q : Fin 256) (n : Fin 128), (![![T00, T01, T02, T03], ![T10, T11, T12, T13], ![T20, T21, T22, T23], ![T30, T31, T32, T33]] k h) (ix3 0 q n) = G ⟨k.val * 256 + q.val, by omega⟩ h n := by
    intro k h q n
    match k, h with
    | ⟨0, _⟩, ⟨0, _⟩ => exact H00 q n
    | ⟨0, _⟩, ⟨1, _⟩ => exact H01 q n
    | ⟨0, _⟩, ⟨2, _⟩ => exact H02 q n
    | ⟨0, _⟩, ⟨3, _⟩ => exact H03 q n
    | ⟨1, _⟩, ⟨0, _⟩ => exact H10 q n
    | ⟨1, _⟩, ⟨1, _⟩ => exact H11 q n
    | ⟨1, _⟩, ⟨2, _⟩ => exact H12 q n
    | ⟨1, _⟩, ⟨3, _⟩ => exact H13 q n
    | ⟨2, _⟩, ⟨0, _⟩ => exact H20 q n
    | ⟨2, _⟩, ⟨1, _⟩ => exact H21 q n
    | ⟨2, _⟩, ⟨2, _⟩ => exact H22 q n
    | ⟨2, _⟩, ⟨3, _⟩ => exact H23 q n
    | ⟨3, _⟩, ⟨0, _⟩ => exact H30 q n
    | ⟨3, _⟩, ⟨1, _⟩ => exact H31 q n
    | ⟨3, _⟩, ⟨2, _⟩ => exact H32 q n
    | ⟨3, _⟩, ⟨3, _⟩ => exact H33 q n
  rw [key] at e
  simp only [hr, hn] at e
  exact e

theorem read4v_of (v : View sig κ sp S1x4x4x136x256 e) (f : v.ty.Contents Val) (O : S1x4x1x8x256.Idx → Val e) (T0 T1 T2 T3 : S1x4x1x128x256.Idx → Val e) (G : Fin 1024 → Fin 4 → Fin 128 → Val e) (G' : Fin 8 → Val e)
    (HO : ∀ (h : Fin 4) (d : Fin 8) (r : Fin 256), O (ix5 0 h 0 d r) = G' d)
    (H0 : ∀ (h : Fin 4) (d : Fin 128) (r : Fin 256), T0 (ix5 0 h 0 d r) = G ⟨0 * 256 + r.val, by omega⟩ h d)
    (H1 : ∀ (h : Fin 4) (d : Fin 128) (r : Fin 256), T1 (ix5 0 h 0 d r) = G ⟨1 * 256 + r.val, by omega⟩ h d)
    (H2 : ∀ (h : Fin 4) (d : Fin 128) (r : Fin 256), T2 (ix5 0 h 0 d r) = G ⟨2 * 256 + r.val, by omega⟩ h d)
    (H3 : ∀ (h : Fin 4) (d : Fin 128) (r : Fin 256), T3 (ix5 0 h 0 d r) = G ⟨3 * 256 + r.val, by omega⟩ h d)
    (h k : Fin 4) (d : Fin 136) (r : Fin 256) :
    v.read Val (v.writes Val f [⟨Rect.unit ![0, 0, 3, 128, 0] S1x4x1x8x256.size inb_S1x4x4x136x256_S1x4x1x8x256_0_0_3_128_0, O⟩, ⟨Rect.unit ![0, 0, 3, 0, 0] S1x4x1x128x256.size inb_S1x4x4x136x256_S1x4x1x128x256_0_0_3_0_0, T3⟩, ⟨Rect.unit ![0, 0, 2, 128, 0] S1x4x1x8x256.size inb_S1x4x4x136x256_S1x4x1x8x256_0_0_2_128_0, O⟩, ⟨Rect.unit ![0, 0, 2, 0, 0] S1x4x1x128x256.size inb_S1x4x4x136x256_S1x4x1x128x256_0_0_2_0_0, T2⟩, ⟨Rect.unit ![0, 0, 1, 128, 0] S1x4x1x8x256.size inb_S1x4x4x136x256_S1x4x1x8x256_0_0_1_128_0, O⟩, ⟨Rect.unit ![0, 0, 1, 0, 0] S1x4x1x128x256.size inb_S1x4x4x136x256_S1x4x1x128x256_0_0_1_0_0, T1⟩, ⟨Rect.unit ![0, 0, 0, 128, 0] S1x4x1x8x256.size inb_S1x4x4x136x256_S1x4x1x8x256_0_0_0_128_0, O⟩, ⟨Rect.unit ![0, 0, 0, 0, 0] S1x4x1x128x256.size inb_S1x4x4x136x256_S1x4x1x128x256_0_0_0_0_0, T0⟩]) (ix5 (0 : Fin 1) h k d r)
      = if hd : d.val < 128 then G ⟨k.val * 256 + r.val, by omega⟩ h ⟨d.val, hd⟩ else G' ⟨d.val - 128, by omega⟩ := by
  rw [read4v v f O T0 T1 T2 T3 ![T0, T1, T2, T3] rfl rfl rfl rfl h k d r]
  by_cases hd : d.val < 128
  · rw [dif_pos hd, dif_pos hd]
    match k with
    | ⟨0, _⟩ => exact H0 h ⟨d.val, hd⟩ r
    | ⟨1, _⟩ => exact H1 h ⟨d.val, hd⟩ r
    | ⟨2, _⟩ => exact H2 h ⟨d.val, hd⟩ r
    | ⟨3, _⟩ => exact H3 h ⟨d.val, hd⟩ r
  · rw [dif_neg hd, dif_neg hd]
    exact HO h ⟨d.val - 128, by omega⟩ r

end Stores

end Cert.Kernel2Ideal.In
-- ==== Proof.InTileVal.lean ====
module

public import proofs.«01_k».proof.Proof.InTile

@[expose] public section

set_option maxRecDepth 16384

noncomputable section

/-!
# One tile of the input projection at an index
-/

namespace Cert.Kernel2Ideal.In

open Cert.Kernel2Ideal.Gen
open Idealize.ShloMosaic Idealize.ShloMosaic.TcCoe Idealize.ShloMosaic.Tactic
open InProj (hRow one zero eps silu conv l2 softplus rope)

theorem hT_apply (x : Vec Ideal S1x256x1024 .f32) (g : Vec Ideal S1x1024 .f32) (sc sh : Vec Ideal S1x1x1024 .f32) (r : Fin 256) (d : Fin 1024) :
    hT (F := Ideal) x g sc sh (ix2 r d) = hRow (fun d => x (ix3 0 r d)) (fun d => g (ix2 0 d)) (fun d => sc (ix3 0 0 d)) (fun d => sh (ix3 0 0 d)) d := by
  pointwise [hT, k0_pay22]
  rfl

theorem pT_apply (h : Vec Ideal S256x1024 .bf16) (w : Vec Ideal S1024x512 .bf16) (r : Fin 256) (n : Fin 512) :
    pT (F := Ideal) h w (ix2 r n) = ∑ d : Fin 1024, h (ix2 r d) * w (ix2 d n) := by
  pointwise [pT, k0_pay26]
theorem pC_apply (h : Vec Ideal S256x1024 .bf16) (w : Vec Ideal S1024x1536 .bf16) (r : Fin 256) (n : Fin 1536) :
    pC (F := Ideal) h w (ix2 r n) = ∑ d : Fin 1024, h (ix2 r d) * w (ix2 d n) := by
  pointwise [pC, k0_pay27]
theorem pA_apply (h : Vec Ideal S256x1024 .bf16) (w : Vec Ideal S1024x128 .bf16) (r : Fin 256) (n : Fin 128) :
    pA (F := Ideal) h w (ix2 r n) = ∑ d : Fin 1024, h (ix2 r d) * w (ix2 d n) := by
  pointwise [pA, k0_pay29]

theorem first_apply (r : Fin 256) (l : Fin 128) : k0_pay2 (ix2 r l) = if l.val % 32 < 16 then 1#1 else 0#1 := by
  pointwise [k0_pay2]
  revert l
  decide

/-- The rotation's partner of a lane. -/
def pair (l : Fin 128) : Fin 128 := if l.val % 32 < 16 then ⟨(l.val + 16) % 128, Nat.mod_lt _ (by decide)⟩ else ⟨(l.val + 112) % 128, Nat.mod_lt _ (by decide)⟩

theorem rope1_apply (s co si : Vec Ideal S256x128 .f32) (r : Fin 256) (l : Fin 128) :
    rope1 (F := Ideal) s co si (ix2 r l) = s (ix2 r l) * co (ix2 r l) + s (ix2 r (pair l)) * si (ix2 r l) := by
  unfold rope1
  have e := first_apply r l
  generalize k0_pay2 = f at e
  pointwise []
  rw [e]
  unfold pair
  by_cases hl : l.val % 32 < 16
  · rw [if_pos hl, if_pos hl]
    rfl
  · rw [if_neg hl, if_neg hl]
    rfl

/-- The rotation's partner of a column. -/
def pair4 (l : Fin 512) : Fin 512 := ⟨l.val / 128 * 128 + (pair ⟨l.val % 128, Nat.mod_lt _ (by decide)⟩).val, by omega⟩

theorem ropeT_apply (t : Vec Ideal S256x512 .f32) (co si : Vec Ideal S256x128 .f32) (r : Fin 256) (n : Fin 512) :
    ropeT (F := Ideal) t co si (ix2 r n) = t (ix2 r n) * co (ix2 r ⟨n.val % 128, Nat.mod_lt _ (by decide)⟩)
      + t (ix2 r (pair4 n)) * si (ix2 r ⟨n.val % 128, Nat.mod_lt _ (by decide)⟩) := by
  have key : ∀ (k : Fin 4) (l : Fin 128) (hk : k.val * 128 + l.val < 512), ropeT (F := Ideal) t co si (ix2 r ⟨k.val * 128 + l.val, hk⟩)
      = t (ix2 r ⟨k.val * 128 + l.val, hk⟩) * co (ix2 r l) + t (ix2 r ⟨k.val * 128 + (pair l).val, by omega⟩) * si (ix2 r l) := by
    intro k l hk
    have hlt := l.isLt
    match k, hk with
    | ⟨0, _⟩, hk =>
      have i1 : (⟨(⟨0, by decide⟩ : Fin 4).val * 128 + l.val, hk⟩ : Fin 512) = ⟨l.val, by omega⟩ := Fin.ext (by show 0 * 128 + l.val = l.val; omega)
      have i2 : (⟨(⟨0, by decide⟩ : Fin 4).val * 128 + (pair l).val, by have := (pair l).isLt; show 0 * 128 + _ < 512; omega⟩ : Fin 512) = ⟨(pair l).val, by omega⟩ := Fin.ext (by show 0 * 128 + (pair l).val = (pair l).val; omega)
      rw [i1, i2]
      have e := rope1_apply (extractStridedSlice S256x128 ![0, 0] t slices_S256x512_o0_0_S256x128) (k0_pay31 co) (k0_pay32 si) r l
      have e1 : ∀ n : Fin 128, extractStridedSlice S256x128 ![0, 0] t slices_S256x512_o0_0_S256x128 (ix2 r n) = t (ix2 r ⟨n.val, by omega⟩) := fun n => by pointwise []
      have e2 : k0_pay31 (F := Ideal) co (ix2 r l) = co (ix2 r l) := by pointwise [k0_pay31]
      have e3 : k0_pay32 (F := Ideal) si (ix2 r l) = si (ix2 r l) := by pointwise [k0_pay32]
      rw [e1, e1, e2, e3] at e
      unfold ropeT
      generalize rope1 (F := Ideal) (extractStridedSlice S256x128 ![0, 0] t slices_S256x512_o0_0_S256x128) (k0_pay31 co) (k0_pay32 si) = y at e
      generalize rope1 (F := Ideal) _ _ _ = y1
      generalize rope1 (F := Ideal) _ _ _ = y2
      generalize rope1 (F := Ideal) _ _ _ = y3
      rw [← e]
      pointwise []
    | ⟨1, _⟩, hk =>
      have i1 : (⟨(⟨1, by decide⟩ : Fin 4).val * 128 + l.val, hk⟩ : Fin 512) = ⟨128 + l.val, by omega⟩ := Fin.ext (by show 1 * 128 + l.val = 128 + l.val; omega)
      have i2 : (⟨(⟨1, by decide⟩ : Fin 4).val * 128 + (pair l).val, by have := (pair l).isLt; show 1 * 128 + _ < 512; omega⟩ : Fin 512) = ⟨128 + (pair l).val, by omega⟩ := Fin.ext (by show 1 * 128 + (pair l).val = 128 + (pair l).val; omega)
      rw [i1, i2]
      have e := rope1_apply (extractStridedSlice S256x128 ![0, 128] t slices_S256x512_o0_128_S256x128) (k0_pay31 co) (k0_pay32 si) r l
      have e1 : ∀ n : Fin 128, extractStridedSlice S256x128 ![0, 128] t slices_S256x512_o0_128_S256x128 (ix2 r n) = t (ix2 r ⟨128 + n.val, by omega⟩) := fun n => by pointwise []
      have e2 : k0_pay31 (F := Ideal) co (ix2 r l) = co (ix2 r l) := by pointwise [k0_pay31]
      have e3 : k0_pay32 (F := Ideal) si (ix2 r l) = si (ix2 r l) := by pointwise [k0_pay32]
      rw [e1, e1, e2, e3] at e
      unfold ropeT
      generalize rope1 (F := Ideal) (extractStridedSlice S256x128 ![0, 128] t slices_S256x512_o0_128_S256x128) (k0_pay31 co) (k0_pay32 si) = y at e
      generalize rope1 (F := Ideal) _ _ _ = y1
      generalize rope1 (F := Ideal) _ _ _ = y2
      generalize rope1 (F := Ideal) _ _ _ = y3
      rw [← e]
      pointwise []
    | ⟨2, _⟩, hk =>
      have i1 : (⟨(⟨2, by decide⟩ : Fin 4).val * 128 + l.val, hk⟩ : Fin 512) = ⟨256 + l.val, by omega⟩ := Fin.ext (by show 2 * 128 + l.val = 256 + l.val; omega)
      have i2 : (⟨(⟨2, by decide⟩ : Fin 4).val * 128 + (pair l).val, by have := (pair l).isLt; show 2 * 128 + _ < 512; omega⟩ : Fin 512) = ⟨256 + (pair l).val, by omega⟩ := Fin.ext (by show 2 * 128 + (pair l).val = 256 + (pair l).val; omega)
      rw [i1, i2]
      have e := rope1_apply (extractStridedSlice S256x128 ![0, 256] t slices_S256x512_o0_256_S256x128) (k0_pay31 co) (k0_pay32 si) r l
      have e1 : ∀ n : Fin 128, extractStridedSlice S256x128 ![0, 256] t slices_S256x512_o0_256_S256x128 (ix2 r n) = t (ix2 r ⟨256 + n.val, by omega⟩) := fun n => by pointwise []
      have e2 : k0_pay31 (F := Ideal) co (ix2 r l) = co (ix2 r l) := by pointwise [k0_pay31]
      have e3 : k0_pay32 (F := Ideal) si (ix2 r l) = si (ix2 r l) := by pointwise [k0_pay32]
      rw [e1, e1, e2, e3] at e
      unfold ropeT
      generalize rope1 (F := Ideal) (extractStridedSlice S256x128 ![0, 256] t slices_S256x512_o0_256_S256x128) (k0_pay31 co) (k0_pay32 si) = y at e
      generalize rope1 (F := Ideal) _ _ _ = y1
      generalize rope1 (F := Ideal) _ _ _ = y2
      generalize rope1 (F := Ideal) _ _ _ = y3
      rw [← e]
      pointwise []
      rw [dif_neg (by omega), dif_neg (by omega), dif_pos (by omega)]
      congr 2
      exact Fin.ext (by show 256 + l.val - 128 - 128 = l.val; omega)
    | ⟨3, _⟩, hk =>
      have i1 : (⟨(⟨3, by decide⟩ : Fin 4).val * 128 + l.val, hk⟩ : Fin 512) = ⟨384 + l.val, by omega⟩ := Fin.ext (by show 3 * 128 + l.val = 384 + l.val; omega)
      have i2 : (⟨(⟨3, by decide⟩ : Fin 4).val * 128 + (pair l).val, by have := (pair l).isLt; show 3 * 128 + _ < 512; omega⟩ : Fin 512) = ⟨384 + (pair l).val, by omega⟩ := Fin.ext (by show 3 * 128 + (pair l).val = 384 + (pair l).val; omega)
      rw [i1, i2]
      have e := rope1_apply (extractStridedSlice S256x128 ![0, 384] t slices_S256x512_o0_384_S256x128) (k0_pay31 co) (k0_pay32 si) r l
      have e1 : ∀ n : Fin 128, extractStridedSlice S256x128 ![0, 384] t slices_S256x512_o0_384_S256x128 (ix2 r n) = t (ix2 r ⟨384 + n.val, by omega⟩) := fun n => by pointwise []
      have e2 : k0_pay31 (F := Ideal) co (ix2 r l) = co (ix2 r l) := by pointwise [k0_pay31]
      have e3 : k0_pay32 (F := Ideal) si (ix2 r l) = si (ix2 r l) := by pointwise [k0_pay32]
      rw [e1, e1, e2, e3] at e
      unfold ropeT
      generalize rope1 (F := Ideal) (extractStridedSlice S256x128 ![0, 384] t slices_S256x512_o0_384_S256x128) (k0_pay31 co) (k0_pay32 si) = y at e
      generalize rope1 (F := Ideal) _ _ _ = y1
      generalize rope1 (F := Ideal) _ _ _ = y2
      generalize rope1 (F := Ideal) _ _ _ = y3
      rw [← e]
      pointwise []
      rw [dif_neg (by omega), dif_neg (by omega), dif_neg (by omega)]
      congr 2
      exact Fin.ext (by show 384 + l.val - 128 - 128 - 128 = l.val; omega)
  have hl : n.val / 128 * 128 + n.val % 128 < 512 := by omega
  have e := key ⟨n.val / 128, by omega⟩ ⟨n.val % 128, Nat.mod_lt _ (by decide)⟩ hl
  have hn : (⟨n.val / 128 * 128 + n.val % 128, hl⟩ : Fin 512) = n := Fin.ext (by show n.val / 128 * 128 + n.val % 128 = n.val; omega)
  simp only [hn] at e
  exact e

theorem l2T_apply (s : Vec Ideal S256x128 .f32) (r : Fin 256) (l : Fin 128) :
    l2T (F := Ideal) s (ix2 r l) = l2 (fun l => s (ix2 r l)) l := by
  pointwise [l2T]
  rfl
theorem gqT_apply (s : Vec Ideal S256x128 .f32) (r : Fin 256) (l : Fin 128) :
    gqT (F := Ideal) s (ix3 0 r l) = l2 (fun l => s (ix2 r l)) l * Ideal.ofBits .f32 0x3DB504F3#32 := by
  rw [← l2T_apply]
  unfold gqT
  generalize l2T (F := Ideal) s = y
  pointwise []
theorem gkT_apply (s : Vec Ideal S256x128 .f32) (r : Fin 256) (l : Fin 128) :
    gkT (F := Ideal) s (ix3 0 r l) = l2 (fun l => s (ix2 r l)) l := by
  rw [← l2T_apply]
  unfold gkT
  generalize l2T (F := Ideal) s = y
  pointwise []
theorem gvT_apply (s : Vec Ideal S256x1536 .f32) (r : Fin 256) (l : Fin 512) :
    gvT (F := Ideal) s (ix3 0 r l) = s (ix2 r ⟨1024 + l.val, by omega⟩) := by
  pointwise [gvT, k0_pay60]
theorem gateT_apply (t : Vec Ideal S256x512 .f32) (r : Fin 256) (l : Fin 512) :
    gateT (F := Ideal) t (ix3 0 r l) = t (ix2 r l) := by
  pointwise [gateT, k0_pay43]
theorem vT_apply (t : Vec Ideal S256x512 .f32) (h : Fin 4) (e : Fin 128) (r : Fin 256) :
    vT (F := Ideal) t (ix5 0 h 0 e r) = t (ix2 r ⟨h.val * 128 + e.val, by omega⟩) := by
  pointwise [vT, k0_pay41]
theorem eq0 : ∀ e : Fin 8, IntOp.cmpi CmpIPredicate.eq (BitVec.ofNat 32 e.val) 0#32 = if e.val = 0 then 1#1 else 0#1 := by decide
theorem oT_apply (h : Fin 4) (e : Fin 8) (r : Fin 256) :
    oT (F := Ideal) (ix5 0 h 0 e r) = if e.val = 0 then one else zero := by
  pointwise [oT, k0_pay42, k0_pay3]
  rw [eq0]
  by_cases he : e.val = 0
  · rw [if_pos he, if_pos he]
    rfl
  · rw [if_neg he, if_neg he]
    rfl

theorem lt8 : ∀ l : Fin 128, IntOp.cmpi CmpIPredicate.slt (BitVec.ofNat 32 l.val) 8#32 = if l.val < 8 then 1#1 else 0#1 := by decide
theorem lt16 : ∀ l : Fin 128, IntOp.cmpi CmpIPredicate.slt (BitVec.ofNat 32 l.val) 16#32 = if l.val < 16 then 1#1 else 0#1 := by decide

theorem abT_apply (t : Vec Ideal S256x128 .f32) (dt al : Vec Ideal S1x128 .f32) (r : Fin 256) (l : Fin 128) :
    abT (F := Ideal) t dt al (ix3 0 r l) = if l.val < 8 then -Ideal.exp (al (ix2 0 l)) * softplus (t (ix2 r l) + dt (ix2 0 l))
      else if l.val < 16 then Ideal.div one (one + Ideal.exp (-(t (ix2 r l)))) else 0 := by
  unfold abT k0_pay62
  pointwise [k0_pay61, laneT]
  rw [lt8, lt16]
  simp only [zero_sub]
  by_cases h8 : l.val < 8
  · rw [if_pos h8, if_pos h8]
    rfl
  · rw [if_neg h8, if_neg h8]
    by_cases h16 : l.val < 16
    · rw [if_pos h16, if_pos h16]
      rfl
    · rw [if_neg h16, if_neg h16]
      rfl

theorem abtT_apply (t : Vec Ideal S256x128 .f32) (dt al : Vec Ideal S1x128 .f32) (r : Fin 256) (l : Fin 16) :
    abtT (F := Ideal) t dt al (ix3 0 l r) = abT (F := Ideal) t dt al (ix3 0 r ⟨l.val, by omega⟩) := by
  unfold abT abtT k0_pay62 k0_pay63 k0_pay64
  generalize k0_pay61 (F := Ideal) laneT t dt al = y
  pointwise []

theorem eq255 : ∀ r : Fin 256, IntOp.cmpi CmpIPredicate.eq (BitVec.ofNat 32 r.val) 255#32 = if r.val = 255 then 1#1 else 0#1 := by decide +kernel
theorem eq256 : ∀ r : Fin 256, IntOp.cmpi CmpIPredicate.eq (BitVec.ofNat 32 r.val) 0#32 = if r.val = 0 then 1#1 else 0#1 := by decide +kernel

theorem nextT_apply (t : Vec Ideal S256x1536 .f32) (nx : Vec Ideal S1x1536 .f32) (r : Fin 256) (n : Fin 1536) :
    k0_pay44 (F := Ideal) rowT t nx (ix2 r n) = if h : r.val + 1 < 256 then t (ix2 ⟨r.val + 1, h⟩ n) else nx (ix2 0 n) := by
  pointwise [k0_pay44, rowT]
  rw [eq255]
  by_cases h : r.val + 1 < 256
  · rw [dif_pos h, if_neg (by omega)]
    show t _ = _
    congr 2
    exact Fin.ext (by show (r.val + 256 - 255) % 256 = r.val + 1; omega)
  · rw [dif_neg h, if_pos (by omega)]
    rfl

theorem prevT_apply (cw : Vec Ideal S8x1536 .f32) (t : Vec Ideal S256x1536 .f32) (pr : Vec Ideal S1x1536 .f32) (r : Fin 256) (n : Fin 1536) :
    k0_pay45 (F := Ideal) rowT cw pr t (ix2 r n) = (if h : 0 < r.val then t (ix2 ⟨r.val - 1, by omega⟩ n) else pr (ix2 0 n)) * cw (ix2 0 n) := by
  pointwise [k0_pay45, rowT]
  congr 1
  rw [eq256]
  by_cases h : 0 < r.val
  · rw [dif_pos h, if_neg (by omega)]
    show t _ = _
    congr 2
    exact Fin.ext (by show (r.val + 256 - 1) % 256 = r.val - 1; omega)
  · rw [dif_neg h, if_pos (by omega)]
    rfl

theorem sT_apply (cw : Vec Ideal S8x1536 .f32) (t : Vec Ideal S256x1536 .f32) (pr nx : Vec Ideal S1x1536 .f32) (r : Fin 256) (n : Fin 1536) :
    sT (F := Ideal) cw t pr nx (ix2 r n) = conv (if h : 0 < r.val then t (ix2 ⟨r.val - 1, by omega⟩ n) else pr (ix2 0 n)) (t (ix2 r n))
      (if h : r.val + 1 < 256 then t (ix2 ⟨r.val + 1, h⟩ n) else nx (ix2 0 n)) (cw (ix2 0 n)) (cw (ix2 1 n)) (cw (ix2 2 n)) := by
  have e1 := prevT_apply cw t pr r n
  have e2 := nextT_apply t nx r n
  unfold sT
  generalize k0_pay45 (F := Ideal) rowT cw pr t = y1 at e1
  generalize k0_pay44 (F := Ideal) rowT t nx = y2 at e2
  pointwise [k0_pay47, k0_pay46]
  rw [e1, e2]
  simp only [zero_sub]
  rfl

/-- The projection of the rows beside the block. -/
theorem pH_apply (xp xn : Vec Ideal S1x8x1024 .f32) (g : Vec Ideal S1x1024 .f32) (sc sh : Vec Ideal S1x1x1024 .f32) (w : Vec Ideal S1024x1536 .bf16) (r : Fin 16) (x : Fin 1024 → EReal)
    (hx : ∀ d, k0_pay5 (F := Ideal) xp xn (ix2 r d) = x d) (n : Fin 1536) :
    pH (F := Ideal) xp xn g sc sh w (ix2 r n) = ∑ d : Fin 1024, hRow x (fun d => g (ix2 0 d)) (fun d => sc (ix3 0 0 d)) (fun d => sh (ix3 0 0 d)) d * w (ix2 d n) := by
  have e6 : k0_pay6 (F := Ideal) xp xn (ix2 r 0) = ∑ d : Fin 1024, x d * x d := by
    simp only [← hx]
    unfold k0_pay6
    generalize k0_pay5 (F := Ideal) xp xn = y
    pointwise []
  unfold pH
  generalize k0_pay6 (F := Ideal) xp xn = y6 at e6
  generalize k0_pay5 (F := Ideal) xp xn = y5 at hx
  pointwise [k0_pay8, k0_pay7]
  simp only [hx, e6]
  rfl

theorem sgt0 : ∀ i : Fin 8, Scalar.cmpi CmpIPredicate.sgt (BitVec.ofNat 32 i.val) 0#32 = if 0 < i.val then 1#1 else 0#1 := by decide
theorem slt7 : ∀ i : Fin 8, Scalar.cmpi CmpIPredicate.slt (BitVec.ofNat 32 i.val) 7#32 = if i.val < 7 then 1#1 else 0#1 := by decide

theorem pay9_apply (i : Fin 8) (xp xn : Vec Ideal S1x8x1024 .f32) (g : Vec Ideal S1x1024 .f32) (sc sh : Vec Ideal S1x1x1024 .f32) (w : Vec Ideal S1024x1536 .bf16) (n : Fin 1536) :
    k0_pay9 (F := Ideal) (BitVec.ofNat 32 i.val) (k0_pay5 xp xn) (k0_pay6 xp xn) k0_pay7 g sc sh w (ix2 0 n)
      = if 0 < i.val then ∑ d : Fin 1024, hRow (fun d => xp (ix3 0 7 d)) (fun d => g (ix2 0 d)) (fun d => sc (ix3 0 0 d)) (fun d => sh (ix3 0 0 d)) d * w (ix2 d n) else 0 := by
  have e := pH_apply xp xn g sc sh w 7 (fun d => xp (ix3 0 7 d)) (fun d => by pointwise [k0_pay5]) n
  unfold pH at e
  unfold k0_pay9
  generalize k0_pay8 (F := Ideal) _ _ _ _ _ _ _ = y at e
  rw [sgt0]
  by_cases h : 0 < i.val
  · rw [if_pos h, if_pos h, ← e]
    show extractStridedSlice S1x1536 ![7, 0] y slices_S16x1536_o7_0_S1x1536 (ix2 0 n) = _
    pointwise []
  · rw [if_neg h, if_neg h]
    show Ideal.ofBits .f32 0x00000000#32 = _
    pointwise []

theorem pay10_apply (i : Fin 8) (xp xn : Vec Ideal S1x8x1024 .f32) (g : Vec Ideal S1x1024 .f32) (sc sh : Vec Ideal S1x1x1024 .f32) (w : Vec Ideal S1024x1536 .bf16) (n : Fin 1536) :
    k0_pay10 (F := Ideal) (BitVec.ofNat 32 i.val) (k0_pay5 xp xn) (k0_pay6 xp xn) k0_pay7 g sc sh w (ix2 0 n)
      = if i.val < 7 then ∑ d : Fin 1024, hRow (fun d => xn (ix3 0 0 d)) (fun d => g (ix2 0 d)) (fun d => sc (ix3 0 0 d)) (fun d => sh (ix3 0 0 d)) d * w (ix2 d n) else 0 := by
  have e := pH_apply xp xn g sc sh w 8 (fun d => xn (ix3 0 0 d)) (fun d => by pointwise [k0_pay5]) n
  unfold pH at e
  unfold k0_pay10
  generalize k0_pay8 (F := Ideal) _ _ _ _ _ _ _ = y at e
  rw [slt7]
  by_cases h : i.val < 7
  · rw [if_pos h, if_pos h, ← e]
    show extractStridedSlice S1x1536 ![8, 0] y slices_S16x1536_o8_0_S1x1536 (ix2 0 n) = _
    pointwise []
  · rw [if_neg h, if_neg h]
    show Ideal.ofBits .f32 0x00000000#32 = _
    pointwise []

theorem qT_apply (t : Vec Ideal S256x512 .f32) (co si : Vec Ideal S256x128 .f32) (r : Fin 256) (n : Fin 512) :
    qT (F := Ideal) t co si (ix3 0 r n) = ropeT (F := Ideal) t co si (ix2 r n) * Ideal.ofBits .f32 0x3E38AA3B#32 := by
  unfold qT
  generalize ropeT (F := Ideal) t co si = y
  pointwise []
theorem kT_apply (t : Vec Ideal S256x512 .f32) (co si : Vec Ideal S256x128 .f32) (r : Fin 256) (n : Fin 512) :
    kT (F := Ideal) t co si (ix3 0 r n) = ropeT (F := Ideal) t co si (ix2 r n) := by
  unfold kT
  generalize ropeT (F := Ideal) t co si = y
  pointwise []

theorem pay30_apply (h : Vec Ideal S256x1024 .bf16) (w : Vec Ideal S1024x1536 .bf16) (n : Fin 1536) :
    k0_pay30 (F := Ideal) h w (ix2 0 n) = pC (F := Ideal) h w (ix2 0 n) := by
  unfold k0_pay30 pC
  generalize k0_pay27 (F := Ideal) h w = y
  pointwise []
theorem last_apply (t : Vec Ideal S256x1536 .f32) (n : Fin 1536) :
    extractStridedSlice S1x1536 ![255, 0] t slices_S256x1536_o255_0_S1x1536 (ix2 0 n) = t (ix2 255 n) := by
  pointwise []
theorem pay4_eq (cw : Vec Ideal S8x1536 .f32) (k : Fin 8) (n : Fin 1536) : k0_pay4 (F := Ideal) cw (ix2 k n) = cw (ix2 k n) := by
  pointwise [k0_pay4]

end Cert.Kernel2Ideal.In
-- ==== Proof.InBody.lean ====
module

public import proofs.«01_k».proof.Proof.InStore
public import proofs.«01_k».proof.Proof.InTileVal

@[expose] public section

set_option maxRecDepth 16384

noncomputable section

/-!
# What one grid point of the input projection computes, element by element

Each output block of a grid point at an index, as a function of the point's input blocks.
-/

namespace Cert.Kernel2Ideal.In

open Cert.Kernel2Ideal.Gen
open Idealize.ShloMosaic Idealize.ShloMosaic.TcCoe Idealize.ShloMosaic.Tactic
open InProj (hRow one zero eps silu conv l2 softplus)

theorem slice0_apply (s : Vec Ideal S256x1536 .f32) (r : Fin 256) (l : Fin 128) :
    extractStridedSlice S256x128 ![0, 0] s slices_S256x1536_o0_0_S256x128 (ix2 r l) = s (ix2 r ⟨0 + l.val, by omega⟩) := by
  pointwise []

theorem slice128_apply (s : Vec Ideal S256x1536 .f32) (r : Fin 256) (l : Fin 128) :
    extractStridedSlice S256x128 ![0, 128] s slices_S256x1536_o0_128_S256x128 (ix2 r l) = s (ix2 r ⟨128 + l.val, by omega⟩) := by
  pointwise []

theorem slice256_apply (s : Vec Ideal S256x1536 .f32) (r : Fin 256) (l : Fin 128) :
    extractStridedSlice S256x128 ![0, 256] s slices_S256x1536_o0_256_S256x128 (ix2 r l) = s (ix2 r ⟨256 + l.val, by omega⟩) := by
  pointwise []

theorem slice384_apply (s : Vec Ideal S256x1536 .f32) (r : Fin 256) (l : Fin 128) :
    extractStridedSlice S256x128 ![0, 384] s slices_S256x1536_o0_384_S256x128 (ix2 r l) = s (ix2 r ⟨384 + l.val, by omega⟩) := by
  pointwise []

theorem slice512_apply (s : Vec Ideal S256x1536 .f32) (r : Fin 256) (l : Fin 128) :
    extractStridedSlice S256x128 ![0, 512] s slices_S256x1536_o0_512_S256x128 (ix2 r l) = s (ix2 r ⟨512 + l.val, by omega⟩) := by
  pointwise []

theorem slice640_apply (s : Vec Ideal S256x1536 .f32) (r : Fin 256) (l : Fin 128) :
    extractStridedSlice S256x128 ![0, 640] s slices_S256x1536_o0_640_S256x128 (ix2 r l) = s (ix2 r ⟨640 + l.val, by omega⟩) := by
  pointwise []

theorem slice768_apply (s : Vec Ideal S256x1536 .f32) (r : Fin 256) (l : Fin 128) :
    extractStridedSlice S256x128 ![0, 768] s slices_S256x1536_o0_768_S256x128 (ix2 r l) = s (ix2 r ⟨768 + l.val, by omega⟩) := by
  pointwise []

theorem slice896_apply (s : Vec Ideal S256x1536 .f32) (r : Fin 256) (l : Fin 128) :
    extractStridedSlice S256x128 ![0, 896] s slices_S256x1536_o0_896_S256x128 (ix2 r l) = s (ix2 r ⟨896 + l.val, by omega⟩) := by
  pointwise []

theorem gqT_of (s : Vec Ideal S256x128 .f32) (r : Fin 256) (n : Fin 128) (G : Fin 128 → EReal) (h : ∀ l, s (ix2 r l) = G l) :
    gqT (F := Ideal) s (ix3 0 r n) = l2 G n * Ideal.ofBits .f32 0x3DB504F3#32 := by
  rw [gqT_apply]
  simp only [h]
theorem gkT_of (s : Vec Ideal S256x128 .f32) (r : Fin 256) (n : Fin 128) (G : Fin 128 → EReal) (h : ∀ l, s (ix2 r l) = G l) :
    gkT (F := Ideal) s (ix3 0 r n) = l2 G n := by
  rw [gkT_apply]
  simp only [h]

section Formulas

variable (x0 : Vec Ideal S1x1024x1024 .f32) (x1 : Vec Ideal S1x8x1024 .f32) (x2 : Vec Ideal S1x8x1024 .f32) (x3 : Vec Ideal S1x1024 .f32) (x4 : Vec Ideal S1x1x1024 .f32) (x5 : Vec Ideal S1x1x1024 .f32) (x6 : Vec Ideal S1024x128 .f32) (x7 : Vec Ideal S1024x128 .f32) (x8 : Vec Ideal S1024x3712 .bf16) (x9 : Vec Ideal S8x1536 .f32) (x10 : Vec Ideal S1x128 .f32) (x11 : Vec Ideal S1x128 .f32)

/-- The block's normalised rows. -/
def hB (r : Fin 1024) (d : Fin 1024) : EReal :=
  hRow (fun d => x0 (ix3 0 r d)) (fun d => x3 (ix2 0 d)) (fun d => x5 (ix3 0 0 d)) (fun d => x4 (ix3 0 0 d)) d

/-- The block's projection. -/
def pB (r : Fin 1024) (n : Fin 3712) : EReal := ∑ d : Fin 1024, hB x0 x3 x4 x5 r d * x8 (ix2 d n)

/-- The projections of the row before the block, and of the row after it. -/
def prB (i : Fin 8) (n : Fin 3712) : EReal :=
  if 0 < i.val then ∑ d : Fin 1024, hRow (fun d => x1 (ix3 0 7 d)) (fun d => x3 (ix2 0 d)) (fun d => x5 (ix3 0 0 d)) (fun d => x4 (ix3 0 0 d)) d * x8 (ix2 d n) else 0
def nxB (i : Fin 8) (n : Fin 3712) : EReal :=
  if i.val < 7 then ∑ d : Fin 1024, hRow (fun d => x2 (ix3 0 0 d)) (fun d => x3 (ix2 0 d)) (fun d => x5 (ix3 0 0 d)) (fun d => x4 (ix3 0 0 d)) d * x8 (ix2 d n) else 0

/-- The block's convolution. -/
def sB (i : Fin 8) (r : Fin 1024) (n : Fin 1536) : EReal :=
  conv (if h : 0 < r.val then pB x0 x3 x4 x5 x8 ⟨r.val - 1, by omega⟩ ⟨1536 + n.val, by omega⟩ else prB x1 x3 x4 x5 x8 i ⟨1536 + n.val, by omega⟩)
    (pB x0 x3 x4 x5 x8 r ⟨1536 + n.val, by omega⟩)
    (if h : r.val + 1 < 1024 then pB x0 x3 x4 x5 x8 ⟨r.val + 1, h⟩ ⟨1536 + n.val, by omega⟩ else nxB x2 x3 x4 x5 x8 i ⟨1536 + n.val, by omega⟩)
    (x9 (ix2 0 n)) (x9 (ix2 1 n)) (x9 (ix2 2 n))

/-- The block's rotated columns from `o` on. -/
def rB (o : ℕ) (ho : o + 512 ≤ 3712) (r : Fin 1024) (n : Fin 512) : EReal :=
  pB x0 x3 x4 x5 x8 r ⟨o + n.val, by omega⟩ * x6 (ix2 r ⟨n.val % 128, Nat.mod_lt _ (by decide)⟩)
    + pB x0 x3 x4 x5 x8 r ⟨o + (pair4 n).val, by have := (pair4 n).isLt; omega⟩ * x7 (ix2 r ⟨n.val % 128, Nat.mod_lt _ (by decide)⟩)

/-- The block's decays and weights. -/
def abB (r : Fin 1024) (l : Fin 128) : EReal :=
  if l.val < 8 then -Ideal.exp (x10 (ix2 0 l)) * softplus (pB x0 x3 x4 x5 x8 r ⟨3584 + l.val, by omega⟩ + x11 (ix2 0 l))
  else if l.val < 16 then Ideal.div one (one + Ideal.exp (-(pB x0 x3 x4 x5 x8 r ⟨3584 + l.val, by omega⟩))) else 0

theorem pT_of (k : Fin 4) (h : Vec Ideal S256x1024 .bf16) (w : Vec Ideal S1024x512 .bf16) (o : ℕ) (ho : o + 512 ≤ 3712)
    (Hh : ∀ r d, h (ix2 r d) = hB x0 x3 x4 x5 ⟨k.val * 256 + r.val, by omega⟩ d) (Hw : ∀ d (n : Fin 512), w (ix2 d n) = x8 (ix2 d ⟨o + n.val, by omega⟩)) (r : Fin 256) (n : Fin 512) :
    pT (F := Ideal) h w (ix2 r n) = pB x0 x3 x4 x5 x8 ⟨k.val * 256 + r.val, by omega⟩ ⟨o + n.val, by omega⟩ := by
  rw [pT_apply]
  exact Finset.sum_congr rfl fun d _ => by rw [Hh, Hw]

theorem pC_of (k : Fin 4) (h : Vec Ideal S256x1024 .bf16) (w : Vec Ideal S1024x1536 .bf16)
    (Hh : ∀ r d, h (ix2 r d) = hB x0 x3 x4 x5 ⟨k.val * 256 + r.val, by omega⟩ d) (Hw : ∀ d (n : Fin 1536), w (ix2 d n) = x8 (ix2 d ⟨1536 + n.val, by omega⟩)) (r : Fin 256) (n : Fin 1536) :
    pC (F := Ideal) h w (ix2 r n) = pB x0 x3 x4 x5 x8 ⟨k.val * 256 + r.val, by omega⟩ ⟨1536 + n.val, by omega⟩ := by
  rw [pC_apply]
  exact Finset.sum_congr rfl fun d _ => by rw [Hh, Hw]

theorem pA_of (k : Fin 4) (h : Vec Ideal S256x1024 .bf16) (w : Vec Ideal S1024x128 .bf16)
    (Hh : ∀ r d, h (ix2 r d) = hB x0 x3 x4 x5 ⟨k.val * 256 + r.val, by omega⟩ d) (Hw : ∀ d (n : Fin 128), w (ix2 d n) = x8 (ix2 d ⟨3584 + n.val, by omega⟩)) (r : Fin 256) (n : Fin 128) :
    pA (F := Ideal) h w (ix2 r n) = pB x0 x3 x4 x5 x8 ⟨k.val * 256 + r.val, by omega⟩ ⟨3584 + n.val, by omega⟩ := by
  rw [pA_apply]
  exact Finset.sum_congr rfl fun d _ => by rw [Hh, Hw]

theorem sT_of (i : Fin 8) (k : Fin 4) (cw : Vec Ideal S8x1536 .f32) (t : Vec Ideal S256x1536 .f32) (pr nx : Vec Ideal S1x1536 .f32)
    (Ht : ∀ (r : Fin 256) (n : Fin 1536), t (ix2 r n) = pB x0 x3 x4 x5 x8 ⟨k.val * 256 + r.val, by omega⟩ ⟨1536 + n.val, by omega⟩)
    (Hp : ∀ n : Fin 1536, pr (ix2 0 n) = if h : 0 < k.val then pB x0 x3 x4 x5 x8 ⟨k.val * 256 - 1, by omega⟩ ⟨1536 + n.val, by omega⟩ else prB x1 x3 x4 x5 x8 i ⟨1536 + n.val, by omega⟩)
    (Hn : ∀ n : Fin 1536, nx (ix2 0 n) = if h : k.val < 3 then pB x0 x3 x4 x5 x8 ⟨(k.val + 1) * 256, by omega⟩ ⟨1536 + n.val, by omega⟩ else nxB x2 x3 x4 x5 x8 i ⟨1536 + n.val, by omega⟩)
    (Hc : ∀ j n, cw (ix2 j n) = x9 (ix2 j n)) (r : Fin 256) (n : Fin 1536) :
    sT (F := Ideal) cw t pr nx (ix2 r n) = sB x0 x1 x2 x3 x4 x5 x8 x9 i ⟨k.val * 256 + r.val, by omega⟩ n := by
  rw [sT_apply, Hc, Hc, Hc, Hp, Hn, Ht]
  have e1 : (if h : 0 < r.val then t (ix2 ⟨r.val - 1, by omega⟩ n)
        else if h : 0 < k.val then pB x0 x3 x4 x5 x8 ⟨k.val * 256 - 1, by omega⟩ ⟨1536 + n.val, by omega⟩ else prB x1 x3 x4 x5 x8 i ⟨1536 + n.val, by omega⟩)
      = if h : 0 < k.val * 256 + r.val then pB x0 x3 x4 x5 x8 ⟨k.val * 256 + r.val - 1, by omega⟩ ⟨1536 + n.val, by omega⟩ else prB x1 x3 x4 x5 x8 i ⟨1536 + n.val, by omega⟩ := by
    by_cases hr : 0 < r.val
    · rw [dif_pos hr, dif_pos (by omega), Ht]
      congr 1
      exact Fin.ext (by show k.val * 256 + (r.val - 1) = k.val * 256 + r.val - 1; omega)
    · rw [dif_neg hr]
      by_cases hk : 0 < k.val
      · rw [dif_pos hk, dif_pos (by omega)]
        congr 1
        exact Fin.ext (by show k.val * 256 - 1 = k.val * 256 + r.val - 1; omega)
      · rw [dif_neg hk, dif_neg (by omega)]
  have e2 : (if h : r.val + 1 < 256 then t (ix2 ⟨r.val + 1, h⟩ n)
        else if h : k.val < 3 then pB x0 x3 x4 x5 x8 ⟨(k.val + 1) * 256, by omega⟩ ⟨1536 + n.val, by omega⟩ else nxB x2 x3 x4 x5 x8 i ⟨1536 + n.val, by omega⟩)
      = if h : k.val * 256 + r.val + 1 < 1024 then pB x0 x3 x4 x5 x8 ⟨k.val * 256 + r.val + 1, h⟩ ⟨1536 + n.val, by omega⟩ else nxB x2 x3 x4 x5 x8 i ⟨1536 + n.val, by omega⟩ := by
    by_cases hr : r.val + 1 < 256
    · rw [dif_pos hr, dif_pos (by omega), Ht]
      rfl
    · rw [dif_neg hr]
      by_cases hk : k.val < 3
      · rw [dif_pos hk, dif_pos (by omega)]
        congr 1
        exact Fin.ext (by show (k.val + 1) * 256 = k.val * 256 + r.val + 1; omega)
      · rw [dif_neg hk, dif_neg (by omega)]
  rw [e1, e2]
  rfl

end Formulas

section Point

/-- The block's number in its batch element. -/
def iB (i : grid0.Coords) : Fin 8 := i 1

variable (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x3712 .bf16) (harg10 : arg10.IsWhole) (arg11 : Memref sig .tc .vmem S8x1536 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1024x512 .bf16) (harg14 : arg14.IsWhole) (arg15 : Memref sig .tc .vmem S1x1024x512 .bf16) (harg15 : arg15.IsWhole) (arg16 : Memref sig .tc .vmem S1x4x4x136x256 .bf16) (harg16 : arg16.IsWhole) (arg17 : Memref sig .tc .vmem S1x1024x512 .f32) (harg17 : arg17.IsWhole) (arg18 : Memref sig .tc .vmem S1x1024x512 .f32) (harg18 : arg18.IsWhole) (arg19 : Memref sig .tc .vmem S1x1024x512 .f32) (harg19 : arg19.IsWhole) (arg20 : Memref sig .tc .vmem S1x1024x512 .f32) (harg20 : arg20.IsWhole) (arg21 : Memref sig .tc .vmem S1x1024x128 .f32) (harg21 : arg21.IsWhole) (arg22 : Memref sig .tc .vmem S1x16x1024 .f32) (harg22 : arg22.IsWhole)
  (x0 : Vec Ideal S1x1024x1024 .f32) (x1 : Vec Ideal S1x8x1024 .f32) (x2 : Vec Ideal S1x8x1024 .f32) (x3 : Vec Ideal S1x1024 .f32) (x4 : Vec Ideal S1x1x1024 .f32) (x5 : Vec Ideal S1x1x1024 .f32) (x6 : Vec Ideal S1024x128 .f32) (x7 : Vec Ideal S1024x128 .f32) (x8 : Vec Ideal S1024x3712 .bf16) (x9 : Vec Ideal S8x1536 .f32) (x10 : Vec Ideal S1x128 .f32) (x11 : Vec Ideal S1x128 .f32)

theorem xI0_apply (r : Fin 256) (d : Fin 1024) : xI0 (F := Ideal) arg2 harg2 x0 (ix3 0 r d) = x0 (ix3 0 ⟨0 * 256 + r.val, by omega⟩ d) :=
  (readAt_unit_apply arg2.view (harg2.unread x0) inb_S1x1024x1024_S1x256x1024_0_0_0 (ix3 0 r d) (ix3 0 ⟨0 * 256 + r.val, by omega⟩ d) (forall_fin3 (Nat.zero_add _).symm (by show 0 * 256 + r.val = 0 + r.val; omega) (Nat.zero_add _).symm)).trans (congrFun (harg2.read_unread x0) _)
theorem xI1_apply (r : Fin 256) (d : Fin 1024) : xI1 (F := Ideal) arg2 harg2 x0 (ix3 0 r d) = x0 (ix3 0 ⟨1 * 256 + r.val, by omega⟩ d) :=
  (readAt_unit_apply arg2.view (harg2.unread x0) inb_S1x1024x1024_S1x256x1024_0_256_0 (ix3 0 r d) (ix3 0 ⟨1 * 256 + r.val, by omega⟩ d) (forall_fin3 (Nat.zero_add _).symm rfl (Nat.zero_add _).symm)).trans (congrFun (harg2.read_unread x0) _)
theorem xI2_apply (r : Fin 256) (d : Fin 1024) : xI2 (F := Ideal) arg2 harg2 x0 (ix3 0 r d) = x0 (ix3 0 ⟨2 * 256 + r.val, by omega⟩ d) :=
  (readAt_unit_apply arg2.view (harg2.unread x0) inb_S1x1024x1024_S1x256x1024_0_512_0 (ix3 0 r d) (ix3 0 ⟨2 * 256 + r.val, by omega⟩ d) (forall_fin3 (Nat.zero_add _).symm rfl (Nat.zero_add _).symm)).trans (congrFun (harg2.read_unread x0) _)
theorem xI3_apply (r : Fin 256) (d : Fin 1024) : xI3 (F := Ideal) arg2 harg2 x0 (ix3 0 r d) = x0 (ix3 0 ⟨3 * 256 + r.val, by omega⟩ d) :=
  (readAt_unit_apply arg2.view (harg2.unread x0) inb_S1x1024x1024_S1x256x1024_0_768_0 (ix3 0 r d) (ix3 0 ⟨3 * 256 + r.val, by omega⟩ d) (forall_fin3 (Nat.zero_add _).symm rfl (Nat.zero_add _).symm)).trans (congrFun (harg2.read_unread x0) _)
theorem xpI_apply (r : Fin 8) (d : Fin 1024) : xpI (F := Ideal) arg3 harg3 x1 (ix3 0 r d) = x1 (ix3 0 r d) :=
  (readAt_unit_apply arg3.view (harg3.unread x1) inb_S1x8x1024_S1x8x1024_0_0_0 (ix3 0 r d) (ix3 0 r d) (forall_fin3 (Nat.zero_add _).symm (Nat.zero_add _).symm (Nat.zero_add _).symm)).trans (congrFun (harg3.read_unread x1) _)
theorem xnI_apply (r : Fin 8) (d : Fin 1024) : xnI (F := Ideal) arg4 harg4 x2 (ix3 0 r d) = x2 (ix3 0 r d) :=
  (readAt_unit_apply arg4.view (harg4.unread x2) inb_S1x8x1024_S1x8x1024_0_0_0 (ix3 0 r d) (ix3 0 r d) (forall_fin3 (Nat.zero_add _).symm (Nat.zero_add _).symm (Nat.zero_add _).symm)).trans (congrFun (harg4.read_unread x2) _)
theorem gI_apply (d : Fin 1024) : gI (F := Ideal) arg5 harg5 x3 (ix2 0 d) = x3 (ix2 0 d) :=
  (readAt_unit_apply arg5.view (harg5.unread x3) inb_S1x1024_S1x1024_0_0 (ix2 0 d) (ix2 0 d) (forall_fin2 (Nat.zero_add _).symm (Nat.zero_add _).symm)).trans (congrFun (harg5.read_unread x3) _)
theorem shI_apply (d : Fin 1024) : shI (F := Ideal) arg6 harg6 x4 (ix3 0 0 d) = x4 (ix3 0 0 d) :=
  (readAt_unit_apply arg6.view (harg6.unread x4) inb_S1x1x1024_S1x1x1024_0_0_0 (ix3 0 0 d) (ix3 0 0 d) (forall_fin3 (Nat.zero_add _).symm (Nat.zero_add _).symm (Nat.zero_add _).symm)).trans (congrFun (harg6.read_unread x4) _)
theorem scI_apply (d : Fin 1024) : scI (F := Ideal) arg7 harg7 x5 (ix3 0 0 d) = x5 (ix3 0 0 d) :=
  (readAt_unit_apply arg7.view (harg7.unread x5) inb_S1x1x1024_S1x1x1024_0_0_0 (ix3 0 0 d) (ix3 0 0 d) (forall_fin3 (Nat.zero_add _).symm (Nat.zero_add _).symm (Nat.zero_add _).symm)).trans (congrFun (harg7.read_unread x5) _)
theorem coI0_apply (r : Fin 256) (l : Fin 128) : coI0 (F := Ideal) arg8 harg8 x6 (ix2 r l) = x6 (ix2 ⟨0 * 256 + r.val, by omega⟩ l) :=
  (readAt_unit_apply arg8.view (harg8.unread x6) inb_S1024x128_S256x128_0_0 (ix2 r l) (ix2 ⟨0 * 256 + r.val, by omega⟩ l) (forall_fin2 (by show 0 * 256 + r.val = 0 + r.val; omega) (Nat.zero_add _).symm)).trans (congrFun (harg8.read_unread x6) _)
theorem coI1_apply (r : Fin 256) (l : Fin 128) : coI1 (F := Ideal) arg8 harg8 x6 (ix2 r l) = x6 (ix2 ⟨1 * 256 + r.val, by omega⟩ l) :=
  (readAt_unit_apply arg8.view (harg8.unread x6) inb_S1024x128_S256x128_256_0 (ix2 r l) (ix2 ⟨1 * 256 + r.val, by omega⟩ l) (forall_fin2 rfl (Nat.zero_add _).symm)).trans (congrFun (harg8.read_unread x6) _)
theorem coI2_apply (r : Fin 256) (l : Fin 128) : coI2 (F := Ideal) arg8 harg8 x6 (ix2 r l) = x6 (ix2 ⟨2 * 256 + r.val, by omega⟩ l) :=
  (readAt_unit_apply arg8.view (harg8.unread x6) inb_S1024x128_S256x128_512_0 (ix2 r l) (ix2 ⟨2 * 256 + r.val, by omega⟩ l) (forall_fin2 rfl (Nat.zero_add _).symm)).trans (congrFun (harg8.read_unread x6) _)
theorem coI3_apply (r : Fin 256) (l : Fin 128) : coI3 (F := Ideal) arg8 harg8 x6 (ix2 r l) = x6 (ix2 ⟨3 * 256 + r.val, by omega⟩ l) :=
  (readAt_unit_apply arg8.view (harg8.unread x6) inb_S1024x128_S256x128_768_0 (ix2 r l) (ix2 ⟨3 * 256 + r.val, by omega⟩ l) (forall_fin2 rfl (Nat.zero_add _).symm)).trans (congrFun (harg8.read_unread x6) _)
theorem siI0_apply (r : Fin 256) (l : Fin 128) : siI0 (F := Ideal) arg9 harg9 x7 (ix2 r l) = x7 (ix2 ⟨0 * 256 + r.val, by omega⟩ l) :=
  (readAt_unit_apply arg9.view (harg9.unread x7) inb_S1024x128_S256x128_0_0 (ix2 r l) (ix2 ⟨0 * 256 + r.val, by omega⟩ l) (forall_fin2 (by show 0 * 256 + r.val = 0 + r.val; omega) (Nat.zero_add _).symm)).trans (congrFun (harg9.read_unread x7) _)
theorem siI1_apply (r : Fin 256) (l : Fin 128) : siI1 (F := Ideal) arg9 harg9 x7 (ix2 r l) = x7 (ix2 ⟨1 * 256 + r.val, by omega⟩ l) :=
  (readAt_unit_apply arg9.view (harg9.unread x7) inb_S1024x128_S256x128_256_0 (ix2 r l) (ix2 ⟨1 * 256 + r.val, by omega⟩ l) (forall_fin2 rfl (Nat.zero_add _).symm)).trans (congrFun (harg9.read_unread x7) _)
theorem siI2_apply (r : Fin 256) (l : Fin 128) : siI2 (F := Ideal) arg9 harg9 x7 (ix2 r l) = x7 (ix2 ⟨2 * 256 + r.val, by omega⟩ l) :=
  (readAt_unit_apply arg9.view (harg9.unread x7) inb_S1024x128_S256x128_512_0 (ix2 r l) (ix2 ⟨2 * 256 + r.val, by omega⟩ l) (forall_fin2 rfl (Nat.zero_add _).symm)).trans (congrFun (harg9.read_unread x7) _)
theorem siI3_apply (r : Fin 256) (l : Fin 128) : siI3 (F := Ideal) arg9 harg9 x7 (ix2 r l) = x7 (ix2 ⟨3 * 256 + r.val, by omega⟩ l) :=
  (readAt_unit_apply arg9.view (harg9.unread x7) inb_S1024x128_S256x128_768_0 (ix2 r l) (ix2 ⟨3 * 256 + r.val, by omega⟩ l) (forall_fin2 rfl (Nat.zero_add _).symm)).trans (congrFun (harg9.read_unread x7) _)
theorem wQ_apply (d : Fin 1024) (n : Fin 512) : wQ (F := Ideal) arg10 harg10 x8 (ix2 d n) = x8 (ix2 d ⟨0 + n.val, by omega⟩) :=
  (readAt_unit_apply arg10.view (harg10.unread x8) inb_S1024x3712_S1024x512_0_0 (ix2 d n) (ix2 d ⟨0 + n.val, by omega⟩) (forall_fin2 (Nat.zero_add _).symm rfl)).trans (congrFun (harg10.read_unread x8) _)
theorem wK_apply (d : Fin 1024) (n : Fin 512) : wK (F := Ideal) arg10 harg10 x8 (ix2 d n) = x8 (ix2 d ⟨512 + n.val, by omega⟩) :=
  (readAt_unit_apply arg10.view (harg10.unread x8) inb_S1024x3712_S1024x512_0_512 (ix2 d n) (ix2 d ⟨512 + n.val, by omega⟩) (forall_fin2 (Nat.zero_add _).symm rfl)).trans (congrFun (harg10.read_unread x8) _)
theorem wV_apply (d : Fin 1024) (n : Fin 512) : wV (F := Ideal) arg10 harg10 x8 (ix2 d n) = x8 (ix2 d ⟨1024 + n.val, by omega⟩) :=
  (readAt_unit_apply arg10.view (harg10.unread x8) inb_S1024x3712_S1024x512_0_1024 (ix2 d n) (ix2 d ⟨1024 + n.val, by omega⟩) (forall_fin2 (Nat.zero_add _).symm rfl)).trans (congrFun (harg10.read_unread x8) _)
theorem wC_apply (d : Fin 1024) (n : Fin 1536) : wC (F := Ideal) arg10 harg10 x8 (ix2 d n) = x8 (ix2 d ⟨1536 + n.val, by omega⟩) :=
  (readAt_unit_apply arg10.view (harg10.unread x8) inb_S1024x3712_S1024x1536_0_1536 (ix2 d n) (ix2 d ⟨1536 + n.val, by omega⟩) (forall_fin2 (Nat.zero_add _).symm rfl)).trans (congrFun (harg10.read_unread x8) _)
theorem wG_apply (d : Fin 1024) (n : Fin 512) : wG (F := Ideal) arg10 harg10 x8 (ix2 d n) = x8 (ix2 d ⟨3072 + n.val, by omega⟩) :=
  (readAt_unit_apply arg10.view (harg10.unread x8) inb_S1024x3712_S1024x512_0_3072 (ix2 d n) (ix2 d ⟨3072 + n.val, by omega⟩) (forall_fin2 (Nat.zero_add _).symm rfl)).trans (congrFun (harg10.read_unread x8) _)
theorem wA_apply (d : Fin 1024) (n : Fin 128) : wA (F := Ideal) arg10 harg10 x8 (ix2 d n) = x8 (ix2 d ⟨3584 + n.val, by omega⟩) :=
  (readAt_unit_apply arg10.view (harg10.unread x8) inb_S1024x3712_S1024x128_0_3584 (ix2 d n) (ix2 d ⟨3584 + n.val, by omega⟩) (forall_fin2 (Nat.zero_add _).symm rfl)).trans (congrFun (harg10.read_unread x8) _)
theorem cwI_apply (j : Fin 8) (n : Fin 1536) : cwI (F := Ideal) arg11 harg11 x9 (ix2 j n) = x9 (ix2 j n) :=
  (readAt_unit_apply arg11.view (harg11.unread x9) inb_S8x1536_S8x1536_0_0 (ix2 j n) (ix2 j n) (forall_fin2 (Nat.zero_add _).symm (Nat.zero_add _).symm)).trans (congrFun (harg11.read_unread x9) _)
theorem alI_apply (l : Fin 128) : alI (F := Ideal) arg12 harg12 x10 (ix2 0 l) = x10 (ix2 0 l) :=
  (readAt_unit_apply arg12.view (harg12.unread x10) inb_S1x128_S1x128_0_0 (ix2 0 l) (ix2 0 l) (forall_fin2 (Nat.zero_add _).symm (Nat.zero_add _).symm)).trans (congrFun (harg12.read_unread x10) _)
theorem dtI_apply (l : Fin 128) : dtI (F := Ideal) arg13 harg13 x11 (ix2 0 l) = x11 (ix2 0 l) :=
  (readAt_unit_apply arg13.view (harg13.unread x11) inb_S1x128_S1x128_0_0 (ix2 0 l) (ix2 0 l) (forall_fin2 (Nat.zero_add _).symm (Nat.zero_add _).symm)).trans (congrFun (harg13.read_unread x11) _)

theorem hK0_apply (r : Fin 256) (d : Fin 1024) : hK0 arg2 harg2 arg5 harg5 arg6 harg6 arg7 harg7 x0 x3 x4 x5 (ix2 r d) = hB x0 x3 x4 x5 ⟨0 * 256 + r.val, by omega⟩ d := by
  unfold hK0 hB
  rw [hT_apply]
  simp only [xI0_apply, gI_apply, shI_apply, scI_apply]

theorem hK1_apply (r : Fin 256) (d : Fin 1024) : hK1 arg2 harg2 arg5 harg5 arg6 harg6 arg7 harg7 x0 x3 x4 x5 (ix2 r d) = hB x0 x3 x4 x5 ⟨1 * 256 + r.val, by omega⟩ d := by
  unfold hK1 hB
  rw [hT_apply]
  simp only [xI1_apply, gI_apply, shI_apply, scI_apply]

theorem hK2_apply (r : Fin 256) (d : Fin 1024) : hK2 arg2 harg2 arg5 harg5 arg6 harg6 arg7 harg7 x0 x3 x4 x5 (ix2 r d) = hB x0 x3 x4 x5 ⟨2 * 256 + r.val, by omega⟩ d := by
  unfold hK2 hB
  rw [hT_apply]
  simp only [xI2_apply, gI_apply, shI_apply, scI_apply]

theorem hK3_apply (r : Fin 256) (d : Fin 1024) : hK3 arg2 harg2 arg5 harg5 arg6 harg6 arg7 harg7 x0 x3 x4 x5 (ix2 r d) = hB x0 x3 x4 x5 ⟨3 * 256 + r.val, by omega⟩ d := by
  unfold hK3 hB
  rw [hT_apply]
  simp only [xI3_apply, gI_apply, shI_apply, scI_apply]

theorem prI_apply (n : Fin 1536) : prI (F := Ideal) i arg3 harg3 arg4 harg4 arg5 harg5 arg6 harg6 arg7 harg7 arg10 harg10 x1 x2 x3 x4 x5 x8 (ix2 0 n) = prB x1 x3 x4 x5 x8 (iB i) ⟨1536 + n.val, by omega⟩ := by
  unfold prI prB
  refine (pay9_apply (iB i) _ _ _ _ _ _ n).trans ?_
  simp only [xpI_apply, xnI_apply, gI_apply, shI_apply, scI_apply, wC_apply]

theorem nxI_apply (n : Fin 1536) : nxI (F := Ideal) i arg3 harg3 arg4 harg4 arg5 harg5 arg6 harg6 arg7 harg7 arg10 harg10 x1 x2 x3 x4 x5 x8 (ix2 0 n) = nxB x2 x3 x4 x5 x8 (iB i) ⟨1536 + n.val, by omega⟩ := by
  unfold nxI nxB
  refine (pay10_apply (iB i) _ _ _ _ _ _ n).trans ?_
  simp only [xpI_apply, xnI_apply, gI_apply, shI_apply, scI_apply, wC_apply]

theorem sK0_apply (r : Fin 256) (n : Fin 1536) : sK0 i arg2 harg2 arg3 harg3 arg4 harg4 arg5 harg5 arg6 harg6 arg7 harg7 arg10 harg10 arg11 harg11 x0 x1 x2 x3 x4 x5 x8 x9 (ix2 r n) = sB x0 x1 x2 x3 x4 x5 x8 x9 (iB i) ⟨0 * 256 + r.val, by omega⟩ n :=
  sT_of x0 x1 x2 x3 x4 x5 x8 x9 (iB i) 0 _ _ _ _ (pC_of x0 x3 x4 x5 x8 0 _ _ (fun r d => hK0_apply arg2 harg2 arg5 harg5 arg6 harg6 arg7 harg7 x0 x3 x4 x5 r d) (wC_apply arg10 harg10 x8)) (fun n => (prI_apply (i := i) ..)) (fun n => ((pay30_apply _ _ n).trans (((pC_of x0 x3 x4 x5 x8 1 _ _ (fun r d => hK1_apply arg2 harg2 arg5 harg5 arg6 harg6 arg7 harg7 x0 x3 x4 x5 r d) (wC_apply arg10 harg10 x8)) 0 n).trans rfl)))
    (fun j n => (pay4_eq _ j n).trans (cwI_apply ..)) r n

theorem sK1_apply (r : Fin 256) (n : Fin 1536) : sK1 i arg2 harg2 arg3 harg3 arg4 harg4 arg5 harg5 arg6 harg6 arg7 harg7 arg10 harg10 arg11 harg11 x0 x1 x2 x3 x4 x5 x8 x9 (ix2 r n) = sB x0 x1 x2 x3 x4 x5 x8 x9 (iB i) ⟨1 * 256 + r.val, by omega⟩ n :=
  sT_of x0 x1 x2 x3 x4 x5 x8 x9 (iB i) 1 _ _ _ _ (pC_of x0 x3 x4 x5 x8 1 _ _ (fun r d => hK1_apply arg2 harg2 arg5 harg5 arg6 harg6 arg7 harg7 x0 x3 x4 x5 r d) (wC_apply arg10 harg10 x8)) (fun n => ((last_apply _ n).trans (((pC_of x0 x3 x4 x5 x8 0 _ _ (fun r d => hK0_apply arg2 harg2 arg5 harg5 arg6 harg6 arg7 harg7 x0 x3 x4 x5 r d) (wC_apply arg10 harg10 x8)) 255 n).trans rfl))) (fun n => ((pay30_apply _ _ n).trans (((pC_of x0 x3 x4 x5 x8 2 _ _ (fun r d => hK2_apply arg2 harg2 arg5 harg5 arg6 harg6 arg7 harg7 x0 x3 x4 x5 r d) (wC_apply arg10 harg10 x8)) 0 n).trans rfl)))
    (fun j n => (pay4_eq _ j n).trans (cwI_apply ..)) r n

theorem sK2_apply (r : Fin 256) (n : Fin 1536) : sK2 i arg2 harg2 arg3 harg3 arg4 harg4 arg5 harg5 arg6 harg6 arg7 harg7 arg10 harg10 arg11 harg11 x0 x1 x2 x3 x4 x5 x8 x9 (ix2 r n) = sB x0 x1 x2 x3 x4 x5 x8 x9 (iB i) ⟨2 * 256 + r.val, by omega⟩ n :=
  sT_of x0 x1 x2 x3 x4 x5 x8 x9 (iB i) 2 _ _ _ _ (pC_of x0 x3 x4 x5 x8 2 _ _ (fun r d => hK2_apply arg2 harg2 arg5 harg5 arg6 harg6 arg7 harg7 x0 x3 x4 x5 r d) (wC_apply arg10 harg10 x8)) (fun n => ((last_apply _ n).trans (((pC_of x0 x3 x4 x5 x8 1 _ _ (fun r d => hK1_apply arg2 harg2 arg5 harg5 arg6 harg6 arg7 harg7 x0 x3 x4 x5 r d) (wC_apply arg10 harg10 x8)) 255 n).trans rfl))) (fun n => ((pay30_apply _ _ n).trans (((pC_of x0 x3 x4 x5 x8 3 _ _ (fun r d => hK3_apply arg2 harg2 arg5 harg5 arg6 harg6 arg7 harg7 x0 x3 x4 x5 r d) (wC_apply arg10 harg10 x8)) 0 n).trans rfl)))
    (fun j n => (pay4_eq _ j n).trans (cwI_apply ..)) r n

theorem sK3_apply (r : Fin 256) (n : Fin 1536) : sK3 i arg2 harg2 arg3 harg3 arg4 harg4 arg5 harg5 arg6 harg6 arg7 harg7 arg10 harg10 arg11 harg11 x0 x1 x2 x3 x4 x5 x8 x9 (ix2 r n) = sB x0 x1 x2 x3 x4 x5 x8 x9 (iB i) ⟨3 * 256 + r.val, by omega⟩ n :=
  sT_of x0 x1 x2 x3 x4 x5 x8 x9 (iB i) 3 _ _ _ _ (pC_of x0 x3 x4 x5 x8 3 _ _ (fun r d => hK3_apply arg2 harg2 arg5 harg5 arg6 harg6 arg7 harg7 x0 x3 x4 x5 r d) (wC_apply arg10 harg10 x8)) (fun n => ((last_apply _ n).trans (((pC_of x0 x3 x4 x5 x8 2 _ _ (fun r d => hK2_apply arg2 harg2 arg5 harg5 arg6 harg6 arg7 harg7 x0 x3 x4 x5 r d) (wC_apply arg10 harg10 x8)) 255 n).trans rfl))) (fun n => (nxI_apply (i := i) ..))
    (fun j n => (pay4_eq _ j n).trans (cwI_apply ..)) r n

theorem out12_apply (r : Fin 1024) (n : Fin 512) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = rB x0 x3 x4 x5 x6 x7 x8 0 (by decide) r n * Ideal.ofBits .f32 0x3E38AA3B#32 := by
  unfold out0_A_12
  rw [L12_eq]
  refine (read4_of _ _ _ _ _ _ (fun r n => rB x0 x3 x4 x5 x6 x7 x8 0 (by decide) r n * Ideal.ofBits .f32 0x3E38AA3B#32)
    (fun r n => by rw [qT_apply, ropeT_apply, pT_of x0 x3 x4 x5 x8 0 _ _ 0 (by decide) (fun r d => hK0_apply arg2 harg2 arg5 harg5 arg6 harg6 arg7 harg7 x0 x3 x4 x5 r d) (wQ_apply arg10 harg10 x8), pT_of x0 x3 x4 x5 x8 0 _ _ 0 (by decide) (fun r d => hK0_apply arg2 harg2 arg5 harg5 arg6 harg6 arg7 harg7 x0 x3 x4 x5 r d) (wQ_apply arg10 harg10 x8), coI0_apply, siI0_apply]; rfl)
    (fun r n => by rw [qT_apply, ropeT_apply, pT_of x0 x3 x4 x5 x8 1 _ _ 0 (by decide) (fun r d => hK1_apply arg2 harg2 arg5 harg5 arg6 harg6 arg7 harg7 x0 x3 x4 x5 r d) (wQ_apply arg10 harg10 x8), pT_of x0 x3 x4 x5 x8 1 _ _ 0 (by decide) (fun r d => hK1_apply arg2 harg2 arg5 harg5 arg6 harg6 arg7 harg7 x0 x3 x4 x5 r d) (wQ_apply arg10 harg10 x8), coI1_apply, siI1_apply]; rfl)
    (fun r n => by rw [qT_apply, ropeT_apply, pT_of x0 x3 x4 x5 x8 2 _ _ 0 (by decide) (fun r d => hK2_apply arg2 harg2 arg5 harg5 arg6 harg6 arg7 harg7 x0 x3 x4 x5 r d) (wQ_apply arg10 harg10 x8), pT_of x0 x3 x4 x5 x8 2 _ _ 0 (by decide) (fun r d => hK2_apply arg2 harg2 arg5 harg5 arg6 harg6 arg7 harg7 x0 x3 x4 x5 r d) (wQ_apply arg10 harg10 x8), coI2_apply, siI2_apply]; rfl)
    (fun r n => by rw [qT_apply, ropeT_apply, pT_of x0 x3 x4 x5 x8 3 _ _ 0 (by decide) (fun r d => hK3_apply arg2 harg2 arg5 harg5 arg6 harg6 arg7 harg7 x0 x3 x4 x5 r d) (wQ_apply arg10 harg10 x8), pT_of x0 x3 x4 x5 x8 3 _ _ 0 (by decide) (fun r d => hK3_apply arg2 harg2 arg5 harg5 arg6 harg6 arg7 harg7 x0 x3 x4 x5 r d) (wQ_apply arg10 harg10 x8), coI3_apply, siI3_apply]; rfl) r n).trans ?_
  rfl

theorem out13_apply (r : Fin 1024) (n : Fin 512) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = rB x0 x3 x4 x5 x6 x7 x8 512 (by decide) r n := by
  unfold out0_A_13
  rw [L13_eq]
  refine (read4_of _ _ _ _ _ _ (fun r n => rB x0 x3 x4 x5 x6 x7 x8 512 (by decide) r n)
    (fun r n => by rw [kT_apply, ropeT_apply, pT_of x0 x3 x4 x5 x8 0 _ _ 512 (by decide) (fun r d => hK0_apply arg2 harg2 arg5 harg5 arg6 harg6 arg7 harg7 x0 x3 x4 x5 r d) (wK_apply arg10 harg10 x8), pT_of x0 x3 x4 x5 x8 0 _ _ 512 (by decide) (fun r d => hK0_apply arg2 harg2 arg5 harg5 arg6 harg6 arg7 harg7 x0 x3 x4 x5 r d) (wK_apply arg10 harg10 x8), coI0_apply, siI0_apply]; rfl)
    (fun r n => by rw [kT_apply, ropeT_apply, pT_of x0 x3 x4 x5 x8 1 _ _ 512 (by decide) (fun r d => hK1_apply arg2 harg2 arg5 harg5 arg6 harg6 arg7 harg7 x0 x3 x4 x5 r d) (wK_apply arg10 harg10 x8), pT_of x0 x3 x4 x5 x8 1 _ _ 512 (by decide) (fun r d => hK1_apply arg2 harg2 arg5 harg5 arg6 harg6 arg7 harg7 x0 x3 x4 x5 r d) (wK_apply arg10 harg10 x8), coI1_apply, siI1_apply]; rfl)
    (fun r n => by rw [kT_apply, ropeT_apply, pT_of x0 x3 x4 x5 x8 2 _ _ 512 (by decide) (fun r d => hK2_apply arg2 harg2 arg5 harg5 arg6 harg6 arg7 harg7 x0 x3 x4 x5 r d) (wK_apply arg10 harg10 x8), pT_of x0 x3 x4 x5 x8 2 _ _ 512 (by decide) (fun r d => hK2_apply arg2 harg2 arg5 harg5 arg6 harg6 arg7 harg7 x0 x3 x4 x5 r d) (wK_apply arg10 harg10 x8), coI2_apply, siI2_apply]; rfl)
    (fun r n => by rw [kT_apply, ropeT_apply, pT_of x0 x3 x4 x5 x8 3 _ _ 512 (by decide) (fun r d => hK3_apply arg2 harg2 arg5 harg5 arg6 harg6 arg7 harg7 x0 x3 x4 x5 r d) (wK_apply arg10 harg10 x8), pT_of x0 x3 x4 x5 x8 3 _ _ 512 (by decide) (fun r d => hK3_apply arg2 harg2 arg5 harg5 arg6 harg6 arg7 harg7 x0 x3 x4 x5 r d) (wK_apply arg10 harg10 x8), coI3_apply, siI3_apply]; rfl) r n).trans ?_
  rfl

theorem out18_apply (r : Fin 1024) (n : Fin 512) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = pB x0 x3 x4 x5 x8 r ⟨3072 + n.val, by omega⟩ := by
  unfold out0_A_18
  rw [L18_eq]
  refine (read4_of _ _ _ _ _ _ (fun r n => pB x0 x3 x4 x5 x8 r ⟨3072 + n.val, by omega⟩)
    (fun r n => by rw [gateT_apply, pT_of x0 x3 x4 x5 x8 0 _ _ 3072 (by decide) (fun r d => hK0_apply arg2 harg2 arg5 harg5 arg6 harg6 arg7 harg7 x0 x3 x4 x5 r d) (wG_apply arg10 harg10 x8)]; rfl)
    (fun r n => by rw [gateT_apply, pT_of x0 x3 x4 x5 x8 1 _ _ 3072 (by decide) (fun r d => hK1_apply arg2 harg2 arg5 harg5 arg6 harg6 arg7 harg7 x0 x3 x4 x5 r d) (wG_apply arg10 harg10 x8)]; rfl)
    (fun r n => by rw [gateT_apply, pT_of x0 x3 x4 x5 x8 2 _ _ 3072 (by decide) (fun r d => hK2_apply arg2 harg2 arg5 harg5 arg6 harg6 arg7 harg7 x0 x3 x4 x5 r d) (wG_apply arg10 harg10 x8)]; rfl)
    (fun r n => by rw [gateT_apply, pT_of x0 x3 x4 x5 x8 3 _ _ 3072 (by decide) (fun r d => hK3_apply arg2 harg2 arg5 harg5 arg6 harg6 arg7 harg7 x0 x3 x4 x5 r d) (wG_apply arg10 harg10 x8)]; rfl) r n).trans ?_
  rfl

theorem out17_apply (r : Fin 1024) (n : Fin 512) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = sB x0 x1 x2 x3 x4 x5 x8 x9 (iB i) r ⟨1024 + n.val, by omega⟩ := by
  unfold out0_A_17
  rw [L17_eq]
  refine (read4_of _ _ _ _ _ _ (fun r n => sB x0 x1 x2 x3 x4 x5 x8 x9 (iB i) r ⟨1024 + n.val, by omega⟩)
    (fun r n => by rw [gvT_apply, sK0_apply i arg2 harg2 arg3 harg3 arg4 harg4 arg5 harg5 arg6 harg6 arg7 harg7 arg10 harg10 arg11 harg11 x0 x1 x2 x3 x4 x5 x8 x9])
    (fun r n => by rw [gvT_apply, sK1_apply i arg2 harg2 arg3 harg3 arg4 harg4 arg5 harg5 arg6 harg6 arg7 harg7 arg10 harg10 arg11 harg11 x0 x1 x2 x3 x4 x5 x8 x9])
    (fun r n => by rw [gvT_apply, sK2_apply i arg2 harg2 arg3 harg3 arg4 harg4 arg5 harg5 arg6 harg6 arg7 harg7 arg10 harg10 arg11 harg11 x0 x1 x2 x3 x4 x5 x8 x9])
    (fun r n => by rw [gvT_apply, sK3_apply i arg2 harg2 arg3 harg3 arg4 harg4 arg5 harg5 arg6 harg6 arg7 harg7 arg10 harg10 arg11 harg11 x0 x1 x2 x3 x4 x5 x8 x9]) r n).trans ?_
  rfl

theorem out19_apply (r : Fin 1024) (n : Fin 128) : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = abB x0 x3 x4 x5 x8 x10 x11 r n := by
  unfold out0_A_19
  rw [L19_eq]
  refine (read4b_of _ _ _ _ _ _ (fun r n => abB x0 x3 x4 x5 x8 x10 x11 r n)
    (fun r n => by rw [abT_apply, pA_of x0 x3 x4 x5 x8 0 _ _ (fun r d => hK0_apply arg2 harg2 arg5 harg5 arg6 harg6 arg7 harg7 x0 x3 x4 x5 r d) (wA_apply arg10 harg10 x8), alI_apply, dtI_apply]; rfl)
    (fun r n => by rw [abT_apply, pA_of x0 x3 x4 x5 x8 1 _ _ (fun r d => hK1_apply arg2 harg2 arg5 harg5 arg6 harg6 arg7 harg7 x0 x3 x4 x5 r d) (wA_apply arg10 harg10 x8), alI_apply, dtI_apply]; rfl)
    (fun r n => by rw [abT_apply, pA_of x0 x3 x4 x5 x8 2 _ _ (fun r d => hK2_apply arg2 harg2 arg5 harg5 arg6 harg6 arg7 harg7 x0 x3 x4 x5 r d) (wA_apply arg10 harg10 x8), alI_apply, dtI_apply]; rfl)
    (fun r n => by rw [abT_apply, pA_of x0 x3 x4 x5 x8 3 _ _ (fun r d => hK3_apply arg2 harg2 arg5 harg5 arg6 harg6 arg7 harg7 x0 x3 x4 x5 r d) (wA_apply arg10 harg10 x8), alI_apply, dtI_apply]; rfl) r n).trans ?_
  rfl

theorem out20_apply (r : Fin 1024) (n : Fin 16) : out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 n r) = abB x0 x3 x4 x5 x8 x10 x11 r ⟨n.val, by omega⟩ := by
  unfold out0_A_20
  rw [L20_eq]
  refine (read4t_of _ _ _ _ _ _ (fun r n => abB x0 x3 x4 x5 x8 x10 x11 r ⟨n.val, by omega⟩)
    (fun r n => by rw [abtT_apply, abT_apply, pA_of x0 x3 x4 x5 x8 0 _ _ (fun r d => hK0_apply arg2 harg2 arg5 harg5 arg6 harg6 arg7 harg7 x0 x3 x4 x5 r d) (wA_apply arg10 harg10 x8), alI_apply, dtI_apply]; rfl)
    (fun r n => by rw [abtT_apply, abT_apply, pA_of x0 x3 x4 x5 x8 1 _ _ (fun r d => hK1_apply arg2 harg2 arg5 harg5 arg6 harg6 arg7 harg7 x0 x3 x4 x5 r d) (wA_apply arg10 harg10 x8), alI_apply, dtI_apply]; rfl)
    (fun r n => by rw [abtT_apply, abT_apply, pA_of x0 x3 x4 x5 x8 2 _ _ (fun r d => hK2_apply arg2 harg2 arg5 harg5 arg6 harg6 arg7 harg7 x0 x3 x4 x5 r d) (wA_apply arg10 harg10 x8), alI_apply, dtI_apply]; rfl)
    (fun r n => by rw [abtT_apply, abT_apply, pA_of x0 x3 x4 x5 x8 3 _ _ (fun r d => hK3_apply arg2 harg2 arg5 harg5 arg6 harg6 arg7 harg7 x0 x3 x4 x5 r d) (wA_apply arg10 harg10 x8), alI_apply, dtI_apply]; rfl) r n).trans ?_
  rfl

theorem out15_apply (r : Fin 1024) (n : Fin 512) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = l2 (fun l => sB x0 x1 x2 x3 x4 x5 x8 x9 (iB i) r ⟨0 + (n.val / 128 * 128 + l.val), by omega⟩) ⟨n.val % 128, Nat.mod_lt _ (by decide)⟩ * Ideal.ofBits .f32 0x3DB504F3#32 := by
  unfold out0_A_15
  rw [L15_eq]
  refine (read16_of _ _ _ _ _ _ _ _ _ _ _ _ _ _ _ _ _ _ (fun r h n => l2 (fun l => sB x0 x1 x2 x3 x4 x5 x8 x9 (iB i) r ⟨0 + (h.val * 128 + l.val), by omega⟩) n * Ideal.ofBits .f32 0x3DB504F3#32)
    (fun r n => gqT_of _ r n (fun l => sB x0 x1 x2 x3 x4 x5 x8 x9 (iB i) ⟨0 * 256 + r.val, by omega⟩ ⟨0 + (0 * 128 + l.val), by omega⟩) fun l => (slice0_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 0 + l.val = 0 + (0 * 128 + l.val); omega)))))
    (fun r n => gqT_of _ r n (fun l => sB x0 x1 x2 x3 x4 x5 x8 x9 (iB i) ⟨0 * 256 + r.val, by omega⟩ ⟨0 + (1 * 128 + l.val), by omega⟩) fun l => (slice128_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 128 + l.val = 0 + (1 * 128 + l.val); omega)))))
    (fun r n => gqT_of _ r n (fun l => sB x0 x1 x2 x3 x4 x5 x8 x9 (iB i) ⟨0 * 256 + r.val, by omega⟩ ⟨0 + (2 * 128 + l.val), by omega⟩) fun l => (slice256_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 256 + l.val = 0 + (2 * 128 + l.val); omega)))))
    (fun r n => gqT_of _ r n (fun l => sB x0 x1 x2 x3 x4 x5 x8 x9 (iB i) ⟨0 * 256 + r.val, by omega⟩ ⟨0 + (3 * 128 + l.val), by omega⟩) fun l => (slice384_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 384 + l.val = 0 + (3 * 128 + l.val); omega)))))
    (fun r n => gqT_of _ r n (fun l => sB x0 x1 x2 x3 x4 x5 x8 x9 (iB i) ⟨1 * 256 + r.val, by omega⟩ ⟨0 + (0 * 128 + l.val), by omega⟩) fun l => (slice0_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 0 + l.val = 0 + (0 * 128 + l.val); omega)))))
    (fun r n => gqT_of _ r n (fun l => sB x0 x1 x2 x3 x4 x5 x8 x9 (iB i) ⟨1 * 256 + r.val, by omega⟩ ⟨0 + (1 * 128 + l.val), by omega⟩) fun l => (slice128_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 128 + l.val = 0 + (1 * 128 + l.val); omega)))))
    (fun r n => gqT_of _ r n (fun l => sB x0 x1 x2 x3 x4 x5 x8 x9 (iB i) ⟨1 * 256 + r.val, by omega⟩ ⟨0 + (2 * 128 + l.val), by omega⟩) fun l => (slice256_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 256 + l.val = 0 + (2 * 128 + l.val); omega)))))
    (fun r n => gqT_of _ r n (fun l => sB x0 x1 x2 x3 x4 x5 x8 x9 (iB i) ⟨1 * 256 + r.val, by omega⟩ ⟨0 + (3 * 128 + l.val), by omega⟩) fun l => (slice384_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 384 + l.val = 0 + (3 * 128 + l.val); omega)))))
    (fun r n => gqT_of _ r n (fun l => sB x0 x1 x2 x3 x4 x5 x8 x9 (iB i) ⟨2 * 256 + r.val, by omega⟩ ⟨0 + (0 * 128 + l.val), by omega⟩) fun l => (slice0_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 0 + l.val = 0 + (0 * 128 + l.val); omega)))))
    (fun r n => gqT_of _ r n (fun l => sB x0 x1 x2 x3 x4 x5 x8 x9 (iB i) ⟨2 * 256 + r.val, by omega⟩ ⟨0 + (1 * 128 + l.val), by omega⟩) fun l => (slice128_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 128 + l.val = 0 + (1 * 128 + l.val); omega)))))
    (fun r n => gqT_of _ r n (fun l => sB x0 x1 x2 x3 x4 x5 x8 x9 (iB i) ⟨2 * 256 + r.val, by omega⟩ ⟨0 + (2 * 128 + l.val), by omega⟩) fun l => (slice256_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 256 + l.val = 0 + (2 * 128 + l.val); omega)))))
    (fun r n => gqT_of _ r n (fun l => sB x0 x1 x2 x3 x4 x5 x8 x9 (iB i) ⟨2 * 256 + r.val, by omega⟩ ⟨0 + (3 * 128 + l.val), by omega⟩) fun l => (slice384_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 384 + l.val = 0 + (3 * 128 + l.val); omega)))))
    (fun r n => gqT_of _ r n (fun l => sB x0 x1 x2 x3 x4 x5 x8 x9 (iB i) ⟨3 * 256 + r.val, by omega⟩ ⟨0 + (0 * 128 + l.val), by omega⟩) fun l => (slice0_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 0 + l.val = 0 + (0 * 128 + l.val); omega)))))
    (fun r n => gqT_of _ r n (fun l => sB x0 x1 x2 x3 x4 x5 x8 x9 (iB i) ⟨3 * 256 + r.val, by omega⟩ ⟨0 + (1 * 128 + l.val), by omega⟩) fun l => (slice128_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 128 + l.val = 0 + (1 * 128 + l.val); omega)))))
    (fun r n => gqT_of _ r n (fun l => sB x0 x1 x2 x3 x4 x5 x8 x9 (iB i) ⟨3 * 256 + r.val, by omega⟩ ⟨0 + (2 * 128 + l.val), by omega⟩) fun l => (slice256_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 256 + l.val = 0 + (2 * 128 + l.val); omega)))))
    (fun r n => gqT_of _ r n (fun l => sB x0 x1 x2 x3 x4 x5 x8 x9 (iB i) ⟨3 * 256 + r.val, by omega⟩ ⟨0 + (3 * 128 + l.val), by omega⟩) fun l => (slice384_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 384 + l.val = 0 + (3 * 128 + l.val); omega))))) r n).trans ?_
  rfl

theorem out16_apply (r : Fin 1024) (n : Fin 512) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix3 0 r n) = l2 (fun l => sB x0 x1 x2 x3 x4 x5 x8 x9 (iB i) r ⟨512 + (n.val / 128 * 128 + l.val), by omega⟩) ⟨n.val % 128, Nat.mod_lt _ (by decide)⟩ := by
  unfold out0_A_16
  rw [L16_eq]
  refine (read16_of _ _ _ _ _ _ _ _ _ _ _ _ _ _ _ _ _ _ (fun r h n => l2 (fun l => sB x0 x1 x2 x3 x4 x5 x8 x9 (iB i) r ⟨512 + (h.val * 128 + l.val), by omega⟩) n)
    (fun r n => gkT_of _ r n (fun l => sB x0 x1 x2 x3 x4 x5 x8 x9 (iB i) ⟨0 * 256 + r.val, by omega⟩ ⟨512 + (0 * 128 + l.val), by omega⟩) fun l => (slice512_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 512 + l.val = 512 + (0 * 128 + l.val); omega)))))
    (fun r n => gkT_of _ r n (fun l => sB x0 x1 x2 x3 x4 x5 x8 x9 (iB i) ⟨0 * 256 + r.val, by omega⟩ ⟨512 + (1 * 128 + l.val), by omega⟩) fun l => (slice640_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 640 + l.val = 512 + (1 * 128 + l.val); omega)))))
    (fun r n => gkT_of _ r n (fun l => sB x0 x1 x2 x3 x4 x5 x8 x9 (iB i) ⟨0 * 256 + r.val, by omega⟩ ⟨512 + (2 * 128 + l.val), by omega⟩) fun l => (slice768_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 768 + l.val = 512 + (2 * 128 + l.val); omega)))))
    (fun r n => gkT_of _ r n (fun l => sB x0 x1 x2 x3 x4 x5 x8 x9 (iB i) ⟨0 * 256 + r.val, by omega⟩ ⟨512 + (3 * 128 + l.val), by omega⟩) fun l => (slice896_apply _ r l).trans ((sK0_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 896 + l.val = 512 + (3 * 128 + l.val); omega)))))
    (fun r n => gkT_of _ r n (fun l => sB x0 x1 x2 x3 x4 x5 x8 x9 (iB i) ⟨1 * 256 + r.val, by omega⟩ ⟨512 + (0 * 128 + l.val), by omega⟩) fun l => (slice512_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 512 + l.val = 512 + (0 * 128 + l.val); omega)))))
    (fun r n => gkT_of _ r n (fun l => sB x0 x1 x2 x3 x4 x5 x8 x9 (iB i) ⟨1 * 256 + r.val, by omega⟩ ⟨512 + (1 * 128 + l.val), by omega⟩) fun l => (slice640_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 640 + l.val = 512 + (1 * 128 + l.val); omega)))))
    (fun r n => gkT_of _ r n (fun l => sB x0 x1 x2 x3 x4 x5 x8 x9 (iB i) ⟨1 * 256 + r.val, by omega⟩ ⟨512 + (2 * 128 + l.val), by omega⟩) fun l => (slice768_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 768 + l.val = 512 + (2 * 128 + l.val); omega)))))
    (fun r n => gkT_of _ r n (fun l => sB x0 x1 x2 x3 x4 x5 x8 x9 (iB i) ⟨1 * 256 + r.val, by omega⟩ ⟨512 + (3 * 128 + l.val), by omega⟩) fun l => (slice896_apply _ r l).trans ((sK1_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 896 + l.val = 512 + (3 * 128 + l.val); omega)))))
    (fun r n => gkT_of _ r n (fun l => sB x0 x1 x2 x3 x4 x5 x8 x9 (iB i) ⟨2 * 256 + r.val, by omega⟩ ⟨512 + (0 * 128 + l.val), by omega⟩) fun l => (slice512_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 512 + l.val = 512 + (0 * 128 + l.val); omega)))))
    (fun r n => gkT_of _ r n (fun l => sB x0 x1 x2 x3 x4 x5 x8 x9 (iB i) ⟨2 * 256 + r.val, by omega⟩ ⟨512 + (1 * 128 + l.val), by omega⟩) fun l => (slice640_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 640 + l.val = 512 + (1 * 128 + l.val); omega)))))
    (fun r n => gkT_of _ r n (fun l => sB x0 x1 x2 x3 x4 x5 x8 x9 (iB i) ⟨2 * 256 + r.val, by omega⟩ ⟨512 + (2 * 128 + l.val), by omega⟩) fun l => (slice768_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 768 + l.val = 512 + (2 * 128 + l.val); omega)))))
    (fun r n => gkT_of _ r n (fun l => sB x0 x1 x2 x3 x4 x5 x8 x9 (iB i) ⟨2 * 256 + r.val, by omega⟩ ⟨512 + (3 * 128 + l.val), by omega⟩) fun l => (slice896_apply _ r l).trans ((sK2_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 896 + l.val = 512 + (3 * 128 + l.val); omega)))))
    (fun r n => gkT_of _ r n (fun l => sB x0 x1 x2 x3 x4 x5 x8 x9 (iB i) ⟨3 * 256 + r.val, by omega⟩ ⟨512 + (0 * 128 + l.val), by omega⟩) fun l => (slice512_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 512 + l.val = 512 + (0 * 128 + l.val); omega)))))
    (fun r n => gkT_of _ r n (fun l => sB x0 x1 x2 x3 x4 x5 x8 x9 (iB i) ⟨3 * 256 + r.val, by omega⟩ ⟨512 + (1 * 128 + l.val), by omega⟩) fun l => (slice640_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 640 + l.val = 512 + (1 * 128 + l.val); omega)))))
    (fun r n => gkT_of _ r n (fun l => sB x0 x1 x2 x3 x4 x5 x8 x9 (iB i) ⟨3 * 256 + r.val, by omega⟩ ⟨512 + (2 * 128 + l.val), by omega⟩) fun l => (slice768_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 768 + l.val = 512 + (2 * 128 + l.val); omega)))))
    (fun r n => gkT_of _ r n (fun l => sB x0 x1 x2 x3 x4 x5 x8 x9 (iB i) ⟨3 * 256 + r.val, by omega⟩ ⟨512 + (3 * 128 + l.val), by omega⟩) fun l => (slice896_apply _ r l).trans ((sK3_apply i arg2 harg2 arg3 harg3 arg4 harg4 arg5 harg5 arg6 harg6 arg7 harg7 arg10 harg10 arg11 harg11 x0 x1 x2 x3 x4 x5 x8 x9 r _).trans (congrArg (sB x0 x1 x2 x3 x4 x5 x8 x9 (iB i) _) (Fin.ext (by show 896 + l.val = 512 + (3 * 128 + l.val); omega))))) r n).trans ?_
  rfl

theorem out14_apply (h k : Fin 4) (d : Fin 136) (r : Fin 256) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 (ix5 0 h k d r)
    = if hd : d.val < 128 then pB x0 x3 x4 x5 x8 ⟨k.val * 256 + r.val, by omega⟩ ⟨1024 + (h.val * 128 + d.val), by omega⟩ else if d.val = 128 then one else zero := by
  unfold out0_A_14
  rw [L14_eq]
  refine (read4v_of _ _ _ _ _ _ _ (fun r h d => pB x0 x3 x4 x5 x8 r ⟨1024 + (h.val * 128 + d.val), by omega⟩) (fun d => if d.val = 0 then one else zero) (fun h d r => oT_apply h d r)
    (fun h d r => (vT_apply _ h d r).trans (pT_of x0 x3 x4 x5 x8 0 _ _ 1024 (by decide) (fun r d => hK0_apply arg2 harg2 arg5 harg5 arg6 harg6 arg7 harg7 x0 x3 x4 x5 r d) (wV_apply arg10 harg10 x8) r _))
    (fun h d r => (vT_apply _ h d r).trans (pT_of x0 x3 x4 x5 x8 1 _ _ 1024 (by decide) (fun r d => hK1_apply arg2 harg2 arg5 harg5 arg6 harg6 arg7 harg7 x0 x3 x4 x5 r d) (wV_apply arg10 harg10 x8) r _))
    (fun h d r => (vT_apply _ h d r).trans (pT_of x0 x3 x4 x5 x8 2 _ _ 1024 (by decide) (fun r d => hK2_apply arg2 harg2 arg5 harg5 arg6 harg6 arg7 harg7 x0 x3 x4 x5 r d) (wV_apply arg10 harg10 x8) r _))
    (fun h d r => (vT_apply _ h d r).trans (pT_of x0 x3 x4 x5 x8 3 _ _ 1024 (by decide) (fun r d => hK3_apply arg2 harg2 arg5 harg5 arg6 harg6 arg7 harg7 x0 x3 x4 x5 r d) (wV_apply arg10 harg10 x8) r _))
    h k d r).trans ?_
  by_cases hd : d.val < 128
  · rw [dif_pos hd, dif_pos hd]
  · rw [dif_neg hd, dif_neg hd]
    show (if d.val - 128 = 0 then one else zero) = _
    by_cases he : d.val = 128
    · rw [if_pos he, if_pos (by omega)]
    · rw [if_neg he, if_neg (by omega)]

end Point

end Cert.Kernel2Ideal.In
-- ==== Proof.InHost.lean ====
module

public import proofs.«01_k».proof.Proof.InBody
public import Idealize.ShloMosaic.Lib.Pointwise
public import Idealize.ShloMosaic.Lib.StableHlo.RunRead

@[expose] public section

set_option maxRecDepth 16384

noncomputable section

/-!
# The input projection's operands

What the host operations before the input projection leave in its operands, as terms over the arguments, and read at an index.
-/

namespace Cert.Kernel2Ideal.In

open Cert.Kernel2Ideal Cert.Kernel2Ideal.Gen
open Idealize.ShloMosaic Idealize.ShloMosaic.TcCoe Idealize.ShloMosaic.Tactic

theorem int0 (φ : FTy) : FloatOps.sitofp (F := Ideal) φ (0#32) = (0 : EReal) := by
  show (((0#32).toInt : ℝ) : EReal) = 0
  simp

/-- The weights, with columns of zeros. -/
def wH (x : Vec Ideal S1024x3600 .f32) : Vec Ideal S1024x3712 .bf16 :=
  pad S1024x3712 ![0, 0] ![0, 112] ![0, 0] (truncf (F := Ideal) .bf16 (x : FVec Ideal S1024x3600 .f32) bitsLt_bf16_f32 : Vec Ideal S1024x3600 .bf16)
    (sitofp (F := Ideal) .bf16 (constantI S_ 32 0#32)) pads_S1024x3600_S1024x3712_000_01120 h_S_

theorem wH_apply (x : Vec Ideal S1024x3600 .f32) (d : Fin 1024) (n : Fin 3712) :
    wH x (ix2 d n) = if h : n.val < 3600 then x (ix2 d ⟨n.val, h⟩) else 0 := by
  unfold wH
  pointwise []
  rw [int0]

/-- The convolution's weights, with rows of zeros. -/
def cwH (x : Vec Ideal S3x1536 .f32) : Vec Ideal S8x1536 .f32 :=
  pad S8x1536 ![0, 0] ![5, 0] ![0, 0] x (sitofp (F := Ideal) .f32 (constantI S_ 32 0#32)) pads_S3x1536_S8x1536_050_000 h_S_

theorem cwH_apply (x : Vec Ideal S3x1536 .f32) (k : Fin 3) (n : Fin 1536) : cwH x (ix2 ⟨k.val, by omega⟩ n) = x (ix2 k n) := by
  unfold cwH
  pointwise []

/-- A row of eight, with zeros. -/
def rowH (x : Vec Ideal S2x4 .f32) : Vec Ideal S1x128 .f32 :=
  pad S1x128 ![0, 0] ![0, 120] ![0, 0] (shapeCast S1x8 x shapeCasts_S2x4_S1x8 : Vec Ideal S1x8 .f32) (sitofp (F := Ideal) .f32 (constantI S_ 32 0#32)) pads_S1x8_S1x128_000_01200 h_S_

theorem rowH_apply (x : Vec Ideal S2x4 .f32) (l : Fin 128) (h : l.val < 8) : rowH x (ix2 0 l) = x (ix2 ⟨l.val / 4, by omega⟩ ⟨l.val % 4, Nat.mod_lt _ (by decide)⟩) := by
  unfold rowH
  pointwise []
  rw [dif_pos h]

def cat16 (a b : Vec Ideal S8192x16 .f32) : Vec Ideal S8192x32 .f32 := concatenate S8192x32 1 [⟨S8192x16, a⟩, ⟨S8192x16, b⟩] concatenates_S8192x16_S8192x16_S8192x32_d1
def cat32 (a b : Vec Ideal S8192x32 .f32) : Vec Ideal S8192x64 .f32 := concatenate S8192x64 1 [⟨S8192x32, a⟩, ⟨S8192x32, b⟩] concatenates_S8192x32_S8192x32_S8192x64_d1
def cat64 (a b : Vec Ideal S8192x64 .f32) : Vec Ideal S8192x128 .f32 := concatenate S8192x128 1 [⟨S8192x64, a⟩, ⟨S8192x64, b⟩] concatenates_S8192x64_S8192x64_S8192x128_d1
def ngH (a : Vec Ideal S8192x16 .f32) : Vec Ideal S8192x16 .f32 := Host.negf (F := Ideal) (φ := .f32) a

theorem cat16_apply (a b : Vec Ideal S8192x16 .f32) (t : Fin 8192) (l : Fin 32) :
    cat16 a b (ix2 t l) = if l.val < 16 then a (ix2 t ⟨l.val % 16, Nat.mod_lt _ (by decide)⟩) else b (ix2 t ⟨l.val % 16, Nat.mod_lt _ (by decide)⟩) := by
  unfold cat16
  pointwise []
  by_cases h : l.val < 16
  · rw [dif_pos h, if_pos h]
    congr 2
    exact Fin.ext (by show l.val = l.val % 16; omega)
  · rw [dif_neg h, if_neg h]
    congr 2
    exact Fin.ext (by show l.val - 16 = l.val % 16; omega)
theorem cat32_apply (a b : Vec Ideal S8192x32 .f32) (t : Fin 8192) (l : Fin 64) :
    cat32 a b (ix2 t l) = if l.val < 32 then a (ix2 t ⟨l.val % 32, Nat.mod_lt _ (by decide)⟩) else b (ix2 t ⟨l.val % 32, Nat.mod_lt _ (by decide)⟩) := by
  unfold cat32
  pointwise []
  by_cases h : l.val < 32
  · rw [dif_pos h, if_pos h]
    congr 2
    exact Fin.ext (by show l.val = l.val % 32; omega)
  · rw [dif_neg h, if_neg h]
    congr 2
    exact Fin.ext (by show l.val - 32 = l.val % 32; omega)
theorem cat64_apply (a : Vec Ideal S8192x64 .f32) (t : Fin 8192) (l : Fin 128) :
    cat64 a a (ix2 t l) = a (ix2 t ⟨l.val % 64, Nat.mod_lt _ (by decide)⟩) := by
  unfold cat64
  pointwise []
  by_cases h : l.val < 64
  · rw [dif_pos h]
    congr 2
    exact Fin.ext (by show l.val = l.val % 64; omega)
  · rw [dif_neg h]
    congr 2
    exact Fin.ext (by show l.val - 64 = l.val % 64; omega)
theorem ngH_apply (a : Vec Ideal S8192x16 .f32) (t : Fin 8192) (l : Fin 16) : ngH a (ix2 t l) = -(a (ix2 t l)) := by
  pointwise [ngH]

/-- The angles' cosines and sines in 128 lanes, the sine's sign that of the rotation. -/
def cosH (cr cc : Vec Ideal S8192x16 .f32) : Vec Ideal S8192x128 .f32 := cat64 (cat32 (cat16 cr cr) (cat16 cc cc)) (cat32 (cat16 cr cr) (cat16 cc cc))
def sinH (sr sc : Vec Ideal S8192x16 .f32) : Vec Ideal S8192x128 .f32 := cat64 (cat32 (cat16 (ngH sr) sr) (cat16 (ngH sc) sc)) (cat32 (cat16 (ngH sr) sr) (cat16 (ngH sc) sc))

theorem cosH_apply (cr cc : Vec Ideal S8192x16 .f32) (t : Fin 8192) (l : Fin 128) :
    cosH cr cc (ix2 t l) = InProj.ang (fun e => cr (ix2 t e)) (fun e => cc (ix2 t e)) l.val := by
  unfold cosH InProj.ang
  rw [cat64_apply, cat32_apply]
  simp only [cat16_apply, ite_self, Nat.mod_mod_of_dvd l.val (show 16 ∣ 32 by decide), Nat.mod_mod_of_dvd l.val (show 32 ∣ 64 by decide)]
theorem sinH_apply (sr sc : Vec Ideal S8192x16 .f32) (t : Fin 8192) (l : Fin 128) :
    sinH sr sc (ix2 t l) = if l.val % 32 < 16 then -(InProj.ang (fun e => sr (ix2 t e)) (fun e => sc (ix2 t e)) l.val) else InProj.ang (fun e => sr (ix2 t e)) (fun e => sc (ix2 t e)) l.val := by
  unfold sinH InProj.ang
  rw [cat64_apply, cat32_apply]
  simp only [cat16_apply, ngH_apply, Nat.mod_mod_of_dvd l.val (show 16 ∣ 32 by decide), Nat.mod_mod_of_dvd l.val (show 32 ∣ 64 by decide)]
  by_cases h1 : l.val % 32 < 16 <;> by_cases h2 : l.val % 64 < 32 <;> simp only [h1, h2, if_true, if_false]

section Operands

variable (m : (ℓ : Loc nD τ sig) → Buf (Elt Ideal) ℓ) (c : Dev nD)

theorem V_v1 : V m c main_v1 = wH (m ((c : Thread nD τ).loc main_arg8)) := by
  unfold V
  after_reads_simp
  rfl
theorem V_v10 : V m c main_v10 = cosH (m ((c : Thread nD τ).loc main_arg4)) (m ((c : Thread nD τ).loc main_arg6)) := by
  unfold V
  after_reads_simp
  rfl
theorem V_v11 : V m c main_v11 = sinH (m ((c : Thread nD τ).loc main_arg5)) (m ((c : Thread nD τ).loc main_arg7)) := by
  unfold V
  after_reads_simp
  rfl
theorem V_v12 : V m c main_v12 = cwH (m ((c : Thread nD τ).loc main_arg9)) := by
  unfold V
  after_reads_simp
  rfl
theorem V_v13 : V m c main_v13 = shapeCast S1x1024 (m ((c : Thread nD τ).loc main_arg1) : Vec Ideal S1024 .f32) shapeCasts_S1024_S1x1024 := by
  unfold V
  after_reads_simp
  rfl
theorem V_v14 : V m c main_v14 = shapeCast S2x1x1024 (m ((c : Thread nD τ).loc main_arg2) : Vec Ideal S2x1024 .f32) shapeCasts_S2x1024_S2x1x1024 := by
  unfold V
  after_reads_simp
  rfl
theorem V_v15 : V m c main_v15 = shapeCast S2x1x1024 (m ((c : Thread nD τ).loc main_arg3) : Vec Ideal S2x1024 .f32) shapeCasts_S2x1024_S2x1x1024 := by
  unfold V
  after_reads_simp
  rfl
theorem V_v17 : V m c main_v17 = rowH (m ((c : Thread nD τ).loc main_arg10)) := by
  unfold V
  after_reads_simp
  rfl
theorem V_v19 : V m c main_v19 = rowH (m ((c : Thread nD τ).loc main_arg11)) := by
  unfold V
  after_reads_simp
  rfl

/-- The grid point of a batch element and a block of 1024 rows. -/
def pt (b : Fin 2) (i : Fin 8) : Fin cfg0.N := ⟨b.val * 8 + i.val, by have : cfg0.N = 16 := rfl; omega⟩

theorem coord1 : ∀ (b : Fin 2) (i : Fin 8), iB (grid0.coords (pt b i)) = i := by decide +kernel

theorem idx0 : ∀ (b : Fin 2) (i : Fin 8), win0_0.index (pt b i) 0 = b.val ∧ win0_0.index (pt b i) 1 = i.val ∧ win0_0.index (pt b i) 2 = 0 := by decide +kernel
theorem idx1 : ∀ (b : Fin 2) (i : Fin 8), win0_1.index (pt b i) 0 = b.val ∧ win0_1.index (pt b i) 1 = i.val * 128 - 1 ∧ win0_1.index (pt b i) 2 = 0 := by decide +kernel
theorem idx2 : ∀ (b : Fin 2) (i : Fin 8), win0_2.index (pt b i) 0 = b.val ∧ win0_2.index (pt b i) 1 = min ((i.val + 1) * 128) 1023 ∧ win0_2.index (pt b i) 2 = 0 := by decide +kernel
theorem idx3 : ∀ (b : Fin 2) (i : Fin 8), win0_3.index (pt b i) 0 = 0 ∧ win0_3.index (pt b i) 1 = 0 := by decide +kernel
theorem idx4 : ∀ (b : Fin 2) (i : Fin 8), win0_4.index (pt b i) 0 = b.val ∧ win0_4.index (pt b i) 1 = 0 ∧ win0_4.index (pt b i) 2 = 0 := by decide +kernel
theorem idx5 : ∀ (b : Fin 2) (i : Fin 8), win0_5.index (pt b i) 0 = b.val ∧ win0_5.index (pt b i) 1 = 0 ∧ win0_5.index (pt b i) 2 = 0 := by decide +kernel
theorem idx6 : ∀ (b : Fin 2) (i : Fin 8), win0_6.index (pt b i) 0 = i.val ∧ win0_6.index (pt b i) 1 = 0 := by decide +kernel
theorem idx7 : ∀ (b : Fin 2) (i : Fin 8), win0_7.index (pt b i) 0 = i.val ∧ win0_7.index (pt b i) 1 = 0 := by decide +kernel
theorem idx8 : ∀ (b : Fin 2) (i : Fin 8), win0_8.index (pt b i) 0 = 0 ∧ win0_8.index (pt b i) 1 = 0 := by decide +kernel
theorem idx9 : ∀ (b : Fin 2) (i : Fin 8), win0_9.index (pt b i) 0 = 0 ∧ win0_9.index (pt b i) 1 = 0 := by decide +kernel
theorem idx10 : ∀ (b : Fin 2) (i : Fin 8), win0_10.index (pt b i) 0 = 0 ∧ win0_10.index (pt b i) 1 = 0 := by decide +kernel
theorem idx11 : ∀ (b : Fin 2) (i : Fin 8), win0_11.index (pt b i) 0 = 0 ∧ win0_11.index (pt b i) 1 = 0 := by decide +kernel
theorem idx12 : ∀ (b : Fin 2) (i : Fin 8), win0_12.index (pt b i) 0 = b.val ∧ win0_12.index (pt b i) 1 = i.val ∧ win0_12.index (pt b i) 2 = 0 := by decide +kernel
theorem idx13 : ∀ (b : Fin 2) (i : Fin 8), win0_13.index (pt b i) 0 = b.val ∧ win0_13.index (pt b i) 1 = i.val ∧ win0_13.index (pt b i) 2 = 0 := by decide +kernel
theorem idx14 : ∀ (b : Fin 2) (i : Fin 8), win0_14.index (pt b i) 0 = b.val ∧ win0_14.index (pt b i) 1 = 0 ∧ win0_14.index (pt b i) 2 = i.val ∧ win0_14.index (pt b i) 3 = 0 ∧ win0_14.index (pt b i) 4 = 0 := by decide +kernel
theorem idx15 : ∀ (b : Fin 2) (i : Fin 8), win0_15.index (pt b i) 0 = b.val ∧ win0_15.index (pt b i) 1 = i.val ∧ win0_15.index (pt b i) 2 = 0 := by decide +kernel
theorem idx16 : ∀ (b : Fin 2) (i : Fin 8), win0_16.index (pt b i) 0 = b.val ∧ win0_16.index (pt b i) 1 = i.val ∧ win0_16.index (pt b i) 2 = 0 := by decide +kernel
theorem idx17 : ∀ (b : Fin 2) (i : Fin 8), win0_17.index (pt b i) 0 = b.val ∧ win0_17.index (pt b i) 1 = i.val ∧ win0_17.index (pt b i) 2 = 0 := by decide +kernel
theorem idx18 : ∀ (b : Fin 2) (i : Fin 8), win0_18.index (pt b i) 0 = b.val ∧ win0_18.index (pt b i) 1 = i.val ∧ win0_18.index (pt b i) 2 = 0 := by decide +kernel
theorem idx19 : ∀ (b : Fin 2) (i : Fin 8), win0_19.index (pt b i) 0 = b.val ∧ win0_19.index (pt b i) 1 = i.val ∧ win0_19.index (pt b i) 2 = 0 := by decide +kernel
theorem idx20 : ∀ (b : Fin 2) (i : Fin 8), win0_20.index (pt b i) 0 = b.val ∧ win0_20.index (pt b i) 1 = 0 ∧ win0_20.index (pt b i) 2 = i.val := by decide +kernel

variable (b : Fin 2) (i : Fin 8)

theorem blk0 (r d : Fin 1024) :
    (iblk m c 0 (pt b i) : Vec Ideal S1x1024x1024 .f32) (ix3 0 r d) = (m ((c : Thread nD τ).loc main_arg0) : Vec Ideal S2x8192x1024 .f32) (ix3 b ⟨i.val * 1024 + r.val, by omega⟩ d) := by
  obtain ⟨h0, h1, h2⟩ := idx0 b i
  unfold iblk
  rw [View.read_apply]
  show V m c main_arg0 _ = _
  rw [V_main_arg0]
  congr 1
  funext a
  apply Fin.ext
  match a with
  | ⟨0, _⟩ => show win0_0.index (pt b i) 0 * 1 + 1 * 0 = b.val; omega
  | ⟨1, _⟩ => show win0_0.index (pt b i) 1 * 1024 + 1 * r.val = i.val * 1024 + r.val; omega
  | ⟨2, _⟩ => show win0_0.index (pt b i) 2 * 1024 + 1 * d.val = d.val; omega

theorem blk1 (r : Fin 8) (d : Fin 1024) (ht : (i.val * 128 - 1) * 8 + r.val < 8192) :
    (iblk m c 1 (pt b i) : Vec Ideal S1x8x1024 .f32) (ix3 0 r d) = (m ((c : Thread nD τ).loc main_arg0) : Vec Ideal S2x8192x1024 .f32) (ix3 b ⟨(i.val * 128 - 1) * 8 + r.val, ht⟩ d) := by
  obtain ⟨h0, h1, h2⟩ := idx1 b i
  unfold iblk
  rw [View.read_apply]
  show V m c main_arg0 _ = _
  rw [V_main_arg0]
  congr 1
  funext a
  apply Fin.ext
  match a with
  | ⟨0, _⟩ => show win0_1.index (pt b i) 0 * 1 + 1 * 0 = b.val; omega
  | ⟨1, _⟩ => show win0_1.index (pt b i) 1 * 8 + 1 * r.val = (i.val * 128 - 1) * 8 + r.val; omega
  | ⟨2, _⟩ => show win0_1.index (pt b i) 2 * 1024 + 1 * d.val = d.val; omega

theorem blk2 (r : Fin 8) (d : Fin 1024) (ht : min ((i.val + 1) * 128) 1023 * 8 + r.val < 8192) :
    (iblk m c 2 (pt b i) : Vec Ideal S1x8x1024 .f32) (ix3 0 r d) = (m ((c : Thread nD τ).loc main_arg0) : Vec Ideal S2x8192x1024 .f32) (ix3 b ⟨min ((i.val + 1) * 128) 1023 * 8 + r.val, ht⟩ d) := by
  obtain ⟨h0, h1, h2⟩ := idx2 b i
  unfold iblk
  rw [View.read_apply]
  show V m c main_arg0 _ = _
  rw [V_main_arg0]
  congr 1
  funext a
  apply Fin.ext
  match a with
  | ⟨0, _⟩ => show win0_2.index (pt b i) 0 * 1 + 1 * 0 = b.val; omega
  | ⟨1, _⟩ => show win0_2.index (pt b i) 1 * 8 + 1 * r.val = min ((i.val + 1) * 128) 1023 * 8 + r.val; rw [h1, Nat.one_mul]
  | ⟨2, _⟩ => show win0_2.index (pt b i) 2 * 1024 + 1 * d.val = d.val; omega

theorem g_apply (x : Vec Ideal S1024 .f32) (d : Fin 1024) : shapeCast S1x1024 x shapeCasts_S1024_S1x1024 (ix2 0 d) = x (ix1 d) := by pointwise []
theorem s_apply (x : Vec Ideal S2x1024 .f32) (b : Fin 2) (d : Fin 1024) : shapeCast S2x1x1024 x shapeCasts_S2x1024_S2x1x1024 (ix3 b 0 d) = x (ix2 b d) := by pointwise []

theorem blk3 (d : Fin 1024) :
    (iblk m c 3 (pt b i) : Vec Ideal S1x1024 .f32) (ix2 0 d) = (m ((c : Thread nD τ).loc main_arg1) : Vec Ideal S1024 .f32) (ix1 d) := by
  obtain ⟨h0, h1⟩ := idx3 b i
  refine Eq.trans ?_ (g_apply _ d)
  unfold iblk
  rw [View.read_apply]
  show V m c main_v13 _ = _
  rw [V_v13]
  congr 1
  funext a
  apply Fin.ext
  match a with
  | ⟨0, _⟩ => show win0_3.index (pt b i) 0 * 1 + 1 * 0 = 0; omega
  | ⟨1, _⟩ => show win0_3.index (pt b i) 1 * 1024 + 1 * d.val = d.val; omega

theorem blk4 (d : Fin 1024) :
    (iblk m c 4 (pt b i) : Vec Ideal S1x1x1024 .f32) (ix3 0 0 d) = (m ((c : Thread nD τ).loc main_arg2) : Vec Ideal S2x1024 .f32) (ix2 b d) := by
  obtain ⟨h0, h1, h2⟩ := idx4 b i
  refine Eq.trans ?_ (s_apply _ b d)
  unfold iblk
  rw [View.read_apply]
  show V m c main_v14 _ = _
  rw [V_v14]
  congr 1
  funext a
  apply Fin.ext
  match a with
  | ⟨0, _⟩ => show win0_4.index (pt b i) 0 * 1 + 1 * 0 = b.val; omega
  | ⟨1, _⟩ => show win0_4.index (pt b i) 1 * 1 + 1 * 0 = 0; omega
  | ⟨2, _⟩ => show win0_4.index (pt b i) 2 * 1024 + 1 * d.val = d.val; omega

theorem blk5 (d : Fin 1024) :
    (iblk m c 5 (pt b i) : Vec Ideal S1x1x1024 .f32) (ix3 0 0 d) = (m ((c : Thread nD τ).loc main_arg3) : Vec Ideal S2x1024 .f32) (ix2 b d) := by
  obtain ⟨h0, h1, h2⟩ := idx5 b i
  refine Eq.trans ?_ (s_apply _ b d)
  unfold iblk
  rw [View.read_apply]
  show V m c main_v15 _ = _
  rw [V_v15]
  congr 1
  funext a
  apply Fin.ext
  match a with
  | ⟨0, _⟩ => show win0_5.index (pt b i) 0 * 1 + 1 * 0 = b.val; omega
  | ⟨1, _⟩ => show win0_5.index (pt b i) 1 * 1 + 1 * 0 = 0; omega
  | ⟨2, _⟩ => show win0_5.index (pt b i) 2 * 1024 + 1 * d.val = d.val; omega

theorem blk6 (r : Fin 1024) (l : Fin 128) :
    (iblk m c 6 (pt b i) : Vec Ideal S1024x128 .f32) (ix2 r l) = cosH (m ((c : Thread nD τ).loc main_arg4)) (m ((c : Thread nD τ).loc main_arg6)) (ix2 ⟨i.val * 1024 + r.val, by omega⟩ l) := by
  obtain ⟨h0, h1⟩ := idx6 b i
  unfold iblk
  rw [View.read_apply]
  show V m c main_v10 _ = _
  rw [V_v10]
  congr 1
  funext a
  apply Fin.ext
  match a with
  | ⟨0, _⟩ => show win0_6.index (pt b i) 0 * 1024 + 1 * r.val = i.val * 1024 + r.val; omega
  | ⟨1, _⟩ => show win0_6.index (pt b i) 1 * 128 + 1 * l.val = l.val; omega

theorem blk7 (r : Fin 1024) (l : Fin 128) :
    (iblk m c 7 (pt b i) : Vec Ideal S1024x128 .f32) (ix2 r l) = sinH (m ((c : Thread nD τ).loc main_arg5)) (m ((c : Thread nD τ).loc main_arg7)) (ix2 ⟨i.val * 1024 + r.val, by omega⟩ l) := by
  obtain ⟨h0, h1⟩ := idx7 b i
  unfold iblk
  rw [View.read_apply]
  show V m c main_v11 _ = _
  rw [V_v11]
  congr 1
  funext a
  apply Fin.ext
  match a with
  | ⟨0, _⟩ => show win0_7.index (pt b i) 0 * 1024 + 1 * r.val = i.val * 1024 + r.val; omega
  | ⟨1, _⟩ => show win0_7.index (pt b i) 1 * 128 + 1 * l.val = l.val; omega

theorem blk8 (d : Fin 1024) (n : Fin 3712) :
    (iblk m c 8 (pt b i) : Vec Ideal S1024x3712 .bf16) (ix2 d n) = wH (m ((c : Thread nD τ).loc main_arg8)) (ix2 d n) := by
  obtain ⟨h0, h1⟩ := idx8 b i
  unfold iblk
  rw [View.read_apply]
  show V m c main_v1 _ = _
  rw [V_v1]
  congr 1
  funext a
  apply Fin.ext
  match a with
  | ⟨0, _⟩ => show win0_8.index (pt b i) 0 * 1024 + 1 * d.val = d.val; omega
  | ⟨1, _⟩ => show win0_8.index (pt b i) 1 * 3712 + 1 * n.val = n.val; omega

theorem blk9 (k : Fin 8) (n : Fin 1536) :
    (iblk m c 9 (pt b i) : Vec Ideal S8x1536 .f32) (ix2 k n) = cwH (m ((c : Thread nD τ).loc main_arg9)) (ix2 k n) := by
  obtain ⟨h0, h1⟩ := idx9 b i
  unfold iblk
  rw [View.read_apply]
  show V m c main_v12 _ = _
  rw [V_v12]
  congr 1
  funext a
  apply Fin.ext
  match a with
  | ⟨0, _⟩ => show win0_9.index (pt b i) 0 * 8 + 1 * k.val = k.val; omega
  | ⟨1, _⟩ => show win0_9.index (pt b i) 1 * 1536 + 1 * n.val = n.val; omega

theorem blk10 (l : Fin 128) :
    (iblk m c 10 (pt b i) : Vec Ideal S1x128 .f32) (ix2 0 l) = rowH (m ((c : Thread nD τ).loc main_arg10)) (ix2 0 l) := by
  obtain ⟨h0, h1⟩ := idx10 b i
  unfold iblk
  rw [View.read_apply]
  show V m c main_v17 _ = _
  rw [V_v17]
  congr 1
  funext a
  apply Fin.ext
  match a with
  | ⟨0, _⟩ => show win0_10.index (pt b i) 0 * 1 + 1 * 0 = 0; omega
  | ⟨1, _⟩ => show win0_10.index (pt b i) 1 * 128 + 1 * l.val = l.val; omega

theorem blk11 (l : Fin 128) :
    (iblk m c 11 (pt b i) : Vec Ideal S1x128 .f32) (ix2 0 l) = rowH (m ((c : Thread nD τ).loc main_arg11)) (ix2 0 l) := by
  obtain ⟨h0, h1⟩ := idx11 b i
  unfold iblk
  rw [View.read_apply]
  show V m c main_v19 _ = _
  rw [V_v19]
  congr 1
  funext a
  apply Fin.ext
  match a with
  | ⟨0, _⟩ => show win0_11.index (pt b i) 0 * 1 + 1 * 0 = 0; omega
  | ⟨1, _⟩ => show win0_11.index (pt b i) 1 * 128 + 1 * l.val = l.val; omega

end Operands

end Cert.Kernel2Ideal.In
-- ==== Proof.InPoint.lean ====
module

public import proofs.«01_k».proof.Proof.InHost
public import proofs.«01_k».proof.Proof.Gen.Kernel2Ideal.Value

@[expose] public section

set_option maxRecDepth 16384

noncomputable section

/-!
# The input projection's results in the arguments

What a grid point computes, and the results entry by entry, as functions of the arguments.
-/

namespace Cert.Kernel2Ideal.In

open Cert.Kernel2Ideal Cert.Kernel2Ideal.Gen Cert.Kernel2Ideal.Value
open Idealize.ShloMosaic Idealize.ShloMosaic.TcCoe Idealize.ShloMosaic.Tactic
open InProj (hRow one zero eps silu conv l2 softplus rope ang P R S GB aX aG aM aT aW aC aE)

variable (m : (ℓ : Loc nD τ sig) → Buf (Elt Ideal) ℓ) (c : Dev nD) (b : Fin 2) (i : Fin 8)

theorem P_of (t n : ℕ) (ht : t < 8192) (hn : n < 3600) : P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b t n = ∑ d : Fin 1024, hRow (aX (m ((c : Thread nD τ).loc main_arg0)) b ⟨t, ht⟩) (aG (m ((c : Thread nD τ).loc main_arg1))) (aM (m ((c : Thread nD τ).loc main_arg3)) b) (aM (m ((c : Thread nD τ).loc main_arg2)) b) d * aW (m ((c : Thread nD τ).loc main_arg8)) d ⟨n, hn⟩ := by
  unfold P
  rw [dif_pos ht, dif_pos hn]

theorem pB_pt (r : Fin 1024) (n : Fin 3712) (hn : n.val < 3600) : pB (iblk m c 0 (pt b i)) (iblk m c 3 (pt b i)) (iblk m c 4 (pt b i)) (iblk m c 5 (pt b i)) (iblk m c 8 (pt b i)) r n = P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b (i.val * 1024 + r.val) n.val := by
  rw [P_of m c b _ _ (by omega) hn]
  unfold pB hB
  refine Finset.sum_congr rfl fun d _ => ?_
  rw [blk8, wH_apply, dif_pos hn]
  simp only [blk0, blk3, blk4, blk5]
  rfl

theorem prB_pt (n : Fin 3712) (hn : n.val < 3600) :
    prB (iblk m c 1 (pt b i)) (iblk m c 3 (pt b i)) (iblk m c 4 (pt b i)) (iblk m c 5 (pt b i)) (iblk m c 8 (pt b i)) i n = if i.val * 1024 = 0 then 0 else P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b (i.val * 1024 - 1) n.val := by
  unfold prB
  by_cases hi : 0 < i.val
  · rw [if_pos hi, if_neg (by omega), P_of m c b _ _ (by omega) hn]
    refine Finset.sum_congr rfl fun d _ => ?_
    rw [blk8, wH_apply, dif_pos hn]
    have e : ∀ d, ((iblk m c 1 (pt b i)) : Vec Ideal S1x8x1024 .f32) (ix3 0 7 d) = aX (m ((c : Thread nD τ).loc main_arg0)) b ⟨i.val * 1024 - 1, by omega⟩ d := fun d =>
      (blk1 m c b i 7 d (by show (i.val * 128 - 1) * 8 + 7 < 8192; omega)).trans
        (congrArg (fun t => aX (m ((c : Thread nD τ).loc main_arg0)) b t d) (Fin.ext (by show (i.val * 128 - 1) * 8 + 7 = i.val * 1024 - 1; omega)))
    simp only [e, blk3, blk4, blk5]
    rfl
  · rw [if_neg hi, if_pos (by omega)]

theorem nxB_pt (n : Fin 3712) (hn : n.val < 3600) :
    nxB (iblk m c 2 (pt b i)) (iblk m c 3 (pt b i)) (iblk m c 4 (pt b i)) (iblk m c 5 (pt b i)) (iblk m c 8 (pt b i)) i n = P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b (i.val * 1024 + 1024) n.val := by
  unfold nxB
  by_cases hi : i.val < 7
  · rw [if_pos hi, P_of m c b _ _ (by omega) hn]
    refine Finset.sum_congr rfl fun d _ => ?_
    rw [blk8, wH_apply, dif_pos hn]
    have e : ∀ d, ((iblk m c 2 (pt b i)) : Vec Ideal S1x8x1024 .f32) (ix3 0 0 d) = aX (m ((c : Thread nD τ).loc main_arg0)) b ⟨i.val * 1024 + 1024, by omega⟩ d := fun d =>
      (blk2 m c b i 0 d (by show min ((i.val + 1) * 128) 1023 * 8 + 0 < 8192; omega)).trans
        (congrArg (fun t => aX (m ((c : Thread nD τ).loc main_arg0)) b t d) (Fin.ext (by show min ((i.val + 1) * 128) 1023 * 8 + 0 = i.val * 1024 + 1024; omega)))
    simp only [e, blk3, blk4, blk5]
    rfl
  · rw [if_neg hi]
    unfold P
    rw [dif_neg (by omega)]

theorem sB_pt (r : Fin 1024) (n : Fin 1536) :
    sB (iblk m c 0 (pt b i)) (iblk m c 1 (pt b i)) (iblk m c 2 (pt b i)) (iblk m c 3 (pt b i)) (iblk m c 4 (pt b i)) (iblk m c 5 (pt b i)) (iblk m c 8 (pt b i)) (iblk m c 9 (pt b i)) i r n = S (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aC (m ((c : Thread nD τ).loc main_arg9))) b (i.val * 1024 + r.val) n := by
  have hr := r.isLt
  have hn := n.isLt
  unfold sB S
  rw [pB_pt m c b i r _ (by show 1536 + n.val < 3600; omega), prB_pt m c b i _ (by show 1536 + n.val < 3600; omega), nxB_pt m c b i _ (by show 1536 + n.val < 3600; omega)]
  have c0 : ((iblk m c 9 (pt b i)) : Vec Ideal S8x1536 .f32) (ix2 0 n) = aC (m ((c : Thread nD τ).loc main_arg9)) 0 n := (blk9 m c b i 0 n).trans (cwH_apply _ 0 n)
  have c1 : ((iblk m c 9 (pt b i)) : Vec Ideal S8x1536 .f32) (ix2 1 n) = aC (m ((c : Thread nD τ).loc main_arg9)) 1 n := (blk9 m c b i 1 n).trans (cwH_apply _ 1 n)
  have c2 : ((iblk m c 9 (pt b i)) : Vec Ideal S8x1536 .f32) (ix2 2 n) = aC (m ((c : Thread nD τ).loc main_arg9)) 2 n := (blk9 m c b i 2 n).trans (cwH_apply _ 2 n)
  rw [c0, c1, c2]
  congr 1
  · by_cases h : 0 < r.val
    · rw [dif_pos h, if_neg (by omega), pB_pt m c b i _ _ (by show 1536 + n.val < 3600; omega)]
      congr 1
      show i.val * 1024 + (r.val - 1) = _
      omega
    · have h0 : r.val = 0 := by omega
      rw [dif_neg h, h0, Nat.add_zero]
  · by_cases h : r.val + 1 < 1024
    · rw [dif_pos h, pB_pt m c b i _ _ (by show 1536 + n.val < 3600; omega)]
      rfl
    · have h0 : r.val = 1023 := by omega
      rw [dif_neg h, h0]

theorem ang_mod (u v : Fin 16 → EReal) (n : ℕ) : ang u v (n % 128) = ang u v n := by
  unfold ang
  simp only [Nat.mod_mod_of_dvd n (show 64 ∣ 128 by decide), Nat.mod_mod_of_dvd n (show 16 ∣ 128 by decide)]

theorem rB_pt (o : ℕ) (ho : o + 512 ≤ 3584) (r : Fin 1024) (n : Fin 512) :
    rB (iblk m c 0 (pt b i)) (iblk m c 3 (pt b i)) (iblk m c 4 (pt b i)) (iblk m c 5 (pt b i)) (iblk m c 6 (pt b i)) (iblk m c 7 (pt b i)) (iblk m c 8 (pt b i)) o (by omega) r n
      = R (aX (m ((c : Thread nD τ).loc main_arg0))) (aG (m ((c : Thread nD τ).loc main_arg1))) (aM (m ((c : Thread nD τ).loc main_arg2))) (aM (m ((c : Thread nD τ).loc main_arg3))) (aT (m ((c : Thread nD τ).loc main_arg4))) (aT (m ((c : Thread nD τ).loc main_arg5))) (aT (m ((c : Thread nD τ).loc main_arg6))) (aT (m ((c : Thread nD τ).loc main_arg7))) (aW (m ((c : Thread nD τ).loc main_arg8))) o b ⟨i.val * 1024 + r.val, by omega⟩ n.val := by
  have hp : (pair4 n).val = if n.val % 32 < 16 then n.val + 16 else n.val - 16 := by
    have hn := n.isLt
    show n.val / 128 * 128 + (pair ⟨n.val % 128, _⟩).val = _
    unfold pair
    have hm : n.val % 128 % 32 = n.val % 32 := Nat.mod_mod_of_dvd _ (by decide)
    by_cases h : n.val % 32 < 16
    · rw [if_pos h, if_pos (by show n.val % 128 % 32 < 16; omega)]
      show n.val / 128 * 128 + (n.val % 128 + 16) % 128 = _
      omega
    · rw [if_neg h, if_neg (by show ¬ n.val % 128 % 32 < 16; omega)]
      show n.val / 128 * 128 + (n.val % 128 + 112) % 128 = _
      omega
  have hp' := (pair4 n).isLt
  unfold rB R rope
  rw [pB_pt m c b i r _ (by show o + n.val < 3600; omega), pB_pt m c b i r _ (by show o + (pair4 n).val < 3600; omega), blk6, blk7, cosH_apply, sinH_apply]
  simp only [ang_mod, Nat.mod_mod_of_dvd n.val (show 32 ∣ 128 by decide), hp]
  by_cases h : n.val % 32 < 16
  · simp only [h, if_true]
    rw [mul_neg, sub_eq_add_neg]
    rfl
  · simp only [h, if_false]
    rfl

theorem abB_pt (r : Fin 1024) (l : Fin 128) :
    abB (iblk m c 0 (pt b i)) (iblk m c 3 (pt b i)) (iblk m c 4 (pt b i)) (iblk m c 5 (pt b i)) (iblk m c 8 (pt b i)) (iblk m c 10 (pt b i)) (iblk m c 11 (pt b i)) r l = GB (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aE (m ((c : Thread nD τ).loc main_arg10))) (aE (m ((c : Thread nD τ).loc main_arg11))) b (i.val * 1024 + r.val) l.val := by
  unfold abB GB
  by_cases h8 : l.val < 8
  · rw [if_pos h8, dif_pos h8, pB_pt m c b i r _ (by show 3584 + l.val < 3600; omega), blk10, blk11, rowH_apply _ l h8, rowH_apply _ l h8]
    rfl
  · rw [if_neg h8, dif_neg h8]
    by_cases h16 : l.val < 16
    · rw [if_pos h16, if_pos h16, pB_pt m c b i r _ (by show 3584 + l.val < 3600; omega)]
    · rw [if_neg h16, if_neg h16]

/-! The results, entry by entry. -/

theorem res12 (r : Fin 1024) (n : Fin 512) : ((dats m 0 c).arrAt 12 cfg0.N : Vec Ideal S2x8192x512 .bf16) (ix3 b ⟨i.val * 1024 + r.val, by omega⟩ n) = R (aX (m ((c : Thread nD τ).loc main_arg0))) (aG (m ((c : Thread nD τ).loc main_arg1))) (aM (m ((c : Thread nD τ).loc main_arg2))) (aM (m ((c : Thread nD τ).loc main_arg3))) (aT (m ((c : Thread nD τ).loc main_arg4))) (aT (m ((c : Thread nD τ).loc main_arg5))) (aT (m ((c : Thread nD τ).loc main_arg6))) (aT (m ((c : Thread nD τ).loc main_arg7))) (aW (m ((c : Thread nD τ).loc main_arg8))) 0 b ⟨i.val * 1024 + r.val, by omega⟩ n.val * Ideal.ofBits .f32 0x3E38AA3B#32 := by
  obtain ⟨h0, h1, h2⟩ := idx12 b i
  have hb := congrFun (blocks12 m c (pt b i) (flush0_12 (pt b i))) (ix3 (n0 := 1) (n1 := 1024) (n2 := 512) 0 r n)
  rw [View.read_apply, flushed12_A] at hb
  refine Eq.trans ?_ (hb.trans ?_)
  · show (dats m 0 c).arrAt 12 cfg0.N _ = (dats m 0 c).arrAt 12 cfg0.N _
    congr 1
    funext a
    apply Fin.ext
    match a with
    | ⟨0, _⟩ => show b.val = win0_12.index (pt b i) 0 * 1 + 1 * 0; omega
    | ⟨1, _⟩ => show i.val * 1024 + r.val = win0_12.index (pt b i) 1 * 1024 + 1 * r.val; omega
    | ⟨2, _⟩ => show n.val = win0_12.index (pt b i) 2 * 512 + 1 * n.val; omega
  · refine (out12_apply ..).trans ?_
    rw [rB_pt m c b i 0 (by decide)]

theorem res13 (r : Fin 1024) (n : Fin 512) : ((dats m 0 c).arrAt 13 cfg0.N : Vec Ideal S2x8192x512 .bf16) (ix3 b ⟨i.val * 1024 + r.val, by omega⟩ n) = R (aX (m ((c : Thread nD τ).loc main_arg0))) (aG (m ((c : Thread nD τ).loc main_arg1))) (aM (m ((c : Thread nD τ).loc main_arg2))) (aM (m ((c : Thread nD τ).loc main_arg3))) (aT (m ((c : Thread nD τ).loc main_arg4))) (aT (m ((c : Thread nD τ).loc main_arg5))) (aT (m ((c : Thread nD τ).loc main_arg6))) (aT (m ((c : Thread nD τ).loc main_arg7))) (aW (m ((c : Thread nD τ).loc main_arg8))) 512 b ⟨i.val * 1024 + r.val, by omega⟩ n.val := by
  obtain ⟨h0, h1, h2⟩ := idx13 b i
  have hb := congrFun (blocks13 m c (pt b i) (flush0_13 (pt b i))) (ix3 (n0 := 1) (n1 := 1024) (n2 := 512) 0 r n)
  rw [View.read_apply, flushed13_A] at hb
  refine Eq.trans ?_ (hb.trans ?_)
  · show (dats m 0 c).arrAt 13 cfg0.N _ = (dats m 0 c).arrAt 13 cfg0.N _
    congr 1
    funext a
    apply Fin.ext
    match a with
    | ⟨0, _⟩ => show b.val = win0_13.index (pt b i) 0 * 1 + 1 * 0; omega
    | ⟨1, _⟩ => show i.val * 1024 + r.val = win0_13.index (pt b i) 1 * 1024 + 1 * r.val; omega
    | ⟨2, _⟩ => show n.val = win0_13.index (pt b i) 2 * 512 + 1 * n.val; omega
  · refine (out13_apply ..).trans ?_
    exact rB_pt m c b i 512 (by decide) r n

theorem res14 (h : Fin 4) (k : Fin 4) (d : Fin 136) (r : Fin 256) : ((dats m 0 c).arrAt 14 cfg0.N : Vec Ideal S2x4x32x136x256 .bf16) (ix5 b h ⟨i.val * 4 + k.val, by omega⟩ d r) = if d.val < 128 then P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b ((i.val * 4 + k.val) * 256 + r.val) (1024 + (h.val * 128 + d.val)) else if d.val = 128 then 1 else 0 := by
  obtain ⟨h0, h1, h2, h3, h4⟩ := idx14 b i
  have hb := congrFun (blocks14 m c (pt b i) (flush0_14 (pt b i))) (ix5 (n0 := 1) (n1 := 4) (n2 := 4) (n3 := 136) (n4 := 256) 0 h k d r)
  rw [View.read_apply, flushed14_A] at hb
  refine Eq.trans ?_ (hb.trans ?_)
  · show (dats m 0 c).arrAt 14 cfg0.N _ = (dats m 0 c).arrAt 14 cfg0.N _
    congr 1
    funext a
    apply Fin.ext
    match a with
    | ⟨0, _⟩ => show b.val = win0_14.index (pt b i) 0 * 1 + 1 * 0; omega
    | ⟨1, _⟩ => show h.val = win0_14.index (pt b i) 1 * 4 + 1 * h.val; omega
    | ⟨2, _⟩ => show i.val * 4 + k.val = win0_14.index (pt b i) 2 * 4 + 1 * k.val; omega
    | ⟨3, _⟩ => show d.val = win0_14.index (pt b i) 3 * 136 + 1 * d.val; omega
    | ⟨4, _⟩ => show r.val = win0_14.index (pt b i) 4 * 256 + 1 * r.val; omega
  · refine (out14_apply ..).trans ?_
    by_cases hd : d.val < 128
    · rw [dif_pos hd, if_pos hd, pB_pt m c b i _ _ (by show 1024 + (h.val * 128 + d.val) < 3600; omega)]
      congr 1
      show i.val * 1024 + (k.val * 256 + r.val) = _
      omega
    · rw [dif_neg hd, if_neg hd]

theorem res15 (r : Fin 1024) (n : Fin 512) : ((dats m 0 c).arrAt 15 cfg0.N : Vec Ideal S2x8192x512 .f32) (ix3 b ⟨i.val * 1024 + r.val, by omega⟩ n) = l2 (fun l => S (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aC (m ((c : Thread nD τ).loc main_arg9))) b (i.val * 1024 + r.val) ⟨0 + (n.val / 128 * 128 + l.val), by omega⟩) ⟨n.val % 128, Nat.mod_lt _ (by decide)⟩ * Ideal.ofBits .f32 0x3DB504F3#32 := by
  obtain ⟨h0, h1, h2⟩ := idx15 b i
  have hb := congrFun (blocks15 m c (pt b i) (flush0_15 (pt b i))) (ix3 (n0 := 1) (n1 := 1024) (n2 := 512) 0 r n)
  rw [View.read_apply, flushed15_A] at hb
  refine Eq.trans ?_ (hb.trans ?_)
  · show (dats m 0 c).arrAt 15 cfg0.N _ = (dats m 0 c).arrAt 15 cfg0.N _
    congr 1
    funext a
    apply Fin.ext
    match a with
    | ⟨0, _⟩ => show b.val = win0_15.index (pt b i) 0 * 1 + 1 * 0; omega
    | ⟨1, _⟩ => show i.val * 1024 + r.val = win0_15.index (pt b i) 1 * 1024 + 1 * r.val; omega
    | ⟨2, _⟩ => show n.val = win0_15.index (pt b i) 2 * 512 + 1 * n.val; omega
  · refine (out15_apply ..).trans ?_
    simp only [coord1, sB_pt]

theorem res16 (r : Fin 1024) (n : Fin 512) : ((dats m 0 c).arrAt 16 cfg0.N : Vec Ideal S2x8192x512 .f32) (ix3 b ⟨i.val * 1024 + r.val, by omega⟩ n) = l2 (fun l => S (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aC (m ((c : Thread nD τ).loc main_arg9))) b (i.val * 1024 + r.val) ⟨512 + (n.val / 128 * 128 + l.val), by omega⟩) ⟨n.val % 128, Nat.mod_lt _ (by decide)⟩ := by
  obtain ⟨h0, h1, h2⟩ := idx16 b i
  have hb := congrFun (blocks16 m c (pt b i) (flush0_16 (pt b i))) (ix3 (n0 := 1) (n1 := 1024) (n2 := 512) 0 r n)
  rw [View.read_apply, flushed16_A] at hb
  refine Eq.trans ?_ (hb.trans ?_)
  · show (dats m 0 c).arrAt 16 cfg0.N _ = (dats m 0 c).arrAt 16 cfg0.N _
    congr 1
    funext a
    apply Fin.ext
    match a with
    | ⟨0, _⟩ => show b.val = win0_16.index (pt b i) 0 * 1 + 1 * 0; omega
    | ⟨1, _⟩ => show i.val * 1024 + r.val = win0_16.index (pt b i) 1 * 1024 + 1 * r.val; omega
    | ⟨2, _⟩ => show n.val = win0_16.index (pt b i) 2 * 512 + 1 * n.val; omega
  · refine (out16_apply ..).trans ?_
    simp only [coord1, sB_pt]

theorem res17 (r : Fin 1024) (n : Fin 512) : ((dats m 0 c).arrAt 17 cfg0.N : Vec Ideal S2x8192x512 .f32) (ix3 b ⟨i.val * 1024 + r.val, by omega⟩ n) = S (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aC (m ((c : Thread nD τ).loc main_arg9))) b (i.val * 1024 + r.val) ⟨1024 + n.val, by omega⟩ := by
  obtain ⟨h0, h1, h2⟩ := idx17 b i
  have hb := congrFun (blocks17 m c (pt b i) (flush0_17 (pt b i))) (ix3 (n0 := 1) (n1 := 1024) (n2 := 512) 0 r n)
  rw [View.read_apply, flushed17_A] at hb
  refine Eq.trans ?_ (hb.trans ?_)
  · show (dats m 0 c).arrAt 17 cfg0.N _ = (dats m 0 c).arrAt 17 cfg0.N _
    congr 1
    funext a
    apply Fin.ext
    match a with
    | ⟨0, _⟩ => show b.val = win0_17.index (pt b i) 0 * 1 + 1 * 0; omega
    | ⟨1, _⟩ => show i.val * 1024 + r.val = win0_17.index (pt b i) 1 * 1024 + 1 * r.val; omega
    | ⟨2, _⟩ => show n.val = win0_17.index (pt b i) 2 * 512 + 1 * n.val; omega
  · refine (out17_apply ..).trans ?_
    simp only [coord1, sB_pt]

theorem res18 (r : Fin 1024) (n : Fin 512) : ((dats m 0 c).arrAt 18 cfg0.N : Vec Ideal S2x8192x512 .f32) (ix3 b ⟨i.val * 1024 + r.val, by omega⟩ n) = P (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) b (i.val * 1024 + r.val) (3072 + n.val) := by
  obtain ⟨h0, h1, h2⟩ := idx18 b i
  have hb := congrFun (blocks18 m c (pt b i) (flush0_18 (pt b i))) (ix3 (n0 := 1) (n1 := 1024) (n2 := 512) 0 r n)
  rw [View.read_apply, flushed18_A] at hb
  refine Eq.trans ?_ (hb.trans ?_)
  · show (dats m 0 c).arrAt 18 cfg0.N _ = (dats m 0 c).arrAt 18 cfg0.N _
    congr 1
    funext a
    apply Fin.ext
    match a with
    | ⟨0, _⟩ => show b.val = win0_18.index (pt b i) 0 * 1 + 1 * 0; omega
    | ⟨1, _⟩ => show i.val * 1024 + r.val = win0_18.index (pt b i) 1 * 1024 + 1 * r.val; omega
    | ⟨2, _⟩ => show n.val = win0_18.index (pt b i) 2 * 512 + 1 * n.val; omega
  · refine (out18_apply ..).trans ?_
    exact pB_pt m c b i r _ (by show 3072 + n.val < 3600; omega)

theorem res19 (r : Fin 1024) (n : Fin 128) : ((dats m 0 c).arrAt 19 cfg0.N : Vec Ideal S2x8192x128 .f32) (ix3 b ⟨i.val * 1024 + r.val, by omega⟩ n) = GB (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aE (m ((c : Thread nD τ).loc main_arg10))) (aE (m ((c : Thread nD τ).loc main_arg11))) b (i.val * 1024 + r.val) n.val := by
  obtain ⟨h0, h1, h2⟩ := idx19 b i
  have hb := congrFun (blocks19 m c (pt b i) (flush0_19 (pt b i))) (ix3 (n0 := 1) (n1 := 1024) (n2 := 128) 0 r n)
  rw [View.read_apply, flushed19_A] at hb
  refine Eq.trans ?_ (hb.trans ?_)
  · show (dats m 0 c).arrAt 19 cfg0.N _ = (dats m 0 c).arrAt 19 cfg0.N _
    congr 1
    funext a
    apply Fin.ext
    match a with
    | ⟨0, _⟩ => show b.val = win0_19.index (pt b i) 0 * 1 + 1 * 0; omega
    | ⟨1, _⟩ => show i.val * 1024 + r.val = win0_19.index (pt b i) 1 * 1024 + 1 * r.val; omega
    | ⟨2, _⟩ => show n.val = win0_19.index (pt b i) 2 * 128 + 1 * n.val; omega
  · refine (out19_apply ..).trans ?_
    exact abB_pt m c b i r n

theorem res20 (r : Fin 1024) (n : Fin 16) : ((dats m 0 c).arrAt 20 cfg0.N : Vec Ideal S2x16x8192 .f32) (ix3 b n ⟨i.val * 1024 + r.val, by omega⟩) = GB (aX (m ((c : Thread nD τ).loc main_arg0))) (aG (m ((c : Thread nD τ).loc main_arg1))) (aM (m ((c : Thread nD τ).loc main_arg2))) (aM (m ((c : Thread nD τ).loc main_arg3))) (aW (m ((c : Thread nD τ).loc main_arg8))) (aE (m ((c : Thread nD τ).loc main_arg10))) (aE (m ((c : Thread nD τ).loc main_arg11))) b (i.val * 1024 + r.val) n.val := by
  obtain ⟨h0, h1, h2⟩ := idx20 b i
  have hb := congrFun (blocks20 m c (pt b i) (flush0_20 (pt b i))) (ix3 (n0 := 1) (n1 := 16) (n2 := 1024) 0 n r)
  rw [View.read_apply, flushed20_A] at hb
  refine Eq.trans ?_ (hb.trans ?_)
  · show (dats m 0 c).arrAt 20 cfg0.N _ = (dats m 0 c).arrAt 20 cfg0.N _
    congr 1
    funext a
    apply Fin.ext
    match a with
    | ⟨0, _⟩ => show b.val = win0_20.index (pt b i) 0 * 1 + 1 * 0; omega
    | ⟨1, _⟩ => show n.val = win0_20.index (pt b i) 1 * 16 + 1 * n.val; omega
    | ⟨2, _⟩ => show i.val * 1024 + r.val = win0_20.index (pt b i) 2 * 1024 + 1 * r.val; omega
  · refine (out20_apply ..).trans ?_
    exact abB_pt m c b i r _

end Cert.Kernel2Ideal.In
-- ==== Proof.InRef.lean ====
module

public import proofs.«01_k».proof.Proof.Gen.Reference2Ideal.Read
public import proofs.«01_k».proof.Proof.InMath
public import Idealize.ShloMosaic.Lib.Pointwise

@[expose] public section

set_option maxRecDepth 16384

noncomputable section

/-!
# The input projection's reference at an index

Each step of the reference read at an index from the step before it.
-/

namespace Cert.Reference2Ideal.In

open Cert.Reference2Ideal Cert.Reference2Ideal.Gen Cert.Reference2Ideal.Read
open Idealize.ShloMosaic Idealize.ShloMosaic.TcCoe Idealize.ShloMosaic.Tactic
open InProj (hRow one zero eps silu conv l2 softplus rope ang P R S GB aX aG aM aT aW aC aE)

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 x5 x6 x7 : (⟨S8192x16, .f32⟩ : BufTy).Contents (Elt Ideal))
  (x8 : (⟨S1024x3600, .f32⟩ : BufTy).Contents (Elt Ideal)) (x9 : (⟨S3x1536, .f32⟩ : BufTy).Contents (Elt Ideal))
  (x10 x11 : (⟨S2x4, .f32⟩ : BufTy).Contents (Elt Ideal))

theorem sitofp_zero : FloatOps.sitofp (F := Ideal) FTy.f32 0#32 = (0 : EReal) := by
  show ((((0#32 : BitVec 32).toInt : ℝ)) : EReal) = 0
  simp

theorem ofBits_zero : Ideal.ofBits .f32 0x00000000#32 = (0 : EReal) := by simp [Ideal.ofBits, Ideal.ieee]

theorem v1_at (b : Fin 2) (t : Fin 8192) :
    val_main_v1 (F := Ideal) x0 (ix2 b t) = ∑ d : Fin 1024, aX x0 b t d * aX x0 b t d := by
  pointwise [val_main_v1, val_main_v0, val_main_cst]
  rfl

theorem v8_at (b : Fin 2) (t : Fin 8192) (d : Fin 1024) :
    val_main_v8 (F := Ideal) x0 (ix3 b t d) = val_main_v7 (F := Ideal) x0 (ix3 b t 0) := by
  unfold val_main_v8
  generalize val_main_v7 (F := Ideal) x0 = y
  pointwise []

theorem v2_at (b : Fin 2) (t : Fin 8192) :
    val_main_v2 (F := Ideal) x0 (ix3 b t 0) = val_main_v1 (F := Ideal) x0 (ix2 b t) := by
  unfold val_main_v2
  generalize val_main_v1 (F := Ideal) x0 = y
  pointwise []

theorem v3_at (b : Fin 2) (t : Fin 8192) :
    val_main_v3 (F := Ideal) (ix3 b t 0) = Ideal.ofBits .f32 0x44800000#32 := by
  pointwise [val_main_v3, val_main_cst_0]

theorem v5_at (b : Fin 2) (t : Fin 8192) :
    val_main_v5 (F := Ideal) (ix3 b t 0) = eps := by
  pointwise [val_main_v5, val_main_cst_1]

theorem v11_at (b : Fin 2) (t : Fin 8192) (d : Fin 1024) :
    val_main_v11 (F := Ideal) x1 (ix3 b t d) = aG x1 d := by
  pointwise [val_main_v11, val_main_v10]
  rfl

theorem v16_at (b : Fin 2) (t : Fin 8192) (d : Fin 1024) :
    val_main_v16 (F := Ideal) x3 (ix3 b t d) = one + aM x3 b d := by
  pointwise [val_main_v16, val_main_v15, val_main_v14, val_main_v13, val_main_cst_2]
  rfl

theorem v19_at (b : Fin 2) (t : Fin 8192) (d : Fin 1024) :
    val_main_v19 (F := Ideal) x2 (ix3 b t d) = aM x2 b d := by
  pointwise [val_main_v19, val_main_v18]
  rfl

/-- The modulated rows. -/
theorem v20_at (b : Fin 2) (t : Fin 8192) (d : Fin 1024) :
    val_main_v20 (F := Ideal) x0 x1 x2 x3 (ix3 b t d) = hRow (aX x0 b t) (aG x1) (aM x3 b) (aM x2 b) d := by
  rw [val_main_v20_apply, val_main_v17_apply, val_main_v12_apply, val_main_v9_apply, v8_at, val_main_v7_apply, val_main_v6_apply, val_main_v4_apply, v2_at, v1_at, v3_at, v5_at, v11_at, v16_at, v19_at]
  rfl

/-- The projection. -/
theorem v21_at (b : Fin 2) (t : Fin 8192) (n : Fin 3600) :
    val_main_v21 (F := Ideal) x0 x1 x2 x3 x8 (ix3 b t n) = P (aX x0) (aG x1) (aM x2) (aM x3) (aW x8) b t.val n.val := by
  have e : val_main_v21 (F := Ideal) x0 x1 x2 x3 x8 (ix3 b t n) = ∑ d : Fin 1024, val_main_v20 (F := Ideal) x0 x1 x2 x3 (ix3 b t d) * aW x8 d n := by
    unfold val_main_v21
    generalize val_main_v20 (F := Ideal) x0 x1 x2 x3 = y
    pointwise []
    rfl
  unfold P
  rw [e, dif_pos t.isLt, dif_pos n.isLt]
  exact Finset.sum_congr rfl fun d _ => congrArg (· * _) (v20_at x0 x1 x2 x3 b t d)

theorem v22_at (b : Fin 2) (t : Fin 8192) (n : Fin 512) :
    val_main_v22 (F := Ideal) x0 x1 x2 x3 x8 (ix3 b t n) = P (aX x0) (aG x1) (aM x2) (aM x3) (aW x8) b t.val (0 + n.val) := by
  rw [← v21_at x0 x1 x2 x3 x8 b t ⟨0 + n.val, by omega⟩]
  unfold val_main_v22
  generalize val_main_v21 (F := Ideal) x0 x1 x2 x3 x8 = y
  pointwise []

theorem v23_at (b : Fin 2) (t : Fin 8192) (n : Fin 512) :
    val_main_v23 (F := Ideal) x0 x1 x2 x3 x8 (ix3 b t n) = P (aX x0) (aG x1) (aM x2) (aM x3) (aW x8) b t.val (512 + n.val) := by
  rw [← v21_at x0 x1 x2 x3 x8 b t ⟨512 + n.val, by omega⟩]
  unfold val_main_v23
  generalize val_main_v21 (F := Ideal) x0 x1 x2 x3 x8 = y
  pointwise []

theorem v24_at (b : Fin 2) (t : Fin 8192) (n : Fin 512) :
    val_main_v24 (F := Ideal) x0 x1 x2 x3 x8 (ix3 b t n) = P (aX x0) (aG x1) (aM x2) (aM x3) (aW x8) b t.val (1024 + n.val) := by
  rw [← v21_at x0 x1 x2 x3 x8 b t ⟨1024 + n.val, by omega⟩]
  unfold val_main_v24
  generalize val_main_v21 (F := Ideal) x0 x1 x2 x3 x8 = y
  pointwise []

theorem v25_at (b : Fin 2) (t : Fin 8192) (n : Fin 1536) :
    val_main_v25 (F := Ideal) x0 x1 x2 x3 x8 (ix3 b t n) = P (aX x0) (aG x1) (aM x2) (aM x3) (aW x8) b t.val (1536 + n.val) := by
  rw [← v21_at x0 x1 x2 x3 x8 b t ⟨1536 + n.val, by omega⟩]
  unfold val_main_v25
  generalize val_main_v21 (F := Ideal) x0 x1 x2 x3 x8 = y
  pointwise []

theorem v26_at (b : Fin 2) (t : Fin 8192) (n : Fin 512) :
    val_main_v26 (F := Ideal) x0 x1 x2 x3 x8 (ix3 b t n) = P (aX x0) (aG x1) (aM x2) (aM x3) (aW x8) b t.val (3072 + n.val) := by
  rw [← v21_at x0 x1 x2 x3 x8 b t ⟨3072 + n.val, by omega⟩]
  unfold val_main_v26
  generalize val_main_v21 (F := Ideal) x0 x1 x2 x3 x8 = y
  pointwise []

theorem v27_at (b : Fin 2) (t : Fin 8192) (n : Fin 16) :
    val_main_v27 (F := Ideal) x0 x1 x2 x3 x8 (ix3 b t n) = P (aX x0) (aG x1) (aM x2) (aM x3) (aW x8) b t.val (3584 + n.val) := by
  rw [← v21_at x0 x1 x2 x3 x8 b t ⟨3584 + n.val, by omega⟩]
  unfold val_main_v27
  generalize val_main_v21 (F := Ideal) x0 x1 x2 x3 x8 = y
  pointwise []

/-- The rows the convolution reads, with a row of zeros on either side. -/
theorem v28_at (b : Fin 2) (t : Fin 8194) (n : Fin 1536) :
    val_main_v28 (F := Ideal) x0 x1 x2 x3 x8 (ix3 b t n) = if t.val = 0 then 0 else P (aX x0) (aG x1) (aM x2) (aM x3) (aW x8) b (t.val - 1) (1536 + n.val) := by
  by_cases h : 1 ≤ t.val ∧ t.val < 8193
  · rw [if_neg (by omega), ← v25_at x0 x1 x2 x3 x8 b ⟨t.val - 1, by omega⟩ n]
    unfold val_main_v28
    generalize val_main_v25 (F := Ideal) x0 x1 x2 x3 x8 = y
    pointwise []
    rw [dif_pos (by omega)]
  · have e : val_main_v28 (F := Ideal) x0 x1 x2 x3 x8 (ix3 b t n) = 0 := by
      unfold val_main_v28
      generalize val_main_v25 (F := Ideal) x0 x1 x2 x3 x8 = y
      pointwise [val_main_call0_v0, val_main_c]
      rw [dif_neg (by omega)]
      exact sitofp_zero
    rw [e]
    by_cases h0 : t.val = 0
    · rw [if_pos h0]
    · rw [if_neg h0]
      unfold P
      rw [dif_neg (by omega)]

theorem v29_at (b : Fin 2) (t : Fin 8192) (n : Fin 1536) :
    val_main_v29 (F := Ideal) x0 x1 x2 x3 x8 (ix3 b t n) = if t.val = 0 then 0 else P (aX x0) (aG x1) (aM x2) (aM x3) (aW x8) b (t.val - 1) (1536 + n.val) := by
  have e : val_main_v29 (F := Ideal) x0 x1 x2 x3 x8 (ix3 b t n) = val_main_v28 (F := Ideal) x0 x1 x2 x3 x8 (ix3 b ⟨0 + t.val, by omega⟩ n) := by
    unfold val_main_v29
    generalize val_main_v28 (F := Ideal) x0 x1 x2 x3 x8 = y
    pointwise []
  refine e.trans ((v28_at x0 x1 x2 x3 x8 b ⟨0 + t.val, by omega⟩ n).trans ?_)
  show (if 0 + t.val = 0 then 0 else P (aX x0) (aG x1) (aM x2) (aM x3) (aW x8) b (0 + t.val - 1) (1536 + n.val)) = _
  rw [Nat.zero_add]

theorem v33_at (b : Fin 2) (t : Fin 8192) (n : Fin 1536) :
    val_main_v33 (F := Ideal) x9 (ix3 b t n) = aC x9 0 n := by
  pointwise [val_main_v33, val_main_v32, val_main_v31, val_main_v30]
  rfl

theorem v35_at (b : Fin 2) (t : Fin 8192) (n : Fin 1536) :
    val_main_v35 (F := Ideal) x0 x1 x2 x3 x8 (ix3 b t n) = P (aX x0) (aG x1) (aM x2) (aM x3) (aW x8) b t.val (1536 + n.val) := by
  have e : val_main_v35 (F := Ideal) x0 x1 x2 x3 x8 (ix3 b t n) = val_main_v28 (F := Ideal) x0 x1 x2 x3 x8 (ix3 b ⟨1 + t.val, by omega⟩ n) := by
    unfold val_main_v35
    generalize val_main_v28 (F := Ideal) x0 x1 x2 x3 x8 = y
    pointwise []
  refine e.trans ((v28_at x0 x1 x2 x3 x8 b ⟨1 + t.val, by omega⟩ n).trans ?_)
  show (if 1 + t.val = 0 then 0 else P (aX x0) (aG x1) (aM x2) (aM x3) (aW x8) b (1 + t.val - 1) (1536 + n.val)) = _
  rw [if_neg (by omega), Nat.add_sub_cancel_left]

theorem v39_at (b : Fin 2) (t : Fin 8192) (n : Fin 1536) :
    val_main_v39 (F := Ideal) x9 (ix3 b t n) = aC x9 1 n := by
  pointwise [val_main_v39, val_main_v38, val_main_v37, val_main_v36]
  rfl

theorem v42_at (b : Fin 2) (t : Fin 8192) (n : Fin 1536) :
    val_main_v42 (F := Ideal) x0 x1 x2 x3 x8 (ix3 b t n) = P (aX x0) (aG x1) (aM x2) (aM x3) (aW x8) b (t.val + 1) (1536 + n.val) := by
  have e : val_main_v42 (F := Ideal) x0 x1 x2 x3 x8 (ix3 b t n) = val_main_v28 (F := Ideal) x0 x1 x2 x3 x8 (ix3 b ⟨2 + t.val, by omega⟩ n) := by
    unfold val_main_v42
    generalize val_main_v28 (F := Ideal) x0 x1 x2 x3 x8 = y
    pointwise []
  refine e.trans ((v28_at x0 x1 x2 x3 x8 b ⟨2 + t.val, by omega⟩ n).trans ?_)
  show (if 2 + t.val = 0 then 0 else P (aX x0) (aG x1) (aM x2) (aM x3) (aW x8) b (2 + t.val - 1) (1536 + n.val)) = _
  rw [if_neg (by omega), show 2 + t.val - 1 = t.val + 1 by omega]

theorem v46_at (b : Fin 2) (t : Fin 8192) (n : Fin 1536) :
    val_main_v46 (F := Ideal) x9 (ix3 b t n) = aC x9 2 n := by
  pointwise [val_main_v46, val_main_v45, val_main_v44, val_main_v43]
  rfl

/-- The convolution. -/
theorem v49_at (b : Fin 2) (t : Fin 8192) (n : Fin 1536) :
    val_main_v49 (F := Ideal) x0 x1 x2 x3 x8 x9 (ix3 b t n) = S (aX x0) (aG x1) (aM x2) (aM x3) (aW x8) (aC x9) b t.val n := by
  rw [val_main_v49_apply, val_main_call1_v5_apply, val_main_call1_v3_apply, val_main_call1_v1_apply, val_main_call1_v0_apply,
    val_main_v48_apply, val_main_v41_apply, val_main_v34_apply, val_main_v40_apply, val_main_v47_apply, v29_at, v35_at, v42_at, v33_at, v39_at, v46_at]
  unfold S conv silu
  have c1 : val_main_call1_v4 (F := Ideal) (ix3 b t n) = one := by pointwise [val_main_call1_v4, val_main_call1_cst_0]
  have c2 : val_main_call1_v2 (F := Ideal) (ix3 b t n) = one := by pointwise [val_main_call1_v2, val_main_call1_cst]
  rw [c1, c2]
  rfl

end Cert.Reference2Ideal.In
-- ==== Proof.InRefConv.lean ====
module

public import proofs.«01_k».proof.Proof.Gen.Reference2Ideal.Read
public import proofs.«01_k».proof.Proof.InRef
public import Idealize.ShloMosaic.Lib.Pointwise

@[expose] public section

set_option maxRecDepth 16384

noncomputable section

/-!
# The input projection's reference at an index

Each step of the reference read at an index from the step before it.
-/

namespace Cert.Reference2Ideal.In

open Cert.Reference2Ideal Cert.Reference2Ideal.Gen Cert.Reference2Ideal.Read
open Idealize.ShloMosaic Idealize.ShloMosaic.TcCoe Idealize.ShloMosaic.Tactic
open InProj (hRow one zero eps silu conv l2 softplus rope ang P R S GB aX aG aM aT aW aC aE)

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 x5 x6 x7 : (⟨S8192x16, .f32⟩ : BufTy).Contents (Elt Ideal))
  (x8 : (⟨S1024x3600, .f32⟩ : BufTy).Contents (Elt Ideal)) (x9 : (⟨S3x1536, .f32⟩ : BufTy).Contents (Elt Ideal))
  (x10 x11 : (⟨S2x4, .f32⟩ : BufTy).Contents (Elt Ideal))

theorem v51_at (b : Fin 2) (t : Fin 8192) (k : Fin 4) (e : Fin 128) :
    val_main_v51 (F := Ideal) x0 x1 x2 x3 x8 x9 (ix4 b t k e) = S (aX x0) (aG x1) (aM x2) (aM x3) (aW x8) (aC x9) b t.val ⟨0 + (k.val * 128 + e.val), by omega⟩ := by
  rw [← v49_at]
  unfold val_main_v51 val_main_v50
  generalize val_main_v49 (F := Ideal) x0 x1 x2 x3 x8 x9 = y
  pointwise []

theorem v53_at (b : Fin 2) (t : Fin 8192) (k : Fin 4) :
    val_main_v53 (F := Ideal) x0 x1 x2 x3 x8 x9 (ix3 b t k) = ∑ e : Fin 128, val_main_v51 (F := Ideal) x0 x1 x2 x3 x8 x9 (ix4 b t k e) * val_main_v51 (F := Ideal) x0 x1 x2 x3 x8 x9 (ix4 b t k e) := by
  have h : val_main_v53 (F := Ideal) x0 x1 x2 x3 x8 x9 (ix3 b t k) = ∑ e : Fin 128, val_main_v52 (F := Ideal) x0 x1 x2 x3 x8 x9 (ix4 b t k e) := by
    unfold val_main_v53
    generalize val_main_v52 (F := Ideal) x0 x1 x2 x3 x8 x9 = y
    pointwise [val_main_cst_3]
  rw [h]
  exact Finset.sum_congr rfl fun e _ => val_main_v52_apply x0 x1 x2 x3 x8 x9 _

theorem v58_at (b : Fin 2) (t : Fin 8192) (k : Fin 4) (e : Fin 128) :
    val_main_v58 (F := Ideal) x0 x1 x2 x3 x8 x9 (ix4 b t k e) = val_main_v57 (F := Ideal) x0 x1 x2 x3 x8 x9 (ix4 b t k 0) := by
  unfold val_main_v58
  generalize val_main_v57 (F := Ideal) x0 x1 x2 x3 x8 x9 = y
  pointwise []

theorem v54_at (b : Fin 2) (t : Fin 8192) (k : Fin 4) :
    val_main_v54 (F := Ideal) x0 x1 x2 x3 x8 x9 (ix4 b t k 0) = val_main_v53 (F := Ideal) x0 x1 x2 x3 x8 x9 (ix3 b t k) := by
  unfold val_main_v54
  generalize val_main_v53 (F := Ideal) x0 x1 x2 x3 x8 x9 = y
  pointwise []

theorem v55_at (b : Fin 2) (t : Fin 8192) (k : Fin 4) :
    val_main_v55 (F := Ideal) (ix4 b t k 0) = eps := by
  pointwise [val_main_v55, val_main_cst_4]

theorem v59_at (b : Fin 2) (t : Fin 8192) (k : Fin 4) (e : Fin 128) :
    val_main_v59 (F := Ideal) x0 x1 x2 x3 x8 x9 (ix4 b t k e) = l2 (fun l => S (aX x0) (aG x1) (aM x2) (aM x3) (aW x8) (aC x9) b t.val ⟨0 + (k.val * 128 + l.val), by omega⟩) e := by
  rw [val_main_v59_apply, v58_at, val_main_v57_apply, val_main_v56_apply, v54_at, v53_at, v55_at]
  simp only [v51_at]
  rfl

theorem v61_at (b : Fin 2) (t : Fin 8192) (k : Fin 4) (e : Fin 128) :
    val_main_v61 (F := Ideal) x0 x1 x2 x3 x8 x9 (ix4 b t k e) = l2 (fun l => S (aX x0) (aG x1) (aM x2) (aM x3) (aW x8) (aC x9) b t.val ⟨0 + (k.val * 128 + l.val), by omega⟩) e * Ideal.ofBits .f32 0x3DB504F3#32 := by
  have e1 : val_main_v60 (F := Ideal) (ix4 b t k e) = Ideal.ofBits .f32 0x3DB504F3#32 := by pointwise [val_main_v60, val_main_cst_5]
  rw [val_main_v61_apply, v59_at, e1]
  rfl

theorem v192_at (b : Fin 2) (t : Fin 8192) (n : Fin 512) :
    val_main_v192 (F := Ideal) x0 x1 x2 x3 x8 x9 (ix3 b t n) = l2 (fun l => S (aX x0) (aG x1) (aM x2) (aM x3) (aW x8) (aC x9) b t.val ⟨0 + (n.val / 128 * 128 + l.val), by omega⟩) ⟨n.val % 128, Nat.mod_lt _ (by decide)⟩ * Ideal.ofBits .f32 0x3DB504F3#32 := by
  rw [← v61_at x0 x1 x2 x3 x8 x9 b t ⟨n.val / 128, by omega⟩ ⟨n.val % 128, Nat.mod_lt _ (by decide)⟩]
  unfold val_main_v192
  generalize val_main_v61 (F := Ideal) x0 x1 x2 x3 x8 x9 = y
  pointwise []

theorem v63_at (b : Fin 2) (t : Fin 8192) (k : Fin 4) (e : Fin 128) :
    val_main_v63 (F := Ideal) x0 x1 x2 x3 x8 x9 (ix4 b t k e) = S (aX x0) (aG x1) (aM x2) (aM x3) (aW x8) (aC x9) b t.val ⟨512 + (k.val * 128 + e.val), by omega⟩ := by
  rw [← v49_at]
  unfold val_main_v63 val_main_v62
  generalize val_main_v49 (F := Ideal) x0 x1 x2 x3 x8 x9 = y
  pointwise []

theorem v65_at (b : Fin 2) (t : Fin 8192) (k : Fin 4) :
    val_main_v65 (F := Ideal) x0 x1 x2 x3 x8 x9 (ix3 b t k) = ∑ e : Fin 128, val_main_v63 (F := Ideal) x0 x1 x2 x3 x8 x9 (ix4 b t k e) * val_main_v63 (F := Ideal) x0 x1 x2 x3 x8 x9 (ix4 b t k e) := by
  have h : val_main_v65 (F := Ideal) x0 x1 x2 x3 x8 x9 (ix3 b t k) = ∑ e : Fin 128, val_main_v64 (F := Ideal) x0 x1 x2 x3 x8 x9 (ix4 b t k e) := by
    unfold val_main_v65
    generalize val_main_v64 (F := Ideal) x0 x1 x2 x3 x8 x9 = y
    pointwise [val_main_cst_6]
  rw [h]
  exact Finset.sum_congr rfl fun e _ => val_main_v64_apply x0 x1 x2 x3 x8 x9 _

theorem v70_at (b : Fin 2) (t : Fin 8192) (k : Fin 4) (e : Fin 128) :
    val_main_v70 (F := Ideal) x0 x1 x2 x3 x8 x9 (ix4 b t k e) = val_main_v69 (F := Ideal) x0 x1 x2 x3 x8 x9 (ix4 b t k 0) := by
  unfold val_main_v70
  generalize val_main_v69 (F := Ideal) x0 x1 x2 x3 x8 x9 = y
  pointwise []

theorem v66_at (b : Fin 2) (t : Fin 8192) (k : Fin 4) :
    val_main_v66 (F := Ideal) x0 x1 x2 x3 x8 x9 (ix4 b t k 0) = val_main_v65 (F := Ideal) x0 x1 x2 x3 x8 x9 (ix3 b t k) := by
  unfold val_main_v66
  generalize val_main_v65 (F := Ideal) x0 x1 x2 x3 x8 x9 = y
  pointwise []

theorem v67_at (b : Fin 2) (t : Fin 8192) (k : Fin 4) :
    val_main_v67 (F := Ideal) (ix4 b t k 0) = eps := by
  pointwise [val_main_v67, val_main_cst_7]

theorem v71_at (b : Fin 2) (t : Fin 8192) (k : Fin 4) (e : Fin 128) :
    val_main_v71 (F := Ideal) x0 x1 x2 x3 x8 x9 (ix4 b t k e) = l2 (fun l => S (aX x0) (aG x1) (aM x2) (aM x3) (aW x8) (aC x9) b t.val ⟨512 + (k.val * 128 + l.val), by omega⟩) e := by
  rw [val_main_v71_apply, v70_at, val_main_v69_apply, val_main_v68_apply, v66_at, v65_at, v67_at]
  simp only [v63_at]
  rfl

theorem v193_at (b : Fin 2) (t : Fin 8192) (n : Fin 512) :
    val_main_v193 (F := Ideal) x0 x1 x2 x3 x8 x9 (ix3 b t n) = l2 (fun l => S (aX x0) (aG x1) (aM x2) (aM x3) (aW x8) (aC x9) b t.val ⟨512 + (n.val / 128 * 128 + l.val), by omega⟩) ⟨n.val % 128, Nat.mod_lt _ (by decide)⟩ := by
  rw [← v71_at x0 x1 x2 x3 x8 x9 b t ⟨n.val / 128, by omega⟩ ⟨n.val % 128, Nat.mod_lt _ (by decide)⟩]
  unfold val_main_v193
  generalize val_main_v71 (F := Ideal) x0 x1 x2 x3 x8 x9 = y
  pointwise []

theorem v194_at (b : Fin 2) (t : Fin 8192) (n : Fin 512) :
    val_main_v194 (F := Ideal) x0 x1 x2 x3 x8 x9 (ix3 b t n) = S (aX x0) (aG x1) (aM x2) (aM x3) (aW x8) (aC x9) b t.val ⟨1024 + n.val, by omega⟩ := by
  rw [← v49_at]
  unfold val_main_v194
  generalize val_main_v49 (F := Ideal) x0 x1 x2 x3 x8 x9 = y
  pointwise []

end Cert.Reference2Ideal.In
-- ==== Proof.InRefGate.lean ====
module

public import proofs.«01_k».proof.Proof.Gen.Reference2Ideal.Read
public import proofs.«01_k».proof.Proof.InRef
public import Idealize.ShloMosaic.Lib.Pointwise

@[expose] public section

set_option maxRecDepth 16384

noncomputable section

/-!
# The input projection's reference at an index

Each step of the reference read at an index from the step before it.
-/

namespace Cert.Reference2Ideal.In

open Cert.Reference2Ideal Cert.Reference2Ideal.Gen Cert.Reference2Ideal.Read
open Idealize.ShloMosaic Idealize.ShloMosaic.TcCoe Idealize.ShloMosaic.Tactic
open InProj (hRow one zero eps silu conv l2 softplus rope ang P R S GB aX aG aM aT aW aC aE)

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 x5 x6 x7 : (⟨S8192x16, .f32⟩ : BufTy).Contents (Elt Ideal))
  (x8 : (⟨S1024x3600, .f32⟩ : BufTy).Contents (Elt Ideal)) (x9 : (⟨S3x1536, .f32⟩ : BufTy).Contents (Elt Ideal))
  (x10 x11 : (⟨S2x4, .f32⟩ : BufTy).Contents (Elt Ideal))

theorem v77_at (b : Fin 2) (t : Fin 8192) (l : Fin 8) :
    val_main_v77 (F := Ideal) x0 x1 x2 x3 x8 (ix3 b t l) = P (aX x0) (aG x1) (aM x2) (aM x3) (aW x8) b t.val (3584 + (0 + l.val)) := by
  refine Eq.trans ?_ (v27_at x0 x1 x2 x3 x8 b t ⟨0 + l.val, by omega⟩)
  unfold val_main_v77 val_main_v76 val_main_v72
  generalize val_main_v27 (F := Ideal) x0 x1 x2 x3 x8 = y
  pointwise []

theorem v87_at (b : Fin 2) (t : Fin 8192) (l : Fin 8) :
    val_main_v87 (F := Ideal) x0 x1 x2 x3 x8 (ix3 b t l) = P (aX x0) (aG x1) (aM x2) (aM x3) (aW x8) b t.val (3584 + (8 + l.val)) := by
  refine Eq.trans ?_ (v27_at x0 x1 x2 x3 x8 b t ⟨8 + l.val, by omega⟩)
  unfold val_main_v87 val_main_v86 val_main_v72
  generalize val_main_v27 (F := Ideal) x0 x1 x2 x3 x8 = y
  pointwise []

theorem v80_at (b : Fin 2) (t : Fin 8192) (l : Fin 8) :
    val_main_v80 (F := Ideal) x11 (ix3 b t l) = aE x11 l := by
  pointwise [val_main_v80, val_main_v79, val_main_v78]
  rfl

theorem v84_at (b : Fin 2) (t : Fin 8192) (l : Fin 8) :
    val_main_v84 (F := Ideal) x10 (ix3 b t l) = -Ideal.exp (aE x10 l) := by
  pointwise [val_main_v84, val_main_v83, val_main_v75, val_main_v74, val_main_v73]
  rfl

theorem v82_at (i : S2x8192x8.Idx) :
    val_main_v82 (F := Ideal) x0 x1 x2 x3 x8 x11 i = softplus (val_main_v81 (F := Ideal) x0 x1 x2 x3 x8 x11 i) := by
  rw [val_main_v82_apply, val_main_call2_v11_apply, val_main_call2_v10_apply, val_main_call2_v9_apply, val_main_call2_v8_apply, val_main_call2_v7_apply,
    val_main_call2_v1_apply, val_main_call2_v4_apply, val_main_call2_v3_apply]
  generalize val_main_v81 (F := Ideal) x0 x1 x2 x3 x8 x11 i = z
  have c0 : val_main_call2_v0 (F := Ideal) i = (0 : EReal) := ofBits_zero
  have c2 : val_main_call2_v2 (F := Ideal) i = (0 : EReal) := ofBits_zero
  rw [c0, c2]
  generalize val_main_call2_v6 (F := Ideal) x0 x1 x2 x3 x8 x11 i = w
  unfold softplus
  have hs : FloatOps.subf (F := Ideal) (φ := .f32) z 0 = z := sub_zero (z : EReal)
  have hc : FloatOps.cmpf (F := Ideal) (φ := .f32) CmpFPredicate.une z z = 0#1 := by simp [FloatOps.cmpf, Ideal.cmp]
  rw [hs, hc]
  rfl

theorem v85_at (b : Fin 2) (t : Fin 8192) (l : Fin 8) :
    val_main_v85 (F := Ideal) x0 x1 x2 x3 x8 x10 x11 (ix3 b t l) = -Ideal.exp (aE x10 l) * softplus (P (aX x0) (aG x1) (aM x2) (aM x3) (aW x8) b t.val (3584 + l.val) + aE x11 l) := by
  rw [val_main_v85_apply, v84_at, v82_at, val_main_v81_apply, v77_at, v80_at, Nat.zero_add]
  rfl

theorem v93_at (b : Fin 2) (t : Fin 8192) (l : Fin 8) :
    val_main_v93 (F := Ideal) x0 x1 x2 x3 x8 (ix3 b t l) = Ideal.div one (one + Ideal.exp (-(P (aX x0) (aG x1) (aM x2) (aM x3) (aW x8) b t.val (3584 + (8 + l.val))))) := by
  have c1 : val_main_v92 (F := Ideal) (ix3 b t l) = one := by pointwise [val_main_v92, val_main_cst_9]
  have c2 : val_main_v90 (F := Ideal) (ix3 b t l) = one := by pointwise [val_main_v90, val_main_cst_8]
  rw [val_main_v93_apply, val_main_v91_apply, val_main_v89_apply, val_main_v88_apply, v87_at, c1, c2]
  rfl

theorem v100_at (b : Fin 2) (t : Fin 8192) (n : Fin 128) :
    val_main_v100 (F := Ideal) x0 x1 x2 x3 x8 x10 x11 (ix3 b t n) = GB (aX x0) (aG x1) (aM x2) (aM x3) (aW x8) (aE x10) (aE x11) b t.val n.val := by
  have e : val_main_v100 (F := Ideal) x0 x1 x2 x3 x8 x10 x11 (ix3 b t n) = if h : n.val < 8 then val_main_v85 (F := Ideal) x0 x1 x2 x3 x8 x10 x11 (ix3 b t ⟨n.val, h⟩)
      else if h' : n.val < 16 then val_main_v93 (F := Ideal) x0 x1 x2 x3 x8 (ix3 b t ⟨n.val - 8, by omega⟩) else 0 := by
    unfold val_main_v100
    generalize val_main_v85 (F := Ideal) x0 x1 x2 x3 x8 x10 x11 = y
    generalize val_main_v93 (F := Ideal) x0 x1 x2 x3 x8 = z
    pointwise [val_main_v99, val_main_cst_12]
    by_cases h : n.val < 8
    · rw [dif_pos h, dif_pos h]
    · rw [dif_neg h, dif_neg h]
      by_cases h' : n.val < 16
      · rw [dif_pos h', dif_pos (by omega)]
      · rw [dif_neg h', dif_neg (by omega)]
  unfold GB
  rw [e]
  by_cases h : n.val < 8
  · rw [dif_pos h, dif_pos h, v85_at]
  · rw [dif_neg h, dif_neg h]
    by_cases h' : n.val < 16
    · rw [dif_pos h', if_pos h', v93_at]
      have e8 : 8 + (n.val - 8) = n.val := by omega
      show Ideal.div one (one + Ideal.exp (-(P (aX x0) (aG x1) (aM x2) (aM x3) (aW x8) b t.val (3584 + (8 + (n.val - 8)))))) = _
      rw [e8]
    · rw [dif_neg h', if_neg h']

theorem v196_at (b : Fin 2) (t : Fin 8192) (n : Fin 16) :
    val_main_v196 (F := Ideal) x0 x1 x2 x3 x8 x10 x11 (ix3 b n t) = GB (aX x0) (aG x1) (aM x2) (aM x3) (aW x8) (aE x10) (aE x11) b t.val n.val := by
  refine Eq.trans ?_ (v100_at x0 x1 x2 x3 x8 x10 x11 b t ⟨n.val, by omega⟩)
  unfold val_main_v196 val_main_v195
  generalize val_main_v100 (F := Ideal) x0 x1 x2 x3 x8 x10 x11 = y
  pointwise []

theorem v95_at (b : Fin 2) (h : Fin 4) (y : Fin 32) (d : Fin 128) (r : Fin 256) :
    val_main_v95 (F := Ideal) x0 x1 x2 x3 x8 (ix5 b h y d r) = P (aX x0) (aG x1) (aM x2) (aM x3) (aW x8) b (y.val * 256 + r.val) (1024 + (h.val * 128 + d.val)) := by
  refine Eq.trans ?_ (v24_at x0 x1 x2 x3 x8 b ⟨y.val * 256 + r.val, by omega⟩ ⟨h.val * 128 + d.val, by omega⟩)
  unfold val_main_v95 val_main_v94
  generalize val_main_v24 (F := Ideal) x0 x1 x2 x3 x8 = z
  pointwise []

theorem v191_at (b : Fin 2) (h : Fin 4) (y : Fin 32) (d : Fin 136) (r : Fin 256) :
    val_main_v191 (F := Ideal) x0 x1 x2 x3 x8 (ix5 b h y d r) = if d.val < 128 then P (aX x0) (aG x1) (aM x2) (aM x3) (aW x8) b (y.val * 256 + r.val) (1024 + (h.val * 128 + d.val)) else if d.val = 128 then 1 else 0 := by
  have e : val_main_v98 (F := Ideal) x0 x1 x2 x3 x8 (ix5 b h y d r) = if hd : d.val < 128 then val_main_v95 (F := Ideal) x0 x1 x2 x3 x8 (ix5 b h y ⟨d.val, hd⟩ r) else if d.val = 128 then 1 else 0 := by
    unfold val_main_v98
    generalize val_main_v95 (F := Ideal) x0 x1 x2 x3 x8 = z
    pointwise [val_main_v96, val_main_cst_10, val_main_v97, val_main_cst_11]
    by_cases hd : d.val < 128
    · rw [dif_pos hd, dif_pos hd]
    · rw [dif_neg hd, dif_neg hd]
      by_cases h' : d.val = 128
      · rw [if_pos h', dif_pos (by omega)]
      · rw [if_neg h', dif_neg (by omega)]
  refine (show val_main_v191 (F := Ideal) x0 x1 x2 x3 x8 (ix5 b h y d r) = val_main_v98 (F := Ideal) x0 x1 x2 x3 x8 (ix5 b h y d r) from rfl).trans (e.trans ?_)
  by_cases hd : d.val < 128
  · rw [dif_pos hd, if_pos hd, v95_at]
  · rw [dif_neg hd, if_neg hd]

end Cert.Reference2Ideal.In
-- ==== Proof.InRefRope.lean ====
module

public import proofs.«01_k».proof.Proof.Gen.Reference2Ideal.Read
public import proofs.«01_k».proof.Proof.InRef
public import Idealize.ShloMosaic.Lib.Pointwise

@[expose] public section

set_option maxRecDepth 16384

noncomputable section

/-!
# The input projection's reference at an index

Each step of the reference read at an index from the step before it.
-/

namespace Cert.Reference2Ideal.In

open Cert.Reference2Ideal Cert.Reference2Ideal.Gen Cert.Reference2Ideal.Read
open Idealize.ShloMosaic Idealize.ShloMosaic.TcCoe Idealize.ShloMosaic.Tactic
open InProj (hRow one zero eps silu conv l2 softplus rope ang P R S GB aX aG aM aT aW aC aE)

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 x5 x6 x7 : (⟨S8192x16, .f32⟩ : BufTy).Contents (Elt Ideal))
  (x8 : (⟨S1024x3600, .f32⟩ : BufTy).Contents (Elt Ideal)) (x9 : (⟨S3x1536, .f32⟩ : BufTy).Contents (Elt Ideal))
  (x10 x11 : (⟨S2x4, .f32⟩ : BufTy).Contents (Elt Ideal))

theorem v105_at (b : Fin 2) (t : Fin 8192) (k : Fin 8) (e : Fin 16) :
    val_main_v105 (F := Ideal) x0 x1 x2 x3 x8 (ix4 b t k e) = P (aX x0) (aG x1) (aM x2) (aM x3) (aW x8) b t.val (0 + (k.val * 64 + (0 + e.val))) := by
  refine Eq.trans ?_ (v22_at x0 x1 x2 x3 x8 b t ⟨k.val * 64 + (0 + e.val), by omega⟩)
  unfold val_main_v105 val_main_v102 val_main_v101
  generalize val_main_v22 (F := Ideal) x0 x1 x2 x3 x8 = z
  pointwise []

theorem v106_at (b : Fin 2) (t : Fin 8192) (k : Fin 8) (e : Fin 16) :
    val_main_v106 (F := Ideal) x0 x1 x2 x3 x8 (ix4 b t k e) = P (aX x0) (aG x1) (aM x2) (aM x3) (aW x8) b t.val (0 + (k.val * 64 + (16 + e.val))) := by
  refine Eq.trans ?_ (v22_at x0 x1 x2 x3 x8 b t ⟨k.val * 64 + (16 + e.val), by omega⟩)
  unfold val_main_v106 val_main_v102 val_main_v101
  generalize val_main_v22 (F := Ideal) x0 x1 x2 x3 x8 = z
  pointwise []

theorem v125_at (b : Fin 2) (t : Fin 8192) (k : Fin 8) (e : Fin 16) :
    val_main_v125 (F := Ideal) x0 x1 x2 x3 x8 (ix4 b t k e) = P (aX x0) (aG x1) (aM x2) (aM x3) (aW x8) b t.val (0 + (k.val * 64 + (32 + e.val))) := by
  refine Eq.trans ?_ (v22_at x0 x1 x2 x3 x8 b t ⟨k.val * 64 + (32 + e.val), by omega⟩)
  unfold val_main_v125 val_main_v122 val_main_v101
  generalize val_main_v22 (F := Ideal) x0 x1 x2 x3 x8 = z
  pointwise []

theorem v126_at (b : Fin 2) (t : Fin 8192) (k : Fin 8) (e : Fin 16) :
    val_main_v126 (F := Ideal) x0 x1 x2 x3 x8 (ix4 b t k e) = P (aX x0) (aG x1) (aM x2) (aM x3) (aW x8) b t.val (0 + (k.val * 64 + (48 + e.val))) := by
  refine Eq.trans ?_ (v22_at x0 x1 x2 x3 x8 b t ⟨k.val * 64 + (48 + e.val), by omega⟩)
  unfold val_main_v126 val_main_v122 val_main_v101
  generalize val_main_v22 (F := Ideal) x0 x1 x2 x3 x8 = z
  pointwise []
  exact congrArg (fun q => z (ix3 b t q)) (Fin.ext (by show k.val * 64 + (32 + (16 + e.val)) = k.val * 64 + (48 + e.val); omega))

theorem v108_at (b : Fin 2) (t : Fin 8192) (k : Fin 8) (e : Fin 16) :
    val_main_v108 (F := Ideal) x4 (ix4 b t k e) = aT x4 t e := by
  pointwise [val_main_v108, val_main_v107, val_main_v103]
  rfl

theorem v111_at (b : Fin 2) (t : Fin 8192) (k : Fin 8) (e : Fin 16) :
    val_main_v111 (F := Ideal) x5 (ix4 b t k e) = aT x5 t e := by
  pointwise [val_main_v111, val_main_v110, val_main_v104]
  rfl

theorem v115_at (b : Fin 2) (t : Fin 8192) (k : Fin 8) (e : Fin 16) :
    val_main_v115 (F := Ideal) x4 (ix4 b t k e) = aT x4 t e := by
  pointwise [val_main_v115, val_main_v114, val_main_v103]
  rfl

theorem v118_at (b : Fin 2) (t : Fin 8192) (k : Fin 8) (e : Fin 16) :
    val_main_v118 (F := Ideal) x5 (ix4 b t k e) = aT x5 t e := by
  pointwise [val_main_v118, val_main_v117, val_main_v104]
  rfl

theorem v128_at (b : Fin 2) (t : Fin 8192) (k : Fin 8) (e : Fin 16) :
    val_main_v128 (F := Ideal) x6 (ix4 b t k e) = aT x6 t e := by
  pointwise [val_main_v128, val_main_v127, val_main_v123]
  rfl

theorem v131_at (b : Fin 2) (t : Fin 8192) (k : Fin 8) (e : Fin 16) :
    val_main_v131 (F := Ideal) x7 (ix4 b t k e) = aT x7 t e := by
  pointwise [val_main_v131, val_main_v130, val_main_v124]
  rfl

theorem v135_at (b : Fin 2) (t : Fin 8192) (k : Fin 8) (e : Fin 16) :
    val_main_v135 (F := Ideal) x6 (ix4 b t k e) = aT x6 t e := by
  pointwise [val_main_v135, val_main_v134, val_main_v123]
  rfl

theorem v138_at (b : Fin 2) (t : Fin 8192) (k : Fin 8) (e : Fin 16) :
    val_main_v138 (F := Ideal) x7 (ix4 b t k e) = aT x7 t e := by
  pointwise [val_main_v138, val_main_v137, val_main_v124]
  rfl

theorem v113_at (b : Fin 2) (t : Fin 8192) (k : Fin 8) (e : Fin 16) :
    val_main_v113 (F := Ideal) x0 x1 x2 x3 x4 x5 x8 (ix4 b t k e) = P (aX x0) (aG x1) (aM x2) (aM x3) (aW x8) b t.val (0 + (k.val * 64 + (0 + e.val))) * aT x4 t e - P (aX x0) (aG x1) (aM x2) (aM x3) (aW x8) b t.val (0 + (k.val * 64 + (16 + e.val))) * aT x5 t e := by
  rw [val_main_v113_apply, val_main_v109_apply, val_main_v112_apply, v105_at, v106_at, v108_at, v111_at]
  rfl

theorem v120_at (b : Fin 2) (t : Fin 8192) (k : Fin 8) (e : Fin 16) :
    val_main_v120 (F := Ideal) x0 x1 x2 x3 x4 x5 x8 (ix4 b t k e) = P (aX x0) (aG x1) (aM x2) (aM x3) (aW x8) b t.val (0 + (k.val * 64 + (16 + e.val))) * aT x4 t e + P (aX x0) (aG x1) (aM x2) (aM x3) (aW x8) b t.val (0 + (k.val * 64 + (0 + e.val))) * aT x5 t e := by
  rw [val_main_v120_apply, val_main_v116_apply, val_main_v119_apply, v105_at, v106_at, v115_at, v118_at]
  rfl

theorem v121_at (b : Fin 2) (t : Fin 8192) (k : Fin 8) (e : Fin 32) :
    val_main_v121 (F := Ideal) x0 x1 x2 x3 x4 x5 x8 (ix4 b t k e) = if h : e.val < 16 then val_main_v113 (F := Ideal) x0 x1 x2 x3 x4 x5 x8 (ix4 b t k ⟨e.val, h⟩) else val_main_v120 (F := Ideal) x0 x1 x2 x3 x4 x5 x8 (ix4 b t k ⟨e.val - 16, by omega⟩) := by
  unfold val_main_v121
  generalize val_main_v113 (F := Ideal) x0 x1 x2 x3 x4 x5 x8 = y
  generalize val_main_v120 (F := Ideal) x0 x1 x2 x3 x4 x5 x8 = z
  pointwise []

theorem v133_at (b : Fin 2) (t : Fin 8192) (k : Fin 8) (e : Fin 16) :
    val_main_v133 (F := Ideal) x0 x1 x2 x3 x6 x7 x8 (ix4 b t k e) = P (aX x0) (aG x1) (aM x2) (aM x3) (aW x8) b t.val (0 + (k.val * 64 + (32 + e.val))) * aT x6 t e - P (aX x0) (aG x1) (aM x2) (aM x3) (aW x8) b t.val (0 + (k.val * 64 + (48 + e.val))) * aT x7 t e := by
  rw [val_main_v133_apply, val_main_v129_apply, val_main_v132_apply, v125_at, v126_at, v128_at, v131_at]
  rfl

theorem v140_at (b : Fin 2) (t : Fin 8192) (k : Fin 8) (e : Fin 16) :
    val_main_v140 (F := Ideal) x0 x1 x2 x3 x6 x7 x8 (ix4 b t k e) = P (aX x0) (aG x1) (aM x2) (aM x3) (aW x8) b t.val (0 + (k.val * 64 + (48 + e.val))) * aT x6 t e + P (aX x0) (aG x1) (aM x2) (aM x3) (aW x8) b t.val (0 + (k.val * 64 + (32 + e.val))) * aT x7 t e := by
  rw [val_main_v140_apply, val_main_v136_apply, val_main_v139_apply, v125_at, v126_at, v135_at, v138_at]
  rfl

theorem v141_at (b : Fin 2) (t : Fin 8192) (k : Fin 8) (e : Fin 32) :
    val_main_v141 (F := Ideal) x0 x1 x2 x3 x6 x7 x8 (ix4 b t k e) = if h : e.val < 16 then val_main_v133 (F := Ideal) x0 x1 x2 x3 x6 x7 x8 (ix4 b t k ⟨e.val, h⟩) else val_main_v140 (F := Ideal) x0 x1 x2 x3 x6 x7 x8 (ix4 b t k ⟨e.val - 16, by omega⟩) := by
  unfold val_main_v141
  generalize val_main_v133 (F := Ideal) x0 x1 x2 x3 x6 x7 x8 = y
  generalize val_main_v140 (F := Ideal) x0 x1 x2 x3 x6 x7 x8 = z
  pointwise []

theorem v142_at (b : Fin 2) (t : Fin 8192) (k : Fin 8) (e : Fin 64) :
    val_main_v142 (F := Ideal) x0 x1 x2 x3 x4 x5 x6 x7 x8 (ix4 b t k e) = if h : e.val < 32 then val_main_v121 (F := Ideal) x0 x1 x2 x3 x4 x5 x8 (ix4 b t k ⟨e.val, h⟩) else val_main_v141 (F := Ideal) x0 x1 x2 x3 x6 x7 x8 (ix4 b t k ⟨e.val - 32, by omega⟩) := by
  unfold val_main_v142
  generalize val_main_v121 (F := Ideal) x0 x1 x2 x3 x4 x5 x8 = y
  generalize val_main_v141 (F := Ideal) x0 x1 x2 x3 x6 x7 x8 = z
  pointwise []

/-- The rotated columns. -/
theorem v143_at (b : Fin 2) (t : Fin 8192) (n : Fin 512) :
    val_main_v143 (F := Ideal) x0 x1 x2 x3 x4 x5 x6 x7 x8 (ix3 b t n) = R (aX x0) (aG x1) (aM x2) (aM x3) (aT x4) (aT x5) (aT x6) (aT x7) (aW x8) 0 b t n.val := by
  have e : val_main_v143 (F := Ideal) x0 x1 x2 x3 x4 x5 x6 x7 x8 (ix3 b t n) = val_main_v142 (F := Ideal) x0 x1 x2 x3 x4 x5 x6 x7 x8 (ix4 b t ⟨n.val / 64, by omega⟩ ⟨n.val % 64, Nat.mod_lt _ (by decide)⟩) := by
    unfold val_main_v143
    generalize val_main_v142 (F := Ideal) x0 x1 x2 x3 x4 x5 x6 x7 x8 = y
    pointwise []
  have hn := n.isLt
  rw [e, v142_at]
  unfold R rope
  by_cases h32 : n.val % 64 < 32
  · rw [dif_pos h32, v121_at]
    have ac : ∀ u v : Fin 16 → EReal, ang u v n.val = u ⟨n.val % 16, Nat.mod_lt _ (by decide)⟩ := fun u v => if_pos h32
    by_cases h16 : n.val % 64 < 16
    · rw [dif_pos (show (n.val % 64 < 16) from h16), if_pos (show (n.val % 32 < 16) by omega), v113_at, ac, ac]
      have q1 : n.val / 64 * 64 + (0 + (n.val % 64)) = n.val := by omega
      have q2 : n.val / 64 * 64 + (16 + (n.val % 64)) = n.val + 16 := by omega
      have q3 : (⟨n.val % 64, by omega⟩ : Fin 16) = ⟨n.val % 16, Nat.mod_lt _ (by decide)⟩ := Fin.ext (by show n.val % 64 = n.val % 16; omega)
      simp only [q1, q2, q3]
    · rw [dif_neg (show ¬ (n.val % 64 < 16) from h16), if_neg (show ¬ (n.val % 32 < 16) by omega), v120_at, ac, ac]
      have q1 : n.val / 64 * 64 + (0 + (n.val % 64 - 16)) = n.val - 16 := by omega
      have q2 : n.val / 64 * 64 + (16 + (n.val % 64 - 16)) = n.val := by omega
      have q3 : (⟨n.val % 64 - 16, by omega⟩ : Fin 16) = ⟨n.val % 16, Nat.mod_lt _ (by decide)⟩ := Fin.ext (by show n.val % 64 - 16 = n.val % 16; omega)
      simp only [q1, q2, q3]
  · rw [dif_neg h32, v141_at]
    have ac : ∀ u v : Fin 16 → EReal, ang u v n.val = v ⟨n.val % 16, Nat.mod_lt _ (by decide)⟩ := fun u v => if_neg h32
    by_cases h16 : n.val % 64 - 32 < 16
    · rw [dif_pos (show (n.val % 64 - 32 < 16) from h16), if_pos (show (n.val % 32 < 16) by omega), v133_at, ac, ac]
      have q1 : n.val / 64 * 64 + (32 + (n.val % 64 - 32)) = n.val := by omega
      have q2 : n.val / 64 * 64 + (48 + (n.val % 64 - 32)) = n.val + 16 := by omega
      have q3 : (⟨n.val % 64 - 32, by omega⟩ : Fin 16) = ⟨n.val % 16, Nat.mod_lt _ (by decide)⟩ := Fin.ext (by show n.val % 64 - 32 = n.val % 16; omega)
      simp only [q1, q2, q3]
    · rw [dif_neg (show ¬ (n.val % 64 - 32 < 16) from h16), if_neg (show ¬ (n.val % 32 < 16) by omega), v140_at, ac, ac]
      have q1 : n.val / 64 * 64 + (32 + (n.val % 64 - 32 - 16)) = n.val - 16 := by omega
      have q2 : n.val / 64 * 64 + (48 + (n.val % 64 - 32 - 16)) = n.val := by omega
      have q3 : (⟨n.val % 64 - 32 - 16, by omega⟩ : Fin 16) = ⟨n.val % 16, Nat.mod_lt _ (by decide)⟩ := Fin.ext (by show n.val % 64 - 32 - 16 = n.val % 16; omega)
      simp only [q1, q2, q3]

theorem v151_at (b : Fin 2) (t : Fin 8192) (k : Fin 8) (e : Fin 16) :
    val_main_v151 (F := Ideal) x0 x1 x2 x3 x8 (ix4 b t k e) = P (aX x0) (aG x1) (aM x2) (aM x3) (aW x8) b t.val (512 + (k.val * 64 + (0 + e.val))) := by
  refine Eq.trans ?_ (v23_at x0 x1 x2 x3 x8 b t ⟨k.val * 64 + (0 + e.val), by omega⟩)
  unfold val_main_v151 val_main_v148 val_main_v147
  generalize val_main_v23 (F := Ideal) x0 x1 x2 x3 x8 = z
  pointwise []

theorem v152_at (b : Fin 2) (t : Fin 8192) (k : Fin 8) (e : Fin 16) :
    val_main_v152 (F := Ideal) x0 x1 x2 x3 x8 (ix4 b t k e) = P (aX x0) (aG x1) (aM x2) (aM x3) (aW x8) b t.val (512 + (k.val * 64 + (16 + e.val))) := by
  refine Eq.trans ?_ (v23_at x0 x1 x2 x3 x8 b t ⟨k.val * 64 + (16 + e.val), by omega⟩)
  unfold val_main_v152 val_main_v148 val_main_v147
  generalize val_main_v23 (F := Ideal) x0 x1 x2 x3 x8 = z
  pointwise []

theorem v171_at (b : Fin 2) (t : Fin 8192) (k : Fin 8) (e : Fin 16) :
    val_main_v171 (F := Ideal) x0 x1 x2 x3 x8 (ix4 b t k e) = P (aX x0) (aG x1) (aM x2) (aM x3) (aW x8) b t.val (512 + (k.val * 64 + (32 + e.val))) := by
  refine Eq.trans ?_ (v23_at x0 x1 x2 x3 x8 b t ⟨k.val * 64 + (32 + e.val), by omega⟩)
  unfold val_main_v171 val_main_v168 val_main_v147
  generalize val_main_v23 (F := Ideal) x0 x1 x2 x3 x8 = z
  pointwise []

theorem v172_at (b : Fin 2) (t : Fin 8192) (k : Fin 8) (e : Fin 16) :
    val_main_v172 (F := Ideal) x0 x1 x2 x3 x8 (ix4 b t k e) = P (aX x0) (aG x1) (aM x2) (aM x3) (aW x8) b t.val (512 + (k.val * 64 + (48 + e.val))) := by
  refine Eq.trans ?_ (v23_at x0 x1 x2 x3 x8 b t ⟨k.val * 64 + (48 + e.val), by omega⟩)
  unfold val_main_v172 val_main_v168 val_main_v147
  generalize val_main_v23 (F := Ideal) x0 x1 x2 x3 x8 = z
  pointwise []
  exact congrArg (fun q => z (ix3 b t q)) (Fin.ext (by show k.val * 64 + (32 + (16 + e.val)) = k.val * 64 + (48 + e.val); omega))

theorem v154_at (b : Fin 2) (t : Fin 8192) (k : Fin 8) (e : Fin 16) :
    val_main_v154 (F := Ideal) x4 (ix4 b t k e) = aT x4 t e := by
  pointwise [val_main_v154, val_main_v153, val_main_v149]
  rfl

theorem v157_at (b : Fin 2) (t : Fin 8192) (k : Fin 8) (e : Fin 16) :
    val_main_v157 (F := Ideal) x5 (ix4 b t k e) = aT x5 t e := by
  pointwise [val_main_v157, val_main_v156, val_main_v150]
  rfl

theorem v161_at (b : Fin 2) (t : Fin 8192) (k : Fin 8) (e : Fin 16) :
    val_main_v161 (F := Ideal) x4 (ix4 b t k e) = aT x4 t e := by
  pointwise [val_main_v161, val_main_v160, val_main_v149]
  rfl

theorem v164_at (b : Fin 2) (t : Fin 8192) (k : Fin 8) (e : Fin 16) :
    val_main_v164 (F := Ideal) x5 (ix4 b t k e) = aT x5 t e := by
  pointwise [val_main_v164, val_main_v163, val_main_v150]
  rfl

theorem v174_at (b : Fin 2) (t : Fin 8192) (k : Fin 8) (e : Fin 16) :
    val_main_v174 (F := Ideal) x6 (ix4 b t k e) = aT x6 t e := by
  pointwise [val_main_v174, val_main_v173, val_main_v169]
  rfl

theorem v177_at (b : Fin 2) (t : Fin 8192) (k : Fin 8) (e : Fin 16) :
    val_main_v177 (F := Ideal) x7 (ix4 b t k e) = aT x7 t e := by
  pointwise [val_main_v177, val_main_v176, val_main_v170]
  rfl

theorem v181_at (b : Fin 2) (t : Fin 8192) (k : Fin 8) (e : Fin 16) :
    val_main_v181 (F := Ideal) x6 (ix4 b t k e) = aT x6 t e := by
  pointwise [val_main_v181, val_main_v180, val_main_v169]
  rfl

theorem v184_at (b : Fin 2) (t : Fin 8192) (k : Fin 8) (e : Fin 16) :
    val_main_v184 (F := Ideal) x7 (ix4 b t k e) = aT x7 t e := by
  pointwise [val_main_v184, val_main_v183, val_main_v170]
  rfl

theorem v159_at (b : Fin 2) (t : Fin 8192) (k : Fin 8) (e : Fin 16) :
    val_main_v159 (F := Ideal) x0 x1 x2 x3 x4 x5 x8 (ix4 b t k e) = P (aX x0) (aG x1) (aM x2) (aM x3) (aW x8) b t.val (512 + (k.val * 64 + (0 + e.val))) * aT x4 t e - P (aX x0) (aG x1) (aM x2) (aM x3) (aW x8) b t.val (512 + (k.val * 64 + (16 + e.val))) * aT x5 t e := by
  rw [val_main_v159_apply, val_main_v155_apply, val_main_v158_apply, v151_at, v152_at, v154_at, v157_at]
  rfl

theorem v166_at (b : Fin 2) (t : Fin 8192) (k : Fin 8) (e : Fin 16) :
    val_main_v166 (F := Ideal) x0 x1 x2 x3 x4 x5 x8 (ix4 b t k e) = P (aX x0) (aG x1) (aM x2) (aM x3) (aW x8) b t.val (512 + (k.val * 64 + (16 + e.val))) * aT x4 t e + P (aX x0) (aG x1) (aM x2) (aM x3) (aW x8) b t.val (512 + (k.val * 64 + (0 + e.val))) * aT x5 t e := by
  rw [val_main_v166_apply, val_main_v162_apply, val_main_v165_apply, v151_at, v152_at, v161_at, v164_at]
  rfl

theorem v167_at (b : Fin 2) (t : Fin 8192) (k : Fin 8) (e : Fin 32) :
    val_main_v167 (F := Ideal) x0 x1 x2 x3 x4 x5 x8 (ix4 b t k e) = if h : e.val < 16 then val_main_v159 (F := Ideal) x0 x1 x2 x3 x4 x5 x8 (ix4 b t k ⟨e.val, h⟩) else val_main_v166 (F := Ideal) x0 x1 x2 x3 x4 x5 x8 (ix4 b t k ⟨e.val - 16, by omega⟩) := by
  unfold val_main_v167
  generalize val_main_v159 (F := Ideal) x0 x1 x2 x3 x4 x5 x8 = y
  generalize val_main_v166 (F := Ideal) x0 x1 x2 x3 x4 x5 x8 = z
  pointwise []

theorem v179_at (b : Fin 2) (t : Fin 8192) (k : Fin 8) (e : Fin 16) :
    val_main_v179 (F := Ideal) x0 x1 x2 x3 x6 x7 x8 (ix4 b t k e) = P (aX x0) (aG x1) (aM x2) (aM x3) (aW x8) b t.val (512 + (k.val * 64 + (32 + e.val))) * aT x6 t e - P (aX x0) (aG x1) (aM x2) (aM x3) (aW x8) b t.val (512 + (k.val * 64 + (48 + e.val))) * aT x7 t e := by
  rw [val_main_v179_apply, val_main_v175_apply, val_main_v178_apply, v171_at, v172_at, v174_at, v177_at]
  rfl

theorem v186_at (b : Fin 2) (t : Fin 8192) (k : Fin 8) (e : Fin 16) :
    val_main_v186 (F := Ideal) x0 x1 x2 x3 x6 x7 x8 (ix4 b t k e) = P (aX x0) (aG x1) (aM x2) (aM x3) (aW x8) b t.val (512 + (k.val * 64 + (48 + e.val))) * aT x6 t e + P (aX x0) (aG x1) (aM x2) (aM x3) (aW x8) b t.val (512 + (k.val * 64 + (32 + e.val))) * aT x7 t e := by
  rw [val_main_v186_apply, val_main_v182_apply, val_main_v185_apply, v171_at, v172_at, v181_at, v184_at]
  rfl

theorem v187_at (b : Fin 2) (t : Fin 8192) (k : Fin 8) (e : Fin 32) :
    val_main_v187 (F := Ideal) x0 x1 x2 x3 x6 x7 x8 (ix4 b t k e) = if h : e.val < 16 then val_main_v179 (F := Ideal) x0 x1 x2 x3 x6 x7 x8 (ix4 b t k ⟨e.val, h⟩) else val_main_v186 (F := Ideal) x0 x1 x2 x3 x6 x7 x8 (ix4 b t k ⟨e.val - 16, by omega⟩) := by
  unfold val_main_v187
  generalize val_main_v179 (F := Ideal) x0 x1 x2 x3 x6 x7 x8 = y
  generalize val_main_v186 (F := Ideal) x0 x1 x2 x3 x6 x7 x8 = z
  pointwise []

theorem v188_at (b : Fin 2) (t : Fin 8192) (k : Fin 8) (e : Fin 64) :
    val_main_v188 (F := Ideal) x0 x1 x2 x3 x4 x5 x6 x7 x8 (ix4 b t k e) = if h : e.val < 32 then val_main_v167 (F := Ideal) x0 x1 x2 x3 x4 x5 x8 (ix4 b t k ⟨e.val, h⟩) else val_main_v187 (F := Ideal) x0 x1 x2 x3 x6 x7 x8 (ix4 b t k ⟨e.val - 32, by omega⟩) := by
  unfold val_main_v188
  generalize val_main_v167 (F := Ideal) x0 x1 x2 x3 x4 x5 x8 = y
  generalize val_main_v187 (F := Ideal) x0 x1 x2 x3 x6 x7 x8 = z
  pointwise []

/-- The rotated columns. -/
theorem v189_at (b : Fin 2) (t : Fin 8192) (n : Fin 512) :
    val_main_v189 (F := Ideal) x0 x1 x2 x3 x4 x5 x6 x7 x8 (ix3 b t n) = R (aX x0) (aG x1) (aM x2) (aM x3) (aT x4) (aT x5) (aT x6) (aT x7) (aW x8) 512 b t n.val := by
  have e : val_main_v189 (F := Ideal) x0 x1 x2 x3 x4 x5 x6 x7 x8 (ix3 b t n) = val_main_v188 (F := Ideal) x0 x1 x2 x3 x4 x5 x6 x7 x8 (ix4 b t ⟨n.val / 64, by omega⟩ ⟨n.val % 64, Nat.mod_lt _ (by decide)⟩) := by
    unfold val_main_v189
    generalize val_main_v188 (F := Ideal) x0 x1 x2 x3 x4 x5 x6 x7 x8 = y
    pointwise []
  have hn := n.isLt
  rw [e, v188_at]
  unfold R rope
  by_cases h32 : n.val % 64 < 32
  · rw [dif_pos h32, v167_at]
    have ac : ∀ u v : Fin 16 → EReal, ang u v n.val = u ⟨n.val % 16, Nat.mod_lt _ (by decide)⟩ := fun u v => if_pos h32
    by_cases h16 : n.val % 64 < 16
    · rw [dif_pos (show (n.val % 64 < 16) from h16), if_pos (show (n.val % 32 < 16) by omega), v159_at, ac, ac]
      have q1 : n.val / 64 * 64 + (0 + (n.val % 64)) = n.val := by omega
      have q2 : n.val / 64 * 64 + (16 + (n.val % 64)) = n.val + 16 := by omega
      have q3 : (⟨n.val % 64, by omega⟩ : Fin 16) = ⟨n.val % 16, Nat.mod_lt _ (by decide)⟩ := Fin.ext (by show n.val % 64 = n.val % 16; omega)
      simp only [q1, q2, q3]
    · rw [dif_neg (show ¬ (n.val % 64 < 16) from h16), if_neg (show ¬ (n.val % 32 < 16) by omega), v166_at, ac, ac]
      have q1 : n.val / 64 * 64 + (0 + (n.val % 64 - 16)) = n.val - 16 := by omega
      have q2 : n.val / 64 * 64 + (16 + (n.val % 64 - 16)) = n.val := by omega
      have q3 : (⟨n.val % 64 - 16, by omega⟩ : Fin 16) = ⟨n.val % 16, Nat.mod_lt _ (by decide)⟩ := Fin.ext (by show n.val % 64 - 16 = n.val % 16; omega)
      simp only [q1, q2, q3]
  · rw [dif_neg h32, v187_at]
    have ac : ∀ u v : Fin 16 → EReal, ang u v n.val = v ⟨n.val % 16, Nat.mod_lt _ (by decide)⟩ := fun u v => if_neg h32
    by_cases h16 : n.val % 64 - 32 < 16
    · rw [dif_pos (show (n.val % 64 - 32 < 16) from h16), if_pos (show (n.val % 32 < 16) by omega), v179_at, ac, ac]
      have q1 : n.val / 64 * 64 + (32 + (n.val % 64 - 32)) = n.val := by omega
      have q2 : n.val / 64 * 64 + (48 + (n.val % 64 - 32)) = n.val + 16 := by omega
      have q3 : (⟨n.val % 64 - 32, by omega⟩ : Fin 16) = ⟨n.val % 16, Nat.mod_lt _ (by decide)⟩ := Fin.ext (by show n.val % 64 - 32 = n.val % 16; omega)
      simp only [q1, q2, q3]
    · rw [dif_neg (show ¬ (n.val % 64 - 32 < 16) from h16), if_neg (show ¬ (n.val % 32 < 16) by omega), v186_at, ac, ac]
      have q1 : n.val / 64 * 64 + (32 + (n.val % 64 - 32 - 16)) = n.val - 16 := by omega
      have q2 : n.val / 64 * 64 + (48 + (n.val % 64 - 32 - 16)) = n.val := by omega
      have q3 : (⟨n.val % 64 - 32 - 16, by omega⟩ : Fin 16) = ⟨n.val % 16, Nat.mod_lt _ (by decide)⟩ := Fin.ext (by show n.val % 64 - 32 - 16 = n.val % 16; omega)
      simp only [q1, q2, q3]

theorem v146_at (b : Fin 2) (t : Fin 8192) (n : Fin 512) :
    val_main_v146 (F := Ideal) x0 x1 x2 x3 x4 x5 x6 x7 x8 (ix3 b t n) = R (aX x0) (aG x1) (aM x2) (aM x3) (aT x4) (aT x5) (aT x6) (aT x7) (aW x8) 0 b t n.val * Ideal.ofBits .f32 0x3E38AA3B#32 := by
  have e1 : val_main_v144 (F := Ideal) (ix3 b t n) = Ideal.ofBits .f32 0x3E38AA3B#32 := by pointwise [val_main_v144, val_main_cst_13]
  rw [val_main_v146_apply, val_main_v145_apply, v143_at, e1]
  rfl

theorem v190_at (b : Fin 2) (t : Fin 8192) (n : Fin 512) :
    val_main_v190 (F := Ideal) x0 x1 x2 x3 x4 x5 x6 x7 x8 (ix3 b t n) = R (aX x0) (aG x1) (aM x2) (aM x3) (aT x4) (aT x5) (aT x6) (aT x7) (aW x8) 512 b t n.val := by
  rw [val_main_v190_apply, v189_at]
  rfl

end Cert.Reference2Ideal.In
-- ==== Proof.InValue.lean ====
module

public import proofs.«01_k».proof.Proof.InPoint
public import proofs.«01_k».proof.Proof.InRefConv
public import proofs.«01_k».proof.Proof.InRefGate
public import proofs.«01_k».proof.Proof.InRefRope

@[expose] public section

set_option maxRecDepth 16384

noncomputable section

/-!
# The input projection's results are the reference's

Every row lies in some grid point's rows, where the kernel's entry and the reference's are the same function of the arguments.
-/

namespace Cert.Kernel2Ideal.In

open Cert.Kernel2Ideal Cert.Kernel2Ideal.Gen Cert.Kernel2Ideal.Value
open Idealize.ShloMosaic Idealize.ShloMosaic.TcCoe Idealize.ShloMosaic.Tactic

variable (m : (ℓ : Loc nD τ sig) → Buf (Elt Ideal) ℓ) (c : Dev nD)

/-- A row is some grid point's. -/
theorem row_of (t : Fin 8192) : ∃ (i : Fin 8) (r : Fin 1024), t = ⟨i.val * 1024 + r.val, by omega⟩ :=
  ⟨⟨t.val / 1024, by omega⟩, ⟨t.val % 1024, Nat.mod_lt _ (by decide)⟩, Fin.ext (by show t.val = t.val / 1024 * 1024 + t.val % 1024; omega)⟩

/-- A tile of 256 rows is some grid point's. -/
theorem tile_of (y : Fin 32) : ∃ i : Fin 8, ∃ k : Fin 4, y = ⟨i.val * 4 + k.val, by omega⟩ :=
  ⟨⟨y.val / 4, by omega⟩, ⟨y.val % 4, Nat.mod_lt _ (by decide)⟩, Fin.ext (by show y.val = y.val / 4 * 4 + y.val % 4; omega)⟩

theorem at12 (b : Fin 2) (t : Fin 8192) (n : Fin 512) :
    Cert.Reference2Ideal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b t n)
      = ((dats m 0 c).arrAt 12 cfg0.N : Vec Ideal S2x8192x512 .bf16) (ix3 b t n) := by
  obtain ⟨i, r, rfl⟩ := row_of t
  exact (Cert.Reference2Ideal.In.v146_at _ _ _ _ _ _ _ _ _ b _ n).trans (res12 m c b i r n).symm

theorem eq12 : Cert.Reference2Ideal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = ((dats m 0 c).arrAt 12 cfg0.N : Vec Ideal S2x8192x512 .bf16) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at12 m c (i 0) (i 1) (i 2)

theorem at13 (b : Fin 2) (t : Fin 8192) (n : Fin 512) :
    Cert.Reference2Ideal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b t n)
      = ((dats m 0 c).arrAt 13 cfg0.N : Vec Ideal S2x8192x512 .bf16) (ix3 b t n) := by
  obtain ⟨i, r, rfl⟩ := row_of t
  exact (Cert.Reference2Ideal.In.v190_at _ _ _ _ _ _ _ _ _ b _ n).trans (res13 m c b i r n).symm

theorem eq13 : Cert.Reference2Ideal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = ((dats m 0 c).arrAt 13 cfg0.N : Vec Ideal S2x8192x512 .bf16) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at13 m c (i 0) (i 1) (i 2)

theorem at14 (b : Fin 2) (h : Fin 4) (y : Fin 32) (d : Fin 136) (r : Fin 256) :
    Cert.Reference2Ideal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (ix5 b h y d r)
      = ((dats m 0 c).arrAt 14 cfg0.N : Vec Ideal S2x4x32x136x256 .bf16) (ix5 b h y d r) := by
  obtain ⟨i, k, rfl⟩ := tile_of y
  exact (Cert.Reference2Ideal.In.v191_at _ _ _ _ _ b h _ d r).trans (res14 m c b i h k d r).symm

theorem eq14 : Cert.Reference2Ideal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg8)) = ((dats m 0 c).arrAt 14 cfg0.N : Vec Ideal S2x4x32x136x256 .bf16) := by
  refine funext fun (i : S2x4x32x136x256.Idx) => ?_
  have hi : i = ix5 (n0 := 2) (n1 := 4) (n2 := 32) (n3 := 136) (n4 := 256) (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  rw [hi]
  exact at14 m c (i 0) (i 1) (i 2) (i 3) (i 4)

theorem at15 (b : Fin 2) (t : Fin 8192) (n : Fin 512) :
    Cert.Reference2Ideal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (ix3 b t n)
      = ((dats m 0 c).arrAt 15 cfg0.N : Vec Ideal S2x8192x512 .f32) (ix3 b t n) := by
  obtain ⟨i, r, rfl⟩ := row_of t
  exact (Cert.Reference2Ideal.In.v192_at _ _ _ _ _ _ b _ n).trans (res15 m c b i r n).symm

theorem eq15 : Cert.Reference2Ideal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) = ((dats m 0 c).arrAt 15 cfg0.N : Vec Ideal S2x8192x512 .f32) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at15 m c (i 0) (i 1) (i 2)

theorem at16 (b : Fin 2) (t : Fin 8192) (n : Fin 512) :
    Cert.Reference2Ideal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (ix3 b t n)
      = ((dats m 0 c).arrAt 16 cfg0.N : Vec Ideal S2x8192x512 .f32) (ix3 b t n) := by
  obtain ⟨i, r, rfl⟩ := row_of t
  exact (Cert.Reference2Ideal.In.v193_at _ _ _ _ _ _ b _ n).trans (res16 m c b i r n).symm

theorem eq16 : Cert.Reference2Ideal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) = ((dats m 0 c).arrAt 16 cfg0.N : Vec Ideal S2x8192x512 .f32) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at16 m c (i 0) (i 1) (i 2)

theorem at17 (b : Fin 2) (t : Fin 8192) (n : Fin 512) :
    Cert.Reference2Ideal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (ix3 b t n)
      = ((dats m 0 c).arrAt 17 cfg0.N : Vec Ideal S2x8192x512 .f32) (ix3 b t n) := by
  obtain ⟨i, r, rfl⟩ := row_of t
  exact (Cert.Reference2Ideal.In.v194_at _ _ _ _ _ _ b _ n).trans (res17 m c b i r n).symm

theorem eq17 : Cert.Reference2Ideal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) = ((dats m 0 c).arrAt 17 cfg0.N : Vec Ideal S2x8192x512 .f32) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at17 m c (i 0) (i 1) (i 2)

theorem at18 (b : Fin 2) (t : Fin 8192) (n : Fin 512) :
    Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (ix3 b t n)
      = ((dats m 0 c).arrAt 18 cfg0.N : Vec Ideal S2x8192x512 .f32) (ix3 b t n) := by
  obtain ⟨i, r, rfl⟩ := row_of t
  exact (Cert.Reference2Ideal.In.v26_at _ _ _ _ _ b _ n).trans (res18 m c b i r n).symm

theorem eq18 : Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg8)) = ((dats m 0 c).arrAt 18 cfg0.N : Vec Ideal S2x8192x512 .f32) := by
  refine funext fun (i : S2x8192x512.Idx) => ?_
  have hi : i = ix3 (n0 := 2) (n1 := 8192) (n2 := 512) (i 0) (i 1) (i 2) := by
    funext a
    match a with
    | ⟨0, _⟩ => rfl
    | ⟨1, _⟩ => rfl
    | ⟨2, _⟩ => rfl
  rw [hi]
  exact at18 m c (i 0) (i 1) (i 2)

theorem at19 (b : Fin 2) (t : Fin 8192) (n : Fin 128) :
    Cert.Reference2Ideal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg10)) (m ((c : Thread nD τ).loc main_arg11)) (ix3 b t n)
      = ((dats m 0 c).arrAt 19 cfg0.N : Vec Ideal S2x8192x128 .f32) (ix3 b t n) := by
  obtain ⟨i, r, rfl⟩ := row_of t
  exact (Cert.Reference2Ideal.In.v100_at _ _ _ _ _ _ _ b _ n).trans (res19 m c b i r n).symm

theorem eq19 : Cert.Reference2Ideal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg10)) (m ((c : Thread nD τ).loc main_arg11)) = ((dats m 0 c).arrAt 19 cfg0.N : Vec Ideal S2x8192x128 .f32) := by
  refine funext fun (i : S2x8192x128.Idx) => ?_
  have hi : i = ix3 (n0 := 2) (n1 := 8192) (n2 := 128) (i 0) (i 1) (i 2) := by
    funext a
    match a with
    | ⟨0, _⟩ => rfl
    | ⟨1, _⟩ => rfl
    | ⟨2, _⟩ => rfl
  rw [hi]
  exact at19 m c (i 0) (i 1) (i 2)

theorem at20 (b : Fin 2) (n : Fin 16) (t : Fin 8192) :
    Cert.Reference2Ideal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg10)) (m ((c : Thread nD τ).loc main_arg11)) (ix3 b n t)
      = ((dats m 0 c).arrAt 20 cfg0.N : Vec Ideal S2x16x8192 .f32) (ix3 b n t) := by
  obtain ⟨i, r, rfl⟩ := row_of t
  exact (Cert.Reference2Ideal.In.v196_at _ _ _ _ _ _ _ b _ n).trans (res20 m c b i r n).symm

theorem eq20 : Cert.Reference2Ideal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg10)) (m ((c : Thread nD τ).loc main_arg11)) = ((dats m 0 c).arrAt 20 cfg0.N : Vec Ideal S2x16x8192 .f32) := by
  refine funext fun (i : S2x16x8192.Idx) => ?_
  have hi : i = ix3 (n0 := 2) (n1 := 16) (n2 := 8192) (i 0) (i 1) (i 2) := by
    funext a
    match a with
    | ⟨0, _⟩ => rfl
    | ⟨1, _⟩ => rfl
    | ⟨2, _⟩ => rfl
  rw [hi]
  exact at20 m c (i 0) (i 1) (i 2)

end Cert.Kernel2Ideal.In
-- ==== Proof.InClaim.lean ====
module

public import proofs.«01_k».proof.Defs
public import proofs.«01_k».proof.Proof.InValue
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Init

@[expose] public section

noncomputable section

/-!
# The input projection's claims

The nine results, equal entry by entry, and the reference's run.
-/

namespace Cert.Proof

open Idealize.ShloMosaic Idealize.SL.Sem

set_option maxHeartbeats 4000000 in
/-- The nine results, equal entry by entry. -/
theorem algebraic2 : Cert.algebraic_Kernel2Ideal_Reference2Ideal (hKernel2Ideal := Cert.Kernel2Ideal.Gen.facts)
    (hReference2Ideal := Cert.Reference2Ideal.Gen.facts) := by
  intro m g m' g' hpre hag
  refine ⟨fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨a0, a1, a2, a3, a4, a5, a6, a7, a8, a9, a10, a11⟩ := hag c
  obtain ⟨r0, r1, r2, r3, r4, r5, r6, r7, r8, hr⟩ := h c
  refine ⟨r0.trans ?_, r1.trans ?_, r2.trans ?_, r3.trans ?_, r4.trans ?_, r5.trans ?_, r6.trans ?_, r7.trans ?_, r8.trans ?_, hr⟩
  · refine (Cert.Reference2Ideal.Read.val_main_v146_eq (F := Ideal) (Idealize.ShloMosaic.StableHlo.launchContents m' c)).trans ?_
    show Cert.Reference2Ideal.Read.val_main_v146 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) = _
    rw [a0, a1, a2, a3, a4, a5, a6, a7, a8]
    exact Cert.Kernel2Ideal.In.eq12 m c
  · refine (Cert.Reference2Ideal.Read.val_main_v190_eq (F := Ideal) (Idealize.ShloMosaic.StableHlo.launchContents m' c)).trans ?_
    show Cert.Reference2Ideal.Read.val_main_v190 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) = _
    rw [a0, a1, a2, a3, a4, a5, a6, a7, a8]
    exact Cert.Kernel2Ideal.In.eq13 m c
  · refine (Cert.Reference2Ideal.Read.val_main_v191_eq (F := Ideal) (Idealize.ShloMosaic.StableHlo.launchContents m' c)).trans ?_
    show Cert.Reference2Ideal.Read.val_main_v191 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) = _
    rw [a0, a1, a2, a3, a8]
    exact Cert.Kernel2Ideal.In.eq14 m c
  · refine (Cert.Reference2Ideal.Read.val_main_v192_eq (F := Ideal) (Idealize.ShloMosaic.StableHlo.launchContents m' c)).trans ?_
    show Cert.Reference2Ideal.Read.val_main_v192 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) = _
    rw [a0, a1, a2, a3, a8, a9]
    exact Cert.Kernel2Ideal.In.eq15 m c
  · refine (Cert.Reference2Ideal.Read.val_main_v193_eq (F := Ideal) (Idealize.ShloMosaic.StableHlo.launchContents m' c)).trans ?_
    show Cert.Reference2Ideal.Read.val_main_v193 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) = _
    rw [a0, a1, a2, a3, a8, a9]
    exact Cert.Kernel2Ideal.In.eq16 m c
  · refine (Cert.Reference2Ideal.Read.val_main_v194_eq (F := Ideal) (Idealize.ShloMosaic.StableHlo.launchContents m' c)).trans ?_
    show Cert.Reference2Ideal.Read.val_main_v194 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) = _
    rw [a0, a1, a2, a3, a8, a9]
    exact Cert.Kernel2Ideal.In.eq17 m c
  · refine (Cert.Reference2Ideal.Read.val_main_v26_eq (F := Ideal) (Idealize.ShloMosaic.StableHlo.launchContents m' c)).trans ?_
    show Cert.Reference2Ideal.Read.val_main_v26 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) = _
    rw [a0, a1, a2, a3, a8]
    exact Cert.Kernel2Ideal.In.eq18 m c
  · refine (Cert.Reference2Ideal.Read.val_main_v100_eq (F := Ideal) (Idealize.ShloMosaic.StableHlo.launchContents m' c)).trans ?_
    show Cert.Reference2Ideal.Read.val_main_v100 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [a0, a1, a2, a3, a8, a10, a11]
    exact Cert.Kernel2Ideal.In.eq19 m c
  · refine (Cert.Reference2Ideal.Read.val_main_v196_eq (F := Ideal) (Idealize.ShloMosaic.StableHlo.launchContents m' c)).trans ?_
    show Cert.Reference2Ideal.Read.val_main_v196 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
    rw [a0, a1, a2, a3, a8, a10, a11]
    exact Cert.Kernel2Ideal.In.eq20 m c

/-- The reference runs, keeps its arguments, and declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2.2.2.2.2, sem_eq_zero_of_no_sems (by decide) r.2⟩)
    (Cert.Reference2Ideal.Value.run (F := Ideal) m ρ)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_values
public import proofs.«01_k».proof.Proof.KRun
public import proofs.«01_k».proof.Proof.Value
public import proofs.«01_k».proof.Proof.Gen.Reference2Ideal
public import proofs.«01_k».proof.Proof.InClaim
public import Idealize.ShloMosaic.Adequacy
public import Idealize.ShloMosaic.Init

@[expose] public section

noncomputable section

/-!
# The claims

Of each of the two calls the three programs run to the end and leave their arguments alone. The attention's ideal kernel is the
kernel with its two rounded constants read as the values they stand for, and from finite values its result is the ideal
reference's. The input projection's ideal kernel is the kernel's own text, and its nine results are the ideal reference's.
-/

namespace Cert.Proof

open Idealize.ShloMosaic Idealize.SL.Sem

/-- The two results, equal entry by entry. -/
theorem algebraic : Cert.algebraic_KernelIdeal_ReferenceIdeal_pre_finite_values (hKernelIdeal := Cert.KernelIdeal.Gen.facts)
    (hReferenceIdeal := Cert.ReferenceIdeal.Gen.facts) (hPre_finite_values := Cert.Pre_finite_values.Gen.facts) := by
  intro m g m' g' hpre hag
  refine ⟨fun c => (Cert.KernelIdeal.Att.dats m 0 c).arrAt 5 Cert.KernelIdeal.cfg0.N, Cert.KernelIdeal.Att.run_blocks m g, ?_⟩
  refine (θ_run Cert.ReferenceIdeal.defs _ _).mono (fun r h c => ⟨(h c).1.trans ?_, (h c).2⟩) (Cert.ReferenceIdeal.Value.run m' g')
  obtain ⟨a0, a1, a2, a3, a4, a5, a6, a7, a8, a9⟩ := hag c
  rw [Cert.ReferenceIdeal.Read.val_main_v52_eq, a0, a1, a2, a3, a4, a5, a6, a7, a8, a9]
  exact Cert.KernelIdeal.Att.result_eq m hpre c

/-- The reference runs, keeps its arguments, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_values.Gen.facts,
  fun m ρ _ => Cert.Kernel.Gen.frame m ρ,
  fun m ρ _ => Cert.KernelIdeal.Att.frame m ρ,
  fun m ρ _ => Cert.KernelIdeal.Att.frame m ρ,
  frame_reference,
  fun m ρ _ => frame_reference m ρ trivial,
  fun m ρ _ => Cert.Kernel2.Gen.frame m ρ,
  fun m ρ _ => Cert.Kernel2Ideal.Gen.frame m ρ,
  frame_reference2,
  ⟨IdealRules.named_const.statement Cert.KernelIdeal.κ "scale" .f32 0x3E38AA3B#32 _ rfl,
    IdealRules.named_const.statement Cert.KernelIdeal.κ "mask" .f32 0xF149F2CA#32 _ rfl⟩,
  algebraic, trivial, algebraic2⟩

end Cert.Proof

end
